-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_decay [hPre_finite_decay : Cert.Pre_finite_decay.Facts] (m : (ℓ : Loc Cert.KernelIdeal.nD Cert.KernelIdeal.τ Cert.KernelIdeal.sig) → Buf (Elt Ideal) ℓ) : Prop :=
  ∀ c : Dev Cert.KernelIdeal.nD,
    (Cert.Pre_finite_decay.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_decay [hPre_finite_decay : Cert.Pre_finite_decay.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_decay.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite_new [hPre_finite_new : Cert.Pre_finite_new.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite_new.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite_new [hPre_finite_new : Cert.Pre_finite_new.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite_new.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_decay [hKernelIdeal : Cert.KernelIdeal.Facts] [hPre_finite_decay : Cert.Pre_finite_decay.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_decay m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_decay [hReferenceIdeal : Cert.ReferenceIdeal.Facts] [hPre_finite_decay : Cert.Pre_finite_decay.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_decay m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Kernel10Ideal_pre_finite_new [hKernel10Ideal : Cert.Kernel10Ideal.Facts] [hPre_finite_new : Cert.Pre_finite_new.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite_new m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Reference10Ideal_pre_finite_new [hReference10Ideal : Cert.Reference10Ideal.Facts] [hPre_finite_new : Cert.Pre_finite_new.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite_new m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite_decay [hKernelIdeal : Cert.KernelIdeal.Facts] [hReferenceIdeal : Cert.ReferenceIdeal.Facts] [hPre_finite_decay : Cert.Pre_finite_decay.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_decay m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  IdealRules.named_const.Statement Cert.Kernel2Ideal.κ "alpha" .f32 0x3F9837F0#32 ((Real.sqrt (Real.sqrt 2) : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v18)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v66) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  IdealRules.named_const.Statement Cert.Kernel3Ideal.κ "hg_scale" .f32 0x3DB504F3#32 (((Real.sqrt 128)⁻¹ : ℝ) : EReal)
  ∧ IdealRules.named_const.Statement Cert.Kernel3Ideal.κ "da_scale" .f32 0x3E38AA3B#32 (((1 / 8) * (Real.log 2)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)) (v2 : (c : Dev Cert.Kernel3Ideal.nD) → Buf (Elt Ideal) ((c.tc : Thread Cert.Kernel3Ideal.nD Cert.Kernel3Ideal.τ).loc Cert.Kernel3Ideal.main_v6_2)) (v3 : (c : Dev Cert.Kernel3Ideal.nD) → Buf (Elt Ideal) ((c.tc : Thread Cert.Kernel3Ideal.nD Cert.Kernel3Ideal.τ).loc Cert.Kernel3Ideal.main_v6_3)) (v4 : (c : Dev Cert.Kernel3Ideal.nD) → Buf (Elt Ideal) ((c.tc : Thread Cert.Kernel3Ideal.nD Cert.Kernel3Ideal.τ).loc Cert.Kernel3Ideal.main_v6_4)) (v5 : (c : Dev Cert.Kernel3Ideal.nD) → Buf (Elt Ideal) ((c.tc : Thread Cert.Kernel3Ideal.nD Cert.Kernel3Ideal.τ).loc Cert.Kernel3Ideal.main_v6_5)) (v6 : (c : Dev Cert.Kernel3Ideal.nD) → Buf (Elt Ideal) ((c.tc : Thread Cert.Kernel3Ideal.nD Cert.Kernel3Ideal.τ).loc Cert.Kernel3Ideal.main_v6_6)) (v7 : (c : Dev Cert.Kernel3Ideal.nD) → Buf (Elt Ideal) ((c.tc : Thread Cert.Kernel3Ideal.nD Cert.Kernel3Ideal.τ).loc Cert.Kernel3Ideal.main_v6_7)) (v8 : (c : Dev Cert.Kernel3Ideal.nD) → Buf (Elt Ideal) ((c.tc : Thread Cert.Kernel3Ideal.nD Cert.Kernel3Ideal.τ).loc Cert.Kernel3Ideal.main_v6_8)) (v9 : (c : Dev Cert.Kernel3Ideal.nD) → Buf (Elt Ideal) ((c.tc : Thread Cert.Kernel3Ideal.nD Cert.Kernel3Ideal.τ).loc Cert.Kernel3Ideal.main_v6_9)) (v10 : (c : Dev Cert.Kernel3Ideal.nD) → Buf (Elt Ideal) ((c.tc : Thread Cert.Kernel3Ideal.nD Cert.Kernel3Ideal.τ).loc Cert.Kernel3Ideal.main_v6_10)) (v11 : (c : Dev Cert.Kernel3Ideal.nD) → Buf (Elt Ideal) ((c.tc : Thread Cert.Kernel3Ideal.nD Cert.Kernel3Ideal.τ).loc Cert.Kernel3Ideal.main_v6_11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_v6_2) = v2 c
          ∧ r.2.mem ((c.tc : Thread Cert.Kernel3Ideal.nD Cert.Kernel3Ideal.τ).loc Cert.Kernel3Ideal.main_v6_3) = v3 c
          ∧ r.2.mem ((c.tc : Thread Cert.Kernel3Ideal.nD Cert.Kernel3Ideal.τ).loc Cert.Kernel3Ideal.main_v6_4) = v4 c
          ∧ r.2.mem ((c.tc : Thread Cert.Kernel3Ideal.nD Cert.Kernel3Ideal.τ).loc Cert.Kernel3Ideal.main_v6_5) = v5 c
          ∧ r.2.mem ((c.tc : Thread Cert.Kernel3Ideal.nD Cert.Kernel3Ideal.τ).loc Cert.Kernel3Ideal.main_v6_6) = v6 c
          ∧ r.2.mem ((c.tc : Thread Cert.Kernel3Ideal.nD Cert.Kernel3Ideal.τ).loc Cert.Kernel3Ideal.main_v6_7) = v7 c
          ∧ r.2.mem ((c.tc : Thread Cert.Kernel3Ideal.nD Cert.Kernel3Ideal.τ).loc Cert.Kernel3Ideal.main_v6_8) = v8 c
          ∧ r.2.mem ((c.tc : Thread Cert.Kernel3Ideal.nD Cert.Kernel3Ideal.τ).loc Cert.Kernel3Ideal.main_v6_9) = v9 c
          ∧ r.2.mem ((c.tc : Thread Cert.Kernel3Ideal.nD Cert.Kernel3Ideal.τ).loc Cert.Kernel3Ideal.main_v6_10) = v10 c
          ∧ r.2.mem ((c.tc : Thread Cert.Kernel3Ideal.nD Cert.Kernel3Ideal.τ).loc Cert.Kernel3Ideal.main_v6_11) = v11 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v74) = v0 c
          ∧ r.2.mem ((c.tc : Thread Cert.Reference3Ideal.nD Cert.Reference3Ideal.τ).loc Cert.Reference3Ideal.main_v75) = v1 c
          ∧ r.2.mem ((c.tc : Thread Cert.Reference3Ideal.nD Cert.Reference3Ideal.τ).loc Cert.Reference3Ideal.main_v78) = v2 c
          ∧ r.2.mem ((c.tc : Thread Cert.Reference3Ideal.nD Cert.Reference3Ideal.τ).loc Cert.Reference3Ideal.main_v79) = v3 c
          ∧ r.2.mem ((c.tc : Thread Cert.Reference3Ideal.nD Cert.Reference3Ideal.τ).loc Cert.Reference3Ideal.main_v87) = v4 c
          ∧ r.2.mem ((c.tc : Thread Cert.Reference3Ideal.nD Cert.Reference3Ideal.τ).loc Cert.Reference3Ideal.main_v88) = v5 c
          ∧ r.2.mem ((c.tc : Thread Cert.Reference3Ideal.nD Cert.Reference3Ideal.τ).loc Cert.Reference3Ideal.main_v41) = v6 c
          ∧ r.2.mem ((c.tc : Thread Cert.Reference3Ideal.nD Cert.Reference3Ideal.τ).loc Cert.Reference3Ideal.main_v89) = v7 c
          ∧ r.2.mem ((c.tc : Thread Cert.Reference3Ideal.nD Cert.Reference3Ideal.τ).loc Cert.Reference3Ideal.main_v42) = v8 c
          ∧ r.2.mem ((c.tc : Thread Cert.Reference3Ideal.nD Cert.Reference3Ideal.τ).loc Cert.Reference3Ideal.main_v90) = v9 c
          ∧ r.2.mem ((c.tc : Thread Cert.Reference3Ideal.nD Cert.Reference3Ideal.τ).loc Cert.Reference3Ideal.main_v97) = v10 c
          ∧ r.2.mem ((c.tc : Thread Cert.Reference3Ideal.nD Cert.Reference3Ideal.τ).loc Cert.Reference3Ideal.main_v104) = v11 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  IdealRules.named_const.Statement Cert.Kernel4Ideal.κ "alpha" .f32 0x3F9837F0#32 ((Real.sqrt (Real.sqrt 2) : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v16)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v16) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v55) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  IdealRules.named_const.Statement Cert.Kernel5Ideal.κ "alpha" .f32 0x3F9837F0#32 ((Real.sqrt (Real.sqrt 2) : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v20)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v20) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v66) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  IdealRules.named_const.Statement Cert.Kernel6Ideal.κ "hg_scale" .f32 0x3DB504F3#32 (((Real.sqrt 128)⁻¹ : ℝ) : EReal)
  ∧ IdealRules.named_const.Statement Cert.Kernel6Ideal.κ "da_scale" .f32 0x3E38AA3B#32 (((1 / 8) * (Real.log 2)⁻¹ : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v8_0)) (v1 : (c : Dev Cert.Kernel6Ideal.nD) → Buf (Elt Ideal) ((c.tc : Thread Cert.Kernel6Ideal.nD Cert.Kernel6Ideal.τ).loc Cert.Kernel6Ideal.main_v8_1)) (v2 : (c : Dev Cert.Kernel6Ideal.nD) → Buf (Elt Ideal) ((c.tc : Thread Cert.Kernel6Ideal.nD Cert.Kernel6Ideal.τ).loc Cert.Kernel6Ideal.main_v8_2)) (v3 : (c : Dev Cert.Kernel6Ideal.nD) → Buf (Elt Ideal) ((c.tc : Thread Cert.Kernel6Ideal.nD Cert.Kernel6Ideal.τ).loc Cert.Kernel6Ideal.main_v8_3)) (v4 : (c : Dev Cert.Kernel6Ideal.nD) → Buf (Elt Ideal) ((c.tc : Thread Cert.Kernel6Ideal.nD Cert.Kernel6Ideal.τ).loc Cert.Kernel6Ideal.main_v8_4)) (v5 : (c : Dev Cert.Kernel6Ideal.nD) → Buf (Elt Ideal) ((c.tc : Thread Cert.Kernel6Ideal.nD Cert.Kernel6Ideal.τ).loc Cert.Kernel6Ideal.main_v8_5)) (v6 : (c : Dev Cert.Kernel6Ideal.nD) → Buf (Elt Ideal) ((c.tc : Thread Cert.Kernel6Ideal.nD Cert.Kernel6Ideal.τ).loc Cert.Kernel6Ideal.main_v8_6)) (v7 : (c : Dev Cert.Kernel6Ideal.nD) → Buf (Elt Ideal) ((c.tc : Thread Cert.Kernel6Ideal.nD Cert.Kernel6Ideal.τ).loc Cert.Kernel6Ideal.main_v8_7)) (v8 : (c : Dev Cert.Kernel6Ideal.nD) → Buf (Elt Ideal) ((c.tc : Thread Cert.Kernel6Ideal.nD Cert.Kernel6Ideal.τ).loc Cert.Kernel6Ideal.main_v8_8)) (v9 : (c : Dev Cert.Kernel6Ideal.nD) → Buf (Elt Ideal) ((c.tc : Thread Cert.Kernel6Ideal.nD Cert.Kernel6Ideal.τ).loc Cert.Kernel6Ideal.main_v8_9)) (v10 : (c : Dev Cert.Kernel6Ideal.nD) → Buf (Elt Ideal) ((c.tc : Thread Cert.Kernel6Ideal.nD Cert.Kernel6Ideal.τ).loc Cert.Kernel6Ideal.main_v8_10)) (v11 : (c : Dev Cert.Kernel6Ideal.nD) → Buf (Elt Ideal) ((c.tc : Thread Cert.Kernel6Ideal.nD Cert.Kernel6Ideal.τ).loc Cert.Kernel6Ideal.main_v8_11)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8_0) = v0 c
          ∧ r.2.mem ((c.tc : Thread Cert.Kernel6Ideal.nD Cert.Kernel6Ideal.τ).loc Cert.Kernel6Ideal.main_v8_1) = v1 c
          ∧ r.2.mem ((c.tc : Thread Cert.Kernel6Ideal.nD Cert.Kernel6Ideal.τ).loc Cert.Kernel6Ideal.main_v8_2) = v2 c
          ∧ r.2.mem ((c.tc : Thread Cert.Kernel6Ideal.nD Cert.Kernel6Ideal.τ).loc Cert.Kernel6Ideal.main_v8_3) = v3 c
          ∧ r.2.mem ((c.tc : Thread Cert.Kernel6Ideal.nD Cert.Kernel6Ideal.τ).loc Cert.Kernel6Ideal.main_v8_4) = v4 c
          ∧ r.2.mem ((c.tc : Thread Cert.Kernel6Ideal.nD Cert.Kernel6Ideal.τ).loc Cert.Kernel6Ideal.main_v8_5) = v5 c
          ∧ r.2.mem ((c.tc : Thread Cert.Kernel6Ideal.nD Cert.Kernel6Ideal.τ).loc Cert.Kernel6Ideal.main_v8_6) = v6 c
          ∧ r.2.mem ((c.tc : Thread Cert.Kernel6Ideal.nD Cert.Kernel6Ideal.τ).loc Cert.Kernel6Ideal.main_v8_7) = v7 c
          ∧ r.2.mem ((c.tc : Thread Cert.Kernel6Ideal.nD Cert.Kernel6Ideal.τ).loc Cert.Kernel6Ideal.main_v8_8) = v8 c
          ∧ r.2.mem ((c.tc : Thread Cert.Kernel6Ideal.nD Cert.Kernel6Ideal.τ).loc Cert.Kernel6Ideal.main_v8_9) = v9 c
          ∧ r.2.mem ((c.tc : Thread Cert.Kernel6Ideal.nD Cert.Kernel6Ideal.τ).loc Cert.Kernel6Ideal.main_v8_10) = v10 c
          ∧ r.2.mem ((c.tc : Thread Cert.Kernel6Ideal.nD Cert.Kernel6Ideal.τ).loc Cert.Kernel6Ideal.main_v8_11) = v11 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v74) = v0 c
          ∧ r.2.mem ((c.tc : Thread Cert.Reference6Ideal.nD Cert.Reference6Ideal.τ).loc Cert.Reference6Ideal.main_v75) = v1 c
          ∧ r.2.mem ((c.tc : Thread Cert.Reference6Ideal.nD Cert.Reference6Ideal.τ).loc Cert.Reference6Ideal.main_v78) = v2 c
          ∧ r.2.mem ((c.tc : Thread Cert.Reference6Ideal.nD Cert.Reference6Ideal.τ).loc Cert.Reference6Ideal.main_v79) = v3 c
          ∧ r.2.mem ((c.tc : Thread Cert.Reference6Ideal.nD Cert.Reference6Ideal.τ).loc Cert.Reference6Ideal.main_v87) = v4 c
          ∧ r.2.mem ((c.tc : Thread Cert.Reference6Ideal.nD Cert.Reference6Ideal.τ).loc Cert.Reference6Ideal.main_v88) = v5 c
          ∧ r.2.mem ((c.tc : Thread Cert.Reference6Ideal.nD Cert.Reference6Ideal.τ).loc Cert.Reference6Ideal.main_v41) = v6 c
          ∧ r.2.mem ((c.tc : Thread Cert.Reference6Ideal.nD Cert.Reference6Ideal.τ).loc Cert.Reference6Ideal.main_v89) = v7 c
          ∧ r.2.mem ((c.tc : Thread Cert.Reference6Ideal.nD Cert.Reference6Ideal.τ).loc Cert.Reference6Ideal.main_v42) = v8 c
          ∧ r.2.mem ((c.tc : Thread Cert.Reference6Ideal.nD Cert.Reference6Ideal.τ).loc Cert.Reference6Ideal.main_v90) = v9 c
          ∧ r.2.mem ((c.tc : Thread Cert.Reference6Ideal.nD Cert.Reference6Ideal.τ).loc Cert.Reference6Ideal.main_v97) = v10 c
          ∧ r.2.mem ((c.tc : Thread Cert.Reference6Ideal.nD Cert.Reference6Ideal.τ).loc Cert.Reference6Ideal.main_v104) = v11 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  IdealRules.named_const.Statement Cert.Kernel7Ideal.κ "log2e" .f32 0x3FB8AA3B#32 (((Real.log 2)⁻¹ : ℝ) : EReal)

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v7_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7_1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v49) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  IdealRules.named_const.Statement Cert.Kernel9Ideal.κ "alpha" .f32 0x3F9837F0#32 ((Real.sqrt (Real.sqrt 2) : ℝ) : EReal)

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)) →
    ∃ (v0 : (c : Dev Cert.Kernel9Ideal.nD) → Buf (Elt Ideal) ((c.tc : Thread Cert.Kernel9Ideal.nD Cert.Kernel9Ideal.τ).loc Cert.Kernel9Ideal.main_v18)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v18) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v55) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10))

def preserves_Kernel10_Kernel10Ideal : Prop :=
  IdealRules.named_const.Statement Cert.Kernel10Ideal.κ "log2e" .f32 0x3FB8AA3B#32 (((Real.log 2)⁻¹ : ℝ) : EReal)

def algebraic_Kernel10Ideal_Reference10Ideal_pre_finite_new [hKernel10Ideal : Cert.Kernel10Ideal.Facts] [hReference10Ideal : Cert.Reference10Ideal.Facts] [hPre_finite_new : Cert.Pre_finite_new.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite_new m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v9)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v9) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v70) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite_decay : Cert.Pre_finite_decay.Facts) (hPre_finite_new : Cert.Pre_finite_new.Facts),
    quiescent_Kernel (hKernel := hKernel)
    ∧ quiescent_KernelIdeal (hKernelIdeal := hKernelIdeal)
    ∧ quiescent_KernelIdeal_pre_finite_decay (hKernelIdeal := hKernelIdeal) (hPre_finite_decay := hPre_finite_decay)
    ∧ quiescent_ReferenceIdeal (hReferenceIdeal := hReferenceIdeal)
    ∧ quiescent_ReferenceIdeal_pre_finite_decay (hReferenceIdeal := hReferenceIdeal) (hPre_finite_decay := hPre_finite_decay)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite_new (hKernel10Ideal := hKernel10Ideal) (hPre_finite_new := hPre_finite_new)
    ∧ quiescent_Reference10Ideal (hReference10Ideal := hReference10Ideal)
    ∧ quiescent_Reference10Ideal_pre_finite_new (hReference10Ideal := hReference10Ideal) (hPre_finite_new := hPre_finite_new)
    ∧ preserves_Kernel_KernelIdeal
    ∧ algebraic_KernelIdeal_ReferenceIdeal_pre_finite_decay (hKernelIdeal := hKernelIdeal) (hReferenceIdeal := hReferenceIdeal) (hPre_finite_decay := hPre_finite_decay)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite_new (hKernel10Ideal := hKernel10Ideal) (hReference10Ideal := hReference10Ideal) (hPre_finite_new := hPre_finite_new)
-- ==== Pre_finite_decay.lean ====
abbrev S32x2048x1024 : Shape := ⟨3, ![32, 2048, 1024]⟩
abbrev S1x128 : Shape := ⟨2, ![1, 128]⟩
abbrev S_ : Shape := ⟨0, ![]⟩

class Facts : Prop where
  bitsLt_bf16_f32 : FTy.bits .bf16 < FTy.bits .f32
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel

variable [Facts]

def fn_part1 {F : FTy → Type} [FloatOps F] (main_arg1 : FVec F S32x2048x1024 .f32) (main_v15 : IVec S_ 1) (main_v17 : FVec F S32x2048x1024 .f32) : IVec S_ 1 :=
  let main_cst_4 : FVec F S_ .f32 := constant S_ .f32 0x7F800000#32
  let main_v18 : FVec F S32x2048x1024 .f32 := broadcastInDim S32x2048x1024 ![] bcast_S_S32x2048x1024 main_cst_4
  let main_v19 : IVec S32x2048x1024 1 := cmpf .olt main_v17 main_v18
  let main_c_5 : IVec S_ 1 := constantI S_ 1 1#1
  let main_v20 : IVec S_ 1 := (fun x v => Host.reduce IntOp.andi x v reducesTo_S32x2048x1024_S_d0_1_2 h_S_) main_v19 main_c_5
  let main_v21 : IVec S_ 1 := andi main_v15 main_v20
  let main_cst_6 : FVec F S_ .f32 := constant S_ .f32 0x00000000#32
  let main_v22 : FVec F S32x2048x1024 .f32 := broadcastInDim S32x2048x1024 ![] bcast_S_S32x2048x1024 main_cst_6
  let main_v23 : IVec S32x2048x1024 1 := cmpf .ole main_arg1 main_v22
  let main_c_7 : IVec S_ 1 := constantI S_ 1 1#1
  let main_v24 : IVec S_ 1 := (fun x v => Host.reduce IntOp.andi x v reducesTo_S32x2048x1024_S_d0_1_2 h_S_) main_v23 main_c_7
  let main_v25 : IVec S_ 1 := andi main_v21 main_v24
  main_v25

def fn {F : FTy → Type} [FloatOps F] (main_arg0 : FVec F S32x2048x1024 .bf16) (main_arg1 : FVec F S32x2048x1024 .f32) (main_arg2 : FVec F S32x2048x1024 .bf16) (main_arg3 : FVec F S32x2048x1024 .bf16) (main_arg4 : FVec F S32x2048x1024 .bf16) (main_arg5 : FVec F S1x128 .f32) : IVec S_ 1 :=
  let main_v0 : FVec F S32x2048x1024 .f32 := (extf .f32 · bitsLt_bf16_f32) main_arg0
  let main_v1 : FVec F S32x2048x1024 .f32 := Host.absf main_v0
  let main_cst : FVec F S_ .f32 := constant S_ .f32 0x7F800000#32
  let main_v2 : FVec F S32x2048x1024 .f32 := broadcastInDim S32x2048x1024 ![] bcast_S_S32x2048x1024 main_cst
  let main_v3 : IVec S32x2048x1024 1 := cmpf .olt main_v1 main_v2
  let main_c : IVec S_ 1 := constantI S_ 1 1#1
  let main_v4 : IVec S_ 1 := (fun x v => Host.reduce IntOp.andi x v reducesTo_S32x2048x1024_S_d0_1_2 h_S_) main_v3 main_c
  let main_v5 : FVec F S32x2048x1024 .f32 := Host.absf main_arg1
  let main_cst_0 : FVec F S_ .f32 := constant S_ .f32 0x7F800000#32
  let main_v6 : FVec F S32x2048x1024 .f32 := broadcastInDim S32x2048x1024 ![] bcast_S_S32x2048x1024 main_cst_0
  let main_v7 : IVec S32x2048x1024 1 := cmpf .olt main_v5 main_v6
  let main_c_1 : IVec S_ 1 := constantI S_ 1 1#1
  let main_v8 : IVec S_ 1 := (fun x v => Host.reduce IntOp.andi x v reducesTo_S32x2048x1024_S_d0_1_2 h_S_) main_v7 main_c_1
  let main_v9 : IVec S_ 1 := andi main_v4 main_v8
  let main_v10 : FVec F S32x2048x1024 .f32 := (extf .f32 · bitsLt_bf16_f32) main_arg2
  let main_v11 : FVec F S32x2048x1024 .f32 := Host.absf main_v10
  let main_cst_2 : FVec F S_ .f32 := constant S_ .f32 0x7F800000#32
  let main_v12 : FVec F S32x2048x1024 .f32 := broadcastInDim S32x2048x1024 ![] bcast_S_S32x2048x1024 main_cst_2
  let main_v13 : IVec S32x2048x1024 1 := cmpf .olt main_v11 main_v12
  let main_c_3 : IVec S_ 1 := constantI S_ 1 1#1
  let main_v14 : IVec S_ 1 := (fun x v => Host.reduce IntOp.andi x v reducesTo_S32x2048x1024_S_d0_1_2 h_S_) main_v13 main_c_3
  let main_v15 : IVec S_ 1 := andi main_v9 main_v14
  let main_v16 : FVec F S32x2048x1024 .f32 := (extf .f32 · bitsLt_bf16_f32) main_arg3
  let main_v17 : FVec F S32x2048x1024 .f32 := Host.absf main_v16
  fn_part1 (F := F) main_arg1 main_v15 main_v17
-- ==== Pre_finite_new.lean ====
abbrev S128x4x1024 : Shape := ⟨3, ![128, 4, 1024]⟩
abbrev S1x128 : Shape := ⟨2, ![1, 128]⟩
abbrev S1x128x8x128x128 : Shape := ⟨5, ![1, 128, 8, 128, 128]⟩
abbrev S_ : Shape := ⟨0, ![]⟩

class Facts : Prop where
  bitsLt_bf16_f32 : FTy.bits .bf16 < FTy.bits .f32
  bcast_S_S128x4x1024 : S_.BroadcastsInDim S128x4x1024 (![] : Fin 0 → Fin S128x4x1024.rank)
  reducesTo_S128x4x1024_S_d0_1_2 : S128x4x1024.ReducesTo [0, 1, 2] S_
  h_S_ : 0 < S_.numel

variable [Facts]

def fn_part1 {F : FTy → Type} [FloatOps F] (main_arg1 : FVec F S128x4x1024 .f32) (main_v15 : IVec S_ 1) (main_v17 : FVec F S128x4x1024 .f32) : IVec S_ 1 :=
  let main_cst_4 : FVec F S_ .f32 := constant S_ .f32 0x7F800000#32
  let main_v18 : FVec F S128x4x1024 .f32 := broadcastInDim S128x4x1024 ![] bcast_S_S128x4x1024 main_cst_4
  let main_v19 : IVec S128x4x1024 1 := cmpf .olt main_v17 main_v18
  let main_c_5 : IVec S_ 1 := constantI S_ 1 1#1
  let main_v20 : IVec S_ 1 := (fun x v => Host.reduce IntOp.andi x v reducesTo_S128x4x1024_S_d0_1_2 h_S_) main_v19 main_c_5
  let main_v21 : IVec S_ 1 := andi main_v15 main_v20
  let main_cst_6 : FVec F S_ .f32 := constant S_ .f32 0x00000000#32
  let main_v22 : FVec F S128x4x1024 .f32 := broadcastInDim S128x4x1024 ![] bcast_S_S128x4x1024 main_cst_6
  let main_v23 : IVec S128x4x1024 1 := cmpf .ole main_arg1 main_v22
  let main_c_7 : IVec S_ 1 := constantI S_ 1 1#1
  let main_v24 : IVec S_ 1 := (fun x v => Host.reduce IntOp.andi x v reducesTo_S128x4x1024_S_d0_1_2 h_S_) main_v23 main_c_7
  let main_v25 : IVec S_ 1 := andi main_v21 main_v24
  main_v25

def fn {F : FTy → Type} [FloatOps F] (main_arg0 : FVec F S128x4x1024 .bf16) (main_arg1 : FVec F S128x4x1024 .f32) (main_arg2 : FVec F S128x4x1024 .bf16) (main_arg3 : FVec F S128x4x1024 .bf16) (main_arg4 : FVec F S128x4x1024 .bf16) (main_arg5 : FVec F S1x128 .f32) (main_arg6 : FVec F S1x128x8x128x128 .f32) : IVec S_ 1 :=
  let main_v0 : FVec F S128x4x1024 .f32 := (extf .f32 · bitsLt_bf16_f32) main_arg0
  let main_v1 : FVec F S128x4x1024 .f32 := Host.absf main_v0
  let main_cst : FVec F S_ .f32 := constant S_ .f32 0x7F800000#32
  let main_v2 : FVec F S128x4x1024 .f32 := broadcastInDim S128x4x1024 ![] bcast_S_S128x4x1024 main_cst
  let main_v3 : IVec S128x4x1024 1 := cmpf .olt main_v1 main_v2
  let main_c : IVec S_ 1 := constantI S_ 1 1#1
  let main_v4 : IVec S_ 1 := (fun x v => Host.reduce IntOp.andi x v reducesTo_S128x4x1024_S_d0_1_2 h_S_) main_v3 main_c
  let main_v5 : FVec F S128x4x1024 .f32 := Host.absf main_arg1
  let main_cst_0 : FVec F S_ .f32 := constant S_ .f32 0x7F800000#32
  let main_v6 : FVec F S128x4x1024 .f32 := broadcastInDim S128x4x1024 ![] bcast_S_S128x4x1024 main_cst_0
  let main_v7 : IVec S128x4x1024 1 := cmpf .olt main_v5 main_v6
  let main_c_1 : IVec S_ 1 := constantI S_ 1 1#1
  let main_v8 : IVec S_ 1 := (fun x v => Host.reduce IntOp.andi x v reducesTo_S128x4x1024_S_d0_1_2 h_S_) main_v7 main_c_1
  let main_v9 : IVec S_ 1 := andi main_v4 main_v8
  let main_v10 : FVec F S128x4x1024 .f32 := (extf .f32 · bitsLt_bf16_f32) main_arg2
  let main_v11 : FVec F S128x4x1024 .f32 := Host.absf main_v10
  let main_cst_2 : FVec F S_ .f32 := constant S_ .f32 0x7F800000#32
  let main_v12 : FVec F S128x4x1024 .f32 := broadcastInDim S128x4x1024 ![] bcast_S_S128x4x1024 main_cst_2
  let main_v13 : IVec S128x4x1024 1 := cmpf .olt main_v11 main_v12
  let main_c_3 : IVec S_ 1 := constantI S_ 1 1#1
  let main_v14 : IVec S_ 1 := (fun x v => Host.reduce IntOp.andi x v reducesTo_S128x4x1024_S_d0_1_2 h_S_) main_v13 main_c_3
  let main_v15 : IVec S_ 1 := andi main_v9 main_v14
  let main_v16 : FVec F S128x4x1024 .f32 := (extf .f32 · bitsLt_bf16_f32) main_arg3
  let main_v17 : FVec F S128x4x1024 .f32 := Host.absf main_v16
  fn_part1 (F := F) main_arg1 main_v15 main_v17
-- ==== Kernel.lean ====
abbrev S32x2048x1024 : Shape := ⟨3, ![32, 2048, 1024]⟩
abbrev S1x128 : Shape := ⟨2, ![1, 128]⟩
abbrev S128 : Shape := ⟨1, ![128]⟩
abbrev S32x8x128x128 : Shape := ⟨4, ![32, 8, 128, 128]⟩
abbrev S1x64x1024 : Shape := ⟨3, ![1, 64, 1024]⟩
abbrev S1x8x128x128 : Shape := ⟨4, ![1, 8, 128, 128]⟩
abbrev S64x128 : Shape := ⟨2, ![64, 128]⟩
abbrev S64x64 : Shape := ⟨2, ![64, 64]⟩
abbrev S128x128 : Shape := ⟨2, ![128, 128]⟩
abbrev S1x64x128 : Shape := ⟨3, ![1, 64, 128]⟩
abbrev S1x1x128x128 : Shape := ⟨4, ![1, 1, 128, 128]⟩
abbrev S64 : Shape := ⟨1, ![64]⟩
abbrev S64x1 : Shape := ⟨2, ![64, 1]⟩
abbrev S128x1 : Shape := ⟨2, ![128, 1]⟩

abbrev nBuf : Space → Nat
  | .hbm => 10
  | .vmem => 15
  | .smem => 0
  | _ => 0

abbrev bufTy : (tb : Table) → Fin (tcTables nBuf tb) → BufTy
  | .hbm, ⟨0, _⟩ => ⟨S32x2048x1024, .bf16⟩
  | .hbm, ⟨1, _⟩ => ⟨S32x2048x1024, .f32⟩
  | .hbm, ⟨2, _⟩ => ⟨S32x2048x1024, .bf16⟩
  | .hbm, ⟨3, _⟩ => ⟨S32x2048x1024, .bf16⟩
  | .hbm, ⟨4, _⟩ => ⟨S32x2048x1024, .bf16⟩
  | .hbm, ⟨5, _⟩ => ⟨S1x128, .f32⟩
  | .hbm, ⟨6, _⟩ => ⟨S128, .f32⟩
  | .hbm, ⟨7, _⟩ => ⟨S1x128, .f32⟩
  | .hbm, ⟨8, _⟩ => ⟨S32x2048x1024, .bf16⟩
  | .hbm, ⟨9, _⟩ => ⟨S32x8x128x128, .f32⟩
  | .local _ .vmem, ⟨0, _⟩ => ⟨S1x64x1024, .bf16⟩
  | .local _ .vmem, ⟨1, _⟩ => ⟨S1x64x1024, .bf16⟩
  | .local _ .vmem, ⟨2, _⟩ => ⟨S1x64x1024, .f32⟩
  | .local _ .vmem, ⟨3, _⟩ => ⟨S1x64x1024, .f32⟩
  | .local _ .vmem, ⟨4, _⟩ => ⟨S1x64x1024, .bf16⟩
  | .local _ .vmem, ⟨5, _⟩ => ⟨S1x64x1024, .bf16⟩
  | .local _ .vmem, ⟨6, _⟩ => ⟨S1x64x1024, .bf16⟩
  | .local _ .vmem, ⟨7, _⟩ => ⟨S1x64x1024, .bf16⟩
  | .local _ .vmem, ⟨8, _⟩ => ⟨S1x64x1024, .bf16⟩
  | .local _ .vmem, ⟨9, _⟩ => ⟨S1x64x1024, .bf16⟩
  | .local _ .vmem, ⟨10, _⟩ => ⟨S1x128, .f32⟩
  | .local _ .vmem, ⟨11, _⟩ => ⟨S1x64x1024, .bf16⟩
  | .local _ .vmem, ⟨12, _⟩ => ⟨S1x64x1024, .bf16⟩
  | .local _ .vmem, ⟨13, _⟩ => ⟨S1x8x128x128, .f32⟩
  | .local _ .vmem, ⟨14, _⟩ => ⟨S1x8x128x128, .f32⟩
  | _, _ => ⟨S32x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![32, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S32x2048x1024 : Shape := ⟨3, ![32, 2048, 1024]⟩
abbrev S1x128 : Shape := ⟨2, ![1, 128]⟩
abbrev S_ : Shape := ⟨0, ![]⟩
abbrev S32x8x128x128 : Shape := ⟨4, ![32, 8, 128, 128]⟩
abbrev S32x2048x8x128 : Shape := ⟨4, ![32, 2048, 8, 128]⟩
abbrev S32x8x2048x128 : Shape := ⟨4, ![32, 8, 2048, 128]⟩
abbrev S2048x2048 : Shape := ⟨2, ![2048, 2048]⟩
abbrev S2048x2048x1 : Shape := ⟨3, ![2048, 2048, 1]⟩
abbrev S32x8x2048x1x128 : Shape := ⟨5, ![32, 8, 2048, 1, 128]⟩
abbrev S32x8x1x2048x128 : Shape := ⟨5, ![32, 8, 1, 2048, 128]⟩
abbrev S32x8x2048x2048x128 : Shape := ⟨5, ![32, 8, 2048, 2048, 128]⟩
abbrev S32x8x2048x2048 : Shape := ⟨4, ![32, 8, 2048, 2048]⟩
abbrev S32x8x1x128 : Shape := ⟨4, ![32, 8, 1, 128]⟩
abbrev S32x8x128 : Shape := ⟨3, ![32, 8, 128]⟩
abbrev S32x8x128x1 : Shape := ⟨4, ![32, 8, 128, 1]⟩
abbrev S128 : Shape := ⟨1, ![128]⟩
abbrev S32x2048x8 : Shape := ⟨3, ![32, 2048, 8]⟩
abbrev S32x2048x8x1 : Shape := ⟨4, ![32, 2048, 8, 1]⟩
abbrev S1x1x1x128 : Shape := ⟨4, ![1, 1, 1, 128]⟩

abbrev nBuf : Space → Nat
  | .hbm => 89
  | .vmem => 0
  | .smem => 0
  | _ => 0

abbrev bufTy : (tb : Table) → Fin (tcTables nBuf tb) → BufTy
  | .hbm, ⟨0, _⟩ => ⟨S32x2048x1024, .bf16⟩
  | .hbm, ⟨1, _⟩ => ⟨S32x2048x1024, .f32⟩
  | .hbm, ⟨2, _⟩ => ⟨S32x2048x1024, .bf16⟩
  | .hbm, ⟨3, _⟩ => ⟨S32x2048x1024, .bf16⟩
  | .hbm, ⟨4, _⟩ => ⟨S32x2048x1024, .bf16⟩
  | .hbm, ⟨5, _⟩ => ⟨S1x128, .f32⟩
  | .hbm, ⟨6, _⟩ => ⟨S_, .f32⟩
  | .hbm, ⟨7, _⟩ => ⟨S32x8x128x128, .f32⟩
  | .hbm, ⟨8, _⟩ => ⟨S32x2048x1024, .f32⟩
  | .hbm, ⟨9, _⟩ => ⟨S32x2048x8x128, .f32⟩
  | .hbm, ⟨10, _⟩ => ⟨S32x2048x1024, .f32⟩
  | .hbm, ⟨11, _⟩ => ⟨S32x2048x8x128, .f32⟩
  | .hbm, ⟨12, _⟩ => ⟨S32x2048x1024, .f32⟩
  | .hbm, ⟨13, _⟩ => ⟨S32x2048x8x128, .f32⟩
  | .hbm, ⟨14, _⟩ => ⟨S32x2048x8x128, .f32⟩
  | .hbm, ⟨15, _⟩ => ⟨S32x8x2048x128, .f32⟩
  | .hbm, ⟨16, _⟩ => ⟨S32x8x2048x128, .f32⟩
  | .hbm, ⟨17, _⟩ => ⟨S32x8x2048x128, .f32⟩
  | .hbm, ⟨18, _⟩ => ⟨S32x8x2048x128, .f32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S2048x2048x1, .i1⟩
  | .hbm, ⟨23, _⟩ => ⟨S_, .f32⟩
  | .hbm, ⟨24, _⟩ => ⟨S_, .f32⟩
  | .hbm, ⟨25, _⟩ => ⟨S32x8x2048x128, .f32⟩
  | .hbm, ⟨26, _⟩ => ⟨S32x8x2048x128, .f32⟩
  | .hbm, ⟨27, _⟩ => ⟨S32x8x2048x128, .f32⟩
  | .hbm, ⟨28, _⟩ => ⟨S32x8x2048x128, .f32⟩
  | .hbm, ⟨29, _⟩ => ⟨S32x8x2048x1x128, .f32⟩
  | .hbm, ⟨30, _⟩ => ⟨S32x8x1x2048x128, .f32⟩
  | .hbm, ⟨31, _⟩ => ⟨S32x8x2048x2048x128, .f32⟩
  | .hbm, ⟨32, _⟩ => ⟨S32x8x2048x2048x128, .f32⟩
  | .hbm, ⟨33, _⟩ => ⟨S32x8x2048x2048x128, .f32⟩
  | .hbm, ⟨34, _⟩ => ⟨S_, .f32⟩
  | .hbm, ⟨35, _⟩ => ⟨S32x8x2048x2048x128, .f32⟩
  | .hbm, ⟨36, _⟩ => ⟨S32x8x2048x2048x128, .f32⟩
  | .hbm, ⟨37, _⟩ => ⟨S32x8x2048x2048x128, .f32⟩
  | .hbm, ⟨38, _⟩ => ⟨S_, .f32⟩
  | .hbm, ⟨39, _⟩ => ⟨S_, .f32⟩
  | .hbm, ⟨40, _⟩ => ⟨S32x8x2048x2048x128, .i1⟩
  | .hbm, ⟨41, _⟩ => ⟨S32x8x2048x2048x128, .f32⟩
  | .hbm, ⟨42, _⟩ => ⟨S32x8x2048x2048x128, .f32⟩
  | .hbm, ⟨43, _⟩ => ⟨S32x8x2048x1x128, .f32⟩
  | .hbm, ⟨44, _⟩ => ⟨S32x8x2048x2048x128, .f32⟩
  | .hbm, ⟨45, _⟩ => ⟨S32x8x2048x2048x128, .f32⟩
  | .hbm, ⟨46, _⟩ => ⟨S32x8x1x2048x128, .f32⟩
  | .hbm, ⟨47, _⟩ => ⟨S32x8x2048x2048x128, .f32⟩
  | .hbm, ⟨48, _⟩ => ⟨S32x8x2048x2048x128, .f32⟩
  | .hbm, ⟨49, _⟩ => ⟨S_, .f32⟩
  | .hbm, ⟨50, _⟩ => ⟨S32x8x2048x2048, .f32⟩
  | .hbm, ⟨51, _⟩ => ⟨S32x8x2048x128, .f32⟩
  | .hbm, ⟨52, _⟩ => ⟨S32x8x1x128, .f32⟩
  | .hbm, ⟨53, _⟩ => ⟨S32x8x128, .f32⟩
  | .hbm, ⟨54, _⟩ => ⟨S32x8x128, .f32⟩
  | .hbm, ⟨55, _⟩ => ⟨S32x8x128x1, .f32⟩
  | .hbm, ⟨56, _⟩ => ⟨S32x8x128x128, .f32⟩
  | .hbm, ⟨57, _⟩ => ⟨S32x8x128x128, .f32⟩
  | .hbm, ⟨58, _⟩ => ⟨S32x8x1x128, .f32⟩
  | .hbm, ⟨59, _⟩ => ⟨S32x8x2048x128, .f32⟩
  | .hbm, ⟨60, _⟩ => ⟨S32x8x2048x128, .f32⟩
  | .hbm, ⟨61, _⟩ => ⟨S32x8x2048x128, .f32⟩
  | .hbm, ⟨62, _⟩ => ⟨S32x8x2048x128, .f32⟩
  | .hbm, ⟨63, _⟩ => ⟨S32x8x128x128, .f32⟩
  | .hbm, ⟨64, _⟩ => ⟨S32x8x128x128, .f32⟩
  | .hbm, ⟨65, _⟩ => ⟨S32x8x2048x128, .f32⟩
  | .hbm, ⟨66, _⟩ => ⟨S32x2048x8x128, .f32⟩
  | .hbm, ⟨67, _⟩ => ⟨S128, .f32⟩
  | .hbm, ⟨68, _⟩ => ⟨S32x2048x8x128, .f32⟩
  | .hbm, ⟨69, _⟩ => ⟨S_, .f32⟩
  | .hbm, ⟨70, _⟩ => ⟨S32x2048x8, .f32⟩
  | .hbm, ⟨71, _⟩ => ⟨S32x2048x8x1, .f32⟩
  | .hbm, ⟨72, _⟩ => ⟨S_, .f32⟩
  | .hbm, ⟨73, _⟩ => ⟨S32x2048x8x1, .f32⟩
  | .hbm, ⟨74, _⟩ => ⟨S32x2048x8x1, .f32⟩
  | .hbm, ⟨75, _⟩ => ⟨S_, .f32⟩
  | .hbm, ⟨76, _⟩ => ⟨S32x2048x8x1, .f32⟩
  | .hbm, ⟨77, _⟩ => ⟨S32x2048x8x1, .f32⟩
  | .hbm, ⟨78, _⟩ => ⟨S32x2048x8x1, .f32⟩
  | .hbm, ⟨79, _⟩ => ⟨S32x2048x8x128, .f32⟩
  | .hbm, ⟨80, _⟩ => ⟨S32x2048x8x128, .f32⟩
  | .hbm, ⟨81, _⟩ => ⟨S1x1x1x128, .f32⟩
  | .hbm, ⟨82, _⟩ => ⟨S32x2048x8x128, .f32⟩
  | .hbm, ⟨83, _⟩ => ⟨S32x2048x8x128, .f32⟩
  | .hbm, ⟨84, _⟩ => ⟨S32x2048x1024, .f32⟩
  | .hbm, ⟨85, _⟩ => ⟨S32x2048x8x128, .f32⟩
  | .hbm, ⟨86, _⟩ => ⟨S32x2048x8x128, .f32⟩
  | .hbm, ⟨87, _⟩ => ⟨S32x2048x1024, .f32⟩
  | .hbm, ⟨88, _⟩ => ⟨S32x2048x1024, .bf16⟩
  | _, _ => ⟨S32x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_call0_cst : Ref sig .tc := ⟨.hbm, 23, rfl⟩
abbrev main_call0_call0_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_0 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_1 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_2 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_3 : Ref sig .tc := ⟨.hbm, 69, rfl⟩
abbrev main_v54 : Ref sig .tc := ⟨.hbm, 70, rfl⟩
abbrev main_v55 : Ref sig .tc := ⟨.hbm, 71, rfl⟩
abbrev main_cst_4 : Ref sig .tc := ⟨.hbm, 72, rfl⟩
abbrev main_v56 : Ref sig .tc := ⟨.hbm, 73, rfl⟩
abbrev main_v57 : Ref sig .tc := ⟨.hbm, 74, rfl⟩
abbrev main_cst_5 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩

abbrev nD : Nat := 1
abbrev τ : Topo := Topo.v7x

variable {F : FTy → Type} [FloatOps F]
-- ==== Kernel2.lean ====
abbrev S32x2048x1024 : Shape := ⟨3, ![32, 2048, 1024]⟩
abbrev S32x9216 : Shape := ⟨2, ![32, 9216]⟩
abbrev S1x2x1024x5632 : Shape := ⟨4, ![1, 2, 1024, 5632]⟩
abbrev S1x2x2816x1024 : Shape := ⟨4, ![1, 2, 2816, 1024]⟩
abbrev S1x3x1024 : Shape := ⟨3, ![1, 3, 1024]⟩
abbrev S65536x1024 : Shape := ⟨2, ![65536, 1024]⟩
abbrev S32x9x1024 : Shape := ⟨3, ![32, 9, 1024]⟩
abbrev S9x32x1024 : Shape := ⟨3, ![9, 32, 1024]⟩
abbrev S9x32x1x1024 : Shape := ⟨4, ![9, 32, 1, 1024]⟩
abbrev S2x1024x5632 : Shape := ⟨3, ![2, 1024, 5632]⟩
abbrev S1x1024x5632 : Shape := ⟨3, ![1, 1024, 5632]⟩
abbrev S1024x5632 : Shape := ⟨2, ![1024, 5632]⟩
abbrev S2x2816x1024 : Shape := ⟨3, ![2, 2816, 1024]⟩
abbrev S1x2816x1024 : Shape := ⟨3, ![1, 2816, 1024]⟩
abbrev S2816x1024 : Shape := ⟨2, ![2816, 1024]⟩
abbrev S1x1x1024 : Shape := ⟨3, ![1, 1, 1024]⟩
abbrev S1024 : Shape := ⟨1, ![1024]⟩
abbrev S1x1024 : Shape := ⟨2, ![1, 1024]⟩
abbrev S512x1024 : Shape := ⟨2, ![512, 1024]⟩
abbrev S1x1x1x1024 : Shape := ⟨4, ![1, 1, 1, 1024]⟩
abbrev S1024x2816 : Shape := ⟨2, ![1024, 2816]⟩
abbrev S512x2816 : Shape := ⟨2, ![512, 2816]⟩
abbrev S512 : Shape := ⟨1, ![512]⟩
abbrev S512x1 : Shape := ⟨2, ![512, 1]⟩

abbrev nBuf : Space → Nat
  | .hbm => 25
  | .vmem => 15
  | .smem => 0
  | _ => 0

abbrev bufTy : (tb : Table) → Fin (tcTables nBuf tb) → BufTy
  | .hbm, ⟨0, _⟩ => ⟨S32x2048x1024, .f32⟩
  | .hbm, ⟨1, _⟩ => ⟨S32x9216, .f32⟩
  | .hbm, ⟨2, _⟩ => ⟨S1x2x1024x5632, .f32⟩
  | .hbm, ⟨3, _⟩ => ⟨S1x2x2816x1024, .f32⟩
  | .hbm, ⟨4, _⟩ => ⟨S1x3x1024, .f32⟩
  | .hbm, ⟨5, _⟩ => ⟨S1x3x1024, .f32⟩
  | .hbm, ⟨6, _⟩ => ⟨S65536x1024, .f32⟩
  | .hbm, ⟨7, _⟩ => ⟨S32x9x1024, .f32⟩
  | .hbm, ⟨8, _⟩ => ⟨S9x32x1024, .f32⟩
  | .hbm, ⟨9, _⟩ => ⟨S9x32x1x1024, .f32⟩
  | .hbm, ⟨10, _⟩ => ⟨S2x1024x5632, .f32⟩
  | .hbm, ⟨11, _⟩ => ⟨S2x1024x5632, .bf16⟩
  | .hbm, ⟨12, _⟩ => ⟨S1x1024x5632, .bf16⟩
  | .hbm, ⟨13, _⟩ => ⟨S1024x5632, .bf16⟩
  | .hbm, ⟨14, _⟩ => ⟨S2x2816x1024, .f32⟩
  | .hbm, ⟨15, _⟩ => ⟨S2x2816x1024, .bf16⟩
  | .hbm, ⟨16, _⟩ => ⟨S1x2816x1024, .bf16⟩
  | .hbm, ⟨17, _⟩ => ⟨S2816x1024, .bf16⟩
  | .hbm, ⟨18, _⟩ => ⟨S1x1x1024, .f32⟩
  | .hbm, ⟨19, _⟩ => ⟨S1024, .f32⟩
  | .hbm, ⟨20, _⟩ => ⟨S1x1x1024, .f32⟩
  | .hbm, ⟨21, _⟩ => ⟨S1024, .f32⟩
  | .hbm, ⟨22, _⟩ => ⟨S1x1024, .f32⟩
  | .hbm, ⟨23, _⟩ => ⟨S1x1024, .f32⟩
  | .hbm, ⟨24, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let c0_i32_4 : BitVec 32 := 0#32
  let c0_i32_5 : BitVec 32 := 0#32
  let c0_i32_6 : BitVec 32 := 0#32
  ![c6_i32.toNat, v16.toNat, c0_i32_4.toNat, c0_i32_5.toNat]

def cc0_transform_2 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32 : BitVec 32 := 7#32
  let c0_i32_4 : BitVec 32 := 0#32
  let c0_i32_5 : BitVec 32 := 0#32
  let c0_i32_6 : BitVec 32 := 0#32
  ![c7_i32.toNat, v16.toNat, c0_i32_4.toNat, c0_i32_5.toNat]

def cc0_transform_3 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let c0_i32_4 : BitVec 32 := 0#32
  let c0_i32_5 : BitVec 32 := 0#32
  let c0_i32_6 : BitVec 32 := 0#32
  ![c8_i32.toNat, v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel2Ideal.lean ====
variable {F : FTy → Type} [FloatOps F] [Named F]
def κ : String → Option EReal := fun
  | "alpha" => some ((Real.sqrt (Real.sqrt 2) : ℝ) : EReal)
  | _ => none
-- ==== Reference2Ideal.lean ====
abbrev S32x2048x1024 : Shape := ⟨3, ![32, 2048, 1024]⟩
abbrev S32x9216 : Shape := ⟨2, ![32, 9216]⟩
abbrev S1x2x1024x5632 : Shape := ⟨4, ![1, 2, 1024, 5632]⟩
abbrev S1x2x2816x1024 : Shape := ⟨4, ![1, 2, 2816, 1024]⟩
abbrev S1x3x1024 : Shape := ⟨3, ![1, 3, 1024]⟩
abbrev S32x3x3x1x1024 : Shape := ⟨5, ![32, 3, 3, 1, 1024]⟩
abbrev S32x1x1x1x1024 : Shape := ⟨5, ![32, 1, 1, 1, 1024]⟩
abbrev S32x1x1024 : Shape := ⟨3, ![32, 1, 1024]⟩
abbrev S_ : Shape := ⟨0, ![]⟩
abbrev S1x1x1024x5632 : Shape := ⟨4, ![1, 1, 1024, 5632]⟩
abbrev S1024x5632 : Shape := ⟨2, ![1024, 5632]⟩
abbrev S32x2048x5632 : Shape := ⟨3, ![32, 2048, 5632]⟩
abbrev S32x2048x2816 : Shape := ⟨3, ![32, 2048, 2816]⟩
abbrev S1x1x2816x1024 : Shape := ⟨4, ![1, 1, 2816, 1024]⟩
abbrev S2816x1024 : Shape := ⟨2, ![2816, 1024]⟩
abbrev S1x1x1024 : Shape := ⟨3, ![1, 1, 1024]⟩
abbrev S1024 : Shape := ⟨1, ![1024]⟩
abbrev S32x2048 : Shape := ⟨2, ![32, 2048]⟩
abbrev S32x2048x1 : Shape := ⟨3, ![32, 2048, 1]⟩
abbrev S65536x1024 : Shape := ⟨2, ![65536, 1024]⟩

abbrev nBuf : Space → Nat
  | .hbm => 83
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x9216, .f32⟩
  | .hbm, ⟨2, _⟩ => ⟨S1x2x1024x5632, .f32⟩
  | .hbm, ⟨3, _⟩ => ⟨S1x2x2816x1024, .f32⟩
  | .hbm, ⟨4, _⟩ => ⟨S1x3x1024, .f32⟩
  | .hbm, ⟨5, _⟩ => ⟨S1x3x1024, .f32⟩
  | .hbm, ⟨6, _⟩ => ⟨S32x3x3x1x1024, .f32⟩
  | .hbm, ⟨7, _⟩ => ⟨S32x1x1x1x1024, .f32⟩
  | .hbm, ⟨8, _⟩ => ⟨S32x1x1024, .f32⟩
  | .hbm, ⟨9, _⟩ => ⟨S_, .f32⟩
  | .hbm, ⟨10, _⟩ => ⟨S32x1x1024, .f32⟩
  | .hbm, ⟨11, _⟩ => ⟨S32x1x1024, .f32⟩
  | .hbm, ⟨12, _⟩ => ⟨S32x2048x1024, .f32⟩
  | .hbm, ⟨13, _⟩ => ⟨S32x2048x1024, .f32⟩
  | .hbm, ⟨14, _⟩ => ⟨S32x1x1x1x1024, .f32⟩
  | .hbm, ⟨15, _⟩ => ⟨S32x1x1024, .f32⟩
  | .hbm, ⟨16, _⟩ => ⟨S32x2048x1024, .f32⟩
  | .hbm, ⟨17, _⟩ => ⟨S32x2048x1024, .f32⟩
  | .hbm, ⟨18, _⟩ => ⟨S1x1x1024x5632, .f32⟩
  | .hbm, ⟨19, _⟩ => ⟨S1024x5632, .f32⟩
  | .hbm, ⟨20, _⟩ => ⟨S32x2048x5632, .f32⟩
  | .hbm, ⟨21, _⟩ => ⟨S32x2048x2816, .f32⟩
  | .hbm, ⟨22, _⟩ => ⟨S32x2048x2816, .f32⟩
  | .hbm, ⟨23, _⟩ => ⟨S32x2048x2816, .f32⟩
  | .hbm, ⟨24, _⟩ => ⟨S32x2048x2816, .f32⟩
  | .hbm, ⟨25, _⟩ => ⟨S_, .f32⟩
  | .hbm, ⟨26, _⟩ => ⟨S32x2048x2816, .f32⟩
  | .hbm, ⟨27, _⟩ => ⟨S32x2048x2816, .f32⟩
  | .hbm, ⟨28, _⟩ => ⟨S_, .f32⟩
  | .hbm, ⟨29, _⟩ => ⟨S32x2048x2816, .f32⟩
  | .hbm, ⟨30, _⟩ => ⟨S32x2048x2816, .f32⟩
  | .hbm, ⟨31, _⟩ => ⟨S32x2048x2816, .f32⟩
  | .hbm, ⟨32, _⟩ => ⟨S32x2048x2816, .f32⟩
  | .hbm, ⟨33, _⟩ => ⟨S1x1x2816x1024, .f32⟩
  | .hbm, ⟨34, _⟩ => ⟨S2816x1024, .f32⟩
  | .hbm, ⟨35, _⟩ => ⟨S32x2048x1024, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S32x2048x1024, .f32⟩
  | .hbm, ⟨40, _⟩ => ⟨S32x2048x1024, .f32⟩
  | .hbm, ⟨41, _⟩ => ⟨S32x1x1x1x1024, .f32⟩
  | .hbm, ⟨42, _⟩ => ⟨S32x1x1024, .f32⟩
  | .hbm, ⟨43, _⟩ => ⟨S_, .f32⟩
  | .hbm, ⟨44, _⟩ => ⟨S32x1x1024, .f32⟩
  | .hbm, ⟨45, _⟩ => ⟨S32x1x1024, .f32⟩
  | .hbm, ⟨46, _⟩ => ⟨S32x2048x1024, .f32⟩
  | .hbm, ⟨47, _⟩ => ⟨S32x2048x1024, .f32⟩
  | .hbm, ⟨48, _⟩ => ⟨S32x2048x1024, .f32⟩
  | .hbm, ⟨49, _⟩ => ⟨S1x1x1024, .f32⟩
  | .hbm, ⟨50, _⟩ => ⟨S1024, .f32⟩
  | .hbm, ⟨51, _⟩ => ⟨S1x1x1024, .f32⟩
  | .hbm, ⟨52, _⟩ => ⟨S1024, .f32⟩
  | .hbm, ⟨53, _⟩ => ⟨S_, .f32⟩
  | .hbm, ⟨54, _⟩ => ⟨S32x2048, .f32⟩
  | .hbm, ⟨55, _⟩ => ⟨S32x2048x1, .f32⟩
  | .hbm, ⟨56, _⟩ => ⟨S_, .f32⟩
  | .hbm, ⟨57, _⟩ => ⟨S32x2048x1, .f32⟩
  | .hbm, ⟨58, _⟩ => ⟨S32x2048x1, .f32⟩
  | .hbm, ⟨59, _⟩ => ⟨S32x2048x1024, .f32⟩
  | .hbm, ⟨60, _⟩ => ⟨S32x2048x1024, .f32⟩
  | .hbm, ⟨61, _⟩ => ⟨S32x2048x1024, .f32⟩
  | .hbm, ⟨62, _⟩ => ⟨S_, .f32⟩
  | .hbm, ⟨63, _⟩ => ⟨S32x2048, .f32⟩
  | .hbm, ⟨64, _⟩ => ⟨S32x2048x1, .f32⟩
  | .hbm, ⟨65, _⟩ => ⟨S_, .f32⟩
  | .hbm, ⟨66, _⟩ => ⟨S32x2048x1, .f32⟩
  | .hbm, ⟨67, _⟩ => ⟨S32x2048x1, .f32⟩
  | .hbm, ⟨68, _⟩ => ⟨S32x2048x1024, .f32⟩
  | .hbm, ⟨69, _⟩ => ⟨S32x2048x1024, .f32⟩
  | .hbm, ⟨70, _⟩ => ⟨S_, .f32⟩
  | .hbm, ⟨71, _⟩ => ⟨S32x2048x1, .f32⟩
  | .hbm, ⟨72, _⟩ => ⟨S32x2048x1, .f32⟩
  | .hbm, ⟨73, _⟩ => ⟨S32x2048x1, .f32⟩
  | .hbm, ⟨74, _⟩ => ⟨S32x2048x1024, .f32⟩
  | .hbm, ⟨75, _⟩ => ⟨S32x2048x1024, .f32⟩
  | .hbm, ⟨76, _⟩ => ⟨S1x1x1024, .f32⟩
  | .hbm, ⟨77, _⟩ => ⟨S32x2048x1024, .f32⟩
  | .hbm, ⟨78, _⟩ => ⟨S32x2048x1024, .f32⟩
  | .hbm, ⟨79, _⟩ => ⟨S1x1x1024, .f32⟩
  | .hbm, ⟨80, _⟩ => ⟨S32x2048x1024, .f32⟩
  | .hbm, ⟨81, _⟩ => ⟨S32x2048x1024, .f32⟩
  | .hbm, ⟨82, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_4 : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_6 : Ref sig .tc := ⟨.hbm, 62, rfl⟩
abbrev main_v49 : Ref sig .tc := ⟨.hbm, 63, rfl⟩
abbrev main_v50 : Ref sig .tc := ⟨.hbm, 64, rfl⟩
abbrev main_cst_7 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_8 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩

abbrev nD : Nat := 1
abbrev τ : Topo := Topo.v7x

variable {F : FTy → Type} [FloatOps F]
-- ==== Kernel3.lean ====
abbrev S32x2048x1024 : Shape := ⟨3, ![32, 2048, 1024]⟩
abbrev S32x9216 : Shape := ⟨2, ![32, 9216]⟩
abbrev S1x1024x9216 : Shape := ⟨3, ![1, 1024, 9216]⟩
abbrev S2x1024 : Shape := ⟨2, ![2, 1024]⟩
abbrev S65536x1024 : Shape := ⟨2, ![65536, 1024]⟩
abbrev S32x9x1024 : Shape := ⟨3, ![32, 9, 1024]⟩
abbrev S9x32x1024 : Shape := ⟨3, ![9, 32, 1024]⟩
abbrev S9x32x1x1024 : Shape := ⟨4, ![9, 32, 1, 1024]⟩
abbrev S1024x9216 : Shape := ⟨2, ![1024, 9216]⟩
abbrev S256x1024 : Shape := ⟨2, ![256, 1024]⟩
abbrev S1x1x1x1024 : Shape := ⟨4, ![1, 1, 1, 1024]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 22
  | .vmem => 32
  | .smem => 0
  | _ => 0

abbrev bufTy : (tb : Table) → Fin (tcTables nBuf tb) → BufTy
  | .hbm, ⟨0, _⟩ => ⟨S32x2048x1024, .f32⟩
  | .hbm, ⟨1, _⟩ => ⟨S32x9216, .f32⟩
  | .hbm, ⟨2, _⟩ => ⟨S1x1024x9216, .f32⟩
  | .hbm, ⟨3, _⟩ => ⟨S2x1024, .f32⟩
  | .hbm, ⟨4, _⟩ => ⟨S65536x1024, .f32⟩
  | .hbm, ⟨5, _⟩ => ⟨S32x9x1024, .f32⟩
  | .hbm, ⟨6, _⟩ => ⟨S9x32x1024, .f32⟩
  | .hbm, ⟨7, _⟩ => ⟨S9x32x1x1024, .f32⟩
  | .hbm, ⟨8, _⟩ => ⟨S1024x9216, .f32⟩
  | .hbm, ⟨9, _⟩ => ⟨S1024x9216, .bf16⟩
  | .hbm, ⟨10, _⟩ => ⟨S65536x1024, .bf16⟩
  | .hbm, ⟨11, _⟩ => ⟨S65536x1024, .f32⟩
  | .hbm, ⟨12, _⟩ => ⟨S65536x1024, .bf16⟩
  | .hbm, ⟨13, _⟩ => ⟨S65536x1024, .bf16⟩
  | .hbm, ⟨14, _⟩ => ⟨S65536x1024, .bf16⟩
  | .hbm, ⟨15, _⟩ => ⟨S65536x1024, .bf16⟩
  | .hbm, ⟨16, _⟩ => ⟨S65536x1024, .f32⟩
  | .hbm, ⟨17, _⟩ => ⟨S65536x1024, .bf16⟩
  | .hbm, ⟨18, _⟩ => ⟨S65536x1024, .f32⟩
  | .hbm, ⟨19, _⟩ => ⟨S65536x1024, .bf16⟩
  | .hbm, ⟨20, _⟩ => ⟨S65536x1024, .bf16⟩
  | .hbm, ⟨21, _⟩ => ⟨S65536x1024, .bf16⟩
  | .local _ .vmem, ⟨0, _⟩ => ⟨S256x1024, .f32⟩
  | .local _ .vmem, ⟨1, _⟩ => ⟨S256x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1024x9216, .bf16⟩
  | .local _ .vmem, ⟨7, _⟩ => ⟨S2x1024, .f32⟩
  | .local _ .vmem, ⟨8, _⟩ => ⟨S256x1024, .bf16⟩
  | .local _ .vmem, ⟨9, _⟩ => ⟨S256x1024, .bf16⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .f32⟩
  | .local _ .vmem, ⟨21, _⟩ => ⟨S256x1024, .f32⟩
  | .local _ .vmem, ⟨22, _⟩ => ⟨S256x1024, .bf16⟩
  | .local _ .vmem, ⟨23, _⟩ => ⟨S256x1024, .bf16⟩
  | .local _ .vmem, ⟨24, _⟩ => ⟨S256x1024, .f32⟩
  | .local _ .vmem, ⟨25, _⟩ => ⟨S256x1024, .f32⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev main_v6_4 : Ref sig .tc := ⟨.hbm, 14, rfl⟩
abbrev main_v6_5 : Ref sig .tc := ⟨.hbm, 15, rfl⟩
abbrev main_v6_6 : Ref sig .tc := ⟨.hbm, 16, rfl⟩
abbrev main_v6_7 : Ref sig .tc := ⟨.hbm, 17, rfl⟩
abbrev main_v6_8 : Ref sig .tc := ⟨.hbm, 18, rfl⟩
abbrev main_v6_9 : Ref sig .tc := ⟨.hbm, 19, rfl⟩
abbrev main_v6_10 : Ref sig .tc := ⟨.hbm, 20, rfl⟩
abbrev main_v6_11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let c0_i32_4 : BitVec 32 := 0#32
  let c0_i32_5 : BitVec 32 := 0#32
  let c0_i32_6 : BitVec 32 := 0#32
  ![c3_i32.toNat, v16.toNat, c0_i32_4.toNat, c0_i32_5.toNat]

def cc0_transform_2 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let c0_i32_4 : BitVec 32 := 0#32
  let c0_i32_5 : BitVec 32 := 0#32
  let c0_i32_6 : BitVec 32 := 0#32
  ![c4_i32.toNat, v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x9216 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Kernel3Ideal.lean ====
variable {F : FTy → Type} [FloatOps F] [Named F]
def κ : String → Option EReal := fun
  | "da_scale" => some (((1 / 8) * (Real.log 2)⁻¹ : ℝ) : EReal)
  | "hg_scale" => some (((Real.sqrt 128)⁻¹ : ℝ) : EReal)
  | _ => none
-- ==== Reference3Ideal.lean ====
abbrev S32x2048x1024 : Shape := ⟨3, ![32, 2048, 1024]⟩
abbrev S32x9216 : Shape := ⟨2, ![32, 9216]⟩
abbrev S1x1024x9216 : Shape := ⟨3, ![1, 1024, 9216]⟩
abbrev S2x1024 : Shape := ⟨2, ![2, 1024]⟩
abbrev S_ : Shape := ⟨0, ![]⟩
abbrev S1024 : Shape := ⟨1, ![1024]⟩
abbrev S1x1024 : Shape := ⟨2, ![1, 1024]⟩
abbrev S32x3x3x1x1024 : Shape := ⟨5, ![32, 3, 3, 1, 1024]⟩
abbrev S32x1x1x1x1024 : Shape := ⟨5, ![32, 1, 1, 1, 1024]⟩
abbrev S32x1x1024 : Shape := ⟨3, ![32, 1, 1024]⟩
abbrev S1024x9216 : Shape := ⟨2, ![1024, 9216]⟩
abbrev S32x2048x9216 : Shape := ⟨3, ![32, 2048, 9216]⟩
abbrev S65536x1024 : Shape := ⟨2, ![65536, 1024]⟩

abbrev nBuf : Space → Nat
  | .hbm => 131
  | .vmem => 0
  | .smem => 0
  | _ => 0

abbrev hbmTy0_0 (i : Nat) : BufTy := match i % 128 with
  | 0 => ⟨S32x2048x1024, .f32⟩
  | 1 => ⟨S32x9216, .f32⟩
  | 2 => ⟨S1x1024x9216, .f32⟩
  | 3 => ⟨S2x1024, .f32⟩
  | 4 => ⟨S_, .f32⟩
  | 5 => ⟨S1024, .f32⟩
  | 6 => ⟨S_, .f32⟩
  | 7 => ⟨S1024, .f32⟩
  | 8 => ⟨S1024, .f32⟩
  | 9 => ⟨S1x1024, .f32⟩
  | 10 => ⟨S2x1024, .f32⟩
  | 11 => ⟨S2x1024, .f32⟩
  | 12 => ⟨S2x1024, .f32⟩
  | 13 => ⟨S_, .f32⟩
  | 14 => ⟨S1024, .f32⟩
  | 15 => ⟨S1x1024, .f32⟩
  | 16 => ⟨S2x1024, .f32⟩
  | 17 => ⟨S2x1024, .f32⟩
  | 18 => ⟨S_, .f32⟩
  | 19 => ⟨S_, .f32⟩
  | 20 => ⟨S2x1024, .f32⟩
  | 21 => ⟨S1x1024, .f32⟩
  | 22 => ⟨S1024, .f32⟩
  | 23 => ⟨S32x3x3x1x1024, .f32⟩
  | 24 => ⟨S32x1x1x1x1024, .f32⟩
  | 25 => ⟨S32x1x1024, .f32⟩
  | 26 => ⟨S_, .f32⟩
  | 27 => ⟨S32x1x1024, .f32⟩
  | 28 => ⟨S32x1x1024, .f32⟩
  | 29 => ⟨S32x2048x1024, .f32⟩
  | 30 => ⟨S32x2048x1024, .f32⟩
  | 31 => ⟨S32x1x1x1x1024, .f32⟩
  | 32 => ⟨S32x1x1024, .f32⟩
  | 33 => ⟨S32x2048x1024, .f32⟩
  | 34 => ⟨S32x2048x1024, .f32⟩
  | 35 => ⟨S1024x9216, .f32⟩
  | 36 => ⟨S32x2048x9216, .f32⟩
  | 37 => ⟨S32x2048x1024, .f32⟩
  | 38 => ⟨S32x2048x1024, .f32⟩
  | 39 => ⟨S32x2048x1024, .f32⟩
  | 40 => ⟨S32x2048x1024, .f32⟩
  | 41 => ⟨S32x2048x1024, .f32⟩
  | 42 => ⟨S32x2048x1024, .f32⟩
  | 43 => ⟨S32x2048x1024, .f32⟩
  | 44 => ⟨S32x2048x1024, .f32⟩
  | 45 => ⟨S32x2048x1024, .f32⟩
  | 46 => ⟨S65536x1024, .f32⟩
  | 47 => ⟨S65536x1024, .f32⟩
  | 48 => ⟨S65536x1024, .f32⟩
  | 49 => ⟨S65536x1024, .f32⟩
  | 50 => ⟨S65536x1024, .f32⟩
  | 51 => ⟨S65536x1024, .f32⟩
  | 52 => ⟨S65536x1024, .f32⟩
  | 53 => ⟨S65536x1024, .f32⟩
  | 54 => ⟨S65536x1024, .f32⟩
  | 55 => ⟨S_, .f32⟩
  | 56 => ⟨S1024, .f32⟩
  | 57 => ⟨S1024, .f32⟩
  | 58 => ⟨S65536x1024, .f32⟩
  | 59 => ⟨S65536x1024, .f32⟩
  | 60 => ⟨S_, .f32⟩
  | 61 => ⟨S65536x1024, .f32⟩
  | 62 => ⟨S65536x1024, .f32⟩
  | 63 => ⟨S_, .f32⟩
  | 64 => ⟨S65536x1024, .f32⟩
  | 65 => ⟨S65536x1024, .f32⟩
  | 66 => ⟨S1x1024, .f32⟩
  | 67 => ⟨S65536x1024, .f32⟩
  | 68 => ⟨S65536x1024, .f32⟩
  | 69 => ⟨S1x1024, .f32⟩
  | 70 => ⟨S65536x1024, .f32⟩
  | 71 => ⟨S65536x1024, .f32⟩
  | 72 => ⟨S65536x1024, .f32⟩
  | 73 => ⟨S65536x1024, .f32⟩
  | 74 => ⟨S_, .f32⟩
  | 75 => ⟨S65536x1024, .f32⟩
  | 76 => ⟨S65536x1024, .f32⟩
  | 77 => ⟨S_, .f32⟩
  | 78 => ⟨S65536x1024, .f32⟩
  | 79 => ⟨S65536x1024, .f32⟩
  | 80 => ⟨S65536x1024, .f32⟩
  | 81 => ⟨S_, .f32⟩
  | 82 => ⟨S_, .f32⟩
  | 83 => ⟨S_, .f32⟩
  | 84 => ⟨S_, .f32⟩
  | 85 => ⟨S65536x1024, .f32⟩
  | 86 => ⟨S65536x1024, .f32⟩
  | 87 => ⟨S_, .f32⟩
  | 88 => ⟨S_, .f32⟩
  | 89 => ⟨S_, .f32⟩
  | 90 => ⟨S_, .f32⟩
  | 91 => ⟨S65536x1024, .f32⟩
  | 92 => ⟨S65536x1024, .f32⟩
  | 93 => ⟨S65536x1024, .bf16⟩
  | 94 => ⟨S65536x1024, .f32⟩
  | 95 => ⟨S_, .f32⟩
  | 96 => ⟨S65536x1024, .f32⟩
  | 97 => ⟨S65536x1024, .f32⟩
  | 98 => ⟨S65536x1024, .bf16⟩
  | 99 => ⟨S65536x1024, .bf16⟩
  | 100 => ⟨S65536x1024, .f32⟩
  | 101 => ⟨S65536x1024, .f32⟩
  | 102 => ⟨S_, .f32⟩
  | 103 => ⟨S65536x1024, .f32⟩
  | 104 => ⟨S65536x1024, .f32⟩
  | 105 => ⟨S_, .f32⟩
  | 106 => ⟨S65536x1024, .f32⟩
  | 107 => ⟨S65536x1024, .f32⟩
  | 108 => ⟨S65536x1024, .f32⟩
  | 109 => ⟨S65536x1024, .bf16⟩
  | 110 => ⟨S65536x1024, .bf16⟩
  | 111 => ⟨S65536x1024, .bf16⟩
  | 112 => ⟨S65536x1024, .bf16⟩
  | 113 => ⟨S65536x1024, .f32⟩
  | 114 => ⟨S65536x1024, .f32⟩
  | 115 => ⟨S_, .f32⟩
  | 116 => ⟨S65536x1024, .f32⟩
  | 117 => ⟨S65536x1024, .f32⟩
  | 118 => ⟨S_, .f32⟩
  | 119 => ⟨S65536x1024, .f32⟩
  | 120 => ⟨S65536x1024, .f32⟩
  | 121 => ⟨S65536x1024, .bf16⟩
  | 122 => ⟨S65536x1024, .f32⟩
  | 123 => ⟨S65536x1024, .f32⟩
  | 124 => ⟨S_, .f32⟩
  | 125 => ⟨S65536x1024, .f32⟩
  | 126 => ⟨S65536x1024, .f32⟩
  | 127 => ⟨S_, .f32⟩
  | _ => ⟨S32x2048x1024, .f32⟩

abbrev hbmTy0_1 (i : Nat) : BufTy := match i % 128 with
  | 0 => ⟨S65536x1024, .f32⟩
  | 1 => ⟨S65536x1024, .f32⟩
  | 2 => ⟨S65536x1024, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_3 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_4 : Ref sig .tc := ⟨.hbm, 60, rfl⟩
abbrev main_v49 : Ref sig .tc := ⟨.hbm, 61, rfl⟩
abbrev main_v50 : Ref sig .tc := ⟨.hbm, 62, rfl⟩
abbrev main_cst_5 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_cst_6 : Ref sig .tc := ⟨.hbm, 74, rfl⟩
abbrev main_v61 : Ref sig .tc := ⟨.hbm, 75, rfl⟩
abbrev main_v62 : Ref sig .tc := ⟨.hbm, 76, rfl⟩
abbrev main_cst_7 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_8 : Ref sig .tc := ⟨.hbm, 81, rfl⟩
abbrev main_v66 : Ref sig .tc := ⟨.hbm, 82, rfl⟩
abbrev main_cst_9 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_10 : Ref sig .tc := ⟨.hbm, 87, rfl⟩
abbrev main_v70 : Ref sig .tc := ⟨.hbm, 88, rfl⟩
abbrev main_cst_11 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_12 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_cst_13 : Ref sig .tc := ⟨.hbm, 102, rfl⟩
abbrev main_v82 : Ref sig .tc := ⟨.hbm, 103, rfl⟩
abbrev main_v83 : Ref sig .tc := ⟨.hbm, 104, rfl⟩
abbrev main_cst_14 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_cst_15 : Ref sig .tc := ⟨.hbm, 115, rfl⟩
abbrev main_v93 : Ref sig .tc := ⟨.hbm, 116, rfl⟩
abbrev main_v94 : Ref sig .tc := ⟨.hbm, 117, rfl⟩
abbrev main_cst_16 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_cst_17 : Ref sig .tc := ⟨.hbm, 124, rfl⟩
abbrev main_v100 : Ref sig .tc := ⟨.hbm, 125, rfl⟩
abbrev main_v101 : Ref sig .tc := ⟨.hbm, 126, rfl⟩
abbrev main_cst_18 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩

abbrev nD : Nat := 1
abbrev τ : Topo := Topo.v7x

variable {F : FTy → Type} [FloatOps F]
-- ==== Kernel4.lean ====
abbrev S32x2048x1024 : Shape := ⟨3, ![32, 2048, 1024]⟩
abbrev S32x9216 : Shape := ⟨2, ![32, 9216]⟩
abbrev S65536x1024 : Shape := ⟨2, ![65536, 1024]⟩
abbrev S1x1024x1024 : Shape := ⟨3, ![1, 1024, 1024]⟩
abbrev S1x3x1024 : Shape := ⟨3, ![1, 3, 1024]⟩
abbrev S32x9x1024 : Shape := ⟨3, ![32, 9, 1024]⟩
abbrev S9x32x1024 : Shape := ⟨3, ![9, 32, 1024]⟩
abbrev S9x32x1x1024 : Shape := ⟨4, ![9, 32, 1, 1024]⟩
abbrev S1024x1024 : Shape := ⟨2, ![1024, 1024]⟩
abbrev S1x1x1024 : Shape := ⟨3, ![1, 1, 1024]⟩
abbrev S1024 : Shape := ⟨1, ![1024]⟩
abbrev S1x1024 : Shape := ⟨2, ![1, 1024]⟩
abbrev S512x1024 : Shape := ⟨2, ![512, 1024]⟩
abbrev S1x1x1x1024 : Shape := ⟨4, ![1, 1, 1, 1024]⟩
abbrev S512 : Shape := ⟨1, ![512]⟩
abbrev S512x1 : Shape := ⟨2, ![512, 1]⟩

abbrev nBuf : Space → Nat
  | .hbm => 28
  | .vmem => 19
  | .smem => 0
  | _ => 0

abbrev bufTy : (tb : Table) → Fin (tcTables nBuf tb) → BufTy
  | .hbm, ⟨0, _⟩ => ⟨S32x2048x1024, .f32⟩
  | .hbm, ⟨1, _⟩ => ⟨S32x9216, .f32⟩
  | .hbm, ⟨2, _⟩ => ⟨S65536x1024, .bf16⟩
  | .hbm, ⟨3, _⟩ => ⟨S65536x1024, .bf16⟩
  | .hbm, ⟨4, _⟩ => ⟨S65536x1024, .bf16⟩
  | .hbm, ⟨5, _⟩ => ⟨S65536x1024, .bf16⟩
  | .hbm, ⟨6, _⟩ => ⟨S1x1024x1024, .f32⟩
  | .hbm, ⟨7, _⟩ => ⟨S1x1024x1024, .f32⟩
  | .hbm, ⟨8, _⟩ => ⟨S1x1024x1024, .f32⟩
  | .hbm, ⟨9, _⟩ => ⟨S1x3x1024, .f32⟩
  | .hbm, ⟨10, _⟩ => ⟨S1x3x1024, .f32⟩
  | .hbm, ⟨11, _⟩ => ⟨S65536x1024, .f32⟩
  | .hbm, ⟨12, _⟩ => ⟨S32x9x1024, .f32⟩
  | .hbm, ⟨13, _⟩ => ⟨S9x32x1024, .f32⟩
  | .hbm, ⟨14, _⟩ => ⟨S9x32x1x1024, .f32⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .bf16⟩
  | .hbm, ⟨19, _⟩ => ⟨S1024x1024, .f32⟩
  | .hbm, ⟨20, _⟩ => ⟨S1024x1024, .bf16⟩
  | .hbm, ⟨21, _⟩ => ⟨S1x1x1024, .f32⟩
  | .hbm, ⟨22, _⟩ => ⟨S1024, .f32⟩
  | .hbm, ⟨23, _⟩ => ⟨S1x1x1024, .f32⟩
  | .hbm, ⟨24, _⟩ => ⟨S1024, .f32⟩
  | .hbm, ⟨25, _⟩ => ⟨S1x1024, .f32⟩
  | .hbm, ⟨26, _⟩ => ⟨S1x1024, .f32⟩
  | .hbm, ⟨27, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32 : BitVec 32 := 5#32
  let c0_i32_4 : BitVec 32 := 0#32
  let c0_i32_5 : BitVec 32 := 0#32
  let c0_i32_6 : BitVec 32 := 0#32
  ![c5_i32.toNat, v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Kernel4Ideal.lean ====
variable {F : FTy → Type} [FloatOps F] [Named F]
def κ : String → Option EReal := fun
  | "alpha" => some ((Real.sqrt (Real.sqrt 2) : ℝ) : EReal)
  | _ => none
-- ==== Reference4Ideal.lean ====
abbrev S32x2048x1024 : Shape := ⟨3, ![32, 2048, 1024]⟩
abbrev S32x9216 : Shape := ⟨2, ![32, 9216]⟩
abbrev S65536x1024 : Shape := ⟨2, ![65536, 1024]⟩
abbrev S1x1024x1024 : Shape := ⟨3, ![1, 1024, 1024]⟩
abbrev S1x3x1024 : Shape := ⟨3, ![1, 3, 1024]⟩
abbrev S32x3x3x1x1024 : Shape := ⟨5, ![32, 3, 3, 1, 1024]⟩
abbrev S1024x1024 : Shape := ⟨2, ![1024, 1024]⟩
abbrev S_ : Shape := ⟨0, ![]⟩
abbrev S32x1x1x1x1024 : Shape := ⟨5, ![32, 1, 1, 1, 1024]⟩
abbrev S32x1x1024 : Shape := ⟨3, ![32, 1, 1024]⟩
abbrev S1x1x1024 : Shape := ⟨3, ![1, 1, 1024]⟩
abbrev S1024 : Shape := ⟨1, ![1024]⟩
abbrev S32x2048 : Shape := ⟨2, ![32, 2048]⟩
abbrev S32x2048x1 : Shape := ⟨3, ![32, 2048, 1]⟩

abbrev nBuf : Space → Nat
  | .hbm => 73
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x9216, .f32⟩
  | .hbm, ⟨2, _⟩ => ⟨S65536x1024, .bf16⟩
  | .hbm, ⟨3, _⟩ => ⟨S65536x1024, .bf16⟩
  | .hbm, ⟨4, _⟩ => ⟨S65536x1024, .bf16⟩
  | .hbm, ⟨5, _⟩ => ⟨S65536x1024, .bf16⟩
  | .hbm, ⟨6, _⟩ => ⟨S1x1024x1024, .f32⟩
  | .hbm, ⟨7, _⟩ => ⟨S1x1024x1024, .f32⟩
  | .hbm, ⟨8, _⟩ => ⟨S1x1024x1024, .f32⟩
  | .hbm, ⟨9, _⟩ => ⟨S1x3x1024, .f32⟩
  | .hbm, ⟨10, _⟩ => ⟨S1x3x1024, .f32⟩
  | .hbm, ⟨11, _⟩ => ⟨S32x3x3x1x1024, .f32⟩
  | .hbm, ⟨12, _⟩ => ⟨S65536x1024, .f32⟩
  | .hbm, ⟨13, _⟩ => ⟨S32x2048x1024, .f32⟩
  | .hbm, ⟨14, _⟩ => ⟨S65536x1024, .f32⟩
  | .hbm, ⟨15, _⟩ => ⟨S32x2048x1024, .f32⟩
  | .hbm, ⟨16, _⟩ => ⟨S65536x1024, .f32⟩
  | .hbm, ⟨17, _⟩ => ⟨S32x2048x1024, .f32⟩
  | .hbm, ⟨18, _⟩ => ⟨S65536x1024, .f32⟩
  | .hbm, ⟨19, _⟩ => ⟨S32x2048x1024, .f32⟩
  | .hbm, ⟨20, _⟩ => ⟨S1024x1024, .f32⟩
  | .hbm, ⟨21, _⟩ => ⟨S32x2048x1024, .f32⟩
  | .hbm, ⟨22, _⟩ => ⟨S32x2048x1024, .f32⟩
  | .hbm, ⟨23, _⟩ => ⟨S1024x1024, .f32⟩
  | .hbm, ⟨24, _⟩ => ⟨S32x2048x1024, .f32⟩
  | .hbm, ⟨25, _⟩ => ⟨S32x2048x1024, .f32⟩
  | .hbm, ⟨26, _⟩ => ⟨S32x2048x1024, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S32x2048x1024, .f32⟩
  | .hbm, ⟨31, _⟩ => ⟨S32x2048x1024, .f32⟩
  | .hbm, ⟨32, _⟩ => ⟨S32x1x1x1x1024, .f32⟩
  | .hbm, ⟨33, _⟩ => ⟨S32x1x1024, .f32⟩
  | .hbm, ⟨34, _⟩ => ⟨S1024x1024, .f32⟩
  | .hbm, ⟨35, _⟩ => ⟨S32x2048x1024, .f32⟩
  | .hbm, ⟨36, _⟩ => ⟨S32x2048x1024, .f32⟩
  | .hbm, ⟨37, _⟩ => ⟨S32x2048x1024, .f32⟩
  | .hbm, ⟨38, _⟩ => ⟨S32x2048x1024, .f32⟩
  | .hbm, ⟨39, _⟩ => ⟨S1x1x1024, .f32⟩
  | .hbm, ⟨40, _⟩ => ⟨S1024, .f32⟩
  | .hbm, ⟨41, _⟩ => ⟨S1x1x1024, .f32⟩
  | .hbm, ⟨42, _⟩ => ⟨S1024, .f32⟩
  | .hbm, ⟨43, _⟩ => ⟨S_, .f32⟩
  | .hbm, ⟨44, _⟩ => ⟨S32x2048, .f32⟩
  | .hbm, ⟨45, _⟩ => ⟨S32x2048x1, .f32⟩
  | .hbm, ⟨46, _⟩ => ⟨S_, .f32⟩
  | .hbm, ⟨47, _⟩ => ⟨S32x2048x1, .f32⟩
  | .hbm, ⟨48, _⟩ => ⟨S32x2048x1, .f32⟩
  | .hbm, ⟨49, _⟩ => ⟨S32x2048x1024, .f32⟩
  | .hbm, ⟨50, _⟩ => ⟨S32x2048x1024, .f32⟩
  | .hbm, ⟨51, _⟩ => ⟨S32x2048x1024, .f32⟩
  | .hbm, ⟨52, _⟩ => ⟨S_, .f32⟩
  | .hbm, ⟨53, _⟩ => ⟨S32x2048, .f32⟩
  | .hbm, ⟨54, _⟩ => ⟨S32x2048x1, .f32⟩
  | .hbm, ⟨55, _⟩ => ⟨S_, .f32⟩
  | .hbm, ⟨56, _⟩ => ⟨S32x2048x1, .f32⟩
  | .hbm, ⟨57, _⟩ => ⟨S32x2048x1, .f32⟩
  | .hbm, ⟨58, _⟩ => ⟨S32x2048x1024, .f32⟩
  | .hbm, ⟨59, _⟩ => ⟨S32x2048x1024, .f32⟩
  | .hbm, ⟨60, _⟩ => ⟨S_, .f32⟩
  | .hbm, ⟨61, _⟩ => ⟨S32x2048x1, .f32⟩
  | .hbm, ⟨62, _⟩ => ⟨S32x2048x1, .f32⟩
  | .hbm, ⟨63, _⟩ => ⟨S32x2048x1, .f32⟩
  | .hbm, ⟨64, _⟩ => ⟨S32x2048x1024, .f32⟩
  | .hbm, ⟨65, _⟩ => ⟨S32x2048x1024, .f32⟩
  | .hbm, ⟨66, _⟩ => ⟨S1x1x1024, .f32⟩
  | .hbm, ⟨67, _⟩ => ⟨S32x2048x1024, .f32⟩
  | .hbm, ⟨68, _⟩ => ⟨S32x2048x1024, .f32⟩
  | .hbm, ⟨69, _⟩ => ⟨S1x1x1024, .f32⟩
  | .hbm, ⟨70, _⟩ => ⟨S32x2048x1024, .f32⟩
  | .hbm, ⟨71, _⟩ => ⟨S32x2048x1024, .f32⟩
  | .hbm, ⟨72, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_0 : Ref sig .tc := ⟨.hbm, 43, rfl⟩
abbrev main_v31 : Ref sig .tc := ⟨.hbm, 44, rfl⟩
abbrev main_v32 : Ref sig .tc := ⟨.hbm, 45, rfl⟩
abbrev main_cst_1 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_2 : Ref sig .tc := ⟨.hbm, 52, rfl⟩
abbrev main_v38 : Ref sig .tc := ⟨.hbm, 53, rfl⟩
abbrev main_v39 : Ref sig .tc := ⟨.hbm, 54, rfl⟩
abbrev main_cst_3 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_4 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩

abbrev nD : Nat := 1
abbrev τ : Topo := Topo.v7x

variable {F : FTy → Type} [FloatOps F]
-- ==== Kernel5.lean ====
abbrev S128x4x1024 : Shape := ⟨3, ![128, 4, 1024]⟩
abbrev S128x9216 : Shape := ⟨2, ![128, 9216]⟩
abbrev S1x2x1024x5632 : Shape := ⟨4, ![1, 2, 1024, 5632]⟩
abbrev S1x2x2816x1024 : Shape := ⟨4, ![1, 2, 2816, 1024]⟩
abbrev S1x3x1024 : Shape := ⟨3, ![1, 3, 1024]⟩
abbrev S512x1024 : Shape := ⟨2, ![512, 1024]⟩
abbrev S128x9x1024 : Shape := ⟨3, ![128, 9, 1024]⟩
abbrev S9x128x1024 : Shape := ⟨3, ![9, 128, 1024]⟩
abbrev S9x128x4x1024 : Shape := ⟨4, ![9, 128, 4, 1024]⟩
abbrev S9x512x1024 : Shape := ⟨3, ![9, 512, 1024]⟩
abbrev S9x1x512x1024 : Shape := ⟨4, ![9, 1, 512, 1024]⟩
abbrev S2x1024x5632 : Shape := ⟨3, ![2, 1024, 5632]⟩
abbrev S1x1024x5632 : Shape := ⟨3, ![1, 1024, 5632]⟩
abbrev S1024x5632 : Shape := ⟨2, ![1024, 5632]⟩
abbrev S2x2816x1024 : Shape := ⟨3, ![2, 2816, 1024]⟩
abbrev S1x2816x1024 : Shape := ⟨3, ![1, 2816, 1024]⟩
abbrev S2816x1024 : Shape := ⟨2, ![2816, 1024]⟩
abbrev S1x1x1024 : Shape := ⟨3, ![1, 1, 1024]⟩
abbrev S1024 : Shape := ⟨1, ![1024]⟩
abbrev S1x1024 : Shape := ⟨2, ![1, 1024]⟩
abbrev S1x1x512x1024 : Shape := ⟨4, ![1, 1, 512, 1024]⟩
abbrev S1024x2816 : Shape := ⟨2, ![1024, 2816]⟩
abbrev S512x2816 : Shape := ⟨2, ![512, 2816]⟩
abbrev S512 : Shape := ⟨1, ![512]⟩
abbrev S512x1 : Shape := ⟨2, ![512, 1]⟩

abbrev nBuf : Space → Nat
  | .hbm => 27
  | .vmem => 10
  | .smem => 0
  | _ => 0

abbrev bufTy : (tb : Table) → Fin (tcTables nBuf tb) → BufTy
  | .hbm, ⟨0, _⟩ => ⟨S128x4x1024, .f32⟩
  | .hbm, ⟨1, _⟩ => ⟨S128x9216, .f32⟩
  | .hbm, ⟨2, _⟩ => ⟨S1x2x1024x5632, .f32⟩
  | .hbm, ⟨3, _⟩ => ⟨S1x2x2816x1024, .f32⟩
  | .hbm, ⟨4, _⟩ => ⟨S1x3x1024, .f32⟩
  | .hbm, ⟨5, _⟩ => ⟨S1x3x1024, .f32⟩
  | .hbm, ⟨6, _⟩ => ⟨S512x1024, .f32⟩
  | .hbm, ⟨7, _⟩ => ⟨S128x9x1024, .f32⟩
  | .hbm, ⟨8, _⟩ => ⟨S9x128x1024, .f32⟩
  | .hbm, ⟨9, _⟩ => ⟨S9x128x4x1024, .f32⟩
  | .hbm, ⟨10, _⟩ => ⟨S9x512x1024, .f32⟩
  | .hbm, ⟨11, _⟩ => ⟨S9x1x512x1024, .f32⟩
  | .hbm, ⟨12, _⟩ => ⟨S2x1024x5632, .f32⟩
  | .hbm, ⟨13, _⟩ => ⟨S2x1024x5632, .bf16⟩
  | .hbm, ⟨14, _⟩ => ⟨S1x1024x5632, .bf16⟩
  | .hbm, ⟨15, _⟩ => ⟨S1024x5632, .bf16⟩
  | .hbm, ⟨16, _⟩ => ⟨S2x2816x1024, .f32⟩
  | .hbm, ⟨17, _⟩ => ⟨S2x2816x1024, .bf16⟩
  | .hbm, ⟨18, _⟩ => ⟨S1x2816x1024, .bf16⟩
  | .hbm, ⟨19, _⟩ => ⟨S2816x1024, .bf16⟩
  | .hbm, ⟨20, _⟩ => ⟨S1x1x1024, .f32⟩
  | .hbm, ⟨21, _⟩ => ⟨S1024, .f32⟩
  | .hbm, ⟨22, _⟩ => ⟨S1x1x1024, .f32⟩
  | .hbm, ⟨23, _⟩ => ⟨S1024, .f32⟩
  | .hbm, ⟨24, _⟩ => ⟨S1x1024, .f32⟩
  | .hbm, ⟨25, _⟩ => ⟨S1x1024, .f32⟩
  | .hbm, ⟨26, _⟩ => ⟨S512x1024, .f32⟩
  | .local _ .vmem, ⟨0, _⟩ => ⟨S512x1024, .f32⟩
  | .local _ .vmem, ⟨1, _⟩ => ⟨S1x1x512x1024, .f32⟩
  | .local _ .vmem, ⟨2, _⟩ => ⟨S1x1x512x1024, .f32⟩
  | .local _ .vmem, ⟨3, _⟩ => ⟨S1x1x512x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c6_i32 : BitVec 32 := 6#32
  let c0_i32 : BitVec 32 := 0#32
  let c0_i32_0 : BitVec 32 := 0#32
  let c0_i32_1 : BitVec 32 := 0#32
  ![c6_i32.toNat, c0_i32.toNat, arg0.toNat, c0_i32_0.toNat]

def cc0_transform_2 (i : grid0.Coords) : Fin 4 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![c7_i32.toNat, c0_i32.toNat, arg0.toNat, c0_i32_0.toNat]

def cc0_transform_3 (i : grid0.Coords) : Fin 4 → Nat :=
  let arg0 : BitVec 32 := BitVec.ofNat 32 (i 0).val
  let c8_i32 : BitVec 32 := 8#32
  let c0_i32 : BitVec 32 := 0#32
  let c0_i32_0 : BitVec 32 := 0#32
  let c0_i32_1 : BitVec 32 := 0#32
  ![c8_i32.toNat, c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1x512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Kernel5Ideal.lean ====
variable {F : FTy → Type} [FloatOps F] [Named F]
def κ : String → Option EReal := fun
  | "alpha" => some ((Real.sqrt (Real.sqrt 2) : ℝ) : EReal)
  | _ => none
-- ==== Reference5Ideal.lean ====
abbrev S128x4x1024 : Shape := ⟨3, ![128, 4, 1024]⟩
abbrev S128x9216 : Shape := ⟨2, ![128, 9216]⟩
abbrev S1x2x1024x5632 : Shape := ⟨4, ![1, 2, 1024, 5632]⟩
abbrev S1x2x2816x1024 : Shape := ⟨4, ![1, 2, 2816, 1024]⟩
abbrev S1x3x1024 : Shape := ⟨3, ![1, 3, 1024]⟩
abbrev S128x3x3x1x1024 : Shape := ⟨5, ![128, 3, 3, 1, 1024]⟩
abbrev S128x1x1x1x1024 : Shape := ⟨5, ![128, 1, 1, 1, 1024]⟩
abbrev S128x1x1024 : Shape := ⟨3, ![128, 1, 1024]⟩
abbrev S_ : Shape := ⟨0, ![]⟩
abbrev S1x1x1024x5632 : Shape := ⟨4, ![1, 1, 1024, 5632]⟩
abbrev S1024x5632 : Shape := ⟨2, ![1024, 5632]⟩
abbrev S128x4x5632 : Shape := ⟨3, ![128, 4, 5632]⟩
abbrev S128x4x2816 : Shape := ⟨3, ![128, 4, 2816]⟩
abbrev S1x1x2816x1024 : Shape := ⟨4, ![1, 1, 2816, 1024]⟩
abbrev S2816x1024 : Shape := ⟨2, ![2816, 1024]⟩
abbrev S1x1x1024 : Shape := ⟨3, ![1, 1, 1024]⟩
abbrev S1024 : Shape := ⟨1, ![1024]⟩
abbrev S128x4 : Shape := ⟨2, ![128, 4]⟩
abbrev S128x4x1 : Shape := ⟨3, ![128, 4, 1]⟩
abbrev S512x1024 : Shape := ⟨2, ![512, 1024]⟩

abbrev nBuf : Space → Nat
  | .hbm => 83
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S128x9216, .f32⟩
  | .hbm, ⟨2, _⟩ => ⟨S1x2x1024x5632, .f32⟩
  | .hbm, ⟨3, _⟩ => ⟨S1x2x2816x1024, .f32⟩
  | .hbm, ⟨4, _⟩ => ⟨S1x3x1024, .f32⟩
  | .hbm, ⟨5, _⟩ => ⟨S1x3x1024, .f32⟩
  | .hbm, ⟨6, _⟩ => ⟨S128x3x3x1x1024, .f32⟩
  | .hbm, ⟨7, _⟩ => ⟨S128x1x1x1x1024, .f32⟩
  | .hbm, ⟨8, _⟩ => ⟨S128x1x1024, .f32⟩
  | .hbm, ⟨9, _⟩ => ⟨S_, .f32⟩
  | .hbm, ⟨10, _⟩ => ⟨S128x1x1024, .f32⟩
  | .hbm, ⟨11, _⟩ => ⟨S128x1x1024, .f32⟩
  | .hbm, ⟨12, _⟩ => ⟨S128x4x1024, .f32⟩
  | .hbm, ⟨13, _⟩ => ⟨S128x4x1024, .f32⟩
  | .hbm, ⟨14, _⟩ => ⟨S128x1x1x1x1024, .f32⟩
  | .hbm, ⟨15, _⟩ => ⟨S128x1x1024, .f32⟩
  | .hbm, ⟨16, _⟩ => ⟨S128x4x1024, .f32⟩
  | .hbm, ⟨17, _⟩ => ⟨S128x4x1024, .f32⟩
  | .hbm, ⟨18, _⟩ => ⟨S1x1x1024x5632, .f32⟩
  | .hbm, ⟨19, _⟩ => ⟨S1024x5632, .f32⟩
  | .hbm, ⟨20, _⟩ => ⟨S128x4x5632, .f32⟩
  | .hbm, ⟨21, _⟩ => ⟨S128x4x2816, .f32⟩
  | .hbm, ⟨22, _⟩ => ⟨S128x4x2816, .f32⟩
  | .hbm, ⟨23, _⟩ => ⟨S128x4x2816, .f32⟩
  | .hbm, ⟨24, _⟩ => ⟨S128x4x2816, .f32⟩
  | .hbm, ⟨25, _⟩ => ⟨S_, .f32⟩
  | .hbm, ⟨26, _⟩ => ⟨S128x4x2816, .f32⟩
  | .hbm, ⟨27, _⟩ => ⟨S128x4x2816, .f32⟩
  | .hbm, ⟨28, _⟩ => ⟨S_, .f32⟩
  | .hbm, ⟨29, _⟩ => ⟨S128x4x2816, .f32⟩
  | .hbm, ⟨30, _⟩ => ⟨S128x4x2816, .f32⟩
  | .hbm, ⟨31, _⟩ => ⟨S128x4x2816, .f32⟩
  | .hbm, ⟨32, _⟩ => ⟨S128x4x2816, .f32⟩
  | .hbm, ⟨33, _⟩ => ⟨S1x1x2816x1024, .f32⟩
  | .hbm, ⟨34, _⟩ => ⟨S2816x1024, .f32⟩
  | .hbm, ⟨35, _⟩ => ⟨S128x4x1024, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S128x4x1024, .f32⟩
  | .hbm, ⟨40, _⟩ => ⟨S128x4x1024, .f32⟩
  | .hbm, ⟨41, _⟩ => ⟨S128x1x1x1x1024, .f32⟩
  | .hbm, ⟨42, _⟩ => ⟨S128x1x1024, .f32⟩
  | .hbm, ⟨43, _⟩ => ⟨S_, .f32⟩
  | .hbm, ⟨44, _⟩ => ⟨S128x1x1024, .f32⟩
  | .hbm, ⟨45, _⟩ => ⟨S128x1x1024, .f32⟩
  | .hbm, ⟨46, _⟩ => ⟨S128x4x1024, .f32⟩
  | .hbm, ⟨47, _⟩ => ⟨S128x4x1024, .f32⟩
  | .hbm, ⟨48, _⟩ => ⟨S128x4x1024, .f32⟩
  | .hbm, ⟨49, _⟩ => ⟨S1x1x1024, .f32⟩
  | .hbm, ⟨50, _⟩ => ⟨S1024, .f32⟩
  | .hbm, ⟨51, _⟩ => ⟨S1x1x1024, .f32⟩
  | .hbm, ⟨52, _⟩ => ⟨S1024, .f32⟩
  | .hbm, ⟨53, _⟩ => ⟨S_, .f32⟩
  | .hbm, ⟨54, _⟩ => ⟨S128x4, .f32⟩
  | .hbm, ⟨55, _⟩ => ⟨S128x4x1, .f32⟩
  | .hbm, ⟨56, _⟩ => ⟨S_, .f32⟩
  | .hbm, ⟨57, _⟩ => ⟨S128x4x1, .f32⟩
  | .hbm, ⟨58, _⟩ => ⟨S128x4x1, .f32⟩
  | .hbm, ⟨59, _⟩ => ⟨S128x4x1024, .f32⟩
  | .hbm, ⟨60, _⟩ => ⟨S128x4x1024, .f32⟩
  | .hbm, ⟨61, _⟩ => ⟨S128x4x1024, .f32⟩
  | .hbm, ⟨62, _⟩ => ⟨S_, .f32⟩
  | .hbm, ⟨63, _⟩ => ⟨S128x4, .f32⟩
  | .hbm, ⟨64, _⟩ => ⟨S128x4x1, .f32⟩
  | .hbm, ⟨65, _⟩ => ⟨S_, .f32⟩
  | .hbm, ⟨66, _⟩ => ⟨S128x4x1, .f32⟩
  | .hbm, ⟨67, _⟩ => ⟨S128x4x1, .f32⟩
  | .hbm, ⟨68, _⟩ => ⟨S128x4x1024, .f32⟩
  | .hbm, ⟨69, _⟩ => ⟨S128x4x1024, .f32⟩
  | .hbm, ⟨70, _⟩ => ⟨S_, .f32⟩
  | .hbm, ⟨71, _⟩ => ⟨S128x4x1, .f32⟩
  | .hbm, ⟨72, _⟩ => ⟨S128x4x1, .f32⟩
  | .hbm, ⟨73, _⟩ => ⟨S128x4x1, .f32⟩
  | .hbm, ⟨74, _⟩ => ⟨S128x4x1024, .f32⟩
  | .hbm, ⟨75, _⟩ => ⟨S128x4x1024, .f32⟩
  | .hbm, ⟨76, _⟩ => ⟨S1x1x1024, .f32⟩
  | .hbm, ⟨77, _⟩ => ⟨S128x4x1024, .f32⟩
  | .hbm, ⟨78, _⟩ => ⟨S128x4x1024, .f32⟩
  | .hbm, ⟨79, _⟩ => ⟨S1x1x1024, .f32⟩
  | .hbm, ⟨80, _⟩ => ⟨S128x4x1024, .f32⟩
  | .hbm, ⟨81, _⟩ => ⟨S128x4x1024, .f32⟩
  | .hbm, ⟨82, _⟩ => ⟨S512x1024, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_4 : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_6 : Ref sig .tc := ⟨.hbm, 62, rfl⟩
abbrev main_v49 : Ref sig .tc := ⟨.hbm, 63, rfl⟩
abbrev main_v50 : Ref sig .tc := ⟨.hbm, 64, rfl⟩
abbrev main_cst_7 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_8 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩

abbrev nD : Nat := 1
abbrev τ : Topo := Topo.v7x

variable {F : FTy → Type} [FloatOps F]
-- ==== Kernel6.lean ====
abbrev S128x4x1024 : Shape := ⟨3, ![128, 4, 1024]⟩
abbrev S128x9216 : Shape := ⟨2, ![128, 9216]⟩
abbrev S1x1024x9216 : Shape := ⟨3, ![1, 1024, 9216]⟩
abbrev S2x1024 : Shape := ⟨2, ![2, 1024]⟩
abbrev S512x1024 : Shape := ⟨2, ![512, 1024]⟩
abbrev S128x9x1024 : Shape := ⟨3, ![128, 9, 1024]⟩
abbrev S9x128x1024 : Shape := ⟨3, ![9, 128, 1024]⟩
abbrev S9x128x4x1024 : Shape := ⟨4, ![9, 128, 4, 1024]⟩
abbrev S9x512x1024 : Shape := ⟨3, ![9, 512, 1024]⟩
abbrev S9x1x512x1024 : Shape := ⟨4, ![9, 1, 512, 1024]⟩
abbrev S1024x9216 : Shape := ⟨2, ![1024, 9216]⟩
abbrev S256x1024 : Shape := ⟨2, ![256, 1024]⟩
abbrev S1x1x256x1024 : Shape := ⟨4, ![1, 1, 256, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 24
  | .vmem => 32
  | .smem => 0
  | _ => 0

abbrev bufTy : (tb : Table) → Fin (tcTables nBuf tb) → BufTy
  | .hbm, ⟨0, _⟩ => ⟨S128x4x1024, .f32⟩
  | .hbm, ⟨1, _⟩ => ⟨S128x9216, .f32⟩
  | .hbm, ⟨2, _⟩ => ⟨S1x1024x9216, .f32⟩
  | .hbm, ⟨3, _⟩ => ⟨S2x1024, .f32⟩
  | .hbm, ⟨4, _⟩ => ⟨S512x1024, .f32⟩
  | .hbm, ⟨5, _⟩ => ⟨S128x9x1024, .f32⟩
  | .hbm, ⟨6, _⟩ => ⟨S9x128x1024, .f32⟩
  | .hbm, ⟨7, _⟩ => ⟨S9x128x4x1024, .f32⟩
  | .hbm, ⟨8, _⟩ => ⟨S9x512x1024, .f32⟩
  | .hbm, ⟨9, _⟩ => ⟨S9x1x512x1024, .f32⟩
  | .hbm, ⟨10, _⟩ => ⟨S1024x9216, .f32⟩
  | .hbm, ⟨11, _⟩ => ⟨S1024x9216, .bf16⟩
  | .hbm, ⟨12, _⟩ => ⟨S512x1024, .bf16⟩
  | .hbm, ⟨13, _⟩ => ⟨S512x1024, .f32⟩
  | .hbm, ⟨14, _⟩ => ⟨S512x1024, .bf16⟩
  | .hbm, ⟨15, _⟩ => ⟨S512x1024, .bf16⟩
  | .hbm, ⟨16, _⟩ => ⟨S512x1024, .bf16⟩
  | .hbm, ⟨17, _⟩ => ⟨S512x1024, .bf16⟩
  | .hbm, ⟨18, _⟩ => ⟨S512x1024, .f32⟩
  | .hbm, ⟨19, _⟩ => ⟨S512x1024, .bf16⟩
  | .hbm, ⟨20, _⟩ => ⟨S512x1024, .f32⟩
  | .hbm, ⟨21, _⟩ => ⟨S512x1024, .bf16⟩
  | .hbm, ⟨22, _⟩ => ⟨S512x1024, .bf16⟩
  | .hbm, ⟨23, _⟩ => ⟨S512x1024, .bf16⟩
  | .local _ .vmem, ⟨0, _⟩ => ⟨S256x1024, .f32⟩
  | .local _ .vmem, ⟨1, _⟩ => ⟨S256x1024, .f32⟩
  | .local _ .vmem, ⟨2, _⟩ => ⟨S1x1x256x1024, .f32⟩
  | .local _ .vmem, ⟨3, _⟩ => ⟨S1x1x256x1024, .f32⟩
  | .local _ .vmem, ⟨4, _⟩ => ⟨S1x1x256x1024, .f32⟩
  | .local _ .vmem, ⟨5, _⟩ => ⟨S1x1x256x1024, .f32⟩
  | .local _ .vmem, ⟨6, _⟩ => ⟨S1024x9216, .bf16⟩
  | .local _ .vmem, ⟨7, _⟩ => ⟨S2x1024, .f32⟩
  | .local _ .vmem, ⟨8, _⟩ => ⟨S256x1024, .bf16⟩
  | .local _ .vmem, ⟨9, _⟩ => ⟨S256x1024, .bf16⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .f32⟩
  | .local _ .vmem, ⟨21, _⟩ => ⟨S256x1024, .f32⟩
  | .local _ .vmem, ⟨22, _⟩ => ⟨S256x1024, .bf16⟩
  | .local _ .vmem, ⟨23, _⟩ => ⟨S256x1024, .bf16⟩
  | .local _ .vmem, ⟨24, _⟩ => ⟨S256x1024, .f32⟩
  | .local _ .vmem, ⟨25, _⟩ => ⟨S256x1024, .f32⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v8_3 : Ref sig .tc := ⟨.hbm, 15, rfl⟩
abbrev main_v8_4 : Ref sig .tc := ⟨.hbm, 16, rfl⟩
abbrev main_v8_5 : Ref sig .tc := ⟨.hbm, 17, rfl⟩
abbrev main_v8_6 : Ref sig .tc := ⟨.hbm, 18, rfl⟩
abbrev main_v8_7 : Ref sig .tc := ⟨.hbm, 19, rfl⟩
abbrev main_v8_8 : Ref sig .tc := ⟨.hbm, 20, rfl⟩
abbrev main_v8_9 : Ref sig .tc := ⟨.hbm, 21, rfl⟩
abbrev main_v8_10 : Ref sig .tc := ⟨.hbm, 22, rfl⟩
abbrev main_v8_11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, arg0.toNat, c0_i32_0.toNat]

def cc0_transform_2 (i : grid0.Coords) : Fin 4 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x9216 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Kernel6Ideal.lean ====
variable {F : FTy → Type} [FloatOps F] [Named F]
def κ : String → Option EReal := fun
  | "da_scale" => some (((1 / 8) * (Real.log 2)⁻¹ : ℝ) : EReal)
  | "hg_scale" => some (((Real.sqrt 128)⁻¹ : ℝ) : EReal)
  | _ => none
-- ==== Reference6Ideal.lean ====
abbrev S128x4x1024 : Shape := ⟨3, ![128, 4, 1024]⟩
abbrev S128x9216 : Shape := ⟨2, ![128, 9216]⟩
abbrev S1x1024x9216 : Shape := ⟨3, ![1, 1024, 9216]⟩
abbrev S2x1024 : Shape := ⟨2, ![2, 1024]⟩
abbrev S_ : Shape := ⟨0, ![]⟩
abbrev S1024 : Shape := ⟨1, ![1024]⟩
abbrev S1x1024 : Shape := ⟨2, ![1, 1024]⟩
abbrev S128x3x3x1x1024 : Shape := ⟨5, ![128, 3, 3, 1, 1024]⟩
abbrev S128x1x1x1x1024 : Shape := ⟨5, ![128, 1, 1, 1, 1024]⟩
abbrev S128x1x1024 : Shape := ⟨3, ![128, 1, 1024]⟩
abbrev S1024x9216 : Shape := ⟨2, ![1024, 9216]⟩
abbrev S128x4x9216 : Shape := ⟨3, ![128, 4, 9216]⟩
abbrev S512x1024 : Shape := ⟨2, ![512, 1024]⟩

abbrev nBuf : Space → Nat
  | .hbm => 131
  | .vmem => 0
  | .smem => 0
  | _ => 0

abbrev hbmTy0_0 (i : Nat) : BufTy := match i % 128 with
  | 0 => ⟨S128x4x1024, .f32⟩
  | 1 => ⟨S128x9216, .f32⟩
  | 2 => ⟨S1x1024x9216, .f32⟩
  | 3 => ⟨S2x1024, .f32⟩
  | 4 => ⟨S_, .f32⟩
  | 5 => ⟨S1024, .f32⟩
  | 6 => ⟨S_, .f32⟩
  | 7 => ⟨S1024, .f32⟩
  | 8 => ⟨S1024, .f32⟩
  | 9 => ⟨S1x1024, .f32⟩
  | 10 => ⟨S2x1024, .f32⟩
  | 11 => ⟨S2x1024, .f32⟩
  | 12 => ⟨S2x1024, .f32⟩
  | 13 => ⟨S_, .f32⟩
  | 14 => ⟨S1024, .f32⟩
  | 15 => ⟨S1x1024, .f32⟩
  | 16 => ⟨S2x1024, .f32⟩
  | 17 => ⟨S2x1024, .f32⟩
  | 18 => ⟨S_, .f32⟩
  | 19 => ⟨S_, .f32⟩
  | 20 => ⟨S2x1024, .f32⟩
  | 21 => ⟨S1x1024, .f32⟩
  | 22 => ⟨S1024, .f32⟩
  | 23 => ⟨S128x3x3x1x1024, .f32⟩
  | 24 => ⟨S128x1x1x1x1024, .f32⟩
  | 25 => ⟨S128x1x1024, .f32⟩
  | 26 => ⟨S_, .f32⟩
  | 27 => ⟨S128x1x1024, .f32⟩
  | 28 => ⟨S128x1x1024, .f32⟩
  | 29 => ⟨S128x4x1024, .f32⟩
  | 30 => ⟨S128x4x1024, .f32⟩
  | 31 => ⟨S128x1x1x1x1024, .f32⟩
  | 32 => ⟨S128x1x1024, .f32⟩
  | 33 => ⟨S128x4x1024, .f32⟩
  | 34 => ⟨S128x4x1024, .f32⟩
  | 35 => ⟨S1024x9216, .f32⟩
  | 36 => ⟨S128x4x9216, .f32⟩
  | 37 => ⟨S128x4x1024, .f32⟩
  | 38 => ⟨S128x4x1024, .f32⟩
  | 39 => ⟨S128x4x1024, .f32⟩
  | 40 => ⟨S128x4x1024, .f32⟩
  | 41 => ⟨S128x4x1024, .f32⟩
  | 42 => ⟨S128x4x1024, .f32⟩
  | 43 => ⟨S128x4x1024, .f32⟩
  | 44 => ⟨S128x4x1024, .f32⟩
  | 45 => ⟨S128x4x1024, .f32⟩
  | 46 => ⟨S512x1024, .f32⟩
  | 47 => ⟨S512x1024, .f32⟩
  | 48 => ⟨S512x1024, .f32⟩
  | 49 => ⟨S512x1024, .f32⟩
  | 50 => ⟨S512x1024, .f32⟩
  | 51 => ⟨S512x1024, .f32⟩
  | 52 => ⟨S512x1024, .f32⟩
  | 53 => ⟨S512x1024, .f32⟩
  | 54 => ⟨S512x1024, .f32⟩
  | 55 => ⟨S_, .f32⟩
  | 56 => ⟨S1024, .f32⟩
  | 57 => ⟨S1024, .f32⟩
  | 58 => ⟨S512x1024, .f32⟩
  | 59 => ⟨S512x1024, .f32⟩
  | 60 => ⟨S_, .f32⟩
  | 61 => ⟨S512x1024, .f32⟩
  | 62 => ⟨S512x1024, .f32⟩
  | 63 => ⟨S_, .f32⟩
  | 64 => ⟨S512x1024, .f32⟩
  | 65 => ⟨S512x1024, .f32⟩
  | 66 => ⟨S1x1024, .f32⟩
  | 67 => ⟨S512x1024, .f32⟩
  | 68 => ⟨S512x1024, .f32⟩
  | 69 => ⟨S1x1024, .f32⟩
  | 70 => ⟨S512x1024, .f32⟩
  | 71 => ⟨S512x1024, .f32⟩
  | 72 => ⟨S512x1024, .f32⟩
  | 73 => ⟨S512x1024, .f32⟩
  | 74 => ⟨S_, .f32⟩
  | 75 => ⟨S512x1024, .f32⟩
  | 76 => ⟨S512x1024, .f32⟩
  | 77 => ⟨S_, .f32⟩
  | 78 => ⟨S512x1024, .f32⟩
  | 79 => ⟨S512x1024, .f32⟩
  | 80 => ⟨S512x1024, .f32⟩
  | 81 => ⟨S_, .f32⟩
  | 82 => ⟨S_, .f32⟩
  | 83 => ⟨S_, .f32⟩
  | 84 => ⟨S_, .f32⟩
  | 85 => ⟨S512x1024, .f32⟩
  | 86 => ⟨S512x1024, .f32⟩
  | 87 => ⟨S_, .f32⟩
  | 88 => ⟨S_, .f32⟩
  | 89 => ⟨S_, .f32⟩
  | 90 => ⟨S_, .f32⟩
  | 91 => ⟨S512x1024, .f32⟩
  | 92 => ⟨S512x1024, .f32⟩
  | 93 => ⟨S512x1024, .bf16⟩
  | 94 => ⟨S512x1024, .f32⟩
  | 95 => ⟨S_, .f32⟩
  | 96 => ⟨S512x1024, .f32⟩
  | 97 => ⟨S512x1024, .f32⟩
  | 98 => ⟨S512x1024, .bf16⟩
  | 99 => ⟨S512x1024, .bf16⟩
  | 100 => ⟨S512x1024, .f32⟩
  | 101 => ⟨S512x1024, .f32⟩
  | 102 => ⟨S_, .f32⟩
  | 103 => ⟨S512x1024, .f32⟩
  | 104 => ⟨S512x1024, .f32⟩
  | 105 => ⟨S_, .f32⟩
  | 106 => ⟨S512x1024, .f32⟩
  | 107 => ⟨S512x1024, .f32⟩
  | 108 => ⟨S512x1024, .f32⟩
  | 109 => ⟨S512x1024, .bf16⟩
  | 110 => ⟨S512x1024, .bf16⟩
  | 111 => ⟨S512x1024, .bf16⟩
  | 112 => ⟨S512x1024, .bf16⟩
  | 113 => ⟨S512x1024, .f32⟩
  | 114 => ⟨S512x1024, .f32⟩
  | 115 => ⟨S_, .f32⟩
  | 116 => ⟨S512x1024, .f32⟩
  | 117 => ⟨S512x1024, .f32⟩
  | 118 => ⟨S_, .f32⟩
  | 119 => ⟨S512x1024, .f32⟩
  | 120 => ⟨S512x1024, .f32⟩
  | 121 => ⟨S512x1024, .bf16⟩
  | 122 => ⟨S512x1024, .f32⟩
  | 123 => ⟨S512x1024, .f32⟩
  | 124 => ⟨S_, .f32⟩
  | 125 => ⟨S512x1024, .f32⟩
  | 126 => ⟨S512x1024, .f32⟩
  | 127 => ⟨S_, .f32⟩
  | _ => ⟨S128x4x1024, .f32⟩

abbrev hbmTy0_1 (i : Nat) : BufTy := match i % 128 with
  | 0 => ⟨S512x1024, .f32⟩
  | 1 => ⟨S512x1024, .f32⟩
  | 2 => ⟨S512x1024, .bf16⟩
  | _ => ⟨S128x4x1024, .f32⟩

abbrev hbmTy (i : Nat) : BufTy := match i / 128 with
  | 0 => hbmTy0_0 i
  | 1 => hbmTy0_1 i
  | _ => ⟨S128x4x1024, .f32⟩

abbrev bufTy : (tb : Table) → Fin (tcTables nBuf tb) → BufTy
  | .hbm, ⟨i, _⟩ => hbmTy i
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_3 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_4 : Ref sig .tc := ⟨.hbm, 60, rfl⟩
abbrev main_v49 : Ref sig .tc := ⟨.hbm, 61, rfl⟩
abbrev main_v50 : Ref sig .tc := ⟨.hbm, 62, rfl⟩
abbrev main_cst_5 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_cst_6 : Ref sig .tc := ⟨.hbm, 74, rfl⟩
abbrev main_v61 : Ref sig .tc := ⟨.hbm, 75, rfl⟩
abbrev main_v62 : Ref sig .tc := ⟨.hbm, 76, rfl⟩
abbrev main_cst_7 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_8 : Ref sig .tc := ⟨.hbm, 81, rfl⟩
abbrev main_v66 : Ref sig .tc := ⟨.hbm, 82, rfl⟩
abbrev main_cst_9 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_10 : Ref sig .tc := ⟨.hbm, 87, rfl⟩
abbrev main_v70 : Ref sig .tc := ⟨.hbm, 88, rfl⟩
abbrev main_cst_11 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_12 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_cst_13 : Ref sig .tc := ⟨.hbm, 102, rfl⟩
abbrev main_v82 : Ref sig .tc := ⟨.hbm, 103, rfl⟩
abbrev main_v83 : Ref sig .tc := ⟨.hbm, 104, rfl⟩
abbrev main_cst_14 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_cst_15 : Ref sig .tc := ⟨.hbm, 115, rfl⟩
abbrev main_v93 : Ref sig .tc := ⟨.hbm, 116, rfl⟩
abbrev main_v94 : Ref sig .tc := ⟨.hbm, 117, rfl⟩
abbrev main_cst_16 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_cst_17 : Ref sig .tc := ⟨.hbm, 124, rfl⟩
abbrev main_v100 : Ref sig .tc := ⟨.hbm, 125, rfl⟩
abbrev main_v101 : Ref sig .tc := ⟨.hbm, 126, rfl⟩
abbrev main_cst_18 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩

abbrev nD : Nat := 1
abbrev τ : Topo := Topo.v7x

variable {F : FTy → Type} [FloatOps F]
-- ==== Kernel7.lean ====
abbrev S128x4x1024 : Shape := ⟨3, ![128, 4, 1024]⟩
abbrev S1x128 : Shape := ⟨2, ![1, 128]⟩
abbrev S1x128x8x128x128 : Shape := ⟨5, ![1, 128, 8, 128, 128]⟩
abbrev S_ : Shape := ⟨0, ![]⟩
abbrev S128x16x1024 : Shape := ⟨3, ![128, 16, 1024]⟩
abbrev S128 : Shape := ⟨1, ![128]⟩
abbrev S128x8x128x128 : Shape := ⟨4, ![128, 8, 128, 128]⟩
abbrev S1x16x1024 : Shape := ⟨3, ![1, 16, 1024]⟩
abbrev S1x1x8x128x128 : Shape := ⟨5, ![1, 1, 8, 128, 128]⟩
abbrev S1x8x128x128 : Shape := ⟨4, ![1, 8, 128, 128]⟩
abbrev S16x128 : Shape := ⟨2, ![16, 128]⟩
abbrev S16x16 : Shape := ⟨2, ![16, 16]⟩
abbrev S128x128 : Shape := ⟨2, ![128, 128]⟩
abbrev S1x16x128 : Shape := ⟨3, ![1, 16, 128]⟩
abbrev S1x1x128x128 : Shape := ⟨4, ![1, 1, 128, 128]⟩
abbrev S16 : Shape := ⟨1, ![16]⟩
abbrev S16x1 : Shape := ⟨2, ![16, 1]⟩
abbrev S128x1 : Shape := ⟨2, ![128, 1]⟩

abbrev nBuf : Space → Nat
  | .hbm => 26
  | .vmem => 17
  | .smem => 0
  | _ => 0

abbrev bufTy : (tb : Table) → Fin (tcTables nBuf tb) → BufTy
  | .hbm, ⟨0, _⟩ => ⟨S128x4x1024, .bf16⟩
  | .hbm, ⟨1, _⟩ => ⟨S128x4x1024, .f32⟩
  | .hbm, ⟨2, _⟩ => ⟨S128x4x1024, .bf16⟩
  | .hbm, ⟨3, _⟩ => ⟨S128x4x1024, .bf16⟩
  | .hbm, ⟨4, _⟩ => ⟨S128x4x1024, .bf16⟩
  | .hbm, ⟨5, _⟩ => ⟨S1x128, .f32⟩
  | .hbm, ⟨6, _⟩ => ⟨S1x128x8x128x128, .f32⟩
  | .hbm, ⟨7, _⟩ => ⟨S_, .i32⟩
  | .hbm, ⟨8, _⟩ => ⟨S_, .bf16⟩
  | .hbm, ⟨9, _⟩ => ⟨S128x16x1024, .bf16⟩
  | .hbm, ⟨10, _⟩ => ⟨S_, .i32⟩
  | .hbm, ⟨11, _⟩ => ⟨S_, .f32⟩
  | .hbm, ⟨12, _⟩ => ⟨S128x16x1024, .f32⟩
  | .hbm, ⟨13, _⟩ => ⟨S_, .i32⟩
  | .hbm, ⟨14, _⟩ => ⟨S_, .bf16⟩
  | .hbm, ⟨15, _⟩ => ⟨S128x16x1024, .bf16⟩
  | .hbm, ⟨16, _⟩ => ⟨S_, .i32⟩
  | .hbm, ⟨17, _⟩ => ⟨S_, .bf16⟩
  | .hbm, ⟨18, _⟩ => ⟨S128x16x1024, .bf16⟩
  | .hbm, ⟨19, _⟩ => ⟨S_, .i32⟩
  | .hbm, ⟨20, _⟩ => ⟨S_, .bf16⟩
  | .hbm, ⟨21, _⟩ => ⟨S128x16x1024, .bf16⟩
  | .hbm, ⟨22, _⟩ => ⟨S128, .f32⟩
  | .hbm, ⟨23, _⟩ => ⟨S1x128, .f32⟩
  | .hbm, ⟨24, _⟩ => ⟨S128x16x1024, .bf16⟩
  | .hbm, ⟨25, _⟩ => ⟨S128x8x128x128, .f32⟩
  | .local _ .vmem, ⟨0, _⟩ => ⟨S1x16x1024, .bf16⟩
  | .local _ .vmem, ⟨1, _⟩ => ⟨S1x16x1024, .bf16⟩
  | .local _ .vmem, ⟨2, _⟩ => ⟨S1x16x1024, .f32⟩
  | .local _ .vmem, ⟨3, _⟩ => ⟨S1x16x1024, .f32⟩
  | .local _ .vmem, ⟨4, _⟩ => ⟨S1x16x1024, .bf16⟩
  | .local _ .vmem, ⟨5, _⟩ => ⟨S1x16x1024, .bf16⟩
  | .local _ .vmem, ⟨6, _⟩ => ⟨S1x16x1024, .bf16⟩
  | .local _ .vmem, ⟨7, _⟩ => ⟨S1x16x1024, .bf16⟩
  | .local _ .vmem, ⟨8, _⟩ => ⟨S1x16x1024, .bf16⟩
  | .local _ .vmem, ⟨9, _⟩ => ⟨S1x16x1024, .bf16⟩
  | .local _ .vmem, ⟨10, _⟩ => ⟨S1x128, .f32⟩
  | .local _ .vmem, ⟨11, _⟩ => ⟨S1x1x8x128x128, .f32⟩
  | .local _ .vmem, ⟨12, _⟩ => ⟨S1x1x8x128x128, .f32⟩
  | .local _ .vmem, ⟨13, _⟩ => ⟨S1x16x1024, .bf16⟩
  | .local _ .vmem, ⟨14, _⟩ => ⟨S1x16x1024, .bf16⟩
  | .local _ .vmem, ⟨15, _⟩ => ⟨S1x8x128x128, .f32⟩
  | .local _ .vmem, ⟨16, _⟩ => ⟨S1x8x128x128, .f32⟩
  | _, _ => ⟨S128x4x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_c_0 : Ref sig .tc := ⟨.hbm, 10, rfl⟩
abbrev main_call1_v0 : Ref sig .tc := ⟨.hbm, 11, rfl⟩
abbrev main_v1 : Ref sig .tc := ⟨.hbm, 12, rfl⟩
abbrev main_c_1 : Ref sig .tc := ⟨.hbm, 13, rfl⟩
abbrev main_call2_v0 : Ref sig .tc := ⟨.hbm, 14, rfl⟩
abbrev main_v2 : Ref sig .tc := ⟨.hbm, 15, rfl⟩
abbrev main_c_2 : Ref sig .tc := ⟨.hbm, 16, rfl⟩
abbrev main_call3_v0 : Ref sig .tc := ⟨.hbm, 17, rfl⟩
abbrev main_v3 : Ref sig .tc := ⟨.hbm, 18, rfl⟩
abbrev main_c_3 : Ref sig .tc := ⟨.hbm, 19, rfl⟩
abbrev main_call4_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7_0 : Ref sig .tc := ⟨.hbm, 24, rfl⟩
abbrev main_v7_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![128, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Kernel7Ideal.lean ====
variable {F : FTy → Type} [FloatOps F] [Named F]
def κ : String → Option EReal := fun
  | "log2e" => some (((Real.log 2)⁻¹ : ℝ) : EReal)
  | _ => none
-- ==== Reference7Ideal.lean ====
abbrev S128x4x1024 : Shape := ⟨3, ![128, 4, 1024]⟩
abbrev S1x128 : Shape := ⟨2, ![1, 128]⟩
abbrev S1x128x8x128x128 : Shape := ⟨5, ![1, 128, 8, 128, 128]⟩
abbrev S128x4x8x128 : Shape := ⟨4, ![128, 4, 8, 128]⟩
abbrev S128x8x128x128 : Shape := ⟨4, ![128, 8, 128, 128]⟩
abbrev S128x8x4x128 : Shape := ⟨4, ![128, 8, 4, 128]⟩
abbrev S4x4 : Shape := ⟨2, ![4, 4]⟩
abbrev S4x4x1 : Shape := ⟨3, ![4, 4, 1]⟩
abbrev S_ : Shape := ⟨0, ![]⟩
abbrev S128x8x4x1x128 : Shape := ⟨5, ![128, 8, 4, 1, 128]⟩
abbrev S128x8x1x4x128 : Shape := ⟨5, ![128, 8, 1, 4, 128]⟩
abbrev S128x8x4x4x128 : Shape := ⟨5, ![128, 8, 4, 4, 128]⟩
abbrev S128x8x4x4 : Shape := ⟨4, ![128, 8, 4, 4]⟩
abbrev S128x8x1x128 : Shape := ⟨4, ![128, 8, 1, 128]⟩
abbrev S128x8x128 : Shape := ⟨3, ![128, 8, 128]⟩
abbrev S128x8x128x1 : Shape := ⟨4, ![128, 8, 128, 1]⟩

abbrev nBuf : Space → Nat
  | .hbm => 67
  | .vmem => 0
  | .smem => 0
  | _ => 0

abbrev bufTy : (tb : Table) → Fin (tcTables nBuf tb) → BufTy
  | .hbm, ⟨0, _⟩ => ⟨S128x4x1024, .bf16⟩
  | .hbm, ⟨1, _⟩ => ⟨S128x4x1024, .f32⟩
  | .hbm, ⟨2, _⟩ => ⟨S128x4x1024, .bf16⟩
  | .hbm, ⟨3, _⟩ => ⟨S128x4x1024, .bf16⟩
  | .hbm, ⟨4, _⟩ => ⟨S128x4x1024, .bf16⟩
  | .hbm, ⟨5, _⟩ => ⟨S1x128, .f32⟩
  | .hbm, ⟨6, _⟩ => ⟨S1x128x8x128x128, .f32⟩
  | .hbm, ⟨7, _⟩ => ⟨S128x4x1024, .f32⟩
  | .hbm, ⟨8, _⟩ => ⟨S128x4x8x128, .f32⟩
  | .hbm, ⟨9, _⟩ => ⟨S128x4x1024, .f32⟩
  | .hbm, ⟨10, _⟩ => ⟨S128x4x8x128, .f32⟩
  | .hbm, ⟨11, _⟩ => ⟨S128x4x1024, .f32⟩
  | .hbm, ⟨12, _⟩ => ⟨S128x4x8x128, .f32⟩
  | .hbm, ⟨13, _⟩ => ⟨S128x4x8x128, .f32⟩
  | .hbm, ⟨14, _⟩ => ⟨S128x8x128x128, .f32⟩
  | .hbm, ⟨15, _⟩ => ⟨S128x8x4x128, .f32⟩
  | .hbm, ⟨16, _⟩ => ⟨S128x8x4x128, .f32⟩
  | .hbm, ⟨17, _⟩ => ⟨S128x8x4x128, .f32⟩
  | .hbm, ⟨18, _⟩ => ⟨S128x8x4x128, .f32⟩
  | .hbm, ⟨19, _⟩ => ⟨S4x4, .i32⟩
  | .hbm, ⟨20, _⟩ => ⟨S4x4, .i32⟩
  | .hbm, ⟨21, _⟩ => ⟨S4x4, .i1⟩
  | .hbm, ⟨22, _⟩ => ⟨S4x4x1, .i1⟩
  | .hbm, ⟨23, _⟩ => ⟨S_, .f32⟩
  | .hbm, ⟨24, _⟩ => ⟨S_, .f32⟩
  | .hbm, ⟨25, _⟩ => ⟨S128x8x4x128, .f32⟩
  | .hbm, ⟨26, _⟩ => ⟨S128x8x4x128, .f32⟩
  | .hbm, ⟨27, _⟩ => ⟨S128x8x4x128, .f32⟩
  | .hbm, ⟨28, _⟩ => ⟨S128x8x4x128, .f32⟩
  | .hbm, ⟨29, _⟩ => ⟨S128x8x4x1x128, .f32⟩
  | .hbm, ⟨30, _⟩ => ⟨S128x8x1x4x128, .f32⟩
  | .hbm, ⟨31, _⟩ => ⟨S128x8x4x4x128, .f32⟩
  | .hbm, ⟨32, _⟩ => ⟨S128x8x4x4x128, .f32⟩
  | .hbm, ⟨33, _⟩ => ⟨S128x8x4x4x128, .f32⟩
  | .hbm, ⟨34, _⟩ => ⟨S_, .f32⟩
  | .hbm, ⟨35, _⟩ => ⟨S128x8x4x4x128, .f32⟩
  | .hbm, ⟨36, _⟩ => ⟨S128x8x4x4x128, .f32⟩
  | .hbm, ⟨37, _⟩ => ⟨S128x8x4x4x128, .f32⟩
  | .hbm, ⟨38, _⟩ => ⟨S_, .f32⟩
  | .hbm, ⟨39, _⟩ => ⟨S_, .f32⟩
  | .hbm, ⟨40, _⟩ => ⟨S128x8x4x4x128, .i1⟩
  | .hbm, ⟨41, _⟩ => ⟨S128x8x4x4x128, .f32⟩
  | .hbm, ⟨42, _⟩ => ⟨S128x8x4x4x128, .f32⟩
  | .hbm, ⟨43, _⟩ => ⟨S128x8x4x1x128, .f32⟩
  | .hbm, ⟨44, _⟩ => ⟨S128x8x4x4x128, .f32⟩
  | .hbm, ⟨45, _⟩ => ⟨S128x8x4x4x128, .f32⟩
  | .hbm, ⟨46, _⟩ => ⟨S128x8x1x4x128, .f32⟩
  | .hbm, ⟨47, _⟩ => ⟨S128x8x4x4x128, .f32⟩
  | .hbm, ⟨48, _⟩ => ⟨S128x8x4x4x128, .f32⟩
  | .hbm, ⟨49, _⟩ => ⟨S_, .f32⟩
  | .hbm, ⟨50, _⟩ => ⟨S128x8x4x4, .f32⟩
  | .hbm, ⟨51, _⟩ => ⟨S128x8x4x128, .f32⟩
  | .hbm, ⟨52, _⟩ => ⟨S128x8x1x128, .f32⟩
  | .hbm, ⟨53, _⟩ => ⟨S128x8x128, .f32⟩
  | .hbm, ⟨54, _⟩ => ⟨S128x8x128, .f32⟩
  | .hbm, ⟨55, _⟩ => ⟨S128x8x128x1, .f32⟩
  | .hbm, ⟨56, _⟩ => ⟨S128x8x128x128, .f32⟩
  | .hbm, ⟨57, _⟩ => ⟨S128x8x128x128, .f32⟩
  | .hbm, ⟨58, _⟩ => ⟨S128x8x1x128, .f32⟩
  | .hbm, ⟨59, _⟩ => ⟨S128x8x4x128, .f32⟩
  | .hbm, ⟨60, _⟩ => ⟨S128x8x4x128, .f32⟩
  | .hbm, ⟨61, _⟩ => ⟨S128x8x4x128, .f32⟩
  | .hbm, ⟨62, _⟩ => ⟨S128x8x4x128, .f32⟩
  | .hbm, ⟨63, _⟩ => ⟨S128x8x128x128, .f32⟩
  | .hbm, ⟨64, _⟩ => ⟨S128x8x128x128, .f32⟩
  | .hbm, ⟨65, _⟩ => ⟨S128x8x4x128, .f32⟩
  | .hbm, ⟨66, _⟩ => ⟨S128x4x8x128, .f32⟩
  | _, _ => ⟨S128x4x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_call0_cst : Ref sig .tc := ⟨.hbm, 23, rfl⟩
abbrev main_call0_call0_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_1 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]
-- ==== Kernel8.lean ====
abbrev S32x1024 : Shape := ⟨2, ![32, 1024]⟩
abbrev S128x1024 : Shape := ⟨2, ![128, 1024]⟩
abbrev S1x1024x9216 : Shape := ⟨3, ![1, 1024, 9216]⟩
abbrev S1x9216 : Shape := ⟨2, ![1, 9216]⟩
abbrev S160x1024 : Shape := ⟨2, ![160, 1024]⟩
abbrev S1024x9216 : Shape := ⟨2, ![1024, 9216]⟩
abbrev S9216 : Shape := ⟨1, ![9216]⟩
abbrev S160x9216 : Shape := ⟨2, ![160, 9216]⟩
abbrev S1024x1152 : Shape := ⟨2, ![1024, 1152]⟩
abbrev S1x1152 : Shape := ⟨2, ![1, 1152]⟩
abbrev S160x1152 : Shape := ⟨2, ![160, 1152]⟩

abbrev nBuf : Space → Nat
  | .hbm => 9
  | .vmem => 7
  | .smem => 0
  | _ => 0

abbrev bufTy : (tb : Table) → Fin (tcTables nBuf tb) → BufTy
  | .hbm, ⟨0, _⟩ => ⟨S32x1024, .f32⟩
  | .hbm, ⟨1, _⟩ => ⟨S128x1024, .f32⟩
  | .hbm, ⟨2, _⟩ => ⟨S1x1024x9216, .f32⟩
  | .hbm, ⟨3, _⟩ => ⟨S1x9216, .f32⟩
  | .hbm, ⟨4, _⟩ => ⟨S160x1024, .f32⟩
  | .hbm, ⟨5, _⟩ => ⟨S1024x9216, .f32⟩
  | .hbm, ⟨6, _⟩ => ⟨S9216, .f32⟩
  | .hbm, ⟨7, _⟩ => ⟨S1x9216, .f32⟩
  | .hbm, ⟨8, _⟩ => ⟨S160x9216, .f32⟩
  | .local _ .vmem, ⟨0, _⟩ => ⟨S160x1024, .f32⟩
  | .local _ .vmem, ⟨1, _⟩ => ⟨S1024x1152, .f32⟩
  | .local _ .vmem, ⟨2, _⟩ => ⟨S1024x1152, .f32⟩
  | .local _ .vmem, ⟨3, _⟩ => ⟨S1x1152, .f32⟩
  | .local _ .vmem, ⟨4, _⟩ => ⟨S1x1152, .f32⟩
  | .local _ .vmem, ⟨5, _⟩ => ⟨S160x1152, .f32⟩
  | .local _ .vmem, ⟨6, _⟩ => ⟨S160x1152, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S160x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S160x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S32x1024 : Shape := ⟨2, ![32, 1024]⟩
abbrev S128x1024 : Shape := ⟨2, ![128, 1024]⟩
abbrev S1x1024x9216 : Shape := ⟨3, ![1, 1024, 9216]⟩
abbrev S1x9216 : Shape := ⟨2, ![1, 9216]⟩
abbrev S160x1024 : Shape := ⟨2, ![160, 1024]⟩
abbrev S_ : Shape := ⟨0, ![]⟩
abbrev S1024x9216 : Shape := ⟨2, ![1024, 9216]⟩
abbrev S160x9216 : Shape := ⟨2, ![160, 9216]⟩
abbrev S9216 : Shape := ⟨1, ![9216]⟩

abbrev nBuf : Space → Nat
  | .hbm => 20
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S128x1024, .f32⟩
  | .hbm, ⟨2, _⟩ => ⟨S1x1024x9216, .f32⟩
  | .hbm, ⟨3, _⟩ => ⟨S1x9216, .f32⟩
  | .hbm, ⟨4, _⟩ => ⟨S160x1024, .f32⟩
  | .hbm, ⟨5, _⟩ => ⟨S160x1024, .f32⟩
  | .hbm, ⟨6, _⟩ => ⟨S160x1024, .f32⟩
  | .hbm, ⟨7, _⟩ => ⟨S_, .f32⟩
  | .hbm, ⟨8, _⟩ => ⟨S160x1024, .f32⟩
  | .hbm, ⟨9, _⟩ => ⟨S160x1024, .f32⟩
  | .hbm, ⟨10, _⟩ => ⟨S_, .f32⟩
  | .hbm, ⟨11, _⟩ => ⟨S160x1024, .f32⟩
  | .hbm, ⟨12, _⟩ => ⟨S160x1024, .f32⟩
  | .hbm, ⟨13, _⟩ => ⟨S160x1024, .f32⟩
  | .hbm, ⟨14, _⟩ => ⟨S1024x9216, .f32⟩
  | .hbm, ⟨15, _⟩ => ⟨S160x9216, .f32⟩
  | .hbm, ⟨16, _⟩ => ⟨S9216, .f32⟩
  | .hbm, ⟨17, _⟩ => ⟨S1x9216, .f32⟩
  | .hbm, ⟨18, _⟩ => ⟨S160x9216, .f32⟩
  | .hbm, ⟨19, _⟩ => ⟨S160x9216, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel9.lean ====
abbrev S128x4x1024 : Shape := ⟨3, ![128, 4, 1024]⟩
abbrev S128x9216 : Shape := ⟨2, ![128, 9216]⟩
abbrev S512x1024 : Shape := ⟨2, ![512, 1024]⟩
abbrev S1x1024x1024 : Shape := ⟨3, ![1, 1024, 1024]⟩
abbrev S1x3x1024 : Shape := ⟨3, ![1, 3, 1024]⟩
abbrev S128x9x1024 : Shape := ⟨3, ![128, 9, 1024]⟩
abbrev S9x128x1024 : Shape := ⟨3, ![9, 128, 1024]⟩
abbrev S9x128x4x1024 : Shape := ⟨4, ![9, 128, 4, 1024]⟩
abbrev S9x512x1024 : Shape := ⟨3, ![9, 512, 1024]⟩
abbrev S9x1x512x1024 : Shape := ⟨4, ![9, 1, 512, 1024]⟩
abbrev S1024x1024 : Shape := ⟨2, ![1024, 1024]⟩
abbrev S1x1x1024 : Shape := ⟨3, ![1, 1, 1024]⟩
abbrev S1024 : Shape := ⟨1, ![1024]⟩
abbrev S1x1024 : Shape := ⟨2, ![1, 1024]⟩
abbrev S1x1x512x1024 : Shape := ⟨4, ![1, 1, 512, 1024]⟩
abbrev S512 : Shape := ⟨1, ![512]⟩
abbrev S512x1 : Shape := ⟨2, ![512, 1]⟩

abbrev nBuf : Space → Nat
  | .hbm => 30
  | .vmem => 12
  | .smem => 0
  | _ => 0

abbrev bufTy : (tb : Table) → Fin (tcTables nBuf tb) → BufTy
  | .hbm, ⟨0, _⟩ => ⟨S128x4x1024, .f32⟩
  | .hbm, ⟨1, _⟩ => ⟨S128x9216, .f32⟩
  | .hbm, ⟨2, _⟩ => ⟨S512x1024, .bf16⟩
  | .hbm, ⟨3, _⟩ => ⟨S512x1024, .bf16⟩
  | .hbm, ⟨4, _⟩ => ⟨S512x1024, .bf16⟩
  | .hbm, ⟨5, _⟩ => ⟨S512x1024, .bf16⟩
  | .hbm, ⟨6, _⟩ => ⟨S1x1024x1024, .f32⟩
  | .hbm, ⟨7, _⟩ => ⟨S1x1024x1024, .f32⟩
  | .hbm, ⟨8, _⟩ => ⟨S1x1024x1024, .f32⟩
  | .hbm, ⟨9, _⟩ => ⟨S1x3x1024, .f32⟩
  | .hbm, ⟨10, _⟩ => ⟨S1x3x1024, .f32⟩
  | .hbm, ⟨11, _⟩ => ⟨S512x1024, .f32⟩
  | .hbm, ⟨12, _⟩ => ⟨S128x9x1024, .f32⟩
  | .hbm, ⟨13, _⟩ => ⟨S9x128x1024, .f32⟩
  | .hbm, ⟨14, _⟩ => ⟨S9x128x4x1024, .f32⟩
  | .hbm, ⟨15, _⟩ => ⟨S9x512x1024, .f32⟩
  | .hbm, ⟨16, _⟩ => ⟨S9x1x512x1024, .f32⟩
  | .hbm, ⟨17, _⟩ => ⟨S1024x1024, .f32⟩
  | .hbm, ⟨18, _⟩ => ⟨S1024x1024, .bf16⟩
  | .hbm, ⟨19, _⟩ => ⟨S1024x1024, .f32⟩
  | .hbm, ⟨20, _⟩ => ⟨S1024x1024, .bf16⟩
  | .hbm, ⟨21, _⟩ => ⟨S1024x1024, .f32⟩
  | .hbm, ⟨22, _⟩ => ⟨S1024x1024, .bf16⟩
  | .hbm, ⟨23, _⟩ => ⟨S1x1x1024, .f32⟩
  | .hbm, ⟨24, _⟩ => ⟨S1024, .f32⟩
  | .hbm, ⟨25, _⟩ => ⟨S1x1x1024, .f32⟩
  | .hbm, ⟨26, _⟩ => ⟨S1024, .f32⟩
  | .hbm, ⟨27, _⟩ => ⟨S1x1024, .f32⟩
  | .hbm, ⟨28, _⟩ => ⟨S1x1024, .f32⟩
  | .hbm, ⟨29, _⟩ => ⟨S512x1024, .f32⟩
  | .local _ .vmem, ⟨0, _⟩ => ⟨S512x1024, .f32⟩
  | .local _ .vmem, ⟨1, _⟩ => ⟨S1x1x512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c5_i32 : BitVec 32 := 5#32
  let c0_i32 : BitVec 32 := 0#32
  let c0_i32_0 : BitVec 32 := 0#32
  let c0_i32_1 : BitVec 32 := 0#32
  ![c5_i32.toNat, c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1x512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== Kernel9Ideal.lean ====
variable {F : FTy → Type} [FloatOps F] [Named F]
def κ : String → Option EReal := fun
  | "alpha" => some ((Real.sqrt (Real.sqrt 2) : ℝ) : EReal)
  | _ => none
-- ==== Reference9Ideal.lean ====
abbrev S128x4x1024 : Shape := ⟨3, ![128, 4, 1024]⟩
abbrev S128x9216 : Shape := ⟨2, ![128, 9216]⟩
abbrev S512x1024 : Shape := ⟨2, ![512, 1024]⟩
abbrev S1x1024x1024 : Shape := ⟨3, ![1, 1024, 1024]⟩
abbrev S1x3x1024 : Shape := ⟨3, ![1, 3, 1024]⟩
abbrev S128x3x3x1x1024 : Shape := ⟨5, ![128, 3, 3, 1, 1024]⟩
abbrev S1024x1024 : Shape := ⟨2, ![1024, 1024]⟩
abbrev S_ : Shape := ⟨0, ![]⟩
abbrev S128x1x1x1x1024 : Shape := ⟨5, ![128, 1, 1, 1, 1024]⟩
abbrev S128x1x1024 : Shape := ⟨3, ![128, 1, 1024]⟩
abbrev S1x1x1024 : Shape := ⟨3, ![1, 1, 1024]⟩
abbrev S1024 : Shape := ⟨1, ![1024]⟩
abbrev S128x4 : Shape := ⟨2, ![128, 4]⟩
abbrev S128x4x1 : Shape := ⟨3, ![128, 4, 1]⟩

abbrev nBuf : Space → Nat
  | .hbm => 73
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S128x9216, .f32⟩
  | .hbm, ⟨2, _⟩ => ⟨S512x1024, .bf16⟩
  | .hbm, ⟨3, _⟩ => ⟨S512x1024, .bf16⟩
  | .hbm, ⟨4, _⟩ => ⟨S512x1024, .bf16⟩
  | .hbm, ⟨5, _⟩ => ⟨S512x1024, .bf16⟩
  | .hbm, ⟨6, _⟩ => ⟨S1x1024x1024, .f32⟩
  | .hbm, ⟨7, _⟩ => ⟨S1x1024x1024, .f32⟩
  | .hbm, ⟨8, _⟩ => ⟨S1x1024x1024, .f32⟩
  | .hbm, ⟨9, _⟩ => ⟨S1x3x1024, .f32⟩
  | .hbm, ⟨10, _⟩ => ⟨S1x3x1024, .f32⟩
  | .hbm, ⟨11, _⟩ => ⟨S128x3x3x1x1024, .f32⟩
  | .hbm, ⟨12, _⟩ => ⟨S512x1024, .f32⟩
  | .hbm, ⟨13, _⟩ => ⟨S128x4x1024, .f32⟩
  | .hbm, ⟨14, _⟩ => ⟨S512x1024, .f32⟩
  | .hbm, ⟨15, _⟩ => ⟨S128x4x1024, .f32⟩
  | .hbm, ⟨16, _⟩ => ⟨S512x1024, .f32⟩
  | .hbm, ⟨17, _⟩ => ⟨S128x4x1024, .f32⟩
  | .hbm, ⟨18, _⟩ => ⟨S512x1024, .f32⟩
  | .hbm, ⟨19, _⟩ => ⟨S128x4x1024, .f32⟩
  | .hbm, ⟨20, _⟩ => ⟨S1024x1024, .f32⟩
  | .hbm, ⟨21, _⟩ => ⟨S128x4x1024, .f32⟩
  | .hbm, ⟨22, _⟩ => ⟨S128x4x1024, .f32⟩
  | .hbm, ⟨23, _⟩ => ⟨S1024x1024, .f32⟩
  | .hbm, ⟨24, _⟩ => ⟨S128x4x1024, .f32⟩
  | .hbm, ⟨25, _⟩ => ⟨S128x4x1024, .f32⟩
  | .hbm, ⟨26, _⟩ => ⟨S128x4x1024, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S128x4x1024, .f32⟩
  | .hbm, ⟨31, _⟩ => ⟨S128x4x1024, .f32⟩
  | .hbm, ⟨32, _⟩ => ⟨S128x1x1x1x1024, .f32⟩
  | .hbm, ⟨33, _⟩ => ⟨S128x1x1024, .f32⟩
  | .hbm, ⟨34, _⟩ => ⟨S1024x1024, .f32⟩
  | .hbm, ⟨35, _⟩ => ⟨S128x4x1024, .f32⟩
  | .hbm, ⟨36, _⟩ => ⟨S128x4x1024, .f32⟩
  | .hbm, ⟨37, _⟩ => ⟨S128x4x1024, .f32⟩
  | .hbm, ⟨38, _⟩ => ⟨S128x4x1024, .f32⟩
  | .hbm, ⟨39, _⟩ => ⟨S1x1x1024, .f32⟩
  | .hbm, ⟨40, _⟩ => ⟨S1024, .f32⟩
  | .hbm, ⟨41, _⟩ => ⟨S1x1x1024, .f32⟩
  | .hbm, ⟨42, _⟩ => ⟨S1024, .f32⟩
  | .hbm, ⟨43, _⟩ => ⟨S_, .f32⟩
  | .hbm, ⟨44, _⟩ => ⟨S128x4, .f32⟩
  | .hbm, ⟨45, _⟩ => ⟨S128x4x1, .f32⟩
  | .hbm, ⟨46, _⟩ => ⟨S_, .f32⟩
  | .hbm, ⟨47, _⟩ => ⟨S128x4x1, .f32⟩
  | .hbm, ⟨48, _⟩ => ⟨S128x4x1, .f32⟩
  | .hbm, ⟨49, _⟩ => ⟨S128x4x1024, .f32⟩
  | .hbm, ⟨50, _⟩ => ⟨S128x4x1024, .f32⟩
  | .hbm, ⟨51, _⟩ => ⟨S128x4x1024, .f32⟩
  | .hbm, ⟨52, _⟩ => ⟨S_, .f32⟩
  | .hbm, ⟨53, _⟩ => ⟨S128x4, .f32⟩
  | .hbm, ⟨54, _⟩ => ⟨S128x4x1, .f32⟩
  | .hbm, ⟨55, _⟩ => ⟨S_, .f32⟩
  | .hbm, ⟨56, _⟩ => ⟨S128x4x1, .f32⟩
  | .hbm, ⟨57, _⟩ => ⟨S128x4x1, .f32⟩
  | .hbm, ⟨58, _⟩ => ⟨S128x4x1024, .f32⟩
  | .hbm, ⟨59, _⟩ => ⟨S128x4x1024, .f32⟩
  | .hbm, ⟨60, _⟩ => ⟨S_, .f32⟩
  | .hbm, ⟨61, _⟩ => ⟨S128x4x1, .f32⟩
  | .hbm, ⟨62, _⟩ => ⟨S128x4x1, .f32⟩
  | .hbm, ⟨63, _⟩ => ⟨S128x4x1, .f32⟩
  | .hbm, ⟨64, _⟩ => ⟨S128x4x1024, .f32⟩
  | .hbm, ⟨65, _⟩ => ⟨S128x4x1024, .f32⟩
  | .hbm, ⟨66, _⟩ => ⟨S1x1x1024, .f32⟩
  | .hbm, ⟨67, _⟩ => ⟨S128x4x1024, .f32⟩
  | .hbm, ⟨68, _⟩ => ⟨S128x4x1024, .f32⟩
  | .hbm, ⟨69, _⟩ => ⟨S1x1x1024, .f32⟩
  | .hbm, ⟨70, _⟩ => ⟨S128x4x1024, .f32⟩
  | .hbm, ⟨71, _⟩ => ⟨S128x4x1024, .f32⟩
  | .hbm, ⟨72, _⟩ => ⟨S512x1024, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_0 : Ref sig .tc := ⟨.hbm, 43, rfl⟩
abbrev main_v31 : Ref sig .tc := ⟨.hbm, 44, rfl⟩
abbrev main_v32 : Ref sig .tc := ⟨.hbm, 45, rfl⟩
abbrev main_cst_1 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_2 : Ref sig .tc := ⟨.hbm, 52, rfl⟩
abbrev main_v38 : Ref sig .tc := ⟨.hbm, 53, rfl⟩
abbrev main_v39 : Ref sig .tc := ⟨.hbm, 54, rfl⟩
abbrev main_cst_3 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_4 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩

abbrev nD : Nat := 1
abbrev τ : Topo := Topo.v7x

variable {F : FTy → Type} [FloatOps F]
-- ==== Kernel10.lean ====
abbrev S128x4x1024 : Shape := ⟨3, ![128, 4, 1024]⟩
abbrev S1x128 : Shape := ⟨2, ![1, 128]⟩
abbrev S1x128x8x128x128 : Shape := ⟨5, ![1, 128, 8, 128, 128]⟩
abbrev S_ : Shape := ⟨0, ![]⟩
abbrev S128x16x1024 : Shape := ⟨3, ![128, 16, 1024]⟩
abbrev S128 : Shape := ⟨1, ![128]⟩
abbrev S128x8x128x128 : Shape := ⟨4, ![128, 8, 128, 128]⟩
abbrev S1x16x1024 : Shape := ⟨3, ![1, 16, 1024]⟩
abbrev S1x1x8x128x128 : Shape := ⟨5, ![1, 1, 8, 128, 128]⟩
abbrev S1x8x128x128 : Shape := ⟨4, ![1, 8, 128, 128]⟩
abbrev S16x128 : Shape := ⟨2, ![16, 128]⟩
abbrev S16x16 : Shape := ⟨2, ![16, 16]⟩
abbrev S128x128 : Shape := ⟨2, ![128, 128]⟩
abbrev S1x16x128 : Shape := ⟨3, ![1, 16, 128]⟩
abbrev S1x1x128x128 : Shape := ⟨4, ![1, 1, 128, 128]⟩
abbrev S16 : Shape := ⟨1, ![16]⟩
abbrev S16x1 : Shape := ⟨2, ![16, 1]⟩
abbrev S128x1 : Shape := ⟨2, ![128, 1]⟩
abbrev S512x1024 : Shape := ⟨2, ![512, 1024]⟩

abbrev nBuf : Space → Nat
  | .hbm => 28
  | .vmem => 17
  | .smem => 0
  | _ => 0

abbrev bufTy : (tb : Table) → Fin (tcTables nBuf tb) → BufTy
  | .hbm, ⟨0, _⟩ => ⟨S128x4x1024, .bf16⟩
  | .hbm, ⟨1, _⟩ => ⟨S128x4x1024, .f32⟩
  | .hbm, ⟨2, _⟩ => ⟨S128x4x1024, .bf16⟩
  | .hbm, ⟨3, _⟩ => ⟨S128x4x1024, .bf16⟩
  | .hbm, ⟨4, _⟩ => ⟨S128x4x1024, .bf16⟩
  | .hbm, ⟨5, _⟩ => ⟨S1x128, .f32⟩
  | .hbm, ⟨6, _⟩ => ⟨S1x128x8x128x128, .f32⟩
  | .hbm, ⟨7, _⟩ => ⟨S_, .i32⟩
  | .hbm, ⟨8, _⟩ => ⟨S_, .bf16⟩
  | .hbm, ⟨9, _⟩ => ⟨S128x16x1024, .bf16⟩
  | .hbm, ⟨10, _⟩ => ⟨S_, .i32⟩
  | .hbm, ⟨11, _⟩ => ⟨S_, .f32⟩
  | .hbm, ⟨12, _⟩ => ⟨S128x16x1024, .f32⟩
  | .hbm, ⟨13, _⟩ => ⟨S_, .i32⟩
  | .hbm, ⟨14, _⟩ => ⟨S_, .bf16⟩
  | .hbm, ⟨15, _⟩ => ⟨S128x16x1024, .bf16⟩
  | .hbm, ⟨16, _⟩ => ⟨S_, .i32⟩
  | .hbm, ⟨17, _⟩ => ⟨S_, .bf16⟩
  | .hbm, ⟨18, _⟩ => ⟨S128x16x1024, .bf16⟩
  | .hbm, ⟨19, _⟩ => ⟨S_, .i32⟩
  | .hbm, ⟨20, _⟩ => ⟨S_, .bf16⟩
  | .hbm, ⟨21, _⟩ => ⟨S128x16x1024, .bf16⟩
  | .hbm, ⟨22, _⟩ => ⟨S128, .f32⟩
  | .hbm, ⟨23, _⟩ => ⟨S1x128, .f32⟩
  | .hbm, ⟨24, _⟩ => ⟨S128x16x1024, .bf16⟩
  | .hbm, ⟨25, _⟩ => ⟨S128x8x128x128, .f32⟩
  | .hbm, ⟨26, _⟩ => ⟨S128x4x1024, .bf16⟩
  | .hbm, ⟨27, _⟩ => ⟨S512x1024, .bf16⟩
  | .local _ .vmem, ⟨0, _⟩ => ⟨S1x16x1024, .bf16⟩
  | .local _ .vmem, ⟨1, _⟩ => ⟨S1x16x1024, .bf16⟩
  | .local _ .vmem, ⟨2, _⟩ => ⟨S1x16x1024, .f32⟩
  | .local _ .vmem, ⟨3, _⟩ => ⟨S1x16x1024, .f32⟩
  | .local _ .vmem, ⟨4, _⟩ => ⟨S1x16x1024, .bf16⟩
  | .local _ .vmem, ⟨5, _⟩ => ⟨S1x16x1024, .bf16⟩
  | .local _ .vmem, ⟨6, _⟩ => ⟨S1x16x1024, .bf16⟩
  | .local _ .vmem, ⟨7, _⟩ => ⟨S1x16x1024, .bf16⟩
  | .local _ .vmem, ⟨8, _⟩ => ⟨S1x16x1024, .bf16⟩
  | .local _ .vmem, ⟨9, _⟩ => ⟨S1x16x1024, .bf16⟩
  | .local _ .vmem, ⟨10, _⟩ => ⟨S1x128, .f32⟩
  | .local _ .vmem, ⟨11, _⟩ => ⟨S1x1x8x128x128, .f32⟩
  | .local _ .vmem, ⟨12, _⟩ => ⟨S1x1x8x128x128, .f32⟩
  | .local _ .vmem, ⟨13, _⟩ => ⟨S1x16x1024, .bf16⟩
  | .local _ .vmem, ⟨14, _⟩ => ⟨S1x16x1024, .bf16⟩
  | .local _ .vmem, ⟨15, _⟩ => ⟨S1x8x128x128, .f32⟩
  | .local _ .vmem, ⟨16, _⟩ => ⟨S1x8x128x128, .f32⟩
  | _, _ => ⟨S128x4x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_c_0 : Ref sig .tc := ⟨.hbm, 10, rfl⟩
abbrev main_call1_v0 : Ref sig .tc := ⟨.hbm, 11, rfl⟩
abbrev main_v1 : Ref sig .tc := ⟨.hbm, 12, rfl⟩
abbrev main_c_1 : Ref sig .tc := ⟨.hbm, 13, rfl⟩
abbrev main_call2_v0 : Ref sig .tc := ⟨.hbm, 14, rfl⟩
abbrev main_v2 : Ref sig .tc := ⟨.hbm, 15, rfl⟩
abbrev main_c_2 : Ref sig .tc := ⟨.hbm, 16, rfl⟩
abbrev main_call3_v0 : Ref sig .tc := ⟨.hbm, 17, rfl⟩
abbrev main_v3 : Ref sig .tc := ⟨.hbm, 18, rfl⟩
abbrev main_c_3 : Ref sig .tc := ⟨.hbm, 19, rfl⟩
abbrev main_call4_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7_0 : Ref sig .tc := ⟨.hbm, 24, rfl⟩
abbrev main_v7_1 : Ref sig .tc := ⟨.hbm, 25, rfl⟩
abbrev main_v8 : Ref sig .tc := ⟨.hbm, 26, rfl⟩
abbrev main_v9 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![128, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Kernel10Ideal.lean ====
variable {F : FTy → Type} [FloatOps F] [Named F]
def κ : String → Option EReal := fun
  | "log2e" => some (((Real.log 2)⁻¹ : ℝ) : EReal)
  | _ => none
-- ==== Reference10Ideal.lean ====
abbrev S128x4x1024 : Shape := ⟨3, ![128, 4, 1024]⟩
abbrev S1x128 : Shape := ⟨2, ![1, 128]⟩
abbrev S1x128x8x128x128 : Shape := ⟨5, ![1, 128, 8, 128, 128]⟩
abbrev S128x4x8x128 : Shape := ⟨4, ![128, 4, 8, 128]⟩
abbrev S128x8x128x128 : Shape := ⟨4, ![128, 8, 128, 128]⟩
abbrev S128x8x4x128 : Shape := ⟨4, ![128, 8, 4, 128]⟩
abbrev S4x4 : Shape := ⟨2, ![4, 4]⟩
abbrev S4x4x1 : Shape := ⟨3, ![4, 4, 1]⟩
abbrev S_ : Shape := ⟨0, ![]⟩
abbrev S128x8x4x1x128 : Shape := ⟨5, ![128, 8, 4, 1, 128]⟩
abbrev S128x8x1x4x128 : Shape := ⟨5, ![128, 8, 1, 4, 128]⟩
abbrev S128x8x4x4x128 : Shape := ⟨5, ![128, 8, 4, 4, 128]⟩
abbrev S128x8x4x4 : Shape := ⟨4, ![128, 8, 4, 4]⟩
abbrev S128x8x1x128 : Shape := ⟨4, ![128, 8, 1, 128]⟩
abbrev S128x8x128 : Shape := ⟨3, ![128, 8, 128]⟩
abbrev S128x8x128x1 : Shape := ⟨4, ![128, 8, 128, 1]⟩
abbrev S128 : Shape := ⟨1, ![128]⟩
abbrev S128x4x8 : Shape := ⟨3, ![128, 4, 8]⟩
abbrev S128x4x8x1 : Shape := ⟨4, ![128, 4, 8, 1]⟩
abbrev S1x1x1x128 : Shape := ⟨4, ![1, 1, 1, 128]⟩
abbrev S512x1024 : Shape := ⟨2, ![512, 1024]⟩

abbrev nBuf : Space → Nat
  | .hbm => 89
  | .vmem => 0
  | .smem => 0
  | _ => 0

abbrev bufTy : (tb : Table) → Fin (tcTables nBuf tb) → BufTy
  | .hbm, ⟨0, _⟩ => ⟨S128x4x1024, .bf16⟩
  | .hbm, ⟨1, _⟩ => ⟨S128x4x1024, .f32⟩
  | .hbm, ⟨2, _⟩ => ⟨S128x4x1024, .bf16⟩
  | .hbm, ⟨3, _⟩ => ⟨S128x4x1024, .bf16⟩
  | .hbm, ⟨4, _⟩ => ⟨S128x4x1024, .bf16⟩
  | .hbm, ⟨5, _⟩ => ⟨S1x128, .f32⟩
  | .hbm, ⟨6, _⟩ => ⟨S1x128x8x128x128, .f32⟩
  | .hbm, ⟨7, _⟩ => ⟨S128x4x1024, .f32⟩
  | .hbm, ⟨8, _⟩ => ⟨S128x4x8x128, .f32⟩
  | .hbm, ⟨9, _⟩ => ⟨S128x4x1024, .f32⟩
  | .hbm, ⟨10, _⟩ => ⟨S128x4x8x128, .f32⟩
  | .hbm, ⟨11, _⟩ => ⟨S128x4x1024, .f32⟩
  | .hbm, ⟨12, _⟩ => ⟨S128x4x8x128, .f32⟩
  | .hbm, ⟨13, _⟩ => ⟨S128x4x8x128, .f32⟩
  | .hbm, ⟨14, _⟩ => ⟨S128x8x128x128, .f32⟩
  | .hbm, ⟨15, _⟩ => ⟨S128x8x4x128, .f32⟩
  | .hbm, ⟨16, _⟩ => ⟨S128x8x4x128, .f32⟩
  | .hbm, ⟨17, _⟩ => ⟨S128x8x4x128, .f32⟩
  | .hbm, ⟨18, _⟩ => ⟨S128x8x4x128, .f32⟩
  | .hbm, ⟨19, _⟩ => ⟨S4x4, .i32⟩
  | .hbm, ⟨20, _⟩ => ⟨S4x4, .i32⟩
  | .hbm, ⟨21, _⟩ => ⟨S4x4, .i1⟩
  | .hbm, ⟨22, _⟩ => ⟨S4x4x1, .i1⟩
  | .hbm, ⟨23, _⟩ => ⟨S_, .f32⟩
  | .hbm, ⟨24, _⟩ => ⟨S_, .f32⟩
  | .hbm, ⟨25, _⟩ => ⟨S128x8x4x128, .f32⟩
  | .hbm, ⟨26, _⟩ => ⟨S128x8x4x128, .f32⟩
  | .hbm, ⟨27, _⟩ => ⟨S128x8x4x128, .f32⟩
  | .hbm, ⟨28, _⟩ => ⟨S128x8x4x128, .f32⟩
  | .hbm, ⟨29, _⟩ => ⟨S128x8x4x1x128, .f32⟩
  | .hbm, ⟨30, _⟩ => ⟨S128x8x1x4x128, .f32⟩
  | .hbm, ⟨31, _⟩ => ⟨S128x8x4x4x128, .f32⟩
  | .hbm, ⟨32, _⟩ => ⟨S128x8x4x4x128, .f32⟩
  | .hbm, ⟨33, _⟩ => ⟨S128x8x4x4x128, .f32⟩
  | .hbm, ⟨34, _⟩ => ⟨S_, .f32⟩
  | .hbm, ⟨35, _⟩ => ⟨S128x8x4x4x128, .f32⟩
  | .hbm, ⟨36, _⟩ => ⟨S128x8x4x4x128, .f32⟩
  | .hbm, ⟨37, _⟩ => ⟨S128x8x4x4x128, .f32⟩
  | .hbm, ⟨38, _⟩ => ⟨S_, .f32⟩
  | .hbm, ⟨39, _⟩ => ⟨S_, .f32⟩
  | .hbm, ⟨40, _⟩ => ⟨S128x8x4x4x128, .i1⟩
  | .hbm, ⟨41, _⟩ => ⟨S128x8x4x4x128, .f32⟩
  | .hbm, ⟨42, _⟩ => ⟨S128x8x4x4x128, .f32⟩
  | .hbm, ⟨43, _⟩ => ⟨S128x8x4x1x128, .f32⟩
  | .hbm, ⟨44, _⟩ => ⟨S128x8x4x4x128, .f32⟩
  | .hbm, ⟨45, _⟩ => ⟨S128x8x4x4x128, .f32⟩
  | .hbm, ⟨46, _⟩ => ⟨S128x8x1x4x128, .f32⟩
  | .hbm, ⟨47, _⟩ => ⟨S128x8x4x4x128, .f32⟩
  | .hbm, ⟨48, _⟩ => ⟨S128x8x4x4x128, .f32⟩
  | .hbm, ⟨49, _⟩ => ⟨S_, .f32⟩
  | .hbm, ⟨50, _⟩ => ⟨S128x8x4x4, .f32⟩
  | .hbm, ⟨51, _⟩ => ⟨S128x8x4x128, .f32⟩
  | .hbm, ⟨52, _⟩ => ⟨S128x8x1x128, .f32⟩
  | .hbm, ⟨53, _⟩ => ⟨S128x8x128, .f32⟩
  | .hbm, ⟨54, _⟩ => ⟨S128x8x128, .f32⟩
  | .hbm, ⟨55, _⟩ => ⟨S128x8x128x1, .f32⟩
  | .hbm, ⟨56, _⟩ => ⟨S128x8x128x128, .f32⟩
  | .hbm, ⟨57, _⟩ => ⟨S128x8x128x128, .f32⟩
  | .hbm, ⟨58, _⟩ => ⟨S128x8x1x128, .f32⟩
  | .hbm, ⟨59, _⟩ => ⟨S128x8x4x128, .f32⟩
  | .hbm, ⟨60, _⟩ => ⟨S128x8x4x128, .f32⟩
  | .hbm, ⟨61, _⟩ => ⟨S128x8x4x128, .f32⟩
  | .hbm, ⟨62, _⟩ => ⟨S128x8x4x128, .f32⟩
  | .hbm, ⟨63, _⟩ => ⟨S128x8x128x128, .f32⟩
  | .hbm, ⟨64, _⟩ => ⟨S128x8x128x128, .f32⟩
  | .hbm, ⟨65, _⟩ => ⟨S128x8x4x128, .f32⟩
  | .hbm, ⟨66, _⟩ => ⟨S128x4x8x128, .f32⟩
  | .hbm, ⟨67, _⟩ => ⟨S128, .f32⟩
  | .hbm, ⟨68, _⟩ => ⟨S128x4x8x128, .f32⟩
  | .hbm, ⟨69, _⟩ => ⟨S_, .f32⟩
  | .hbm, ⟨70, _⟩ => ⟨S128x4x8, .f32⟩
  | .hbm, ⟨71, _⟩ => ⟨S128x4x8x1, .f32⟩
  | .hbm, ⟨72, _⟩ => ⟨S_, .f32⟩
  | .hbm, ⟨73, _⟩ => ⟨S128x4x8x1, .f32⟩
  | .hbm, ⟨74, _⟩ => ⟨S128x4x8x1, .f32⟩
  | .hbm, ⟨75, _⟩ => ⟨S_, .f32⟩
  | .hbm, ⟨76, _⟩ => ⟨S128x4x8x1, .f32⟩
  | .hbm, ⟨77, _⟩ => ⟨S128x4x8x1, .f32⟩
  | .hbm, ⟨78, _⟩ => ⟨S128x4x8x1, .f32⟩
  | .hbm, ⟨79, _⟩ => ⟨S128x4x8x128, .f32⟩
  | .hbm, ⟨80, _⟩ => ⟨S128x4x8x128, .f32⟩
  | .hbm, ⟨81, _⟩ => ⟨S1x1x1x128, .f32⟩
  | .hbm, ⟨82, _⟩ => ⟨S128x4x8x128, .f32⟩
  | .hbm, ⟨83, _⟩ => ⟨S128x4x8x128, .f32⟩
  | .hbm, ⟨84, _⟩ => ⟨S128x4x1024, .f32⟩
  | .hbm, ⟨85, _⟩ => ⟨S128x4x8x128, .f32⟩
  | .hbm, ⟨86, _⟩ => ⟨S128x4x8x128, .f32⟩
  | .hbm, ⟨87, _⟩ => ⟨S512x1024, .f32⟩
  | .hbm, ⟨88, _⟩ => ⟨S512x1024, .bf16⟩
  | _, _ => ⟨S128x4x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_call0_cst : Ref sig .tc := ⟨.hbm, 23, rfl⟩
abbrev main_call0_call0_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_1 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_2 : Ref sig .tc := ⟨.hbm, 69, rfl⟩
abbrev main_v54 : Ref sig .tc := ⟨.hbm, 70, rfl⟩
abbrev main_v55 : Ref sig .tc := ⟨.hbm, 71, rfl⟩
abbrev main_cst_3 : Ref sig .tc := ⟨.hbm, 72, rfl⟩
abbrev main_v56 : Ref sig .tc := ⟨.hbm, 73, rfl⟩
abbrev main_v57 : Ref sig .tc := ⟨.hbm, 74, rfl⟩
abbrev main_cst_4 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩

abbrev nD : Nat := 1
abbrev τ : Topo := Topo.v7x

variable {F : FTy → Type} [FloatOps F]
-- ==== Proof.Frames.lean ====
/- The frames of the three programs, and the named constant. -/
module
public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

namespace Cert.Hgrn

open Idealize.ShloMosaic Idealize.SL.Sem

/-- The recurrence's kernel keeps its arguments and leaves every counter at zero, on the machine's own numbers. -/
theorem frame_p : Cert.quiescent_Kernel := fun m g _ => Cert.Kernel.Gen.frame m g

/-- The recurrence's kernel keeps its arguments and leaves every counter at zero, over the reals. -/
theorem frame_pi : Cert.quiescent_KernelIdeal := fun m g _ => Cert.KernelIdeal.Gen.frame m g

/-- The plain recurrence keeps its arguments and leaves every counter at zero, over the reals. -/
theorem frame_ri : Cert.quiescent_ReferenceIdeal := fun m g _ =>
  (θ_run _ _ _).mono (fun r h => ⟨fun c => (h c).2.2, sem_eq_zero_of_no_sems rfl r.2⟩) (Cert.ReferenceIdeal.Value.run m g)

/-- The constant the kernel multiplies a log decay by stands for one over the logarithm of two. -/
theorem preserves : Cert.preserves_Kernel_KernelIdeal := IdealRules.named_const.statement _ _ _ _ _ rfl

end Cert.Hgrn

end
-- ==== Proof.Head.lean ====
/- ONE HEAD of one chunk, written once: what the kernel's body does with the 64 rows of one head — the running sums of the log decays, the pair matrix built by halving,
   the output row with its norm and gate, the new state. The eight heads of the body are this function of eight column slices. -/
module
public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.Hgrn

open Cert.KernelIdeal Cert.KernelIdeal.Gen Idealize.ShloMosaic Idealize.ShloMosaic.TcCoe Idealize.SL.Sem

local notation "F" => Ideal

/-- the rows whose number is at least `n` -/
def rowGe (n : BitVec 32) : IVec S64x128 1 := cmpi .sge (iota .tc S64x128 32 [0] iota_S64x128_d0_w32) (broadcast S64x128 n)

/-- the rows in the upper half of their block (`w` is the block's length less one, `n` its half) -/
def upper (w n : BitVec 32) : IVec S64x128 1 :=
  cmpi .sge (andi (iota .tc S64x128 32 [0] iota_S64x128_d0_w32) (broadcast S64x128 w)) (broadcast S64x128 n)

/-- the pairs of one block whose row lies in the upper half and whose column lies in the lower half -/
def pairs (nw w n : BitVec 32) : IVec S64x64 1 :=
  andi (andi (cmpi .eq (andi (xori (iota .tc S64x64 32 [0] iota_S64x64_d0_w32) (iota .tc S64x64 32 [1] iota_S64x64_d1_w32)) (broadcast S64x64 nw)) (broadcast S64x64 0#32))
      (cmpi .sge (andi (iota .tc S64x64 32 [0] iota_S64x64_d0_w32) (broadcast S64x64 w)) (broadcast S64x64 n)))
    (cmpi .slt (andi (iota .tc S64x64 32 [1] iota_S64x64_d1_w32) (broadcast S64x64 w)) (broadcast S64x64 n))

/-- one doubling step of the running sum: each row adds the row `n` above it, where there is one -/
def addAbove (n : BitVec 32) (b : FVec F S64x128 .f32) : FVec F S64x128 .f32 :=
  addf b (select (rowGe n) (dynamicRotate 0 n none b rotates_S64x128_d0) (broadcast S64x128 (Scalar.ofBits .f32 0x00000000#32)))

/-- the log decays over log 2 -/
def scaled (g : Vec F S1x64x128 .f32) : FVec F S64x128 .f32 :=
  mulf (shapeCast S64x128 g shapeCasts_S1x64x128_S64x128) (broadcast S64x128 (Named.named κ "log2e" 0x3FB8AA3B#32))

/-- their running sum along the rows -/
def runSum (g : Vec F S1x64x128 .f32) : FVec F S64x128 .f32 :=
  addAbove 32#32 (addAbove 16#32 (addAbove 8#32 (addAbove 4#32 (addAbove 2#32 (addAbove 1#32 (scaled g))))))

/-- one level of the halving: the decay of a row to or from the boundary between the halves of its block -/
def halfDecay (w n : BitVec 32) (b u : FVec F S64x128 .f32) : FVec F S64x128 .f32 :=
  exp2 (subf (broadcast S64x128 (Scalar.ofBits .f32 0x00000000#32)) (absf (subf b (select (upper w n) (dynamicRotate 0 n none u rotates_S64x128_d0) u))))

/-- one level of the halving: the pair products of the level -/
def levelPairs (nw w n : BitVec 32) (q k b u : FVec F S64x128 .f32) : FVec F S64x64 .f32 :=
  select (pairs nw w n)
    (matmul dot_S64x128_S64x128_S64x64_1_1_0_0_n_n none (truncf .bf16 (mulf q (halfDecay w n b u)) bitsLt_bf16_f32)
      (truncf .bf16 (mulf k (halfDecay w n b u)) bitsLt_bf16_f32) (constant S64x64 .f32 0x00000000#32))
    (broadcast S64x64 (Scalar.ofBits .f32 0x00000000#32))

/-- one level of the halving: every row takes the running sum at the end of its block of twice the length -/
def blockEnd (w n n' : BitVec 32) (u : FVec F S64x128 .f32) : FVec F S64x128 .f32 :=
  select (upper w n) u (dynamicRotate 0 n' none u rotates_S64x128_d0)

def end1 (b : FVec F S64x128 .f32) : FVec F S64x128 .f32 := blockEnd 1#32 1#32 63#32 b
def end2 (b : FVec F S64x128 .f32) : FVec F S64x128 .f32 := blockEnd 3#32 2#32 62#32 (end1 b)
def end3 (b : FVec F S64x128 .f32) : FVec F S64x128 .f32 := blockEnd 7#32 4#32 60#32 (end2 b)
def end4 (b : FVec F S64x128 .f32) : FVec F S64x128 .f32 := blockEnd 15#32 8#32 56#32 (end3 b)
def end5 (b : FVec F S64x128 .f32) : FVec F S64x128 .f32 := blockEnd 31#32 16#32 48#32 (end4 b)
def end6 (b : FVec F S64x128 .f32) : FVec F S64x128 .f32 := blockEnd 63#32 32#32 32#32 (end5 b)

/-- the pair matrix: the six levels added -/
def pairSum (q k b : FVec F S64x128 .f32) : FVec F S64x64 .f32 :=
  addf (addf (addf (addf (addf (addf (broadcast S64x64 (Scalar.ofBits .f32 0x00000000#32))
    (levelPairs 4294967294#32 1#32 1#32 q k b b))
    (levelPairs 4294967292#32 3#32 2#32 q k b (end1 b)))
    (levelPairs 4294967288#32 7#32 4#32 q k b (end2 b)))
    (levelPairs 4294967280#32 15#32 8#32 q k b (end3 b)))
    (levelPairs 4294967264#32 31#32 16#32 q k b (end4 b)))
    (levelPairs 4294967232#32 63#32 32#32 q k b (end5 b))

def rows32 (x : Vec F S1x64x128 .bf16) : FVec F S64x128 .f32 := extf .f32 (shapeCast S64x128 x shapeCasts_S1x64x128_S64x128) bitsLt_bf16_f32

def rows16 (x : Vec F S1x64x128 .bf16) : FVec F S64x128 .bf16 := shapeCast S64x128 x shapeCasts_S1x64x128_S64x128

/-- the output rows before the norm -/
def rawOut (q k : FVec F S64x128 .f32) (v : FVec F S64x128 .bf16) (b : FVec F S64x128 .f32) (s : FVec F S128x128 .f32) : FVec F S64x128 .f32 :=
  addf (addf (matmul dot_S64x128_S128x128_S64x128_1_0_0_1_n_n none (truncf .bf16 (mulf q (exp2 b)) bitsLt_bf16_f32) (truncf .bf16 s bitsLt_bf16_f32) (constant S64x128 .f32 0x00000000#32))
      (matmul dot_S64x64_S64x128_S64x128_1_0_0_1_n_n none (truncf .bf16 (pairSum q k b) bitsLt_bf16_f32) v (constant S64x128 .f32 0x00000000#32)))
    (mulf (broadcastTo S64x128 (shapeCast S64x1 (multiReduction .add [1] S64 (mulf q k) 0x00000000#32 reduces_S64x128_S64 (.inl rfl) rfl) shapeCasts_S64_S64x1) broadcasts_S64x1_S64x128)
      (extf .f32 v bitsLt_bf16_f32))

/-- the norm over the 128 columns, its weight and the gate -/
def normGate (o : FVec F S64x128 .f32) (w : Vec F S1x128 .f32) (gt : Vec F S1x64x128 .bf16) : FVec F S1x64x128 .bf16 :=
  shapeCast S1x64x128 (truncf .bf16 (mulf (mulf (mulf o
      (broadcastTo S64x128 (rsqrt (addf (divf (shapeCast S64x1 (multiReduction .add [1] S64 (mulf o o) 0x00000000#32 reduces_S64x128_S64 (.inl rfl) rfl) shapeCasts_S64_S64x1)
        (broadcast S64x1 (Scalar.ofBits .f32 0x43000000#32))) (broadcast S64x1 (Scalar.ofBits .f32 0x3727C5AC#32)))) broadcasts_S64x1_S64x128))
      (broadcastTo S64x128 (shapeCast S1x128 w shapeCasts_S1x128_S1x128) broadcasts_S1x128_S64x128))
      (extf .f32 (shapeCast S64x128 gt shapeCasts_S1x64x128_S64x128) bitsLt_bf16_f32)) bitsLt_bf16_f32) shapeCasts_S64x128_S1x64x128

/-- what one head stores to the output -/
def headOut (q : Vec F S1x64x128 .bf16) (g : Vec F S1x64x128 .f32) (k v gt : Vec F S1x64x128 .bf16) (w : Vec F S1x128 .f32) (s : Vec F S1x1x128x128 .f32) : FVec F S1x64x128 .bf16 :=
  normGate (rawOut (rows32 q) (rows32 k) (rows16 v) (runSum g) (shapeCast S128x128 s shapeCasts_S1x1x128x128_S128x128)) w gt

/-- the column of the chunk's last running sums -/
def lastCol (b : FVec F S64x128 .f32) : FVec F S128x1 .f32 :=
  shapeCast S128x1 (multiReduction .add [1] S128
    (select (cmpi .eq (iota .tc S128x128 32 [0] iota_S128x128_d0_w32) (iota .tc S128x128 32 [1] iota_S128x128_d1_w32) : IVec S128x128 1)
      (broadcastTo S128x128 (shapeCast S1x128 (extractStridedSlice S1x128 ![0, 0] (end6 b) slices_S64x128_o0_0_S1x128) shapeCasts_S1x128_S1x128) broadcasts_S1x128_S128x128)
      (broadcast S128x128 (Scalar.ofBits .f32 0x00000000#32))) 0x00000000#32 reduces_S128x128_S128 (.inl rfl) rfl) shapeCasts_S128_S128x1

/-- what one head stores to the state -/
def headState (g : Vec F S1x64x128 .f32) (k v : Vec F S1x64x128 .bf16) (s : Vec F S1x1x128x128 .f32) : FVec F S1x1x128x128 .f32 :=
  shapeCast S1x1x128x128 (addf (mulf (broadcastTo S128x128 (exp2 (lastCol (runSum g))) broadcasts_S128x1_S128x128) (shapeCast S128x128 s shapeCasts_S1x1x128x128_S128x128))
    (matmul dot_S64x128_S64x128_S128x128_0_0_1_1_n_n none
      (truncf .bf16 (mulf (rows32 k) (exp2 (subf (end6 (runSum g)) (runSum g)))) bitsLt_bf16_f32)
      (rows16 v) (constant S128x128 .f32 0x00000000#32))) shapeCasts_S128x128_S1x1x128x128

/-- the 128 columns of head `h` -/
def cols {e : EltTy} (X : Vec F S1x64x1024 e) (h : Fin 8) : Vec F S1x64x128 e := View.ld (S := S1x64x1024) X (Rect.unit (s := S1x64x1024) ![0, 0, 128 * h.val] S1x64x128.size (by intro a; fin_cases a <;> simp <;> omega))

/-- the state of head `h` -/
def slab (X : Vec F S1x8x128x128 .f32) (h : Fin 8) : Vec F S1x1x128x128 .f32 := View.ld (S := S1x8x128x128) X (Rect.unit (s := S1x8x128x128) ![0, h.val, 0, 0] S1x1x128x128.size (by intro a; fin_cases a <;> simp <;> omega))

end Cert.Hgrn

end
-- ==== Proof.Chunk.lean ====
/- The mathematics of one chunk over the real numbers: a running sum built by doubling, and which level of the halving holds a pair of rows. -/
module
public import Idealize.ShloMosaic.PureOps.Ideal

@[expose] public section

noncomputable section

namespace Cert.Hgrn

open Idealize.ShloMosaic

/-- a finite sum of real numbers, read among the extended reals -/
theorem coe_sum_real {ι : Type} (A : Finset ι) (x : ι → ℝ) : ((∑ i ∈ A, x i : ℝ) : EReal) = ∑ i ∈ A, (x i : EReal) := by
  classical
  induction A using Finset.induction_on with
  | empty => simp
  | insert a A ha ih => rw [Finset.sum_insert ha, Finset.sum_insert ha, EReal.coe_add, ih]

/-- a selection by a word that is one exactly where `p` holds -/
theorem select_word {α : Type} {p : Prop} [Decidable p] {c : BitVec 1} (h : c = if p then 1#1 else 0#1) (a b : α) : Scalar.select c a b = if p then a else b := by
  subst h
  unfold Scalar.select
  split <;> simp_all

/-- the sum of the last `N` entries up to row `t` -/
def win {M : Type} [AddCommMonoid M] (x : ℕ → M) (N t : ℕ) : M := ∑ i ∈ Finset.range N, if i ≤ t then x (t - i) else 0

/-- one entry is the entry -/
theorem win_one {M : Type} [AddCommMonoid M] (x : ℕ → M) (t : ℕ) : win x 1 t = x t := by simp [win]

/-- doubling: the sum of `2N` entries is the sum of `N` entries here and of `N` entries `N` rows above -/
theorem win_double {M : Type} [AddCommMonoid M] (x : ℕ → M) (N t : ℕ) : win x (N + N) t = win x N t + if N ≤ t then win x N (t - N) else 0 := by
  unfold win
  rw [Finset.sum_range_add]
  congr 1
  split
  · refine Finset.sum_congr rfl fun i _ => ?_
    by_cases h : N + i ≤ t
    · rw [if_pos h, if_pos (by omega), Nat.sub_sub]
    · rw [if_neg h, if_neg (by omega)]
  · exact Finset.sum_eq_zero fun i _ => if_neg (by omega)

/-- enough entries: the whole running sum -/
theorem win_all {M : Type} [AddCommMonoid M] (x : ℕ → M) (N t : ℕ) (h : t < N) : win x N t = ∑ s ∈ Finset.range (t + 1), x s := by
  obtain ⟨R, rfl⟩ : ∃ R, N = (t + 1) + R := ⟨N - (t + 1), by omega⟩
  unfold win
  rw [Finset.sum_range_add, Finset.sum_eq_zero (s := Finset.range R) (fun i _ => if_neg (by omega)), add_zero, ← Finset.sum_range_reflect]
  refine Finset.sum_congr rfl fun i hi => ?_
  rw [Finset.mem_range] at hi
  rw [if_pos (by omega)]
  congr 1
  omega

/-- the row of the block of length `2^j` that ends it -/
abbrev endRow (j t : ℕ) : ℕ := t / 2 ^ j * 2 ^ j + 2 ^ j - 1

/-- the last row of the lower half of the block of length `2^(j+1)` -/
abbrev midRow (j t : ℕ) : ℕ := t / (2 * 2 ^ j) * (2 * 2 ^ j) + 2 ^ j - 1

/-- the row lies in the upper half of its block -/
abbrev isUpper (j t : ℕ) : Prop := 2 ^ j ≤ t % (2 * 2 ^ j)

/-- the pair belongs to the level: one block, row above, column below -/
abbrev isPair (j t s : ℕ) : Prop := t / (2 * 2 ^ j) = s / (2 * 2 ^ j) ∧ isUpper j t ∧ ¬ isUpper j s

theorem rowGe_word : ∀ (j : Fin 6) (t : Fin 64), IntOp.cmpi .sge (BitVec.ofNat 32 t.val) (BitVec.ofNat 32 (2 ^ j.val)) = if 2 ^ j.val ≤ t.val then 1#1 else 0#1 := by
  decide +kernel

theorem upper_word : ∀ (j : Fin 6) (t : Fin 64), IntOp.cmpi .sge (IntOp.andi (BitVec.ofNat 32 t.val) (BitVec.ofNat 32 (2 * 2 ^ j.val - 1))) (BitVec.ofNat 32 (2 ^ j.val))
    = if isUpper j.val t.val then 1#1 else 0#1 := by
  decide +kernel

theorem pair_word : ∀ (j : Fin 6) (t s : Fin 64), IntOp.andi (IntOp.andi
      (IntOp.cmpi .eq (IntOp.andi (IntOp.xori (BitVec.ofNat 32 t.val) (BitVec.ofNat 32 s.val)) (BitVec.ofNat 32 (2 ^ 32 - 2 * 2 ^ j.val))) 0#32)
      (IntOp.cmpi .sge (IntOp.andi (BitVec.ofNat 32 t.val) (BitVec.ofNat 32 (2 * 2 ^ j.val - 1))) (BitVec.ofNat 32 (2 ^ j.val))))
      (IntOp.cmpi .slt (IntOp.andi (BitVec.ofNat 32 s.val) (BitVec.ofNat 32 (2 * 2 ^ j.val - 1))) (BitVec.ofNat 32 (2 ^ j.val)))
    = if isPair j.val t.val s.val then 1#1 else 0#1 := by
  decide +kernel

theorem eq_word : ∀ (f x : Fin 128), IntOp.cmpi .eq (BitVec.ofNat 32 f.val) (BitVec.ofNat 32 x.val) = if f = x then 1#1 else 0#1 := by
  decide +kernel

/-- the row `2^j` above, as the rotation finds it -/
theorem above_row : ∀ (j : Fin 6) (t : Fin 64), 2 ^ j.val ≤ t.val → (t.val + 64 - (BitVec.ofNat 32 (2 ^ j.val)).toNat % 64) % 64 = t.val - 2 ^ j.val := by
  decide +kernel

/-- the end of a row's block is the end of its half, or of the half below it -/
theorem end_step : ∀ (j : Fin 6) (t : Fin 64), endRow (j.val + 1) t.val
    = if isUpper j.val t.val then endRow j.val t.val else endRow j.val ((t.val + 64 - (BitVec.ofNat 32 (64 - 2 ^ j.val)).toNat % 64) % 64) := by
  decide +kernel

/-- the boundary between the halves of a row's block: the end of the half above, or of its own half -/
theorem mid_step : ∀ (j : Fin 6) (t : Fin 64),
    (if isUpper j.val t.val then endRow j.val ((t.val + 64 - (BitVec.ofNat 32 (2 ^ j.val)).toNat % 64) % 64) else endRow j.val t.val) = midRow j.val t.val := by
  decide +kernel

theorem mid_side : ∀ (j : Fin 6) (t : Fin 64), if isUpper j.val t.val then midRow j.val t.val ≤ t.val else t.val ≤ midRow j.val t.val ∧ midRow j.val t.val < 64 := by
  decide +kernel

/-- a pair of rows below the diagonal belongs to exactly one level, any other pair to none -/
theorem one_level : ∀ (t s : Fin 64), (Finset.univ.filter fun j : Fin 6 => isPair j.val t.val s.val).card = if s.val < t.val then 1 else 0 := by
  decide +kernel

/-- so the levels add up to the strict lower triangle -/
theorem levels_sum (t s : Fin 64) (x : ℝ) : (∑ j : Fin 6, if isPair j.val t.val s.val then x else 0) = if s.val < t.val then x else 0 := by
  rw [← Finset.sum_filter, Finset.sum_const, one_level]
  split <;> simp

end Cert.Hgrn

end
-- ==== Proof.HeadAt.lean ====
/- One head of one chunk read at an index, on real-valued rows: the running sums, the ends of the blocks, the pair matrix, the rows before the norm and the new state. -/
module
public import proofs.«01_k».proof.Proof.Head
public import proofs.«01_k».proof.Proof.Chunk

@[expose] public section

set_option maxRecDepth 16384

noncomputable section

namespace Cert.Hgrn

open Cert.KernelIdeal Cert.KernelIdeal.Gen Idealize.ShloMosaic Idealize.ShloMosaic.TcCoe Idealize.SL.Sem

local notation "F" => Ideal

/-- the factor from natural to binary logarithms -/
abbrev lg : ℝ := (Real.log 2)⁻¹

theorem log_two_pos : 0 < Real.log 2 := Real.log_pos (by norm_num)

/-- two to the power `x / log 2` is `e` to the power `x` -/
theorem exp2_lg (x : ℝ) : @FloatOps.exp2 Ideal _ .f32 ((lg * x : ℝ) : EReal) = ((Real.exp x : ℝ) : EReal) := by
  show Ideal.exp2 _ = _
  rw [Ideal.exp2_coe]
  congr 1
  show (2 : ℝ) ^ (lg * x) = _
  rw [Real.rpow_def_of_pos (by norm_num), ← mul_assoc, mul_inv_cancel₀ log_two_pos.ne', one_mul]

theorem absf_real (x : ℝ) : @FloatOps.absf Ideal _ .f32 ((x : ℝ) : EReal) = ((|x| : ℝ) : EReal) := by
  show max (x : EReal) (-(x : EReal)) = _
  rw [← EReal.coe_neg]
  exact (EReal.coe_strictMono.monotone.map_max (a := x) (b := -x)).symm

/-- the real running sum of a chunk's log decays -/
def cum (g : ℕ → Fin 128 → ℝ) (t : ℕ) (f : Fin 128) : ℝ := ∑ s ∈ Finset.range (t + 1), g s f

/-- one doubling step -/
theorem addAbove_at (j : Fin 6) (n : BitVec 32) (hn : n = BitVec.ofNat 32 (2 ^ j.val)) (b : FVec F S64x128 .f32) (x : ℕ → Fin 128 → ℝ)
    (hb : ∀ (t : Fin 64) f, b (ix2 t f) = ((win (fun s => x s f) (2 ^ j.val) t.val : ℝ) : EReal)) (t : Fin 64) (f : Fin 128) :
    addAbove n b (ix2 t f) = ((win (fun s => x s f) (2 ^ (j.val + 1)) t.val : ℝ) : EReal) := by
  subst hn
  pointwise [addAbove, rowGe]
  rw [select_word (rowGe_word j t), pow_succ, mul_two, win_double]
  by_cases h : 2 ^ j.val ≤ t.val
  · rw [if_pos h, if_pos h, EReal.coe_add, hb, hb]
    show _ + ((win _ _ ((t.val + 64 - (BitVec.ofNat 32 (2 ^ j.val)).toNat % 64) % 64) : ℝ) : EReal) = _
    rw [above_row j t h]
  · rw [if_neg h, if_neg h, hb, add_zero, add_zero]

theorem scaled_at (g : Vec F S1x64x128 .f32) (x : ℕ → Fin 128 → ℝ) (hg : ∀ (t : Fin 64) f, g (ix3 0 t f) = ((x t.val f : ℝ) : EReal)) (t : Fin 64) (f : Fin 128) :
    scaled g (ix2 t f) = ((lg * x t.val f : ℝ) : EReal) := by
  pointwise [scaled]
  rw [IdealRules.named_const.ideal_named_scalar _ _ _ _ rfl, hg, mul_comm, ← EReal.coe_mul]

/-- the running sum over log 2 -/
theorem runSum_at (g : Vec F S1x64x128 .f32) (x : ℕ → Fin 128 → ℝ) (hg : ∀ (t : Fin 64) f, g (ix3 0 t f) = ((x t.val f : ℝ) : EReal)) (t : Fin 64) (f : Fin 128) :
    runSum g (ix2 t f) = ((lg * cum x t.val f : ℝ) : EReal) := by
  have h0 : ∀ (t : Fin 64) f, scaled g (ix2 t f) = ((win (fun s => lg * x s f) (2 ^ (0 : Fin 6).val) t.val : ℝ) : EReal) := fun t f => by
    rw [scaled_at g x hg]; show _ = ((win _ 1 _ : ℝ) : EReal); rw [win_one]
  have h1 := addAbove_at 0 1#32 rfl _ (fun s f => lg * x s f) h0
  have h2 := addAbove_at 1 2#32 rfl _ (fun s f => lg * x s f) h1
  have h3 := addAbove_at 2 4#32 rfl _ (fun s f => lg * x s f) h2
  have h4 := addAbove_at 3 8#32 rfl _ (fun s f => lg * x s f) h3
  have h5 := addAbove_at 4 16#32 rfl _ (fun s f => lg * x s f) h4
  have h6 := addAbove_at 5 32#32 rfl _ (fun s f => lg * x s f) h5 t f
  refine h6.trans ?_
  rw [win_all _ _ _ (show t.val < 2 ^ ((5 : Fin 6).val + 1) from t.isLt), cum, Finset.mul_sum]

/-- the value of `B` at the end of the block of length `2^j` in every row -/
def IsEnd (j : ℕ) (u : FVec F S64x128 .f32) (B : ℕ → Fin 128 → ℝ) : Prop := ∀ (t : Fin 64) f, u (ix2 t f) = ((B (endRow j t.val) f : ℝ) : EReal)

theorem blockEnd_at (j : Fin 6) (w n n' : BitVec 32) (hw : w = BitVec.ofNat 32 (2 * 2 ^ j.val - 1)) (hn : n = BitVec.ofNat 32 (2 ^ j.val))
    (hn' : n' = BitVec.ofNat 32 (64 - 2 ^ j.val)) (u : FVec F S64x128 .f32) (B : ℕ → Fin 128 → ℝ) (hu : IsEnd j.val u B) : IsEnd (j.val + 1) (blockEnd w n n' u) B := by
  subst hw hn hn'
  intro t f
  pointwise [blockEnd, upper]
  rw [select_word (upper_word j t), end_step j t, hu, hu]
  split <;> rfl

section ends
variable (b : FVec F S64x128 .f32) (B : ℕ → Fin 128 → ℝ) (hb : ∀ (t : Fin 64) f, b (ix2 t f) = ((B t.val f : ℝ) : EReal))
include hb

theorem isEnd0 : IsEnd (0 : Fin 6).val b B := fun t f => by
  rw [hb]
  show _ = ((B (t.val / 2 ^ 0 * 2 ^ 0 + 2 ^ 0 - 1) f : ℝ) : EReal)
  simp
theorem isEnd1 : IsEnd (1 : Fin 6).val (end1 b) B := blockEnd_at 0 1#32 1#32 63#32 rfl rfl rfl b B (isEnd0 b B hb)
theorem isEnd2 : IsEnd (2 : Fin 6).val (end2 b) B := blockEnd_at 1 3#32 2#32 62#32 rfl rfl rfl _ B (isEnd1 b B hb)
theorem isEnd3 : IsEnd (3 : Fin 6).val (end3 b) B := blockEnd_at 2 7#32 4#32 60#32 rfl rfl rfl _ B (isEnd2 b B hb)
theorem isEnd4 : IsEnd (4 : Fin 6).val (end4 b) B := blockEnd_at 3 15#32 8#32 56#32 rfl rfl rfl _ B (isEnd3 b B hb)
theorem isEnd5 : IsEnd (5 : Fin 6).val (end5 b) B := blockEnd_at 4 31#32 16#32 48#32 rfl rfl rfl _ B (isEnd4 b B hb)

/-- in every row, the value of the last row -/
theorem end6_at (t : Fin 64) (f : Fin 128) : end6 b (ix2 t f) = ((B 63 f : ℝ) : EReal) := by
  refine (blockEnd_at 5 63#32 32#32 32#32 rfl rfl rfl _ B (isEnd5 b B hb) t f).trans ?_
  show ((B (t.val / 64 * 64 + 64 - 1) f : ℝ) : EReal) = _
  rw [show t.val / 64 = 0 by omega]

/-- the column of the last row -/
theorem lastCol_at (f : Fin 128) : lastCol b (ix2 f 0) = ((B 63 f : ℝ) : EReal) := by
  pointwise [lastCol]
  simp only [fun x => select_word (α := EReal) (eq_word f x)]
  rw [Finset.sum_ite_eq, if_pos (Finset.mem_univ _), end6_at b B hb]

end ends

section level
variable (j : Fin 6) (b u : FVec F S64x128 .f32) (B : ℕ → Fin 128 → ℝ) (hb : ∀ (t : Fin 64) f, b (ix2 t f) = ((lg * B t.val f : ℝ) : EReal))
  (hu : IsEnd j.val u fun t f => lg * B t f) (hB : ∀ s t f, s ≤ t → t < 64 → B t f ≤ B s f)
include hb hu hB

/-- the decay to the boundary, or from it -/
theorem halfDecay_at (w n : BitVec 32) (hw : w = BitVec.ofNat 32 (2 * 2 ^ j.val - 1)) (hn : n = BitVec.ofNat 32 (2 ^ j.val)) (t : Fin 64) (f : Fin 128) :
    halfDecay w n b u (ix2 t f)
      = ((if isUpper j.val t.val then Real.exp (B t.val f - B (midRow j.val t.val) f) else Real.exp (B (midRow j.val t.val) f - B t.val f) : ℝ) : EReal) := by
  subst hw hn
  pointwise [halfDecay, upper]
  rw [select_word (upper_word j t), hb, hu, hu]
  have hm := mid_step j t
  have hs := mid_side j t
  by_cases h : isUpper j.val t.val
  · rw [if_pos h] at hm hs
    rw [if_pos h, if_pos h, hm, ← EReal.coe_sub, ← mul_sub, absf_real, ← EReal.coe_zero, ← EReal.coe_sub, zero_sub, ← exp2_lg,
      abs_of_nonpos (mul_nonpos_of_nonneg_of_nonpos (inv_nonneg.mpr log_two_pos.le) (by linarith [hB _ _ f hs t.isLt])), neg_neg]
  · rw [if_neg h] at hm hs
    rw [if_neg h, if_neg h, hm, ← EReal.coe_sub, ← mul_sub, absf_real, ← EReal.coe_zero, ← EReal.coe_sub, zero_sub, ← exp2_lg,
      abs_of_nonneg (mul_nonneg (inv_nonneg.mpr log_two_pos.le) (by linarith [hB _ _ f hs.1 hs.2])), ← mul_neg, neg_sub]

/-- the products of one level: at a pair of the level the decayed product of its two rows, elsewhere zero -/
theorem levelPairs_at (nw w n : BitVec 32) (hnw : nw = BitVec.ofNat 32 (2 ^ 32 - 2 * 2 ^ j.val)) (hw : w = BitVec.ofNat 32 (2 * 2 ^ j.val - 1))
    (hn : n = BitVec.ofNat 32 (2 ^ j.val)) (q k : FVec F S64x128 .f32) (Q K : ℕ → Fin 128 → ℝ)
    (hq : ∀ (t : Fin 64) f, q (ix2 t f) = ((Q t.val f : ℝ) : EReal)) (hk : ∀ (t : Fin 64) f, k (ix2 t f) = ((K t.val f : ℝ) : EReal)) (t s : Fin 64) :
    levelPairs nw w n q k b u (ix2 t s)
      = ((if isPair j.val t.val s.val then ∑ f, Q t.val f * K s.val f * Real.exp (B t.val f - B s.val f) else 0 : ℝ) : EReal) := by
  pointwise [levelPairs, pairs]
  simp only [halfDecay_at j b u B hb hu hB w n hw hn, hq, hk]
  subst hnw hw hn
  rw [select_word (pair_word j t s)]
  by_cases h : isPair j.val t.val s.val
  · rw [if_pos h, if_pos h, coe_sum_real]
    refine Finset.sum_congr rfl fun f _ => ?_
    rw [if_pos h.2.1, if_neg h.2.2, ← EReal.coe_mul, ← EReal.coe_mul, ← EReal.coe_mul, show midRow j.val s.val = midRow j.val t.val by unfold midRow; rw [h.1],
      show B t.val f - B s.val f = (B t.val f - B (midRow j.val t.val) f) + (B (midRow j.val t.val) f - B s.val f) by ring, Real.exp_add]
    congr 1
    ring
  · rw [if_neg h, if_neg h, EReal.coe_zero]

end level

section chunk
variable (b : FVec F S64x128 .f32) (B : ℕ → Fin 128 → ℝ) (hb : ∀ (t : Fin 64) f, b (ix2 t f) = ((lg * B t.val f : ℝ) : EReal))
  (hB : ∀ s t f, s ≤ t → t < 64 → B t f ≤ B s f) (q k : FVec F S64x128 .f32) (Q K : ℕ → Fin 128 → ℝ)
  (hq : ∀ (t : Fin 64) f, q (ix2 t f) = ((Q t.val f : ℝ) : EReal)) (hk : ∀ (t : Fin 64) f, k (ix2 t f) = ((K t.val f : ℝ) : EReal))
include hb hB hq hk

/-- the pair matrix is strictly lower triangular, its entries the decayed products -/
theorem pairSum_at (t s : Fin 64) :
    pairSum q k b (ix2 t s) = ((if s.val < t.val then ∑ f, Q t.val f * K s.val f * Real.exp (B t.val f - B s.val f) else 0 : ℝ) : EReal) := by
  have e0 := levelPairs_at 0 b b B hb (isEnd0 b _ hb) hB 4294967294#32 1#32 1#32 rfl rfl rfl q k Q K hq hk t s
  have e1 := levelPairs_at 1 b _ B hb (isEnd1 b _ hb) hB 4294967292#32 3#32 2#32 rfl rfl rfl q k Q K hq hk t s
  have e2 := levelPairs_at 2 b _ B hb (isEnd2 b _ hb) hB 4294967288#32 7#32 4#32 rfl rfl rfl q k Q K hq hk t s
  have e3 := levelPairs_at 3 b _ B hb (isEnd3 b _ hb) hB 4294967280#32 15#32 8#32 rfl rfl rfl q k Q K hq hk t s
  have e4 := levelPairs_at 4 b _ B hb (isEnd4 b _ hb) hB 4294967264#32 31#32 16#32 rfl rfl rfl q k Q K hq hk t s
  have e5 := levelPairs_at 5 b _ B hb (isEnd5 b _ hb) hB 4294967232#32 63#32 32#32 rfl rfl rfl q k Q K hq hk t s
  pointwise [pairSum]
  rw [e0, e1, e2, e3, e4, e5, ← EReal.coe_add, ← EReal.coe_add, ← EReal.coe_add, ← EReal.coe_add, ← EReal.coe_add, ← levels_sum t s, Fin.sum_univ_six]

/-- the rows before the norm -/
theorem rawOut_at (v : FVec F S64x128 .bf16) (s : FVec F S128x128 .f32) (V : ℕ → Fin 128 → ℝ) (S : Fin 128 → Fin 128 → ℝ)
    (hv : ∀ (t : Fin 64) f, v (ix2 t f) = ((V t.val f : ℝ) : EReal)) (hs : ∀ x d, s (ix2 x d) = ((S x d : ℝ) : EReal)) (t : Fin 64) (d : Fin 128) :
    rawOut q k v b s (ix2 t d)
      = ((∑ x, Q t.val x * Real.exp (B t.val x) * S x d
          + ∑ s : Fin 64, (if s.val < t.val then ∑ x, Q t.val x * K s.val x * Real.exp (B t.val x - B s.val x) else 0) * V s.val d
          + (∑ x, Q t.val x * K t.val x) * V t.val d : ℝ) : EReal) := by
  pointwise [rawOut]
  simp only [pairSum_at b B hb hB q k Q K hq hk, hq, hk, hb, hv, hs, exp2_lg, ← EReal.coe_mul, ← coe_sum_real, ← EReal.coe_add]

end chunk

/-- the new state: the old one decayed over the chunk, and every row's outer product decayed to the chunk's end -/
theorem headState_at (g : Vec F S1x64x128 .f32) (k v : Vec F S1x64x128 .bf16) (s : Vec F S1x1x128x128 .f32) (G K V : ℕ → Fin 128 → ℝ) (S : Fin 128 → Fin 128 → ℝ)
    (hg : ∀ (t : Fin 64) f, g (ix3 0 t f) = ((G t.val f : ℝ) : EReal)) (hk : ∀ (t : Fin 64) f, k (ix3 0 t f) = ((K t.val f : ℝ) : EReal))
    (hv : ∀ (t : Fin 64) f, v (ix3 0 t f) = ((V t.val f : ℝ) : EReal)) (hs : ∀ x d, s (ix4 0 0 x d) = ((S x d : ℝ) : EReal)) (f d : Fin 128) :
    headState g k v s (ix4 0 0 f d)
      = ((Real.exp (cum G 63 f) * S f d + ∑ x : Fin 64, K x.val f * Real.exp (cum G 63 f - cum G x.val f) * V x.val d : ℝ) : EReal) := by
  have hb := runSum_at g G hg
  pointwise [headState, rows16, rows32]
  simp only [lastCol_at _ (fun t f => lg * cum G t f) hb, end6_at _ (fun t f => lg * cum G t f) hb, hb, hk, hv, hs, exp2_lg, ← EReal.coe_sub, ← mul_sub,
    ← EReal.coe_mul, ← coe_sum_real, ← EReal.coe_add]

end Cert.Hgrn

end
-- ==== Proof.Body.lean ====
/- WHAT ONE GRID POINT LEAVES: the output block and the state block after the body at a point are, head by head, the one-head function of the point's input blocks and of
   the state the point found — zero at a sequence's first chunk, else what the point before left. -/
module
public import proofs.«01_k».proof.Proof.Head
public import Idealize.ShloMosaic.Lib.Pipeline.ReadBack

@[expose] public section

set_option maxRecDepth 16384

noncomputable section

namespace Cert.Hgrn

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- head `h` of the new state, from the point's blocks and an old state -/
def stateAt (c : Dev nD) (t : Fin cfg0.N) (S : Vec Ideal S1x8x128x128 .f32) (h : Fin 8) : Vec Ideal S1x1x128x128 .f32 :=
  headState (cols (iblk m c 1 t) h) (cols (iblk m c 2 t) h) (cols (iblk m c 3 t) h) (slab S h)

/-- head `h` of the output, from the point's blocks and an old state -/
def outAt (c : Dev nD) (t : Fin cfg0.N) (S : Vec Ideal S1x8x128x128 .f32) (h : Fin 8) : Vec Ideal S1x64x128 .bf16 :=
  headOut (cols (iblk m c 0 t) h) (cols (iblk m c 1 t) h) (cols (iblk m c 2 t) h) (cols (iblk m c 3 t) h) (cols (iblk m c 4 t) h) (iblk m c 5 t) (slab S h)

theorem stateAt_congr (c : Dev nD) (t : Fin cfg0.N) (S : Vec Ideal S1x8x128x128 .f32) {h h' : Fin 8} (e : h.val = h'.val) {x x' : S1x1x128x128.Idx} (ex : x = x') :
    stateAt m c t S h x = stateAt m c t S h' x' := by
  rw [Fin.ext e, ex]

theorem outAt_congr (c : Dev nD) (t : Fin cfg0.N) (S : Vec Ideal S1x8x128x128 .f32) {h h' : Fin 8} (e : h.val = h'.val) {x x' : S1x64x128.Idx} (ex : x = x') :
    outAt m c t S h x = outAt m c t S h' x' := by
  rw [Fin.ext e, ex]

/-- A first write under eight later ones is not seen where one of the eight lies. -/
theorem canon_drop {Val : EltTy → Type} [∀ e, Nonempty (Val e)] {s : Shape} {e : EltTy} (L : List (View.Piece Val s e)) (z : View.Piece Val s e) (y : s.Idx)
    (hc : ∃ p ∈ L, y ∈ p.1.set) : View.canon (L ++ [z]) y = View.canon L y := by
  induction L with
  | nil => obtain ⟨p, hp, _⟩ := hc; exact absurd hp List.not_mem_nil
  | cons p L ih =>
    by_cases hy : y ∈ p.1.set
    · obtain ⟨x, rfl⟩ := p.1.exists_idx_of_mem hy
      rw [List.cons_append]
      exact (View.canon_cons_emb p.1 p.2 _ x).trans (View.canon_cons_emb p.1 p.2 _ x).symm
    · rw [List.cons_append, View.canon_cons_of_not_mem _ _ hy, View.canon_cons_of_not_mem _ _ hy]
      refine ih ?_
      obtain ⟨q, hq, hqy⟩ := hc
      rcases List.mem_cons.mp hq with rfl | hq
      · exact absurd hqy hy
      · exact ⟨q, hq, hqy⟩

theorem canon_drop8 {Val : EltTy → Type} [∀ e, Nonempty (Val e)] {s : Shape} {e : EltTy} (a b c d f g h i z : View.Piece Val s e) (y : s.Idx)
    (hc : ∃ p ∈ [a, b, c, d, f, g, h, i], y ∈ p.1.set) : View.canon [a, b, c, d, f, g, h, i, z] y = View.canon [a, b, c, d, f, g, h, i] y :=
  canon_drop [a, b, c, d, f, g, h, i] z y hc

/-- At a sequence's first chunk the new state is the one-head function of a zero state. -/
theorem state_first (c : Dev nD) (t : Fin cfg0.N) (hz : t.val % 32 = 0) (y : S1x8x128x128.Idx) :
    (outsAt0 m c t.val t.isLt).2 y = stateAt m c t (k0_pay2 (F := Ideal)) (y 1) (ix4 0 0 (y 2) (y 3)) := by
  rw [outsAt0_A m c t hz]
  frame_open
  simp (disch := decide) only [↓ View.readCov_skip, ↓ View.readCov_cons_toLoadRect, ↓ View.readCov_fill]
  frame_out
  clear hz
  refine (canon_drop8 _ _ _ _ _ _ _ _ _ y ?_).trans ?_
  · exact View.cover_of_tiledL (s := S1x8x128x128) _ S1x1x128x128.size (by sl_kernel_rfl) y
  canon_tiles x h
  case piece0 => change stateAt m c t (k0_pay2 (F := Ideal)) 7 x = _; exact stateAt_congr m c t _ (by change 7 = _; omega) (by blk_ext)
  case piece1 => change stateAt m c t (k0_pay2 (F := Ideal)) 6 x = _; exact stateAt_congr m c t _ (by change 6 = _; omega) (by blk_ext)
  case piece2 => change stateAt m c t (k0_pay2 (F := Ideal)) 5 x = _; exact stateAt_congr m c t _ (by change 5 = _; omega) (by blk_ext)
  case piece3 => change stateAt m c t (k0_pay2 (F := Ideal)) 4 x = _; exact stateAt_congr m c t _ (by change 4 = _; omega) (by blk_ext)
  case piece4 => change stateAt m c t (k0_pay2 (F := Ideal)) 3 x = _; exact stateAt_congr m c t _ (by change 3 = _; omega) (by blk_ext)
  case piece5 => change stateAt m c t (k0_pay2 (F := Ideal)) 2 x = _; exact stateAt_congr m c t _ (by change 2 = _; omega) (by blk_ext)
  case piece6 => change stateAt m c t (k0_pay2 (F := Ideal)) 1 x = _; exact stateAt_congr m c t _ (by change 1 = _; omega) (by blk_ext)
  case piece7 => change stateAt m c t (k0_pay2 (F := Ideal)) 0 x = _; exact stateAt_congr m c t _ (by change 0 = _; omega) (by blk_ext)

/-- At a later chunk the new state is the one-head function of the state that the chunk before left. -/
theorem state_next (c : Dev nD) (t : Fin cfg0.N) (hz : ¬t.val % 32 = 0) (y : S1x8x128x128.Idx) :
    (outsAt0 m c t.val t.isLt).2 y = stateAt m c t (outsAt0 m c (t.val - 1) (Nat.lt_of_le_of_lt (Nat.sub_le _ _) t.isLt)).2 (y 1) (ix4 0 0 (y 2) (y 3)) := by
  rw [outsAt0_B m c t hz]
  frame_out
  clear hz
  canon_tiles x h
  case piece0 => change stateAt m c t (outsAt0 m c (t.val - 1) _).2 7 x = _; exact stateAt_congr m c t _ (by change 7 = _; omega) (by blk_ext)
  case piece1 => change stateAt m c t (outsAt0 m c (t.val - 1) _).2 6 x = _; exact stateAt_congr m c t _ (by change 6 = _; omega) (by blk_ext)
  case piece2 => change stateAt m c t (outsAt0 m c (t.val - 1) _).2 5 x = _; exact stateAt_congr m c t _ (by change 5 = _; omega) (by blk_ext)
  case piece3 => change stateAt m c t (outsAt0 m c (t.val - 1) _).2 4 x = _; exact stateAt_congr m c t _ (by change 4 = _; omega) (by blk_ext)
  case piece4 => change stateAt m c t (outsAt0 m c (t.val - 1) _).2 3 x = _; exact stateAt_congr m c t _ (by change 3 = _; omega) (by blk_ext)
  case piece5 => change stateAt m c t (outsAt0 m c (t.val - 1) _).2 2 x = _; exact stateAt_congr m c t _ (by change 2 = _; omega) (by blk_ext)
  case piece6 => change stateAt m c t (outsAt0 m c (t.val - 1) _).2 1 x = _; exact stateAt_congr m c t _ (by change 1 = _; omega) (by blk_ext)
  case piece7 => change stateAt m c t (outsAt0 m c (t.val - 1) _).2 0 x = _; exact stateAt_congr m c t _ (by change 0 = _; omega) (by blk_ext)

/-- At a sequence's first chunk the output is the one-head function of a zero state. -/
theorem out_first (c : Dev nD) (t : Fin cfg0.N) (hz : t.val % 32 = 0) (y : S1x64x1024.Idx) (n : Fin 8) (z : S1x64x128.Idx)
    (e1 : (y 1 : ℕ) = z 1) (e2 : (y 2 : ℕ) = 128 * n + z 2) :
    (outsAt0 m c t.val t.isLt).1 y = outAt m c t (k0_pay2 (F := Ideal)) n z := by
  rw [outsAt0_A m c t hz]
  frame_open
  simp (disch := decide) only [↓ View.readCov_skip, ↓ View.readCov_cons_toLoadRect, ↓ View.readCov_fill]
  frame_out
  clear hz
  canon_tiles x h
  all_goals have z0 : (z 0 : ℕ) < 1 := (z 0).isLt
  all_goals have z2 : (z 2 : ℕ) < 128 := (z 2).isLt
  case piece0 => change outAt m c t (k0_pay2 (F := Ideal)) 7 x = _; exact outAt_congr m c t _ (by change 7 = _; omega) (by blk_ext [e1] <;> omega)
  case piece1 => change outAt m c t (k0_pay2 (F := Ideal)) 6 x = _; exact outAt_congr m c t _ (by change 6 = _; omega) (by blk_ext [e1] <;> omega)
  case piece2 => change outAt m c t (k0_pay2 (F := Ideal)) 5 x = _; exact outAt_congr m c t _ (by change 5 = _; omega) (by blk_ext [e1] <;> omega)
  case piece3 => change outAt m c t (k0_pay2 (F := Ideal)) 4 x = _; exact outAt_congr m c t _ (by change 4 = _; omega) (by blk_ext [e1] <;> omega)
  case piece4 => change outAt m c t (k0_pay2 (F := Ideal)) 3 x = _; exact outAt_congr m c t _ (by change 3 = _; omega) (by blk_ext [e1] <;> omega)
  case piece5 => change outAt m c t (k0_pay2 (F := Ideal)) 2 x = _; exact outAt_congr m c t _ (by change 2 = _; omega) (by blk_ext [e1] <;> omega)
  case piece6 => change outAt m c t (k0_pay2 (F := Ideal)) 1 x = _; exact outAt_congr m c t _ (by change 1 = _; omega) (by blk_ext [e1] <;> omega)
  case piece7 => change outAt m c t (k0_pay2 (F := Ideal)) 0 x = _; exact outAt_congr m c t _ (by change 0 = _; omega) (by blk_ext [e1] <;> omega)

/-- At a later chunk the output is the one-head function of the state that the chunk before left. -/
theorem out_next (c : Dev nD) (t : Fin cfg0.N) (hz : ¬t.val % 32 = 0) (y : S1x64x1024.Idx) (n : Fin 8) (z : S1x64x128.Idx)
    (e1 : (y 1 : ℕ) = z 1) (e2 : (y 2 : ℕ) = 128 * n + z 2) :
    (outsAt0 m c t.val t.isLt).1 y = outAt m c t (outsAt0 m c (t.val - 1) (Nat.lt_of_le_of_lt (Nat.sub_le _ _) t.isLt)).2 n z := by
  rw [outsAt0_B m c t hz]
  frame_out
  clear hz
  canon_tiles x h
  all_goals have z0 : (z 0 : ℕ) < 1 := (z 0).isLt
  all_goals have z2 : (z 2 : ℕ) < 128 := (z 2).isLt
  case piece0 => change outAt m c t (outsAt0 m c (t.val - 1) _).2 7 x = _; exact outAt_congr m c t _ (by change 7 = _; omega) (by blk_ext [e1] <;> omega)
  case piece1 => change outAt m c t (outsAt0 m c (t.val - 1) _).2 6 x = _; exact outAt_congr m c t _ (by change 6 = _; omega) (by blk_ext [e1] <;> omega)
  case piece2 => change outAt m c t (outsAt0 m c (t.val - 1) _).2 5 x = _; exact outAt_congr m c t _ (by change 5 = _; omega) (by blk_ext [e1] <;> omega)
  case piece3 => change outAt m c t (outsAt0 m c (t.val - 1) _).2 4 x = _; exact outAt_congr m c t _ (by change 4 = _; omega) (by blk_ext [e1] <;> omega)
  case piece4 => change outAt m c t (outsAt0 m c (t.val - 1) _).2 3 x = _; exact outAt_congr m c t _ (by change 3 = _; omega) (by blk_ext [e1] <;> omega)
  case piece5 => change outAt m c t (outsAt0 m c (t.val - 1) _).2 2 x = _; exact outAt_congr m c t _ (by change 2 = _; omega) (by blk_ext [e1] <;> omega)
  case piece6 => change outAt m c t (outsAt0 m c (t.val - 1) _).2 1 x = _; exact outAt_congr m c t _ (by change 1 = _; omega) (by blk_ext [e1] <;> omega)
  case piece7 => change outAt m c t (outsAt0 m c (t.val - 1) _).2 0 x = _; exact outAt_congr m c t _ (by change 0 = _; omega) (by blk_ext [e1] <;> omega)

end Cert.Hgrn

end
-- ==== Proof.Seq.lean ====
/- The recurrence over the whole sequence, on real numbers: the state and the output row in closed form, and the chunk step that moves from one multiple of 64 to the next. -/
module
public import Mathlib.Analysis.SpecialFunctions.Exp
public import Mathlib.Tactic.Ring
public import Mathlib.Tactic.Linarith

@[expose] public section

noncomputable section

namespace Cert.Hgrn

open Real

/-- the log decays of the first `n` positions, added -/
def acc (G : ℕ → Fin 128 → ℝ) (n : ℕ) (f : Fin 128) : ℝ := ∑ s ∈ Finset.range n, G s f

/-- the state after `n` positions -/
def stateR (G K V : ℕ → Fin 128 → ℝ) (n : ℕ) (f d : Fin 128) : ℝ := ∑ s ∈ Finset.range n, K s f * exp (acc G n f - acc G (s + 1) f) * V s d

/-- the weight of position `s` in the output at position `n` -/
def pairR (G Q K : ℕ → Fin 128 → ℝ) (n s : ℕ) : ℝ := ∑ x, Q n x * K s x * exp (acc G (n + 1) x - acc G (s + 1) x)

/-- the output at position `n`, before the norm -/
def outR (G Q K V : ℕ → Fin 128 → ℝ) (n : ℕ) (d : Fin 128) : ℝ := ∑ s ∈ Finset.range (n + 1), pairR G Q K n s * V s d

/-- the sum over the first rows of a chunk is a difference of two sums over the sequence -/
theorem chunk_acc (G : ℕ → Fin 128 → ℝ) (a t : ℕ) (f : Fin 128) : ∑ s ∈ Finset.range t, G (a + s) f = acc G (a + t) f - acc G a f := by
  unfold acc
  rw [Finset.sum_range_add]
  ring

/-- one chunk carries the state from `a` positions to `a + 64` -/
theorem state_step (G K V : ℕ → Fin 128 → ℝ) (a : ℕ) (f d : Fin 128) :
    exp (acc G (a + 64) f - acc G a f) * stateR G K V a f d
      + ∑ x : Fin 64, K (a + x.val) f * exp ((acc G (a + 64) f - acc G a f) - (acc G (a + (x.val + 1)) f - acc G a f)) * V (a + x.val) d
      = stateR G K V (a + 64) f d := by
  unfold stateR
  rw [Finset.sum_range_add, Finset.mul_sum, Finset.sum_range (n := 64)]
  congr 1
  · refine Finset.sum_congr rfl fun s _ => ?_
    rw [show acc G (a + 64) f - acc G (s + 1) f = (acc G (a + 64) f - acc G a f) + (acc G a f - acc G (s + 1) f) by ring, exp_add]
    ring
  · refine Finset.sum_congr rfl fun s _ => ?_
    rw [sub_sub_sub_cancel_right, add_assoc]

/-- the output row of a chunk: the part read from the state, the part from the rows above in the chunk, and the row's own part -/
theorem out_step (G Q K V : ℕ → Fin 128 → ℝ) (a : ℕ) (t : Fin 64) (d : Fin 128) :
    ∑ x, Q (a + t.val) x * exp (acc G (a + (t.val + 1)) x - acc G a x) * stateR G K V a x d
      + ∑ s : Fin 64, (if s.val < t.val then ∑ x, Q (a + t.val) x * K (a + s.val) x
          * exp ((acc G (a + (t.val + 1)) x - acc G a x) - (acc G (a + (s.val + 1)) x - acc G a x)) else 0) * V (a + s.val) d
      + (∑ x, Q (a + t.val) x * K (a + t.val) x) * V (a + t.val) d
      = outR G Q K V (a + t.val) d := by
  unfold outR
  rw [Finset.sum_range_succ, Finset.sum_range_add]
  congr 1
  · congr 1
    · unfold stateR
      simp only [Finset.mul_sum]
      rw [Finset.sum_comm]
      refine Finset.sum_congr rfl fun s _ => ?_
      unfold pairR
      rw [Finset.sum_mul]
      refine Finset.sum_congr rfl fun x _ => ?_
      rw [show acc G (a + t.val + 1) x - acc G (s + 1) x = (acc G (a + (t.val + 1)) x - acc G a x) + (acc G a x - acc G (s + 1) x) by rw [add_assoc]; ring, exp_add]
      ring
    · rw [← Finset.sum_range (n := 64) (fun s => (if s < t.val then ∑ x, Q (a + t.val) x * K (a + s) x
          * exp ((acc G (a + (t.val + 1)) x - acc G a x) - (acc G (a + (s + 1)) x - acc G a x)) else 0) * V (a + s) d)]
      refine (Finset.sum_subset_zero_on_sdiff (s₁ := Finset.range t.val) (fun s hs => ?_) (fun s hs => ?_) (fun s hs => ?_)).symm
      · have := t.isLt
        rw [Finset.mem_range] at hs ⊢
        omega
      · rw [Finset.mem_sdiff, Finset.mem_range, Finset.mem_range] at hs
        rw [if_neg hs.2, zero_mul]
      · rw [Finset.mem_range] at hs
        rw [if_pos hs]
        simp only [pairR, sub_sub_sub_cancel_right, add_assoc]
  · unfold pairR
    simp

/-- the sums of log decays fall -/
theorem acc_anti (G : ℕ → Fin 128 → ℝ) (hG : ∀ n f, G n f ≤ 0) (s t : ℕ) (f : Fin 128) (h : s ≤ t) : acc G t f ≤ acc G s f := by
  obtain ⟨r, rfl⟩ : ∃ r, t = s + r := ⟨t - s, by omega⟩
  unfold acc
  rw [Finset.sum_range_add]
  have := Finset.sum_nonpos (s := Finset.range r) (f := fun i => G (s + i) f) fun i _ => hG _ _
  linarith

end Cert.Hgrn

end
-- ==== Proof.Real.lean ====
/- Arrays of real values: an array seen as real sequences, one for each batch, head and column; the norm with its weight and gate as a function of one row. -/
module
public import proofs.«01_k».proof.Proof.Seq
public import Idealize.ShloMosaic.Lib.ValueIdx
public import Idealize.ShloMosaic.Lib.Pointwise

@[expose] public section

noncomputable section

namespace Cert.Hgrn

open Idealize.ShloMosaic

/-- column `f` of head `h` among the 1024 columns -/
abbrev colIx (h : Fin 8) (f : Fin 128) : Fin 1024 := ⟨128 * h.val + f.val, by omega⟩

/-- an array `[32, 2048, 1024]` of extended reals -/
abbrev Arr : Type := (⟨3, ![32, 2048, 1024]⟩ : Shape).Idx → EReal

/-- every entry is a real number -/
def IsReal (X : Arr) : Prop := ∀ i, X i = ((X i).toReal : EReal)

/-- the real sequence of batch `b`, head `h`: position, then column; past the end it is zero -/
def seqR (X : Arr) (b : Fin 32) (h : Fin 8) (n : ℕ) (f : Fin 128) : ℝ := if hn : n < 2048 then (X (ix3 b ⟨n, hn⟩ (colIx h f))).toReal else 0

/-- an entry of a real array is the sequence's term -/
theorem seqR_at (X : Arr) (hX : IsReal X) (b : Fin 32) (h : Fin 8) (n : Fin 2048) (f : Fin 128) : X (ix3 b n (colIx h f)) = ((seqR X b h n.val f : ℝ) : EReal) := by
  unfold seqR
  rw [dif_pos n.isLt]
  exact hX _

/-- terms below zero everywhere where the array is -/
theorem seqR_nonpos (X : Arr) (hX : IsReal X) (h0 : ∀ i, X i ≤ 0) (b : Fin 32) (h : Fin 8) (n : ℕ) (f : Fin 128) : seqR X b h n f ≤ 0 := by
  unfold seqR
  split
  · rename_i hn
    have := h0 (ix3 b ⟨n, hn⟩ (colIx h f))
    rw [hX _] at this
    exact_mod_cast this
  · exact le_refl 0

/-- one entry of a row after the norm over its 128 columns, times a weight and a gate -/
def normed (o : Fin 128 → EReal) (w g : EReal) (f : Fin 128) : EReal :=
  o f * Ideal.rsqrt (Ideal.div (∑ x, o x * o x) (Ideal.ofBits FTy.f32 0x43000000#32) + Ideal.ofBits FTy.f32 0x3727C5AC#32) * w * g

/-- the output row of batch `b`, head `h`, position `n` before the norm, from the four arrays -/
def rowOf (q g k v : Arr) (b : Fin 32) (h : Fin 8) (n : ℕ) (d : Fin 128) : EReal := ((outR (seqR g b h) (seqR q b h) (seqR k b h) (seqR v b h) n d : ℝ) : EReal)

/-- the state of batch `b`, head `h` after `n` positions, from the three arrays -/
def stateOf (g k v : Arr) (b : Fin 32) (h : Fin 8) (n : ℕ) (f d : Fin 128) : EReal := ((stateR (seqR g b h) (seqR k b h) (seqR v b h) n f d : ℝ) : EReal)

end Cert.Hgrn

end
-- ==== Proof.KVal.lean ====
/- What the kernel's blocks hold on real arrays: by induction over the grid points the state block is the recurrence's closed form, and so every output block is. -/
module
public import proofs.«01_k».proof.Proof.HeadAt
public import proofs.«01_k».proof.Proof.Body
public import proofs.«01_k».proof.Proof.Real

@[expose] public section

set_option maxRecDepth 16384

noncomputable section

namespace Cert.Hgrn

open Cert.KernelIdeal Cert.KernelIdeal.Gen Idealize.ShloMosaic Idealize.ShloMosaic.TcCoe Idealize.SL.Sem
open Idealize.ShloMosaic.Pipeline (Dat)

/-- where each window's block lies: batch `t / 32`, chunk `t % 32` -/
theorem idx : ∀ t : Fin cfg0.N, win0_0.index t = ![t.val / 32, t.val % 32, 0] ∧ win0_1.index t = ![t.val / 32, t.val % 32, 0] ∧ win0_2.index t = ![t.val / 32, t.val % 32, 0]
    ∧ win0_3.index t = ![t.val / 32, t.val % 32, 0] ∧ win0_4.index t = ![t.val / 32, t.val % 32, 0] ∧ win0_5.index t = ![0, 0]
    ∧ win0_6.index t = ![t.val / 32, t.val % 32, 0] ∧ win0_7.index t = ![t.val / 32, 0, 0, 0] :=
  (by decide +kernel : ∀ t : Fin grid0.N, _)

theorem cols_at {e : EltTy} (X : Vec Ideal S1x64x1024 e) (h : Fin 8) (r : Fin 64) (f : Fin 128) : cols X h (ix3 0 r f) = X (ix3 0 r (colIx h f)) := by
  refine congrArg X (funext fun a => Fin.ext ?_)
  match a with
  | ⟨0, _⟩ => rfl
  | ⟨1, _⟩ => show 0 + 1 * r.val = r.val; omega
  | ⟨2, _⟩ => show 128 * h.val + 1 * f.val = 128 * h.val + f.val; omega

theorem slab_at (X : Vec Ideal S1x8x128x128 .f32) (h : Fin 8) (f d : Fin 128) : slab X h (ix4 0 0 f d) = X (ix4 0 h f d) := by
  refine congrArg X (funext fun a => Fin.ext ?_)
  match a with
  | ⟨0, _⟩ => rfl
  | ⟨1, _⟩ => show h.val + 1 * 0 = h.val; omega
  | ⟨2, _⟩ => show 0 + 1 * f.val = f.val; omega
  | ⟨3, _⟩ => show 0 + 1 * d.val = d.val; omega

/-- the batch of point `n` -/
abbrev batch (n : ℕ) (hn : n < cfg0.N) : Fin 32 := ⟨n / 32, by have : n < 1024 := lt_of_lt_of_eq hn N_0; omega⟩

/-- the first position of the chunk of point `n` -/
abbrev base (n : ℕ) : ℕ := 64 * (n % 32)

/-- row `r` of the chunk of point `n` -/
abbrev pos (n : ℕ) (r : Fin 64) : Fin 2048 := ⟨base n + r.val, by show 64 * (n % 32) + r.val < 2048; omega⟩

variable (m : (ℓ : Loc nD τ sig) → Buf (Elt Ideal) ℓ) (c : Dev nD)

theorem read0 (t : Fin cfg0.N) (r : Fin 64) (f : Fin 1024) : iblk m c 0 t (ix3 0 r f) = m ((c : Thread nD τ).loc main_arg0) (ix3 (batch t.val t.isLt) (pos t.val r) f) := by
  blk_point [iblk, V, idx t]
  show t.val % 32 * 64 + r.val = 64 * (t.val % 32) + r.val
  omega
theorem read1 (t : Fin cfg0.N) (r : Fin 64) (f : Fin 1024) : iblk m c 1 t (ix3 0 r f) = m ((c : Thread nD τ).loc main_arg1) (ix3 (batch t.val t.isLt) (pos t.val r) f) := by
  blk_point [iblk, V, idx t]
  show t.val % 32 * 64 + r.val = 64 * (t.val % 32) + r.val
  omega
theorem read2 (t : Fin cfg0.N) (r : Fin 64) (f : Fin 1024) : iblk m c 2 t (ix3 0 r f) = m ((c : Thread nD τ).loc main_arg2) (ix3 (batch t.val t.isLt) (pos t.val r) f) := by
  blk_point [iblk, V, idx t]
  show t.val % 32 * 64 + r.val = 64 * (t.val % 32) + r.val
  omega
theorem read3 (t : Fin cfg0.N) (r : Fin 64) (f : Fin 1024) : iblk m c 3 t (ix3 0 r f) = m ((c : Thread nD τ).loc main_arg3) (ix3 (batch t.val t.isLt) (pos t.val r) f) := by
  blk_point [iblk, V, idx t]
  show t.val % 32 * 64 + r.val = 64 * (t.val % 32) + r.val
  omega
theorem read4 (t : Fin cfg0.N) (r : Fin 64) (f : Fin 1024) : iblk m c 4 t (ix3 0 r f) = m ((c : Thread nD τ).loc main_arg4) (ix3 (batch t.val t.isLt) (pos t.val r) f) := by
  blk_point [iblk, V, idx t]
  show t.val % 32 * 64 + r.val = 64 * (t.val % 32) + r.val
  omega
theorem read5 (t : Fin cfg0.N) (f : Fin 128) : iblk m c 5 t (ix2 0 f) = m ((c : Thread nD τ).loc main_arg5) (ix2 0 f) := by
  blk_point [iblk, V, idx t]

/-- the arrays the call reads -/
abbrev argQ : Arr := m ((c : Thread nD τ).loc main_arg0)
abbrev argG : Arr := m ((c : Thread nD τ).loc main_arg1)
abbrev argK : Arr := m ((c : Thread nD τ).loc main_arg2)
abbrev argV : Arr := m ((c : Thread nD τ).loc main_arg3)

variable (hQ : IsReal (argQ m c)) (hG : IsReal (argG m c)) (hK : IsReal (argK m c)) (hV : IsReal (argV m c)) (hle : ∀ i, argG m c i ≤ 0)

section point
variable (t : Fin cfg0.N) (h : Fin 8)

/-- the sequences of the point's batch, from the first row of its chunk -/
abbrev from_ (X : Arr) (n : ℕ) (f : Fin 128) : ℝ := seqR X (batch t.val t.isLt) h (base t.val + n) f

include hQ in
theorem q_at (r : Fin 64) (f : Fin 128) : cols (iblk m c 0 t) h (ix3 0 r f) = ((from_ t h (argQ m c) r.val f : ℝ) : EReal) :=
  (cols_at _ h r f).trans ((read0 m c t r (colIx h f)).trans (seqR_at (argQ m c) hQ (batch t.val t.isLt) h (pos t.val r) f))
include hG in
theorem g_at (r : Fin 64) (f : Fin 128) : cols (iblk m c 1 t) h (ix3 0 r f) = ((from_ t h (argG m c) r.val f : ℝ) : EReal) :=
  (cols_at _ h r f).trans ((read1 m c t r (colIx h f)).trans (seqR_at (argG m c) hG (batch t.val t.isLt) h (pos t.val r) f))
include hK in
theorem k_at (r : Fin 64) (f : Fin 128) : cols (iblk m c 2 t) h (ix3 0 r f) = ((from_ t h (argK m c) r.val f : ℝ) : EReal) :=
  (cols_at _ h r f).trans ((read2 m c t r (colIx h f)).trans (seqR_at (argK m c) hK (batch t.val t.isLt) h (pos t.val r) f))
include hV in
theorem v_at (r : Fin 64) (f : Fin 128) : cols (iblk m c 3 t) h (ix3 0 r f) = ((from_ t h (argV m c) r.val f : ℝ) : EReal) :=
  (cols_at _ h r f).trans ((read3 m c t r (colIx h f)).trans (seqR_at (argV m c) hV (batch t.val t.isLt) h (pos t.val r) f))

/-- the running sum inside the chunk is a difference of sums over the sequence -/
theorem cum_from (X : Arr) (r : ℕ) (f : Fin 128) :
    cum (from_ t h X) r f = acc (seqR X (batch t.val t.isLt) h) (base t.val + (r + 1)) f - acc (seqR X (batch t.val t.isLt) h) (base t.val) f :=
  chunk_acc _ _ _ _

variable (S : Vec Ideal S1x8x128x128 .f32) (hS : ∀ f d, S (ix4 0 h f d) = stateOf (argG m c) (argK m c) (argV m c) (batch t.val t.isLt) h (base t.val) f d)
include hS

include hG hK hV in
/-- one point carries the state over its chunk -/
theorem stateAt_real (f d : Fin 128) : stateAt m c t S h (ix4 0 0 f d) = stateOf (argG m c) (argK m c) (argV m c) (batch t.val t.isLt) h (base t.val + 64) f d := by
  refine (headState_at _ _ _ _ (from_ t h (argG m c)) (from_ t h (argK m c)) (from_ t h (argV m c)) _ (g_at m c hG t h) (k_at m c hK t h) (v_at m c hV t h)
    (fun x d => (slab_at S h x d).trans (hS x d)) f d).trans ?_
  simp only [cum_from]
  exact congrArg _ (state_step _ _ _ (base t.val) f d)

include hQ hG hK hV hle in
/-- and writes its rows of the output -/
theorem outAt_real (r : Fin 64) (d : Fin 128) : outAt m c t S h (ix3 0 r d)
    = normed (rowOf (argQ m c) (argG m c) (argK m c) (argV m c) (batch t.val t.isLt) h (pos t.val r).val) (m ((c : Thread nD τ).loc main_arg5) (ix2 0 d))
      (m ((c : Thread nD τ).loc main_arg4) (ix3 (batch t.val t.isLt) (pos t.val r) (colIx h d))) d := by
  have ho : ∀ x, rawOut (rows32 (cols (iblk m c 0 t) h)) (rows32 (cols (iblk m c 2 t) h)) (rows16 (cols (iblk m c 3 t) h)) (runSum (cols (iblk m c 1 t) h))
      (shapeCast S128x128 (slab S h) shapeCasts_S1x1x128x128_S128x128) (ix2 r x)
      = rowOf (argQ m c) (argG m c) (argK m c) (argV m c) (batch t.val t.isLt) h (pos t.val r).val x := fun x => by
    refine (rawOut_at _ (cum (from_ t h (argG m c))) (runSum_at _ _ (g_at m c hG t h)) (fun s r f hs _ => ?_) _ _ (from_ t h (argQ m c)) (from_ t h (argK m c)) (fun r f => ?_) (fun r f => ?_)
      _ _ (from_ t h (argV m c))
      (fun y d => stateR (seqR (argG m c) (batch t.val t.isLt) h) (seqR (argK m c) (batch t.val t.isLt) h) (seqR (argV m c) (batch t.val t.isLt) h) (base t.val) y d)
      (fun r f => ?_) (fun y d => ?_) r x).trans ?_
    · rw [cum_from, cum_from]
      have := acc_anti (seqR (argG m c) (batch t.val t.isLt) h) (seqR_nonpos _ hG hle _ h) (base t.val + (s + 1)) (base t.val + (r + 1)) f (by omega)
      linarith
    · rw [← q_at m c hQ t h]; pointwise [rows32]
    · rw [← k_at m c hK t h]; pointwise [rows32]
    · rw [← v_at m c hV t h]; pointwise [rows16]
    · refine Eq.trans ?_ ((slab_at S h y d).trans (hS y d)); pointwise
    · simp only [cum_from]
      exact congrArg _ (out_step _ _ _ _ (base t.val) r x)
  have hn : outAt m c t S h (ix3 0 r d) = normed (fun x => rawOut (rows32 (cols (iblk m c 0 t) h)) (rows32 (cols (iblk m c 2 t) h)) (rows16 (cols (iblk m c 3 t) h))
      (runSum (cols (iblk m c 1 t) h)) (shapeCast S128x128 (slab S h) shapeCasts_S1x1x128x128_S128x128) (ix2 r x)) (iblk m c 5 t (ix2 0 d)) (cols (iblk m c 4 t) h (ix3 0 r d)) d := by
    unfold outAt headOut normed
    generalize rawOut (rows32 (cols (iblk m c 0 t) h)) (rows32 (cols (iblk m c 2 t) h)) (rows16 (cols (iblk m c 3 t) h))
      (runSum (cols (iblk m c 1 t) h)) (shapeCast S128x128 (slab S h) shapeCasts_S1x1x128x128_S128x128) = o
    generalize cols (iblk m c 4 t) h = gt
    generalize iblk m c 5 t = w
    pointwise [normGate]
  rw [hn, cols_at, read4, read5]
  exact congrArg (fun o => normed o _ _ d) (funext ho)

end point

/-- the zero fill is the state at a sequence's start -/
theorem zero_state (t : Fin cfg0.N) (h : Fin 8) (hz : t.val % 32 = 0) (f d : Fin 128) :
    (k0_pay2 (F := Ideal) : Vec Ideal S1x8x128x128 .f32) (ix4 0 h f d) = stateOf (argG m c) (argK m c) (argV m c) (batch t.val t.isLt) h (base t.val) f d := by
  rw [show base t.val = 0 by show 64 * (t.val % 32) = 0; omega]
  pointwise [k0_pay2]
  unfold stateOf stateR
  rw [Finset.sum_range_zero, EReal.coe_zero]

include hG hK hV in
/-- after every point the state block holds the recurrence's state at the end of the point's chunk -/
theorem state_inv (n : ℕ) (hn : n < cfg0.N) (h : Fin 8) (f d : Fin 128) :
    (outsAt0 m c n hn).2 (ix4 0 h f d) = stateOf (argG m c) (argK m c) (argV m c) (batch n hn) h (base n + 64) f d := by
  induction n generalizing h f d with
  | zero =>
    exact (state_first m c ⟨0, hn⟩ rfl (ix4 0 h f d)).trans (stateAt_real m c hG hK hV ⟨0, hn⟩ h _ (zero_state m c ⟨0, hn⟩ h rfl) f d)
  | succ n ih =>
    by_cases hz : (n + 1) % 32 = 0
    · exact (state_first m c ⟨n + 1, hn⟩ hz (ix4 0 h f d)).trans (stateAt_real m c hG hK hV ⟨n + 1, hn⟩ h _ (zero_state m c ⟨n + 1, hn⟩ h hz) f d)
    · refine (state_next m c ⟨n + 1, hn⟩ hz (ix4 0 h f d)).trans (stateAt_real m c hG hK hV ⟨n + 1, hn⟩ h _ (fun f d => ?_) f d)
      refine (ih (by omega) h f d).trans ?_
      rw [show batch n (by omega) = batch (n + 1) hn from Fin.ext (show n / 32 = (n + 1) / 32 by omega), show base n + 64 = base (n + 1) by show 64 * (n % 32) + 64 = 64 * ((n + 1) % 32); omega]

end Cert.Hgrn

end
-- ==== Proof.Ref.lean ====
/- The reference's two results read at an index: on real arrays with decays at most one, the state and the output rows are the recurrence's closed form. -/
module
public import proofs.«01_k».proof.Proof.Chunk
public import proofs.«01_k».proof.Proof.Real
public import proofs.«01_k».proof.Proof.Gen.ReferenceIdeal.Read

@[expose] public section

set_option maxRecDepth 32768

noncomputable section

namespace Cert.Hgrn

open Cert.ReferenceIdeal Cert.ReferenceIdeal.Gen Cert.ReferenceIdeal.Read Idealize.ShloMosaic Idealize.ShloMosaic.TcCoe Idealize.SL.Sem

/-- adding up a list into a starting value -/
theorem foldl_add_sum {α : Type} (l : List α) (g : α → EReal) (v : EReal) : l.foldl (fun r n => r + g n) v = v + (l.map g).sum := by
  induction l generalizing v with
  | nil => simp
  | cons a l ih => rw [List.foldl_cons, ih, List.map_cons, List.sum_cons, add_assoc]

/-- the shape of the running sum's window: 2048 positions on the third axis -/
abbrev winShape : Shape := ⟨4, ![1, 1, 2048, 1]⟩

/-- a place in the window is its third coordinate -/
def winEquiv : winShape.Idx ≃ Fin 2048 where
  toFun w := w 2
  invFun k := ix4 0 0 k 0
  left_inv w := by
    funext a
    fin_cases a
    · exact Subsingleton.elim (α := Fin 1) _ _
    · exact Subsingleton.elim (α := Fin 1) _ _
    · rfl
    · exact Subsingleton.elim (α := Fin 1) _ _
  right_inv k := rfl

/-- a running sum along the third axis of a real array -/
theorem cumsum_at (x : FVec Ideal S32x8x2048x128 .f32) (init : FVec Ideal S_ .f32) (hi : ∀ i, init i = 0) (hw hu) (G : ℕ → ℝ) (b : Fin 32) (h : Fin 8) (f : Fin 128)
    (hx : ∀ n : Fin 2048, x (ix4 b h n f) = ((G n.val : ℝ) : EReal)) (n : Fin 2048) :
    Host.reduceWindowAdd (s := S32x8x2048x128) (t := S32x8x2048x128) (u := S_) ![1, 1, 2048, 1] ![1, 1, 1, 1] ![0, 0, 2047, 0] ![0, 0, 0, 0] x init hw hu (ix4 b h n f)
      = ((∑ s ∈ Finset.range (n.val + 1), G s : ℝ) : EReal) := by
  unfold Host.reduceWindowAdd
  show Host.reduceWindow (s := S32x8x2048x128) (· + ·) _ _ _ _ x (fun _ : (⟨0, ![]⟩ : Shape).Idx => init (Shape.Idx.first hu)) hw hu _ = _
  unfold Host.reduceWindow
  refine (foldl_add_sum (α := Fin winShape.numel) _ _ _).trans ?_
  rw [hi, zero_add, ← Fin.sum_univ_def]
  refine (Finset.sum_congr rfl (g := fun w => (((fun k : Fin 2048 => if 2047 - k.val ≤ n.val then G (n.val - (2047 - k.val)) else 0) (winEquiv (winShape.rowMajor.symm w)) : ℝ) : EReal))
    fun w _ => ?_).trans ?_
  · dsimp only
    have h0 : (winShape.rowMajor.symm w 0).val = 0 := Nat.lt_one_iff.mp (show (winShape.rowMajor.symm w 0).val < 1 from (winShape.rowMajor.symm w 0).isLt)
    have h1 : (winShape.rowMajor.symm w 1).val = 0 := Nat.lt_one_iff.mp (show (winShape.rowMajor.symm w 1).val < 1 from (winShape.rowMajor.symm w 1).isLt)
    have h3 : (winShape.rowMajor.symm w 3).val = 0 := Nat.lt_one_iff.mp (show (winShape.rowMajor.symm w 3).val < 1 from (winShape.rowMajor.symm w 3).isLt)
    have h2 : (winShape.rowMajor.symm w 2).val < 2048 := (winShape.rowMajor.symm w 2).isLt
    show _ = ((if 2047 - (winShape.rowMajor.symm w 2).val ≤ n.val then G (n.val - (2047 - (winShape.rowMajor.symm w 2).val)) else 0 : ℝ) : EReal)
    have hn := n.isLt
    by_cases hle : 2047 - (winShape.rowMajor.symm w 2).val ≤ n.val
    · rw [if_pos hle, ← hx ⟨n.val - (2047 - (winShape.rowMajor.symm w 2).val), by omega⟩]
      refine (dif_pos (fun a : Fin 4 => ?_)).trans (congrArg x (funext fun a => Fin.ext ?_))
      · match a with
        | ⟨0, _⟩ => exact ⟨Nat.zero_le _, show b.val * 1 + (winShape.rowMajor.symm w 0).val - 0 < 32 by omega⟩
        | ⟨1, _⟩ => exact ⟨Nat.zero_le _, show h.val * 1 + (winShape.rowMajor.symm w 1).val - 0 < 8 by omega⟩
        | ⟨2, _⟩ => exact ⟨show 2047 ≤ n.val * 1 + (winShape.rowMajor.symm w 2).val by omega, show n.val * 1 + (winShape.rowMajor.symm w 2).val - 2047 < 2048 by omega⟩
        | ⟨3, _⟩ => exact ⟨Nat.zero_le _, show f.val * 1 + (winShape.rowMajor.symm w 3).val - 0 < 128 by omega⟩
      · match a with
        | ⟨0, _⟩ => exact show b.val * 1 + (winShape.rowMajor.symm w 0).val - 0 = b.val by omega
        | ⟨1, _⟩ => exact show h.val * 1 + (winShape.rowMajor.symm w 1).val - 0 = h.val by omega
        | ⟨2, _⟩ => exact show n.val * 1 + (winShape.rowMajor.symm w 2).val - 2047 = n.val - (2047 - (winShape.rowMajor.symm w 2).val) by omega
        | ⟨3, _⟩ => exact show f.val * 1 + (winShape.rowMajor.symm w 3).val - 0 = f.val by omega
    · rw [if_neg hle]
      refine (dif_neg fun hin => hle ?_).trans EReal.coe_zero.symm
      have := (hin 2).1
      change 2047 ≤ n.val * 1 + (winShape.rowMajor.symm w 2).val at this
      omega
  refine (Fintype.sum_equiv (winShape.rowMajor.symm.trans winEquiv) _ (fun k : Fin 2048 => ((if 2047 - k.val ≤ n.val then G (n.val - (2047 - k.val)) else 0 : ℝ) : EReal))
    fun _ => rfl).trans ?_
  rw [← coe_sum_real, Fin.sum_univ_eq_sum_range (fun k : ℕ => if 2047 - k ≤ n.val then G (n.val - (2047 - k)) else 0) 2048, ← win_all G 2048 n.val n.isLt, win,
    ← Finset.sum_range_reflect]
  refine congrArg _ (Finset.sum_congr rfl fun k hk => ?_)
  rw [Finset.mem_range] at hk
  rw [show 2047 - (2048 - 1 - k) = k by omega]

section results
variable (Q : Vec Ideal S32x2048x1024 .bf16) (G : Vec Ideal S32x2048x1024 .f32) (K V : Vec Ideal S32x2048x1024 .bf16)
  (hQ : IsReal Q) (hG : IsReal G) (hK : IsReal K) (hV : IsReal V) (hle : ∀ i, G i ≤ (0 : EReal)) (b : Fin 32) (h : Fin 8)

include hQ in
theorem v8_at (n : Fin 2048) (f : Fin 128) : val_main_v8 (F := Ideal) Q (ix4 b h n f) = ((seqR Q b h n.val f : ℝ) : EReal) := by
  rw [← seqR_at Q hQ]
  pointwise [val_main_v8, val_main_v2, val_main_v1]
  exact congrArg (fun j => Q (ix3 b n j)) (Fin.ext (by show h.val * 128 + f.val = 128 * h.val + f.val; omega))

include hK in
theorem v9_at (n : Fin 2048) (f : Fin 128) : val_main_v9 (F := Ideal) K (ix4 b h n f) = ((seqR K b h n.val f : ℝ) : EReal) := by
  rw [← seqR_at K hK]
  pointwise [val_main_v9, val_main_v4, val_main_v3]
  exact congrArg (fun j => K (ix3 b n j)) (Fin.ext (by show h.val * 128 + f.val = 128 * h.val + f.val; omega))

include hV in
theorem v10_at (n : Fin 2048) (f : Fin 128) : val_main_v10 (F := Ideal) V (ix4 b h n f) = ((seqR V b h n.val f : ℝ) : EReal) := by
  rw [← seqR_at V hV]
  pointwise [val_main_v10, val_main_v6, val_main_v5]
  exact congrArg (fun j => V (ix3 b n j)) (Fin.ext (by show h.val * 128 + f.val = 128 * h.val + f.val; omega))

include hG in
theorem v11_at (n : Fin 2048) (f : Fin 128) : val_main_v11 (F := Ideal) G (ix4 b h n f) = ((seqR G b h n.val f : ℝ) : EReal) := by
  rw [← seqR_at G hG]
  pointwise [val_main_v11, val_main_v7]
  exact congrArg (fun j => G (ix3 b n j)) (Fin.ext (by show h.val * 128 + f.val = 128 * h.val + f.val; omega))

include hG in
/-- the running sums of the log decays -/
theorem v16_at (n : Fin 2048) (f : Fin 128) : val_main_v16 (F := Ideal) G (ix4 b h n f) = ((acc (seqR G b h) (n.val + 1) f : ℝ) : EReal) :=
  cumsum_at _ _ (fun i => by pointwise [val_main_call0_call0_v0, val_main_call0_call0_cst]) _ _ (fun s => seqR G b h s f) b h f (fun n => v11_at G hG b h n f) n

include hG hK hV in
/-- the reference's state -/
theorem ref_state (f d : Fin 128) : val_main_v49 (F := Ideal) G K V (ix4 b h f d) = stateOf G K V b h 2048 f d := by
  pointwise [val_main_v49, val_main_v42, val_main_v41, val_main_v40, val_main_v39, val_main_v38, val_main_v37, val_main_v0, val_main_v48, val_main_v47, val_main_v46, val_main_v45,
    val_main_v44, val_main_v43, val_main_cst]
  simp only [v16_at G hG, v9_at K hK, v10_at V hV, mul_zero, zero_add]
  unfold stateOf stateR
  rw [Finset.sum_range, coe_sum_real]
  refine Finset.sum_congr rfl fun s _ => ?_
  rw [← EReal.coe_sub, Ideal.exp_coe, ← EReal.coe_mul, ← EReal.coe_mul]
  rfl

theorem ge_word (n s : Fin 2048) : IntOp.cmpi .sge (BitVec.ofNat 32 n.val) (BitVec.ofNat 32 s.val) = if s.val ≤ n.val then 1#1 else 0#1 := by
  have e : ∀ a : Fin 2048, (BitVec.ofNat 32 a.val).toInt = (a.val : ℤ) := fun a => by
    have ha : (BitVec.ofNat 32 a.val).toNat = a.val := by rw [BitVec.toNat_ofNat]; exact Nat.mod_eq_of_lt (by omega)
    rw [BitVec.toInt_eq_toNat_of_lt (by rw [ha]; omega), ha]
  show BitVec.ofBool (BitVec.sle _ _) = _
  rw [BitVec.sle_eq_decide, e, e]
  by_cases hs : s.val ≤ n.val
  · rw [if_pos hs, decide_eq_true (by exact_mod_cast hs)]; rfl
  · rw [if_neg hs, decide_eq_false (by exact_mod_cast hs)]; rfl

include hQ hG hK hle in
/-- the reference's weight of position `s` in the output at position `n` -/
theorem v35_at (n s : Fin 2048) :
    val_main_v35 (F := Ideal) Q G K (ix4 b h n s) = ((if s.val ≤ n.val then pairR (seqR G b h) (seqR Q b h) (seqR K b h) n.val s.val else 0 : ℝ) : EReal) := by
  pointwise [val_main_v35, val_main_v34, val_main_v33, val_main_v32, val_main_v31, val_main_v30, val_main_v29, val_main_v28, val_main_v27, val_main_v26, val_main_v25, val_main_v24,
    val_main_v23, val_main_v22, val_main_v21, val_main_v20, val_main_v15, val_main_v14, val_main_v13, val_main_v12, val_main_cst_0, val_main_cst_1, val_main_cst_2, val_main_call1_v0,
    val_main_call1_v1, val_main_call1_v2]
  simp only [v8_at Q hQ, v9_at K hK, v16_at G hG, select_word (ge_word n s)]
  by_cases hs : s.val ≤ n.val
  · rw [if_pos hs, pairR, coe_sum_real]
    refine Finset.sum_congr rfl fun x _ => ?_
    rw [if_pos hs, ← EReal.coe_sub, min_eq_left, Ideal.exp_coe, ← EReal.coe_mul, ← EReal.coe_mul]
    · congr 1
      ring
    · have := acc_anti (seqR G b h) (seqR_nonpos G hG hle b h) (s.val + 1) (n.val + 1) x (by omega)
      exact_mod_cast sub_nonpos.mpr this
  · rw [if_neg hs, EReal.coe_zero]
    refine Finset.sum_eq_zero fun x _ => ?_
    rw [if_neg hs]
    have hz : @id (FVec Ideal S_ .f32) (constant S_ FTy.f32 0#32) ix0 = 0 := by
      rw [id]
      pointwise
    exact (congrArg (fun z : EReal => (_ : EReal) * z * _) hz).trans (by rw [mul_zero, zero_mul])

include hQ hG hK hV hle in
/-- the reference's output rows before the norm -/
theorem ref_row (n : Fin 2048) (d : Fin 128) : val_main_v50 (F := Ideal) Q G K V (ix4 b h n d) = rowOf Q G K V b h n.val d := by
  have e19 : val_main_v19 (F := Ideal) Q G (ix4 b h n d) = 0 := by
    pointwise [val_main_v19, val_main_v18, val_main_v17, val_main_v0, val_main_cst]
    exact Finset.sum_eq_zero fun x _ => mul_zero _
  have e36 : val_main_v36 (F := Ideal) Q G K V (ix4 b h n d) = ∑ s : Fin 2048, val_main_v35 (F := Ideal) Q G K (ix4 b h n s) * val_main_v10 (F := Ideal) V (ix4 b h s d) := by
    pointwise [val_main_v36]
  pointwise [val_main_v50]
  rw [e19, e36, zero_add]
  simp only [v35_at Q G K hQ hG hK hle, v10_at V hV, ← EReal.coe_mul, ← coe_sum_real]
  unfold rowOf outR
  congr 1
  rw [← Finset.sum_range (n := 2048) (fun s => (if s ≤ n.val then pairR (seqR G b h) (seqR Q b h) (seqR K b h) n.val s else 0) * seqR V b h s d)]
  refine (Finset.sum_subset_zero_on_sdiff (fun s hs => ?_) (fun s hs => ?_) (fun s hs => ?_)).symm
  · have := n.isLt
    rw [Finset.mem_range] at hs ⊢
    omega
  · rw [Finset.mem_sdiff, Finset.mem_range, Finset.mem_range] at hs
    rw [if_neg (by omega), zero_mul]
  · rw [Finset.mem_range] at hs
    rw [if_pos (by omega)]

end results

end Cert.Hgrn

end
-- ==== Proof.Final.lean ====
/- The kernel's two result arrays are the reference's two results. -/
module
public import proofs.«01_k».proof.Proof.KVal
public import proofs.«01_k».proof.Proof.Ref
public import proofs.«01_k».proof.Proof.Gen.KernelIdeal.Value
public import Idealize.ShloMosaic.Lib.Pipeline.Covers

@[expose] public section

set_option maxRecDepth 32768

noncomputable section

namespace Cert.Hgrn

open Cert.ReferenceIdeal.Read Cert.KernelIdeal.Gen Idealize.ShloMosaic Idealize.ShloMosaic.TcCoe Idealize.SL.Sem
open Cert.KernelIdeal (nD τ sig main_arg0 main_arg1 main_arg2 main_arg3 main_arg4 main_arg5 cfg0 grid0)

/-- the reference's output is the norm, weight and gate of its output rows -/
theorem ref_out (Q G K V A : Arr) (W : (⟨2, ![1, 128]⟩ : Shape).Idx → EReal) (hQ : IsReal Q) (hG : IsReal G) (hK : IsReal K) (hV : IsReal V) (hle : ∀ i, G i ≤ 0)
    (b : Fin 32) (n : Fin 2048) (h : Fin 8) (f : Fin 128) :
    val_main_v70 (F := Ideal) Q G K V A W (ix3 b n (colIx h f)) = normed (rowOf Q G K V b h n.val) (W (ix2 0 f)) (A (ix3 b n (colIx h f))) f := by
  have e : rowOf Q G K V b h n.val = fun d => val_main_v50 (F := Ideal) Q G K V (ix4 b h n d) := funext fun d => (ref_row Q G K V hQ hG hK hV hle b h n d).symm
  rw [e]
  unfold normed
  generalize hv : val_main_v50 (F := Ideal) Q G K V = r
  pointwise [val_main_v70, val_main_v69, val_main_v68, val_main_v67, val_main_v66, val_main_v65, val_main_v64, val_main_v63, val_main_v62, val_main_v61,
    val_main_v60, val_main_v59, val_main_v58, val_main_v57, val_main_v56, val_main_v55, val_main_v54, val_main_v53, val_main_v52, val_main_v51,
    val_main_cst_3, val_main_cst_4, val_main_cst_5]
  have d1 : (128 * h.val + f.val) / 128 = h.val := by have := f.isLt; omega
  have d2 : (128 * h.val + f.val) % 128 = f.val := by have := f.isLt; omega
  have i1 : (⟨(128 * h.val + f.val) / 128, by omega⟩ : Fin 8) = h := Fin.ext d1
  have i2 : (⟨(128 * h.val + f.val) % 128, by omega⟩ : Fin 128) = f := Fin.ext d2
  have i3 : (⟨(128 * h.val + f.val) / 128 * 128 + (128 * h.val + f.val) % 128, by omega⟩ : Fin 1024) = colIx h f := Fin.ext (Nat.div_add_mod' (128 * h.val + f.val) 128)
  rw [← hv]
  simp only [i1, i2, i3]

variable (m : (ℓ : Loc nD τ sig) → Buf (Elt Ideal) ℓ) (c : Dev nD)
variable (hQ : IsReal (argQ m c)) (hG : IsReal (argG m c)) (hK : IsReal (argK m c)) (hV : IsReal (argV m c)) (hle : ∀ i, argG m c i ≤ 0)

include hG hK hV in
/-- the state array the kernel leaves -/
theorem final7 : (dats m 0 c).arrAt 7 cfg0.N = val_main_v49 (F := Ideal) (argG m c) (argK m c) (argV m c) := by
  refine (dats m 0 c).arrAt_eq_of_covers 7 _ ((cfg0.win 7).covers_of_index_surj rfl (by decide) fun β => ?_) fun t hf y => ?_
  · have h0 : (β 0 : ℕ) < 32 := (β 0).isLt
    have h1 : (β 1 : ℕ) < 1 := (β 1).isLt
    have h2 : (β 2 : ℕ) < 1 := (β 2).isLt
    have h3 : (β 3 : ℕ) < 1 := (β 3).isLt
    refine ⟨⟨32 * (β 0 : ℕ), by rw [N_0]; omega⟩, fun a => ?_⟩
    refine (congrFun (idx _).2.2.2.2.2.2.2 a).trans ?_
    match a with
    | ⟨0, _⟩ => show 32 * (β 0 : ℕ) / 32 = (β 0 : ℕ); omega
    | ⟨1, _⟩ => show 0 = (β 1 : ℕ); omega
    | ⟨2, _⟩ => show 0 = (β 2 : ℕ); omega
    | ⟨3, _⟩ => show 0 = (β 3 : ℕ); omega
  · have h31 := (flush0_7 t).mp hf
    blk_simp
    rw [after0_7]
    obtain ⟨h, f, d, rfl⟩ : ∃ (h : Fin 8) (f d : Fin 128), y = ix4 0 h f d := ⟨y 1, y 2, y 3, funext fun a => by
      match a with
      | ⟨0, _⟩ => exact Subsingleton.elim (α := Fin 1) _ _
      | ⟨1, _⟩ => rfl
      | ⟨2, _⟩ => rfl
      | ⟨3, _⟩ => rfl⟩
    have ei : (Cert.KernelIdeal.win0_7.blk t).view.emb (ix4 0 h f d) = ix4 (batch t.val t.isLt) h f d := funext fun a => Fin.ext (by
      match a with
      | ⟨0, _⟩ => blk_simp [idx t]; rfl
      | ⟨1, _⟩ => blk_simp [idx t]
      | ⟨2, _⟩ => blk_simp [idx t]
      | ⟨3, _⟩ => blk_simp [idx t])
    refine (state_inv m c hG hK hV t.val t.isLt h f d).trans (Eq.trans ?_ (congrArg _ ei).symm)
    rw [ref_state _ _ _ hG hK hV, show base t.val + 64 = 2048 by show 64 * (t.val % 32) + 64 = 2048; omega]

include hQ hG hK hV hle in
/-- the output array the kernel leaves -/
theorem final6 : (dats m 0 c).arrAt 6 cfg0.N
    = val_main_v70 (F := Ideal) (argQ m c) (argG m c) (argK m c) (argV m c) (m ((c : Thread nD τ).loc main_arg4)) (m ((c : Thread nD τ).loc main_arg5)) := by
  refine (dats m 0 c).arrAt_eq_of_covers 6 _ ((cfg0.win 6).covers_of_index_surj rfl (by decide) fun β => ?_) fun t hf y => ?_
  · have h0 : (β 0 : ℕ) < 32 := (β 0).isLt
    have h1 : (β 1 : ℕ) < 32 := (β 1).isLt
    have h2 : (β 2 : ℕ) < 1 := (β 2).isLt
    refine ⟨⟨32 * (β 0 : ℕ) + (β 1 : ℕ), by rw [N_0]; omega⟩, fun a => ?_⟩
    refine (congrFun (idx _).2.2.2.2.2.2.1 a).trans ?_
    match a with
    | ⟨0, _⟩ => show (32 * (β 0 : ℕ) + (β 1 : ℕ)) / 32 = (β 0 : ℕ); omega
    | ⟨1, _⟩ => show (32 * (β 0 : ℕ) + (β 1 : ℕ)) % 32 = (β 1 : ℕ); omega
    | ⟨2, _⟩ => show 0 = (β 2 : ℕ); omega
  · blk_simp
    rw [after0_6]
    obtain ⟨r, h, d, rfl⟩ : ∃ (r : Fin 64) (h : Fin 8) (d : Fin 128), y = ix3 0 r (colIx h d) :=
      ⟨y 1, ⟨(y 2 : ℕ) / 128, by have : (y 2 : ℕ) < 1024 := (y 2).isLt; omega⟩, ⟨(y 2 : ℕ) % 128, Nat.mod_lt _ (by decide)⟩, funext fun a => by
        match a with
        | ⟨0, _⟩ => exact Subsingleton.elim (α := Fin 1) _ _
        | ⟨1, _⟩ => rfl
        | ⟨2, _⟩ => exact Fin.ext (Nat.div_add_mod (y 2 : ℕ) 128).symm⟩
    have ei : (Cert.KernelIdeal.win0_6.blk t).view.emb (ix3 0 r (colIx h d)) = ix3 (batch t.val t.isLt) (pos t.val r) (colIx h d) := funext fun a => Fin.ext (by
      match a with
      | ⟨0, _⟩ => blk_simp [idx t]; rfl
      | ⟨1, _⟩ => blk_simp [idx t]; show t.val % 32 * 64 + r.val = 64 * (t.val % 32) + r.val; omega
      | ⟨2, _⟩ => blk_simp [idx t])
    refine Eq.trans ?_ (congrArg _ ei).symm
    rw [ref_out _ _ _ _ _ _ hQ hG hK hV hle]
    by_cases hz : t.val % 32 = 0
    · exact (out_first m c t hz _ h (ix3 0 r d) rfl rfl).trans (outAt_real m c hQ hG hK hV hle t h _ (zero_state m c t h hz) r d)
    · refine (out_next m c t hz _ h (ix3 0 r d) rfl rfl).trans (outAt_real m c hQ hG hK hV hle t h _ (fun f d => ?_) r d)
      refine (state_inv m c hG hK hV (t.val - 1) _ h f d).trans ?_
      rw [show batch (t.val - 1) (Nat.lt_of_le_of_lt (Nat.sub_le _ _) t.isLt) = batch t.val t.isLt from Fin.ext (show (t.val - 1) / 32 = t.val / 32 by omega),
        show base (t.val - 1) + 64 = base t.val by show 64 * ((t.val - 1) % 32) + 64 = 64 * (t.val % 32); omega]

end Cert.Hgrn

end
-- ==== Proof.Pre.lean ====
/- The precondition read back: the four operand arrays hold real numbers, and no log decay is above zero. -/
module
public import proofs.«01_k».proof.Proof.Real
public import proofs.«01_k».proof.Pre_finite_decay
public import Idealize.ShloMosaic.Lib.ReduceAll

@[expose] public section

noncomputable section

namespace Cert.Hgrn

open Cert.Pre_finite_decay Idealize.ShloMosaic

/-- the shape relations the predicate's operations take -/
instance preFacts : Cert.Pre_finite_decay.Facts where
  bitsLt_bf16_f32 := by decide
  bcast_S_S32x2048x1024 := by decide
  reducesTo_S32x2048x1024_S_d0_1_2 := by decide
  h_S_ := by decide

/-- a comparison's bit is set where the comparison holds -/
theorem of_bit : ∀ b : Bool, BitVec.ofBool b = 1#1 → b = true := by decide

/-- an extended real whose absolute value is below infinity is a real number -/
theorem real_of_abs_lt (x : EReal) (h : FloatOps.cmpf (F := Ideal) (φ := .f32) .olt (FloatOps.absf (F := Ideal) (φ := .f32) x) (FloatOps.ofBits (F := Ideal) .f32 0x7F800000#32) = 1#1) :
    x = ((x.toReal : ℝ) : EReal) := by
  have h' : max x (-x) < ⊤ := by
    have e : Ideal.cmp .olt (max x (-x)) (Ideal.ofBits .f32 0x7F800000#32) = 1#1 := h
    rw [show Ideal.ofBits .f32 0x7F800000#32 = (⊤ : EReal) by simp [Ideal.ofBits, Ideal.ieee]] at e
    exact of_decide_eq_true (of_bit _ e)
  refine (EReal.coe_toReal ?_ ?_).symm
  · rintro rfl
    simp at h'
  · rintro rfl
    simp at h'

/-- a number compared at most the zero word is at most zero -/
theorem nonpos_of_le (x : EReal) (h : FloatOps.cmpf (F := Ideal) (φ := .f32) .ole x (FloatOps.ofBits (F := Ideal) .f32 0x00000000#32) = 1#1) : x ≤ 0 := by
  have e : Ideal.cmp .ole x (Ideal.ofBits .f32 0x00000000#32) = 1#1 := h
  rw [show Ideal.ofBits .f32 0x00000000#32 = (0 : EReal) by simp [Ideal.ofBits, Ideal.ieee]] at e
  exact of_decide_eq_true (of_bit _ e)

/-- what the predicate says of the arrays -/
theorem pre_read (Q G K V A : Arr) (W : FVec Ideal S1x128 .f32) (h : fn (F := Ideal) Q G K V A W = fun _ => 1#1) :
    IsReal Q ∧ IsReal G ∧ IsReal K ∧ IsReal V ∧ ∀ i, G i ≤ 0 := by
  have h0 := congrFun h (fun a => a.elim0)
  unfold fn fn_part1 at h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  haveI : Subsingleton S_.Idx := ⟨fun a b => funext fun x => x.elim0⟩
  exact ⟨fun i => real_of_abs_lt _ (Host.reduce_andi_all _ _ _ _ _ e0 i), fun i => real_of_abs_lt _ (Host.reduce_andi_all _ _ _ _ _ e1 i),
    fun i => real_of_abs_lt _ (Host.reduce_andi_all _ _ _ _ _ e2 i), fun i => real_of_abs_lt _ (Host.reduce_andi_all _ _ _ _ _ e3 i),
    fun i => nonpos_of_le _ (Host.reduce_andi_all _ _ _ _ _ e4 i)⟩

end Cert.Hgrn

end
-- ==== Proof.Equal.lean ====
/- The chunked kernel and the plain recurrence leave equal arrays. -/
module
public import proofs.«01_k».proof.Defs
public import proofs.«01_k».proof.Proof.Gen.ReferenceIdeal.Run
public import proofs.«01_k».proof.Proof.Gen.ReferenceIdeal.Read
public import proofs.«01_k».proof.Proof.Final
public import proofs.«01_k».proof.Proof.Pre

@[expose] public section

noncomputable section

namespace Cert.Hgrn

open Idealize.ShloMosaic Idealize.SL.Sem Cert.ReferenceIdeal.Read

/-- On real operands with decays at most one, the kernel's output rows and final state are the plain recurrence's. -/
theorem algebraic : Cert.algebraic_KernelIdeal_ReferenceIdeal_pre_finite_decay := by
  intro m g m' g' hpre hagree
  refine ⟨fun c => val_main_v70 (F := Ideal) (argQ m c) (argG m c) (argK m c) (argV m c) (m (c.tc.loc Cert.KernelIdeal.main_arg4)) (m (c.tc.loc Cert.KernelIdeal.main_arg5)),
    fun c => val_main_v49 (F := Ideal) (argG m c) (argK m c) (argV m c),
    (θ_run _ _ _).mono (fun r h c => ?_) (Cert.KernelIdeal.Value.run_blocks m g), (θ_run _ _ _).mono (fun r h c => ?_) (Cert.ReferenceIdeal.Value.run m' g')⟩
  · obtain ⟨hQ, hG, hK, hV, hle⟩ := pre_read _ _ _ _ _ _ (hpre c)
    obtain ⟨h6, h7, ha⟩ := h c
    exact ⟨h6.trans (final6 m c hQ hG hK hV hle), h7.trans (final7 m c hG hK hV), ha⟩
  · obtain ⟨h70, h49, ha⟩ := h c
    obtain ⟨e0, e1, e2, e3, e4, e5⟩ := hagree c
    refine ⟨h70.trans ((val_main_v70_eq m' c).trans ?_), h49.trans ((val_main_v49_eq _ _ _).trans ?_), ha⟩
    · rw [e0, e1, e2, e3, e4, e5]
    · rw [e1, e2, e3]

end Cert.Hgrn

end
-- ==== Proof.Layer.lean ====
/- The formulas the layer's dense parts share: the modulation of a row, the logistic function, the norm of a row, and where a row of the flat array comes from. -/
module
public import Idealize.ShloMosaic.PureOps.Ideal
public import Idealize.ShloMosaic.Lib.Pointwise

@[expose] public section

noncomputable section

namespace Cert.Layer

open Idealize.ShloMosaic

/-- an entry scaled and shifted -/
def modulated (x s b : EReal) : EReal := x * (1 + s) + b

/-- the logistic function -/
def sigmoid (p : EReal) : EReal := Ideal.div 1 (1 + Ideal.exp (-p))

/-- one entry of the gated hidden layer: the gate half of the first product through the logistic function, times the other half -/
def gated (y : Fin 1024 → EReal) (w1 w2 : Fin 1024 → EReal) : EReal := (∑ e, y e * w1 e) * sigmoid (∑ e, y e * w1 e) * ∑ e, y e * w2 e

/-- one entry of the two gated projections added -/
def mixed (oa pa ob pb : Fin 1024 → EReal) (ga gb : EReal) : EReal := ga * (∑ e, oa e * pa e) + gb * ∑ e, ob e * pb e

/-- the mean of a row of 1024 entries -/
def mean (u : Fin 1024 → EReal) : EReal := Ideal.div (∑ j, u j) (Ideal.ofBits .f32 0x44800000#32)

/-- an entry of a row of 1024 after its mean is taken off, its spread is scaled to one, and the weight and shift are applied -/
def normed (u : Fin 1024 → EReal) (j : Fin 1024) (g b : EReal) : EReal :=
  (u j - mean u) * Ideal.rsqrt (Ideal.div (∑ k, (u k - mean u) * (u k - mean u)) (Ideal.ofBits .f32 0x44800000#32) + Ideal.ofBits .f32 0x3727C5AC#32) * g + b

/-- column `j` of the modulation vector number `n` of the nine -/
def modIx (n : Fin 9) (j : Fin 1024) : Fin 9216 := ⟨n.val * 1024 + j.val, by omega⟩

/-- the sequence a row of the flat array belongs to -/
def seqOf (i : Fin 65536) : Fin 32 := ⟨i.val / 2048, by omega⟩

/-- its position there -/
def posOf (i : Fin 65536) : Fin 2048 := ⟨i.val % 2048, by omega⟩

/-- the sequence a row of the sample group's flat array belongs to -/
def newSeq (i : Fin 512) : Fin 128 := ⟨i.val / 4, by omega⟩

/-- its position there -/
def newPos (i : Fin 512) : Fin 4 := ⟨i.val % 4, by omega⟩

/-- the square root of the square root of two, as the plain layer takes it -/
theorem sqrt_sqrt_two : Ideal.sqrt (Ideal.sqrt (Ideal.ofBits .f32 0x40000000#32)) = ((Real.sqrt (Real.sqrt 2) : ℝ) : EReal) := by
  have h2 : Ideal.ofBits .f32 0x40000000#32 = ((2 : ℝ) : EReal) := by
    simp [Ideal.ofBits, Ideal.ieee]
    rw [← EReal.coe_mul]
    norm_num
  rw [h2, Ideal.sqrt_coe, if_neg (by norm_num), Ideal.sqrt_coe, if_neg (not_lt.mpr (Real.sqrt_nonneg 2))]

end Cert.Layer

end
-- ==== Proof.FfnKer.lean ====
/- The feed-forward kernel's tile read at an index. -/
module
public import proofs.«01_k».proof.Proof.Gen.Kernel2Ideal.Value
public import proofs.«01_k».proof.Proof.Layer
public import Idealize.ShloMosaic.Lib.Pipeline.ValueKit
public import Idealize.ShloMosaic.Lib.Claim

@[expose] public section

set_option maxRecDepth 32768

noncomputable section

namespace Cert.Ffn

open Cert.Kernel2Ideal Cert.Kernel2Ideal.Gen Idealize.ShloMosaic Idealize.ShloMosaic.TcCoe Idealize.SL.Sem Cert.Layer

/-- the tile's hidden layer -/
theorem pay3_at (x : Vec Ideal S512x1024 .f32) (s b : Vec Ideal S1x1x1x1024 .f32) (w1 w2 : Vec Ideal S1024x2816 .bf16) (r : Fin 512) (k : Fin 2816) :
    k0_pay3 x s b w1 w2 (ix2 r k) = gated (fun e => modulated (x (ix2 r e)) (s (ix4 0 0 0 e)) (b (ix4 0 0 0 e))) (fun e => w1 (ix2 e k)) (fun e => w2 (ix2 e k)) := by
  unfold gated sigmoid modulated
  pointwise [k0_pay3, k0_pay2]
  simp only [zero_sub]

/-- the tile's result from its hidden layer and its scaled input -/
theorem pay1_at (h : FVec Ideal S512x2816 .bf16) (x : FVec Ideal S512x1024 .f32) (gt : FVec Ideal S1x1024 .f32) (c : Ideal .f32) (w : Vec Ideal S2816x1024 .bf16)
    (g b : Vec Ideal S1x1024 .f32) (r : Fin 512) (j : Fin 1024) :
    k0_pay1 h x gt c w g b (ix2 r j) = normed (fun j => x (ix2 r j) + c * gt (ix2 0 j) * ∑ k, h (ix2 r k) * w (ix2 k j)) j (g (ix2 0 j)) (b (ix2 0 j)) := by
  unfold normed mean
  pointwise [k0_pay1]

/-- the tile's scaled input -/
theorem pay4_at (x : Vec Ideal S512x1024 .f32) (r : Fin 512) (j : Fin 1024) : k0_pay4 x (ix2 r j) = ((Real.sqrt (Real.sqrt 2) : ℝ) : EReal) * x (ix2 r j) := by
  pointwise [k0_pay4, k0_pay2]
  rw [IdealRules.named_const.ideal_named_scalar _ _ _ _ rfl]

/-- the tile's gate vector -/
theorem pay5_at (x : Vec Ideal S1x1x1x1024 .f32) (j : Fin 1024) : k0_pay5 x (ix2 0 j) = x (ix4 0 0 0 j) := by
  pointwise [k0_pay5]

/-- where each window's block lies -/
theorem idx : ∀ t : Fin cfg0.N, win0_0.index t = ![t.val, 0] ∧ win0_1.index t = ![6, t.val / 4, 0, 0] ∧ win0_2.index t = ![7, t.val / 4, 0, 0]
    ∧ win0_3.index t = ![8, t.val / 4, 0, 0] ∧ win0_4.index t = ![0, 0] ∧ win0_5.index t = ![0, 1] ∧ win0_6.index t = ![0, 0] ∧ win0_7.index t = ![0, 0] ∧ win0_8.index t = ![0, 0]
    ∧ win0_9.index t = ![t.val, 0] :=
  (by decide +kernel : ∀ t : Fin grid0.N, _)

/-- there are 128 tiles -/
theorem points (t : Fin cfg0.N) : t.val < 128 := lt_of_lt_of_eq t.isLt N_0

/-- the flat row of row `r` of tile `t` -/
def rowIx (t : Fin cfg0.N) (r : Fin 512) : Fin 65536 := ⟨t.val * 512 + r.val, by have := points t; omega⟩

theorem seqOf_rowIx (t : Fin cfg0.N) (r : Fin 512) : seqOf (rowIx t r) = ⟨t.val / 4, by have := points t; omega⟩ :=
  Fin.ext (show (t.val * 512 + r.val) / 2048 = t.val / 4 by have := r.isLt; omega)

variable (m : (ℓ : Loc nD τ sig) → Buf (Elt Ideal) ℓ) (c : Dev nD)

/-- the flat input's rows -/
theorem entry0 (i : Fin 65536) (j : Fin 1024) : V m c main_v0 (ix2 i j) = m ((c : Thread nD τ).loc main_arg0) (ix3 ⟨i.val / 2048, by omega⟩ ⟨i.val % 2048, by omega⟩ j) := by
  entry_read
  pointwise []

/-- the modulation vectors, one after another -/
theorem entry3 (n : Fin 9) (b : Fin 32) (j : Fin 1024) : V m c main_v3 (ix4 n b 0 j) = m ((c : Thread nD τ).loc main_arg1) (ix2 b (modIx n j)) := by
  entry_read
  pointwise []
  rfl

/-- the projection's weights -/
theorem entry7 (e : Fin 1024) (k : Fin 5632) : V m c main_v7 (ix2 e k) = m ((c : Thread nD τ).loc main_arg2) (ix4 0 1 e k) := by
  entry_read
  pointwise []

/-- the output weights -/
theorem entry11 (e : Fin 2816) (k : Fin 1024) : V m c main_v11 (ix2 e k) = m ((c : Thread nD τ).loc main_arg3) (ix4 0 1 e k) := by
  entry_read
  pointwise []

/-- the norm's weight -/
theorem entry16 (k : Fin 1024) : V m c main_v16 (ix2 0 k) = m ((c : Thread nD τ).loc main_arg4) (ix3 0 2 k) := by
  entry_read
  pointwise []

/-- the norm's shift -/
theorem entry17 (k : Fin 1024) : V m c main_v17 (ix2 0 k) = m ((c : Thread nD τ).loc main_arg5) (ix3 0 2 k) := by
  entry_read
  pointwise []

/-! The windows' blocks at tile `t`. -/

theorem read0 (t : Fin cfg0.N) (r : Fin 512) (j : Fin 1024) : iblk m c 0 t (ix2 r j) = V m c main_v0 (ix2 (rowIx t r) j) := by
  blk_point [iblk, idx t, rowIx]

theorem read1 (t : Fin cfg0.N) (r : Fin 512) (j : Fin 1024) : iblk m c 1 t (ix4 0 0 0 j) = V m c main_v3 (ix4 6 (seqOf (rowIx t r)) 0 j) := by
  rw [seqOf_rowIx]
  blk_point [iblk, idx t]

theorem read2 (t : Fin cfg0.N) (r : Fin 512) (j : Fin 1024) : iblk m c 2 t (ix4 0 0 0 j) = V m c main_v3 (ix4 7 (seqOf (rowIx t r)) 0 j) := by
  rw [seqOf_rowIx]
  blk_point [iblk, idx t]

theorem read3 (t : Fin cfg0.N) (r : Fin 512) (j : Fin 1024) : iblk m c 3 t (ix4 0 0 0 j) = V m c main_v3 (ix4 8 (seqOf (rowIx t r)) 0 j) := by
  rw [seqOf_rowIx]
  blk_point [iblk, idx t]

theorem read4 (t : Fin cfg0.N) (e : Fin 1024) (k : Fin 2816) : iblk m c 4 t (ix2 e k) = V m c main_v7 (ix2 e ⟨k.val, by omega⟩) := by
  blk_point [iblk, idx t]

theorem read5 (t : Fin cfg0.N) (e : Fin 1024) (k : Fin 2816) : iblk m c 5 t (ix2 e k) = V m c main_v7 (ix2 e ⟨2816 + k.val, by omega⟩) := by
  blk_point [iblk, idx t]

theorem read6 (t : Fin cfg0.N) (e : Fin 2816) (k : Fin 1024) : iblk m c 6 t (ix2 e k) = V m c main_v11 (ix2 e k) := by
  blk_point [iblk, idx t]

theorem read7 (t : Fin cfg0.N) (k : Fin 1024) : iblk m c 7 t (ix2 0 k) = V m c main_v16 (ix2 0 k) := by
  blk_point [iblk, idx t]

theorem read8 (t : Fin cfg0.N) (k : Fin 1024) : iblk m c 8 t (ix2 0 k) = V m c main_v17 (ix2 0 k) := by
  blk_point [iblk, idx t]

/-- what the body stores, from the blocks it reads -/
theorem out_at (x0 : Vec Ideal S512x1024 .f32) (x1 x2 x3 : Vec Ideal S1x1x1x1024 .f32) (x4 x5 : Vec Ideal S1024x2816 .bf16) (x6 : Vec Ideal S2816x1024 .bf16) (x7 x8 : Vec Ideal S1x1024 .f32)
    (r : Fin 512) (j : Fin 1024) :
    out0_9 x0 x1 x2 x3 x4 x5 x6 x7 x8 (ix2 r j) = normed (fun j => ((Real.sqrt (Real.sqrt 2) : ℝ) : EReal) * x0 (ix2 r j) + Ideal.ofBits .f32 0x3F000000#32 * x3 (ix4 0 0 0 j)
      * ∑ k, gated (fun e => modulated (x0 (ix2 r e)) (x2 (ix4 0 0 0 e)) (x1 (ix4 0 0 0 e))) (fun e => x4 (ix2 e k)) (fun e => x5 (ix2 e k)) * x6 (ix2 k j)) j (x7 (ix2 0 j)) (x8 (ix2 0 j)) := by
  frame_out
  rw [pay1_at]
  simp only [pay3_at, pay4_at, pay5_at]
  rfl

end Cert.Ffn
end
-- ==== Proof.FfnRef.lean ====
/- The plain feed-forward layer read at an index. -/
module
public import proofs.«01_k».proof.Proof.Gen.Reference2Ideal.Read
public import proofs.«01_k».proof.Proof.Layer

@[expose] public section

set_option maxRecDepth 32768

noncomputable section

namespace Cert.Ffn

open Cert.Reference2Ideal Cert.Reference2Ideal.Gen Cert.Reference2Ideal.Read Idealize.ShloMosaic Idealize.ShloMosaic.TcCoe Idealize.SL.Sem Cert.Layer

variable (X : (⟨3, ![32, 2048, 1024]⟩ : Shape).Idx → EReal) (A : (⟨2, ![32, 9216]⟩ : Shape).Idx → EReal)
  (W : (⟨4, ![1, 2, 1024, 5632]⟩ : Shape).Idx → EReal) (U : (⟨4, ![1, 2, 2816, 1024]⟩ : Shape).Idx → EReal) (G B : (⟨3, ![1, 3, 1024]⟩ : Shape).Idx → EReal)

/-- the modulated input -/
theorem v10_at (b : Fin 32) (n : Fin 2048) (e : Fin 1024) : val_main_v10 (F := Ideal) X A (ix3 b n e) = modulated (X (ix3 b n e)) (A (ix2 b (modIx 7 e))) (A (ix2 b (modIx 6 e))) := by
  unfold modulated modIx
  pointwise [val_main_v10, val_main_v9, val_main_v8, val_main_v7, val_main_v6, val_main_v5, val_main_v4, val_main_v3, val_main_v2, val_main_v1, val_main_v0, val_main_cst]

/-- the gated hidden layer -/
theorem v23_at (b : Fin 32) (n : Fin 2048) (k : Fin 2816) : val_main_v23 (F := Ideal) X A W (ix3 b n k)
    = gated (fun e => val_main_v10 (F := Ideal) X A (ix3 b n e)) (fun e => W (ix4 0 1 e ⟨k.val, by omega⟩)) (fun e => W (ix4 0 1 e ⟨2816 + k.val, by omega⟩)) := by
  unfold gated sigmoid
  generalize hv : val_main_v10 (F := Ideal) X A = y
  pointwise [val_main_v23, val_main_v22, val_main_v21, val_main_v20, val_main_v19, val_main_v18, val_main_v17, val_main_v16, val_main_v15, val_main_v14, val_main_v13, val_main_v12, val_main_v11,
    val_main_cst_0, val_main_cst_1, hv]

/-- the row before the norm -/
theorem v37_at (b : Fin 32) (n : Fin 2048) (j : Fin 1024) : val_main_v37 (F := Ideal) X A W U (ix3 b n j)
    = ((Real.sqrt (Real.sqrt 2) : ℝ) : EReal) * X (ix3 b n j) + Ideal.ofBits .f32 0x3F000000#32 * A (ix2 b (modIx 8 j)) * ∑ k, val_main_v23 (F := Ideal) X A W (ix3 b n k) * U (ix4 0 1 k j) := by
  unfold modIx
  rw [← sqrt_sqrt_two]
  generalize hv : val_main_v23 (F := Ideal) X A W = y
  pointwise [val_main_v37, val_main_v36, val_main_v35, val_main_v34, val_main_v33, val_main_v32, val_main_v31, val_main_v30, val_main_v29, val_main_v28, val_main_v27, val_main_v26, val_main_v25, val_main_v24,
    val_main_v0, val_main_cst_2, val_main_cst_3, hv]

/-- the result is a normed row -/
theorem v66_at (i : Fin 65536) (j : Fin 1024) : val_main_v66 (F := Ideal) X A W U G B (ix2 i j)
    = normed (fun j => val_main_v37 (F := Ideal) X A W U (ix3 (seqOf i) (posOf i) j)) j (G (ix3 0 2 j)) (B (ix3 0 2 j)) := by
  unfold normed mean seqOf posOf
  generalize hv : val_main_v37 (F := Ideal) X A W U = y
  pointwise [val_main_v66, val_main_v65, val_main_v64, val_main_v63, val_main_v62, val_main_v61, val_main_v60, val_main_v59, val_main_v58, val_main_v57, val_main_v56, val_main_v55, val_main_v54, val_main_v53,
    val_main_v52, val_main_v51, val_main_v50, val_main_v49, val_main_v48, val_main_v47, val_main_v46, val_main_v45, val_main_v44, val_main_v43, val_main_v42, val_main_v41, val_main_v40, val_main_v39, val_main_v38,
    val_main_cst_4, val_main_cst_5, val_main_cst_6, val_main_cst_7, val_main_cst_8, hv]

/-- a row of the layer before its norm: the scaled input row plus half the gate times the feed-forward row -/
def ffnRow (b : Fin 32) (n : Fin 2048) (j : Fin 1024) : EReal :=
  ((Real.sqrt (Real.sqrt 2) : ℝ) : EReal) * X (ix3 b n j) + Ideal.ofBits .f32 0x3F000000#32 * A (ix2 b (modIx 8 j))
    * ∑ k, gated (fun e => modulated (X (ix3 b n e)) (A (ix2 b (modIx 7 e))) (A (ix2 b (modIx 6 e)))) (fun e => W (ix4 0 1 e ⟨k.val, by omega⟩))
      (fun e => W (ix4 0 1 e ⟨2816 + k.val, by omega⟩)) * U (ix4 0 1 k j)

/-- the plain layer's result is the norm of that row -/
theorem ref_at (i : Fin 65536) (j : Fin 1024) :
    val_main_v66 (F := Ideal) X A W U G B (ix2 i j) = normed (ffnRow X A W U (seqOf i) (posOf i)) j (G (ix3 0 2 j)) (B (ix3 0 2 j)) := by
  rw [v66_at]
  refine congrArg (fun u => normed u j (G (ix3 0 2 j)) (B (ix3 0 2 j))) (funext fun j => ?_)
  unfold ffnRow
  rw [v37_at]
  simp only [v23_at, v10_at]

end Cert.Ffn
end
-- ==== Proof.FfnFinal.lean ====
/- The feed-forward kernel leaves the plain layer's array. -/
module
public import proofs.«01_k».proof.Defs
public import proofs.«01_k».proof.Proof.FfnKer
public import proofs.«01_k».proof.Proof.FfnRef
public import proofs.«01_k».proof.Proof.Gen.Kernel2.Frame
public import proofs.«01_k».proof.Proof.Gen.Reference2Ideal.Run
public import Idealize.ShloMosaic.Lib.Pipeline.Covers
public import Idealize.ShloMosaic.Lib.Quiescent

@[expose] public section

set_option maxRecDepth 32768

noncomputable section

namespace Cert.Ffn

open Cert.Reference2Ideal.Read Cert.Kernel2Ideal.Gen Idealize.ShloMosaic Idealize.ShloMosaic.TcCoe Idealize.SL.Sem Cert.Layer
open Cert.Kernel2Ideal (nD τ sig main_arg0 main_arg1 main_arg2 main_arg3 main_arg4 main_arg5 cfg0 grid0)

variable (m : (ℓ : Loc nD τ sig) → Buf (Elt Ideal) ℓ) (c : Dev nD)

/-- a tile whose blocks are the layer's arrays holds the plain layer's rows -/
theorem tile_eq (X : (⟨3, ![32, 2048, 1024]⟩ : Shape).Idx → EReal) (A : (⟨2, ![32, 9216]⟩ : Shape).Idx → EReal) (W : (⟨4, ![1, 2, 1024, 5632]⟩ : Shape).Idx → EReal)
    (U : (⟨4, ![1, 2, 2816, 1024]⟩ : Shape).Idx → EReal) (G B : (⟨3, ![1, 3, 1024]⟩ : Shape).Idx → EReal) (i : Fin 65536) (r : Fin 512)
    (x0 : Vec Ideal Cert.Kernel2Ideal.S512x1024 .f32) (x1 x2 x3 : Vec Ideal Cert.Kernel2Ideal.S1x1x1x1024 .f32) (x4 x5 : Vec Ideal Cert.Kernel2Ideal.S1024x2816 .bf16)
    (x6 : Vec Ideal Cert.Kernel2Ideal.S2816x1024 .bf16) (x7 x8 : Vec Ideal Cert.Kernel2Ideal.S1x1024 .f32)
    (h0 : ∀ j, x0 (ix2 r j) = X (ix3 (seqOf i) (posOf i) j)) (h1 : ∀ j, x1 (ix4 0 0 0 j) = A (ix2 (seqOf i) (modIx 6 j))) (h2 : ∀ j, x2 (ix4 0 0 0 j) = A (ix2 (seqOf i) (modIx 7 j)))
    (h3 : ∀ j, x3 (ix4 0 0 0 j) = A (ix2 (seqOf i) (modIx 8 j))) (h4 : ∀ e (k : Fin 2816), x4 (ix2 e k) = W (ix4 0 1 e ⟨k.val, by omega⟩))
    (h5 : ∀ e (k : Fin 2816), x5 (ix2 e k) = W (ix4 0 1 e ⟨2816 + k.val, by omega⟩)) (h6 : ∀ e k, x6 (ix2 e k) = U (ix4 0 1 e k))
    (h7 : ∀ j, x7 (ix2 0 j) = G (ix3 0 2 j)) (h8 : ∀ j, x8 (ix2 0 j) = B (ix3 0 2 j)) (j : Fin 1024) :
    out0_9 x0 x1 x2 x3 x4 x5 x6 x7 x8 (ix2 r j) = val_main_v66 (F := Ideal) X A W U G B (ix2 i j) := by
  rw [out_at, ref_at]
  unfold ffnRow
  simp only [h0, h1, h2, h3, h4, h5, h6, h7, h8]

/-- the array the kernel leaves -/
theorem final : (dats m 0 c).arrAt 9 cfg0.N = val_main_v66 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) := by
  refine (dats m 0 c).arrAt_eq_of_covers 9 _ ((cfg0.win 9).covers_of_index_surj rfl (by decide) fun β => ?_) fun t hf y => ?_
  · have h0 : (β 0 : ℕ) < 128 := (β 0).isLt
    have h1 : (β 1 : ℕ) < 1 := (β 1).isLt
    refine ⟨⟨(β 0 : ℕ), by rw [N_0]; omega⟩, fun a => ?_⟩
    refine (congrFun (idx _).2.2.2.2.2.2.2.2.2 a).trans ?_
    match a with
    | ⟨0, _⟩ => rfl
    | ⟨1, _⟩ => show 0 = (β 1 : ℕ); omega
  · blk_simp
    rw [after0_9]
    obtain ⟨r, j, rfl⟩ : ∃ (r : Fin 512) (j : Fin 1024), y = ix2 r j := ⟨y 0, y 1, funext fun a => by
      match a with
      | ⟨0, _⟩ => rfl
      | ⟨1, _⟩ => rfl⟩
    have ei : (Cert.Kernel2Ideal.win0_9.blk t).view.emb (ix2 r j) = ix2 (rowIx t r) j := funext fun a => Fin.ext (by
      match a with
      | ⟨0, _⟩ => blk_simp [idx t]; rfl
      | ⟨1, _⟩ => blk_simp [idx t])
    refine Eq.trans ?_ (congrArg _ ei).symm
    exact tile_eq _ _ _ _ _ _ (rowIx t r) r _ _ _ _ _ _ _ _ _ (fun j => (read0 m c t r j).trans (entry0 m c _ j)) (fun j => (read1 m c t r j).trans (entry3 m c 6 _ j))
      (fun j => (read2 m c t r j).trans (entry3 m c 7 _ j)) (fun j => (read3 m c t r j).trans (entry3 m c 8 _ j)) (fun e k => (read4 m c t e k).trans (entry7 m c e _))
      (fun e k => (read5 m c t e k).trans (entry7 m c e _)) (fun e k => (read6 m c t e k).trans (entry11 m c e k)) (fun j => (read7 m c t j).trans (entry16 m c j))
      (fun j => (read8 m c t j).trans (entry17 m c j)) j

end Cert.Ffn

namespace Cert.Ffn

open Idealize.ShloMosaic Idealize.SL.Sem Cert.Reference2Ideal.Read

/-- The feed-forward kernel keeps its arguments and leaves every counter at zero, on the machine's own numbers. -/
theorem frame_p : Cert.quiescent_Kernel2 := fun m g _ => Cert.Kernel2.Gen.frame m g

/-- The feed-forward kernel keeps its arguments and leaves every counter at zero, over the reals. -/
theorem frame_pi : Cert.quiescent_Kernel2Ideal := fun m g _ => Cert.Kernel2Ideal.Gen.frame m g

/-- The plain feed-forward layer keeps its arguments and leaves every counter at zero, over the reals. -/
theorem frame_ri : Cert.quiescent_Reference2Ideal := fun m g _ =>
  (θ_run _ _ _).mono (fun r h => ⟨fun c => (h c).2, sem_eq_zero_of_no_sems rfl r.2⟩) (Cert.Reference2Ideal.Value.run m g)

/-- The constant the kernel scales its input by stands for the fourth root of two. -/
theorem preserves : Cert.preserves_Kernel2_Kernel2Ideal := IdealRules.named_const.statement _ _ _ _ _ rfl

/-- The kernel's rows are the plain feed-forward layer's. -/
theorem algebraic : Cert.algebraic_Kernel2Ideal_Reference2Ideal := by
  intro m g m' g' hpre hagree
  refine ⟨fun c => val_main_v66 (F := Ideal) (m (c.tc.loc Cert.Kernel2Ideal.main_arg0)) (m (c.tc.loc Cert.Kernel2Ideal.main_arg1)) (m (c.tc.loc Cert.Kernel2Ideal.main_arg2))
      (m (c.tc.loc Cert.Kernel2Ideal.main_arg3)) (m (c.tc.loc Cert.Kernel2Ideal.main_arg4)) (m (c.tc.loc Cert.Kernel2Ideal.main_arg5)),
    (θ_run _ _ _).mono (fun r h c => ?_) (Cert.Kernel2Ideal.Value.run_blocks m g), (θ_run _ _ _).mono (fun r h c => ?_) (Cert.Reference2Ideal.Value.run m' g')⟩
  · obtain ⟨h9, ha⟩ := h c
    exact ⟨h9.trans (final m c), ha⟩
  · obtain ⟨h66, ha⟩ := h c
    obtain ⟨e0, e1, e2, e3, e4, e5⟩ := hagree c
    refine ⟨h66.trans ((val_main_v66_eq m' c).trans ?_), ha⟩
    rw [e0, e1, e2, e3, e4, e5]

end Cert.Ffn

end
-- ==== Proof.InprojForms.lean ====
/- The formulas of the input projection: the projected columns, the decays' floor, the two scales. -/
module
public import proofs.«01_k».proof.Proof.Layer
public import proofs.«01_k».proof.Proof.Ref

@[expose] public section

set_option maxRecDepth 32768

noncomputable section

namespace Cert.Inproj

open Idealize.ShloMosaic Cert.Layer

/-- one entry of the projection of a modulated row -/
def proj (x s b w : Fin 1024 → EReal) : EReal := ∑ e, modulated (x e) (s e) (b e) * w e

/-- a product's value times its logistic function -/
def swish (p : EReal) : EReal := p * sigmoid p

/-- the larger of the two rows -/
def top (l : (⟨2, ![2, 1024]⟩ : Shape).Idx → EReal) (j : Fin 1024) : EReal :=
  Finset.fold max (Ideal.ofBits .f32 0xFF800000#32) (fun k => l (ix2 k j)) (Finset.univ : Finset (Fin 2))

/-- a row's exponential after the larger is taken off -/
def weight (l : (⟨2, ![2, 1024]⟩ : Shape).Idx → EReal) (k : Fin 2) (j : Fin 1024) : EReal := Ideal.exp (l (ix2 k j) - top l j)

/-- the decays' floor: the first row's share of the two -/
def floor (l : (⟨2, ![2, 1024]⟩ : Shape).Idx → EReal) (j : Fin 1024) : EReal := Ideal.div (weight l 0 j) (∑ k, weight l k j)

/-- the decay between its floor and one -/
def decay (f p : EReal) : EReal := f + (1 - f) * sigmoid p

/-- the word of minus infinity is the least value -/
theorem neg_inf : Ideal.ofBits .f32 0xFF800000#32 = (⊥ : EReal) := by
  simp [Ideal.ofBits, Ideal.ieee]

/-- one over the square root of 128, as the plain projection takes it -/
theorem key_scale : Ideal.div 1 (Ideal.sqrt (Ideal.ofBits .f32 0x43000000#32)) = (((Real.sqrt 128)⁻¹ : ℝ) : EReal) := by
  have h : Ideal.ofBits .f32 0x43000000#32 = ((128 : ℝ) : EReal) := by
    simp [Ideal.ofBits, Ideal.ieee]
    rw [← EReal.coe_mul]
    norm_num
  rw [h, Ideal.sqrt_coe, if_neg (by norm_num), Ideal.div_coe (Real.sqrt_pos.mpr (by norm_num)).ne', one_mul, one_div]

/-- an eighth over the logarithm of two, as the plain projection takes it -/
theorem attn_scale : Ideal.div (Ideal.ofBits .f32 0x3E000000#32) (Ideal.log (Ideal.ofBits .f32 0x40000000#32)) = ((1 / 8 * (Real.log 2)⁻¹ : ℝ) : EReal) := by
  have h2 : Ideal.ofBits .f32 0x40000000#32 = ((2 : ℝ) : EReal) := by
    simp [Ideal.ofBits, Ideal.ieee]
    rw [← EReal.coe_mul]
    norm_num
  have h8 : Ideal.ofBits .f32 0x3E000000#32 = ((1 / 8 : ℝ) : EReal) := by
    simp [Ideal.ofBits, Ideal.ieee]
    rw [← EReal.coe_mul]
    norm_num
  rw [h2, h8, Ideal.log_coe, if_neg (by norm_num), Ideal.div_coe (Real.log_pos (by norm_num)).ne', one_div, ← EReal.coe_mul, one_div]

/-- the shape of the running sum's window: two rows -/
abbrev pairShape : Shape := ⟨2, ![2, 1]⟩

/-- a place in the window is its row -/
def pairEquiv : pairShape.Idx ≃ Fin 2 where
  toFun w := w 0
  invFun k := ix2 k 0
  left_inv w := by
    funext a
    fin_cases a
    · rfl
    · exact Subsingleton.elim (α := Fin 1) _ _
  right_inv k := rfl

/-- the running sum down two rows leaves the first row as it is -/
theorem running_first (x : FVec Ideal ⟨2, ![2, 1024]⟩ .f32) (init : FVec Ideal ⟨0, ![]⟩ .f32) (hi : ∀ i, init i = 0) (hw hu) (j : Fin 1024) :
    Host.reduceWindowAdd (s := ⟨2, ![2, 1024]⟩) (t := ⟨2, ![2, 1024]⟩) (u := ⟨0, ![]⟩) ![2, 1] ![1, 1] ![1, 0] ![0, 0] x init hw hu (ix2 0 j) = x (ix2 0 j) := by
  unfold Host.reduceWindowAdd
  show Host.reduceWindow (s := ⟨2, ![2, 1024]⟩) (· + ·) _ _ _ _ x (fun _ : (⟨0, ![]⟩ : Shape).Idx => init (Shape.Idx.first hu)) hw hu _ = _
  unfold Host.reduceWindow
  refine (Cert.Hgrn.foldl_add_sum (α := Fin pairShape.numel) _ _ _).trans ?_
  rw [hi, zero_add, ← Fin.sum_univ_def]
  refine (Finset.sum_congr rfl (g := fun w => (fun k : Fin 2 => if 1 ≤ k.val then x (ix2 0 j) else 0) (pairEquiv (pairShape.rowMajor.symm w))) fun w _ => ?_).trans
    ((Fintype.sum_equiv (pairShape.rowMajor.symm.trans pairEquiv) _ (fun k : Fin 2 => if 1 ≤ k.val then x (ix2 0 j) else 0) fun _ => rfl).trans ?_)
  · dsimp only
    have h0 : (pairShape.rowMajor.symm w 0).val < 2 := (pairShape.rowMajor.symm w 0).isLt
    have h1 : (pairShape.rowMajor.symm w 1).val = 0 := Nat.lt_one_iff.mp (show (pairShape.rowMajor.symm w 1).val < 1 from (pairShape.rowMajor.symm w 1).isLt)
    show _ = if 1 ≤ (pairShape.rowMajor.symm w 0).val then x (ix2 0 j) else 0
    by_cases hle : 1 ≤ (pairShape.rowMajor.symm w 0).val
    · rw [if_pos hle]
      refine (dif_pos (fun a : Fin 2 => ?_)).trans (congrArg x (funext fun a => Fin.ext ?_))
      · match a with
        | ⟨0, _⟩ => exact ⟨show 1 ≤ 0 * 1 + (pairShape.rowMajor.symm w 0).val by omega, show 0 * 1 + (pairShape.rowMajor.symm w 0).val - 1 < 2 by omega⟩
        | ⟨1, _⟩ => exact ⟨Nat.zero_le _, show j.val * 1 + (pairShape.rowMajor.symm w 1).val - 0 < 1024 by omega⟩
      · match a with
        | ⟨0, _⟩ => exact show 0 * 1 + (pairShape.rowMajor.symm w 0).val - 1 = 0 by omega
        | ⟨1, _⟩ => exact show j.val * 1 + (pairShape.rowMajor.symm w 1).val - 0 = j.val by omega
    · rw [if_neg hle]
      refine dif_neg fun hin => hle ?_
      have := (hin 0).1
      change 1 ≤ 0 * 1 + (pairShape.rowMajor.symm w 0).val at this
      omega
  · rw [Fin.sum_univ_two]
    simp

end Cert.Inproj

end
-- ==== Proof.InprojKer.lean ====
/- The projecting kernel's tile read at an index. -/
module
public import proofs.«01_k».proof.Proof.Gen.Kernel3Ideal.Value
public import proofs.«01_k».proof.Proof.InprojForms
public import Idealize.ShloMosaic.Lib.Pipeline.ValueKit
public import Idealize.ShloMosaic.Lib.Claim

@[expose] public section

set_option maxRecDepth 32768

noncomputable section

namespace Cert.Inproj

open Cert.Kernel3Ideal Cert.Kernel3Ideal.Gen Idealize.ShloMosaic Idealize.ShloMosaic.TcCoe Idealize.SL.Sem Cert.Layer

/-! The stored values, from the modulated tile `y` and the weights' part `w`. -/

/-- the modulated tile -/
theorem pay3_at (x : Vec Ideal S256x1024 .f32) (s b : Vec Ideal S1x1x1x1024 .f32) (r : Fin 256) (j : Fin 1024) :
    k0_pay3 x s b (ix2 r j) = modulated (x (ix2 r j)) (s (ix4 0 0 0 j)) (b (ix4 0 0 0 j)) := by
  unfold modulated
  pointwise [k0_pay3]

/-- the two rows' exponentials -/
theorem pay5_at (l : Vec Ideal S2x1024 .f32) (k : Fin 2) (j : Fin 1024) : k0_pay5 l (ix2 k j) = weight l k j := by
  unfold weight top
  pointwise [k0_pay5]

/-- the first of them -/
theorem pay6_at (l : Vec Ideal S2x1024 .f32) (j : Fin 1024) : k0_pay6 l (ix2 0 j) = weight l 0 j := by
  rw [← pay5_at]
  generalize hv : k0_pay5 l = y
  pointwise [k0_pay6, hv]

section parts
variable (y : FVec Ideal S256x1024 .bf16) (w : Vec Ideal S1024x1024 .bf16) (r : Fin 256) (j : Fin 1024)

/-- the decay's tile -/
theorem pay7_at (l : Vec Ideal S2x1024 .f32) : k0_pay7 y (k0_pay5 l) (k0_pay6 l) w (ix2 r j) = decay (floor l j) (∑ e, y (ix2 r e) * w (ix2 e j)) := by
  unfold decay floor sigmoid
  rw [← pay6_at]
  simp only [← pay5_at]
  generalize hs : k0_pay5 l = s
  generalize hf : k0_pay6 l = f
  pointwise [k0_pay7, hs, hf]
  simp only [Fin.sum_univ_one, zero_sub]

theorem pay8_at (s : FVec Ideal S2x1024 .f32) (f : FVec Ideal S1x1024 .f32) : k0_pay8 y s f w (ix2 r j) = Ideal.log (k0_pay7 y s f w (ix2 r j)) := by
  generalize hv : k0_pay7 y s f w = d
  pointwise [k0_pay8, hv]

theorem pay9_at (s : FVec Ideal S2x1024 .f32) (f : FVec Ideal S1x1024 .f32) : k0_pay9 y s f w (ix2 r j) = 1 - k0_pay7 y s f w (ix2 r j) := by
  generalize hv : k0_pay7 y s f w = d
  pointwise [k0_pay9, hv]

theorem pay10_at : k0_pay10 y w (ix2 r j) = ∑ e, y (ix2 r e) * w (ix2 e j) := by
  pointwise [k0_pay10]

theorem pay12_at : k0_pay12 (k0_pay11 y w) (ix2 r j) = swish (∑ e, y (ix2 r e) * w (ix2 e j)) := by
  unfold swish sigmoid
  pointwise [k0_pay12, k0_pay11]
  simp only [zero_sub]

theorem pay13_at : k0_pay13 y w (ix2 r j) = (∑ e, y (ix2 r e) * w (ix2 e j)) * ((1 / 8 * (Real.log 2)⁻¹ : ℝ) : EReal) := by
  pointwise [k0_pay13]
  rw [IdealRules.named_const.ideal_named_scalar _ _ _ _ rfl]

theorem pay14_at : k0_pay14 y w (ix2 r j) = ∑ e, y (ix2 r e) * w (ix2 e j) := by
  pointwise [k0_pay14]

theorem pay16_at : k0_pay16 y w (ix2 r j) = ∑ e, y (ix2 r e) * w (ix2 e j) := by
  pointwise [k0_pay16]

theorem pay1_at : k0_pay1 y w (ix2 r j) = sigmoid (∑ e, y (ix2 r e) * w (ix2 e j)) := by
  unfold sigmoid
  pointwise [k0_pay1]
  simp only [zero_sub]

theorem pay2_at : k0_pay2 y w (ix2 r j) = sigmoid (∑ e, y (ix2 r e) * w (ix2 e j)) := by
  unfold sigmoid
  pointwise [k0_pay2]
  simp only [zero_sub]

theorem pay4_at (x : Vec Ideal S256x1024 .f32) (s b : Vec Ideal S1x1x1x1024 .f32) :
    k0_pay4 x s b w (ix2 r j) = swish (∑ e, k0_pay3 x s b (ix2 r e) * w (ix2 e j)) * (((Real.sqrt 128)⁻¹ : ℝ) : EReal) := by
  unfold swish sigmoid
  generalize hv : k0_pay3 x s b = y
  pointwise [k0_pay4, hv]
  rw [IdealRules.named_const.ideal_named_scalar _ _ _ _ rfl]
  simp only [zero_sub]

end parts

/-! What the body stores, from the blocks it reads. -/

section blocks
variable (x0 : Vec Ideal S256x1024 .f32) (x1 x2 : Vec Ideal S1x1x1x1024 .f32) (x3 : Vec Ideal S1024x9216 .bf16) (x4 : Vec Ideal S2x1024 .f32) (r : Fin 256) (j : Fin 1024)

/-- part `n` of row `r` of the tile's projection -/
def tilePart (n : Fin 9) : EReal := proj (fun e => x0 (ix2 r e)) (fun e => x2 (ix4 0 0 0 e)) (fun e => x1 (ix4 0 0 0 e)) (fun e => x3 (ix2 e (modIx n j)))

/-- a load of a whole tile reads the tile -/
theorem ld_row : View.ld x0 r0_0 = x0 := funext fun i => by
  obtain ⟨r, j, rfl⟩ : ∃ (r : Fin 256) (j : Fin 1024), i = ix2 r j := ⟨i 0, i 1, funext fun a => by fin_cases a <;> rfl⟩
  pointwise []

/-- a load of the whole modulation vector reads it -/
theorem ld_ada : View.ld x1 r0_1 = x1 := funext fun i => by
  obtain ⟨a, b, c, j, rfl⟩ : ∃ (a b c : Fin 1) (j : Fin 1024), i = ix4 a b c j := ⟨i 0, i 1, i 2, i 3, funext fun a => by fin_cases a <;> rfl⟩
  rw [Subsingleton.elim a 0, Subsingleton.elim b 0, Subsingleton.elim c 0]
  pointwise []

/-- a load of the two bound rows reads them -/
theorem ld_bound : View.ld x4 r0_3 = x4 := funext fun i => by
  obtain ⟨k, j, rfl⟩ : ∃ (k : Fin 2) (j : Fin 1024), i = ix2 k j := ⟨i 0, i 1, funext fun a => by fin_cases a <;> rfl⟩
  pointwise []

theorem pay18_eq : k0_pay18 x0 x1 x2 x3 x4 = k0_pay3 x0 x2 x1 := by
  unfold k0_pay18
  rw [ld_row, ld_ada, ld_ada]

theorem pay19_eq : k0_pay19 x0 x1 x2 x3 x4 = k0_pay5 x4 := by
  unfold k0_pay19
  rw [ld_bound]

theorem pay20_eq : k0_pay20 x0 x1 x2 x3 x4 = k0_pay6 x4 := by
  unfold k0_pay20
  rw [ld_bound]

/-! The nine parts of the weights. -/

theorem w0_at (e : Fin 1024) : View.ld x3 r0_2 (ix2 e j) = x3 (ix2 e (modIx 0 j)) := by
  unfold modIx
  pointwise []

theorem w1_at (e : Fin 1024) : View.ld x3 r0_4 (ix2 e j) = x3 (ix2 e (modIx 1 j)) := by
  unfold modIx
  pointwise []

theorem w2_at (e : Fin 1024) : View.ld x3 r0_5 (ix2 e j) = x3 (ix2 e (modIx 2 j)) := by
  unfold modIx
  pointwise []

theorem w3_at (e : Fin 1024) : View.ld x3 r0_6 (ix2 e j) = x3 (ix2 e (modIx 3 j)) := by
  unfold modIx
  pointwise []

theorem w4_at (e : Fin 1024) : View.ld x3 r0_7 (ix2 e j) = x3 (ix2 e (modIx 4 j)) := by
  unfold modIx
  pointwise []

theorem w5_at (e : Fin 1024) : View.ld x3 r0_8 (ix2 e j) = x3 (ix2 e (modIx 5 j)) := by
  unfold modIx
  pointwise []

theorem w6_at (e : Fin 1024) : View.ld x3 r0_9 (ix2 e j) = x3 (ix2 e (modIx 6 j)) := by
  unfold modIx
  pointwise []

theorem w7_at (e : Fin 1024) : View.ld x3 r0_10 (ix2 e j) = x3 (ix2 e (modIx 7 j)) := by
  unfold modIx
  pointwise []

theorem w8_at (e : Fin 1024) : View.ld x3 r0_11 (ix2 e j) = x3 (ix2 e (modIx 8 j)) := by
  unfold modIx
  pointwise []

theorem tile5 : out0_5 x0 x1 x2 x3 x4 (ix2 r j) = swish (tilePart x0 x1 x2 x3 r j 0) * (((Real.sqrt 128)⁻¹ : ℝ) : EReal) := by
  unfold tilePart proj
  simp only [← w0_at, ← pay3_at]
  frame_out
  rw [pay4_at]

theorem tile6 : out0_6 x0 x1 x2 x3 x4 (ix2 r j) = Ideal.log (decay (floor x4 j) (tilePart x0 x1 x2 x3 r j 1)) := by
  unfold tilePart proj
  simp only [← w1_at, ← pay3_at]
  frame_out
  rw [pay18_eq, pay19_eq, pay20_eq, pay8_at, pay7_at]

theorem tile7 : out0_7 x0 x1 x2 x3 x4 (ix2 r j) = 1 - decay (floor x4 j) (tilePart x0 x1 x2 x3 r j 1) := by
  unfold tilePart proj
  simp only [← w1_at, ← pay3_at]
  frame_out
  rw [pay18_eq, pay19_eq, pay20_eq, pay9_at, pay7_at]

theorem tile8 : out0_8 x0 x1 x2 x3 x4 (ix2 r j) = tilePart x0 x1 x2 x3 r j 2 := by
  unfold tilePart proj
  simp only [← w2_at, ← pay3_at]
  frame_out
  rw [pay18_eq, pay10_at]

theorem tile9 : out0_9 x0 x1 x2 x3 x4 (ix2 r j) = swish (tilePart x0 x1 x2 x3 r j 3) := by
  unfold tilePart proj
  simp only [← w3_at, ← pay3_at]
  frame_out
  rw [pay18_eq, pay12_at]

theorem tile10 : out0_10 x0 x1 x2 x3 x4 (ix2 r j) = tilePart x0 x1 x2 x3 r j 4 * ((1 / 8 * (Real.log 2)⁻¹ : ℝ) : EReal) := by
  unfold tilePart proj
  simp only [← w4_at, ← pay3_at]
  frame_out
  rw [pay18_eq, pay13_at]

theorem tile11 : out0_11 x0 x1 x2 x3 x4 (ix2 r j) = tilePart x0 x1 x2 x3 r j 5 := by
  unfold tilePart proj
  simp only [← w5_at, ← pay3_at]
  frame_out
  rw [pay18_eq, pay14_at]

theorem tile12 : out0_12 x0 x1 x2 x3 x4 (ix2 r j) = tilePart x0 x1 x2 x3 r j 5 := by
  unfold tilePart proj
  simp only [← w5_at, ← pay3_at]
  frame_out
  rw [pay18_eq, show ∀ y w, k0_pay15 (F := Ideal) y w (ix2 r j) = k0_pay14 y w (ix2 r j) from fun _ _ => rfl, pay14_at]

theorem tile13 : out0_13 x0 x1 x2 x3 x4 (ix2 r j) = tilePart x0 x1 x2 x3 r j 6 := by
  unfold tilePart proj
  simp only [← w6_at, ← pay3_at]
  frame_out
  rw [pay18_eq, pay16_at]

theorem tile14 : out0_14 x0 x1 x2 x3 x4 (ix2 r j) = tilePart x0 x1 x2 x3 r j 6 := by
  unfold tilePart proj
  simp only [← w6_at, ← pay3_at]
  frame_out
  rw [pay18_eq, show ∀ y w, k0_pay17 (F := Ideal) y w (ix2 r j) = k0_pay16 y w (ix2 r j) from fun _ _ => rfl, pay16_at]

theorem tile15 : out0_15 x0 x1 x2 x3 x4 (ix2 r j) = sigmoid (tilePart x0 x1 x2 x3 r j 7) := by
  unfold tilePart proj
  simp only [← w7_at, ← pay3_at]
  frame_out
  rw [pay18_eq, pay1_at]

theorem tile16 : out0_16 x0 x1 x2 x3 x4 (ix2 r j) = sigmoid (tilePart x0 x1 x2 x3 r j 8) := by
  unfold tilePart proj
  simp only [← w8_at, ← pay3_at]
  frame_out
  rw [pay18_eq, pay2_at]

end blocks

/-- where each window's block lies -/
theorem idx : ∀ t : Fin cfg0.N, win0_0.index t = ![t.val, 0] ∧ win0_1.index t = ![3, t.val / 8, 0, 0] ∧ win0_2.index t = ![4, t.val / 8, 0, 0] ∧ win0_3.index t = ![0, 0]
    ∧ win0_4.index t = ![0, 0] :=
  (by decide +kernel : ∀ t : Fin grid0.N, _)

/-- every result's block is the tile's rows -/
theorem idxOut : ∀ t : Fin cfg0.N, win0_5.index t = ![t.val, 0] ∧ win0_6.index t = ![t.val, 0] ∧ win0_7.index t = ![t.val, 0] ∧ win0_8.index t = ![t.val, 0] ∧ win0_9.index t = ![t.val, 0]
    ∧ win0_10.index t = ![t.val, 0] ∧ win0_11.index t = ![t.val, 0] ∧ win0_12.index t = ![t.val, 0] ∧ win0_13.index t = ![t.val, 0] ∧ win0_14.index t = ![t.val, 0]
    ∧ win0_15.index t = ![t.val, 0] ∧ win0_16.index t = ![t.val, 0] :=
  (by decide +kernel : ∀ t : Fin grid0.N, _)

/-- there are 256 tiles -/
theorem points (t : Fin cfg0.N) : t.val < 256 := lt_of_lt_of_eq t.isLt N_0

/-- the flat row of row `r` of tile `t` -/
def rowIx (t : Fin cfg0.N) (r : Fin 256) : Fin 65536 := ⟨t.val * 256 + r.val, by have := points t; omega⟩

theorem seqOf_rowIx (t : Fin cfg0.N) (r : Fin 256) : seqOf (rowIx t r) = ⟨t.val / 8, by have := points t; omega⟩ :=
  Fin.ext (show (t.val * 256 + r.val) / 2048 = t.val / 8 by have := r.isLt; omega)

variable (m : (ℓ : Loc nD τ sig) → Buf (Elt Ideal) ℓ) (c : Dev nD)

/-! The arrays the region finds, from the arguments. -/

/-- the flat input's rows -/
theorem entry0 (i : Fin 65536) (j : Fin 1024) : V m c main_v0 (ix2 i j) = m ((c : Thread nD τ).loc main_arg0) (ix3 (seqOf i) (posOf i) j) := by
  entry_read
  pointwise []
  rfl

/-- the modulation vectors, one after another -/
theorem entry3 (n : Fin 9) (b : Fin 32) (j : Fin 1024) : V m c main_v3 (ix4 n b 0 j) = m ((c : Thread nD τ).loc main_arg1) (ix2 b (modIx n j)) := by
  entry_read
  pointwise []
  rfl

/-- the projection's weights -/
theorem entry5 (e : Fin 1024) (k : Fin 9216) : V m c main_v5 (ix2 e k) = m ((c : Thread nD τ).loc main_arg2) (ix3 0 e k) := by
  entry_read
  pointwise []

/-! The windows' blocks at tile `t`. -/

theorem read0 (t : Fin cfg0.N) (r : Fin 256) (j : Fin 1024) : iblk m c 0 t (ix2 r j) = V m c main_v0 (ix2 (rowIx t r) j) := by
  blk_point [iblk, idx t, rowIx]

theorem read1 (t : Fin cfg0.N) (r : Fin 256) (j : Fin 1024) : iblk m c 1 t (ix4 0 0 0 j) = V m c main_v3 (ix4 3 (seqOf (rowIx t r)) 0 j) := by
  rw [seqOf_rowIx]
  blk_point [iblk, idx t]

theorem read2 (t : Fin cfg0.N) (r : Fin 256) (j : Fin 1024) : iblk m c 2 t (ix4 0 0 0 j) = V m c main_v3 (ix4 4 (seqOf (rowIx t r)) 0 j) := by
  rw [seqOf_rowIx]
  blk_point [iblk, idx t]

theorem read3 (t : Fin cfg0.N) (e : Fin 1024) (k : Fin 9216) : iblk m c 3 t (ix2 e k) = V m c main_v5 (ix2 e k) := by
  blk_point [iblk, idx t]

theorem read4 (t : Fin cfg0.N) (k : Fin 2) (j : Fin 1024) : iblk m c 4 t (ix2 k j) = m ((c : Thread nD τ).loc main_arg3) (ix2 k j) := by
  rw [← V_main_arg3 m c]
  blk_point [iblk, idx t]

end Cert.Inproj
end
-- ==== Proof.InprojRef.lean ====
/- The plain input projection read at an index. -/
module
public import proofs.«01_k».proof.Proof.Gen.Reference3Ideal.Read
public import proofs.«01_k».proof.Proof.InprojForms

@[expose] public section

set_option maxRecDepth 32768

noncomputable section

namespace Cert.Inproj

open Cert.Reference3Ideal Cert.Reference3Ideal.Gen Cert.Reference3Ideal.Read Idealize.ShloMosaic Idealize.ShloMosaic.TcCoe Idealize.SL.Sem Cert.Layer

variable (X : (⟨3, ![32, 2048, 1024]⟩ : Shape).Idx → EReal) (A : (⟨2, ![32, 9216]⟩ : Shape).Idx → EReal)
  (W : (⟨3, ![1, 1024, 9216]⟩ : Shape).Idx → EReal) (L : (⟨2, ![2, 1024]⟩ : Shape).Idx → EReal)

/-- the modulated input -/
theorem v24_at (b : Fin 32) (n : Fin 2048) (e : Fin 1024) : val_main_v24 (F := Ideal) X A (ix3 b n e) = modulated (X (ix3 b n e)) (A (ix2 b (modIx 4 e))) (A (ix2 b (modIx 3 e))) := by
  unfold modulated modIx
  pointwise [val_main_v24, val_main_v23, val_main_v22, val_main_v21, val_main_v20, val_main_v19, val_main_v18, val_main_v17, val_main_v16, val_main_v15, val_main_v14, val_main_cst_2]

/-- the projected row -/
theorem v26_at (b : Fin 32) (n : Fin 2048) (k : Fin 9216) : val_main_v26 (F := Ideal) X A W (ix3 b n k)
    = proj (fun e => X (ix3 b n e)) (fun e => A (ix2 b (modIx 4 e))) (fun e => A (ix2 b (modIx 3 e))) (fun e => W (ix3 0 e k)) := by
  unfold proj
  simp only [← v24_at]
  generalize hv : val_main_v24 (F := Ideal) X A = y
  pointwise [val_main_v26, val_main_v25, hv]

/-- column `j` of part `n` of the projected row `i` -/
def part (n : Fin 9) (i : Fin 65536) (j : Fin 1024) : EReal :=
  proj (fun e => X (ix3 (seqOf i) (posOf i) e)) (fun e => A (ix2 (seqOf i) (modIx 4 e))) (fun e => A (ix2 (seqOf i) (modIx 3 e))) (fun e => W (ix3 0 e (modIx n j)))

/-! The nine parts of the projected row. -/

theorem part0 (i : Fin 65536) (j : Fin 1024) : val_main_v36 (F := Ideal) X A W (ix2 i j) = part X A W 0 i j := by
  unfold part
  rw [← v26_at]
  unfold modIx seqOf posOf
  generalize hv : val_main_v26 (F := Ideal) X A W = y
  pointwise [val_main_v36, val_main_v27, hv]

theorem part1 (i : Fin 65536) (j : Fin 1024) : val_main_v37 (F := Ideal) X A W (ix2 i j) = part X A W 1 i j := by
  unfold part
  rw [← v26_at]
  unfold modIx seqOf posOf
  generalize hv : val_main_v26 (F := Ideal) X A W = y
  pointwise [val_main_v37, val_main_v28, hv]

theorem part2 (i : Fin 65536) (j : Fin 1024) : val_main_v38 (F := Ideal) X A W (ix2 i j) = part X A W 2 i j := by
  unfold part
  rw [← v26_at]
  unfold modIx seqOf posOf
  generalize hv : val_main_v26 (F := Ideal) X A W = y
  pointwise [val_main_v38, val_main_v29, hv]

theorem part3 (i : Fin 65536) (j : Fin 1024) : val_main_v39 (F := Ideal) X A W (ix2 i j) = part X A W 3 i j := by
  unfold part
  rw [← v26_at]
  unfold modIx seqOf posOf
  generalize hv : val_main_v26 (F := Ideal) X A W = y
  pointwise [val_main_v39, val_main_v30, hv]

theorem part4 (i : Fin 65536) (j : Fin 1024) : val_main_v40 (F := Ideal) X A W (ix2 i j) = part X A W 4 i j := by
  unfold part
  rw [← v26_at]
  unfold modIx seqOf posOf
  generalize hv : val_main_v26 (F := Ideal) X A W = y
  pointwise [val_main_v40, val_main_v31, hv]

theorem part5 (i : Fin 65536) (j : Fin 1024) : val_main_v41 (F := Ideal) X A W (ix2 i j) = part X A W 5 i j := by
  unfold part
  rw [← v26_at]
  unfold modIx seqOf posOf
  generalize hv : val_main_v26 (F := Ideal) X A W = y
  pointwise [val_main_v41, val_main_v32, hv]

theorem part6 (i : Fin 65536) (j : Fin 1024) : val_main_v42 (F := Ideal) X A W (ix2 i j) = part X A W 6 i j := by
  unfold part
  rw [← v26_at]
  unfold modIx seqOf posOf
  generalize hv : val_main_v26 (F := Ideal) X A W = y
  pointwise [val_main_v42, val_main_v33, hv]

theorem part7 (i : Fin 65536) (j : Fin 1024) : val_main_v43 (F := Ideal) X A W (ix2 i j) = part X A W 7 i j := by
  unfold part
  rw [← v26_at]
  unfold modIx seqOf posOf
  generalize hv : val_main_v26 (F := Ideal) X A W = y
  pointwise [val_main_v43, val_main_v34, hv]

theorem part8 (i : Fin 65536) (j : Fin 1024) : val_main_v44 (F := Ideal) X A W (ix2 i j) = part X A W 8 i j := by
  unfold part
  rw [← v26_at]
  unfold modIx seqOf posOf
  generalize hv : val_main_v26 (F := Ideal) X A W = y
  pointwise [val_main_v44, val_main_v35, hv]

/-- the larger of the two rows -/
theorem top_at (j : Fin 1024) : val_main_v2 (F := Ideal) L (ix1 j) = top L j := by
  unfold top
  pointwise [val_main_v2, val_main_v1, val_main_v0, val_main_cst, val_main_cst_0]
  exact max_eq_right (by rw [neg_inf]; exact bot_le)

/-- the first row's share -/
theorem share_at (j : Fin 1024) : val_main_v10 (F := Ideal) L (ix2 0 j) = floor L j := by
  unfold floor weight
  rw [← top_at]
  generalize hv : val_main_v2 (F := Ideal) L = y
  pointwise [val_main_v10, val_main_v9, val_main_v8, val_main_v7, val_main_v6, val_main_v5, val_main_v4, val_main_v3, val_main_cst_1, hv]

/-- the running sum's first row is that share -/
theorem floor_at (j : Fin 1024) : val_main_v13 (F := Ideal) L (ix1 j) = floor L j := by
  have h : val_main_v11 (F := Ideal) L (ix2 0 j) = val_main_v10 (F := Ideal) L (ix2 0 j) :=
    running_first _ _ (fun i => by pointwise [val_main_call0_call0_v0, val_main_call0_call0_cst]) _ _ j
  rw [← share_at, ← h]
  generalize hv : val_main_v11 (F := Ideal) L = y
  pointwise [val_main_v13, val_main_v12, hv]

/-- the decay -/
theorem decay_at (i : Fin 65536) (j : Fin 1024) : val_main_v58 (F := Ideal) X A W L (ix2 i j) = decay (floor L j) (part X A W 1 i j) := by
  unfold decay sigmoid
  rw [← floor_at, ← part1]
  generalize hv : val_main_v37 (F := Ideal) X A W = y
  generalize hl : val_main_v13 (F := Ideal) L = l
  pointwise [val_main_v58, val_main_v57, val_main_v56, val_main_v55, val_main_v54, val_main_v53, val_main_v52, val_main_v51, val_main_v50, val_main_v49, val_main_v48, val_main_v47,
    val_main_v46, val_main_v45, val_main_cst_3, val_main_cst_4, val_main_cst_5, hv, hl]

/-! The twelve results. -/

theorem ref0 (i : Fin 65536) (j : Fin 1024) : val_main_v74 (F := Ideal) X A W (ix2 i j) = swish (part X A W 0 i j) * (((Real.sqrt 128)⁻¹ : ℝ) : EReal) := by
  unfold swish sigmoid
  rw [← part0, ← key_scale]
  generalize hv : val_main_v36 (F := Ideal) X A W = y
  pointwise [val_main_v74, val_main_v69, val_main_v68, val_main_v67, val_main_v66, val_main_v65, val_main_v64, val_main_v63, val_main_v62, val_main_v61, val_main_v60, val_main_v59,
    val_main_cst_6, val_main_cst_7, val_main_cst_8, val_main_cst_9, hv]

theorem ref1 (i : Fin 65536) (j : Fin 1024) : val_main_v75 (F := Ideal) X A W L (ix2 i j) = Ideal.log (decay (floor L j) (part X A W 1 i j)) := by
  rw [← decay_at]
  generalize hv : val_main_v58 (F := Ideal) X A W L = y
  pointwise [val_main_v75, hv]

theorem ref2 (i : Fin 65536) (j : Fin 1024) : val_main_v78 (F := Ideal) X A W L (ix2 i j) = 1 - decay (floor L j) (part X A W 1 i j) := by
  rw [← decay_at]
  generalize hv : val_main_v58 (F := Ideal) X A W L = y
  pointwise [val_main_v78, val_main_v77, val_main_v76, val_main_cst_12, hv]

theorem ref3 (i : Fin 65536) (j : Fin 1024) : val_main_v79 (F := Ideal) X A W (ix2 i j) = part X A W 2 i j := part2 X A W i j

theorem ref4 (i : Fin 65536) (j : Fin 1024) : val_main_v87 (F := Ideal) X A W (ix2 i j) = swish (part X A W 3 i j) := by
  unfold swish sigmoid
  rw [← part3]
  generalize hv : val_main_v39 (F := Ideal) X A W = y
  pointwise [val_main_v87, val_main_v86, val_main_v85, val_main_v84, val_main_v83, val_main_v82, val_main_v81, val_main_v80, val_main_cst_13, val_main_cst_14, hv]

theorem ref5 (i : Fin 65536) (j : Fin 1024) : val_main_v88 (F := Ideal) X A W (ix2 i j) = part X A W 4 i j * ((1 / 8 * (Real.log 2)⁻¹ : ℝ) : EReal) := by
  rw [← part4, ← attn_scale]
  generalize hv : val_main_v40 (F := Ideal) X A W = y
  pointwise [val_main_v88, val_main_v73, val_main_v72, val_main_v71, val_main_v70, val_main_cst_10, val_main_cst_11, hv]

theorem ref7 (i : Fin 65536) (j : Fin 1024) : val_main_v89 (F := Ideal) X A W (ix2 i j) = part X A W 5 i j := part5 X A W i j

theorem ref9 (i : Fin 65536) (j : Fin 1024) : val_main_v90 (F := Ideal) X A W (ix2 i j) = part X A W 6 i j := part6 X A W i j

theorem ref10 (i : Fin 65536) (j : Fin 1024) : val_main_v97 (F := Ideal) X A W (ix2 i j) = sigmoid (part X A W 7 i j) := by
  unfold sigmoid
  rw [← part7]
  generalize hv : val_main_v43 (F := Ideal) X A W = y
  pointwise [val_main_v97, val_main_v96, val_main_v95, val_main_v94, val_main_v93, val_main_v92, val_main_v91, val_main_cst_15, val_main_cst_16, hv]

theorem ref11 (i : Fin 65536) (j : Fin 1024) : val_main_v104 (F := Ideal) X A W (ix2 i j) = sigmoid (part X A W 8 i j) := by
  unfold sigmoid
  rw [← part8]
  generalize hv : val_main_v44 (F := Ideal) X A W = y
  pointwise [val_main_v104, val_main_v103, val_main_v102, val_main_v101, val_main_v100, val_main_v99, val_main_v98, val_main_cst_17, val_main_cst_18, hv]

end Cert.Inproj
end
-- ==== Proof.InprojFinal.lean ====
/- The projecting kernel leaves the plain projection's twelve arrays. -/
module
public import proofs.«01_k».proof.Defs
public import proofs.«01_k».proof.Proof.InprojKer
public import proofs.«01_k».proof.Proof.InprojRef
public import proofs.«01_k».proof.Proof.Gen.Kernel3.Frame
public import proofs.«01_k».proof.Proof.Gen.Reference3Ideal.Run
public import Idealize.ShloMosaic.Lib.Pipeline.Covers
public import Idealize.ShloMosaic.Lib.Quiescent

@[expose] public section

set_option maxRecDepth 32768

noncomputable section

namespace Cert.Inproj

open Cert.Reference3Ideal.Read Cert.Kernel3Ideal.Gen Idealize.ShloMosaic Idealize.ShloMosaic.TcCoe Idealize.SL.Sem Cert.Layer
open Cert.Kernel3Ideal (nD τ sig main_arg0 main_arg1 main_arg2 main_arg3 cfg0 grid0)

/-- the blocks a tile reads hold the layer's arrays: row `r` of the tile is row `i` of the flat input -/
structure Holds (X : (⟨3, ![32, 2048, 1024]⟩ : Shape).Idx → EReal) (A : (⟨2, ![32, 9216]⟩ : Shape).Idx → EReal) (W : (⟨3, ![1, 1024, 9216]⟩ : Shape).Idx → EReal)
    (L : (⟨2, ![2, 1024]⟩ : Shape).Idx → EReal) (i : Fin 65536) (r : Fin 256) (x0 : Vec Ideal Cert.Kernel3Ideal.S256x1024 .f32) (x1 x2 : Vec Ideal Cert.Kernel3Ideal.S1x1x1x1024 .f32)
    (x3 : Vec Ideal Cert.Kernel3Ideal.S1024x9216 .bf16) (x4 : Vec Ideal Cert.Kernel3Ideal.S2x1024 .f32) : Prop where
  row : ∀ j, x0 (ix2 r j) = X (ix3 (seqOf i) (posOf i) j)
  shift : ∀ j, x1 (ix4 0 0 0 j) = A (ix2 (seqOf i) (modIx 3 j))
  scale : ∀ j, x2 (ix4 0 0 0 j) = A (ix2 (seqOf i) (modIx 4 j))
  weights : ∀ e k, x3 (ix2 e k) = W (ix3 0 e k)
  bound : ∀ k j, x4 (ix2 k j) = L (ix2 k j)

section tiles
variable {X : (⟨3, ![32, 2048, 1024]⟩ : Shape).Idx → EReal} {A : (⟨2, ![32, 9216]⟩ : Shape).Idx → EReal} {W : (⟨3, ![1, 1024, 9216]⟩ : Shape).Idx → EReal}
  {L : (⟨2, ![2, 1024]⟩ : Shape).Idx → EReal} {i : Fin 65536} {r : Fin 256} {x0 : Vec Ideal Cert.Kernel3Ideal.S256x1024 .f32} {x1 x2 : Vec Ideal Cert.Kernel3Ideal.S1x1x1x1024 .f32}
  {x3 : Vec Ideal Cert.Kernel3Ideal.S1024x9216 .bf16} {x4 : Vec Ideal Cert.Kernel3Ideal.S2x1024 .f32}

/-- a part of the tile's projection is that part of the plain one -/
theorem Holds.part (h : Holds X A W L i r x0 x1 x2 x3 x4) (n : Fin 9) (j : Fin 1024) : tilePart x0 x1 x2 x3 r j n = Inproj.part X A W n i j := by
  unfold tilePart Inproj.part
  simp only [h.row, h.shift, h.scale, h.weights]

/-- the tile's floor is the plain one -/
theorem Holds.floor (h : Holds X A W L i r x0 x1 x2 x3 x4) (j : Fin 1024) : Inproj.floor x4 j = Inproj.floor L j := by
  unfold Inproj.floor weight top
  simp only [h.bound]

/-! What the tile stores is the plain projection's rows, result by result. -/

theorem Holds.eq5 (h : Holds X A W L i r x0 x1 x2 x3 x4) (j : Fin 1024) : out0_5 x0 x1 x2 x3 x4 (ix2 r j) = val_main_v74 (F := Ideal) X A W (ix2 i j) := by
  rw [tile5, ref0, h.part]

theorem Holds.eq6 (h : Holds X A W L i r x0 x1 x2 x3 x4) (j : Fin 1024) : out0_6 x0 x1 x2 x3 x4 (ix2 r j) = val_main_v75 (F := Ideal) X A W L (ix2 i j) := by
  rw [tile6, ref1, h.part, h.floor]

theorem Holds.eq7 (h : Holds X A W L i r x0 x1 x2 x3 x4) (j : Fin 1024) : out0_7 x0 x1 x2 x3 x4 (ix2 r j) = val_main_v78 (F := Ideal) X A W L (ix2 i j) := by
  rw [tile7, ref2, h.part, h.floor]

theorem Holds.eq8 (h : Holds X A W L i r x0 x1 x2 x3 x4) (j : Fin 1024) : out0_8 x0 x1 x2 x3 x4 (ix2 r j) = val_main_v79 (F := Ideal) X A W (ix2 i j) := by
  rw [tile8, ref3, h.part]

theorem Holds.eq9 (h : Holds X A W L i r x0 x1 x2 x3 x4) (j : Fin 1024) : out0_9 x0 x1 x2 x3 x4 (ix2 r j) = val_main_v87 (F := Ideal) X A W (ix2 i j) := by
  rw [tile9, ref4, h.part]

theorem Holds.eq10 (h : Holds X A W L i r x0 x1 x2 x3 x4) (j : Fin 1024) : out0_10 x0 x1 x2 x3 x4 (ix2 r j) = val_main_v88 (F := Ideal) X A W (ix2 i j) := by
  rw [tile10, ref5, h.part]

theorem Holds.eq11 (h : Holds X A W L i r x0 x1 x2 x3 x4) (j : Fin 1024) : out0_11 x0 x1 x2 x3 x4 (ix2 r j) = val_main_v41 (F := Ideal) X A W (ix2 i j) := by
  rw [tile11, part5, h.part]

theorem Holds.eq12 (h : Holds X A W L i r x0 x1 x2 x3 x4) (j : Fin 1024) : out0_12 x0 x1 x2 x3 x4 (ix2 r j) = val_main_v89 (F := Ideal) X A W (ix2 i j) := by
  rw [tile12, ref7, h.part]

theorem Holds.eq13 (h : Holds X A W L i r x0 x1 x2 x3 x4) (j : Fin 1024) : out0_13 x0 x1 x2 x3 x4 (ix2 r j) = val_main_v42 (F := Ideal) X A W (ix2 i j) := by
  rw [tile13, part6, h.part]

theorem Holds.eq14 (h : Holds X A W L i r x0 x1 x2 x3 x4) (j : Fin 1024) : out0_14 x0 x1 x2 x3 x4 (ix2 r j) = val_main_v90 (F := Ideal) X A W (ix2 i j) := by
  rw [tile14, ref9, h.part]

theorem Holds.eq15 (h : Holds X A W L i r x0 x1 x2 x3 x4) (j : Fin 1024) : out0_15 x0 x1 x2 x3 x4 (ix2 r j) = val_main_v97 (F := Ideal) X A W (ix2 i j) := by
  rw [tile15, ref10, h.part]

theorem Holds.eq16 (h : Holds X A W L i r x0 x1 x2 x3 x4) (j : Fin 1024) : out0_16 x0 x1 x2 x3 x4 (ix2 r j) = val_main_v104 (F := Ideal) X A W (ix2 i j) := by
  rw [tile16, ref11, h.part]

end tiles

variable (m : (ℓ : Loc nD τ sig) → Buf (Elt Ideal) ℓ) (c : Dev nD)

/-- the blocks at tile `t` hold the arguments -/
theorem holds (t : Fin cfg0.N) (r : Fin 256) : Holds (m ((c : Thread nD τ).loc main_arg0)) (m ((c : Thread nD τ).loc main_arg1)) (m ((c : Thread nD τ).loc main_arg2)) (m ((c : Thread nD τ).loc main_arg3)) (rowIx t r) r
    (iblk m c 0 t) (iblk m c 1 t) (iblk m c 2 t) (iblk m c 3 t) (iblk m c 4 t) :=
  ⟨fun j => (read0 m c t r j).trans (entry0 m c _ j), fun j => (read1 m c t r j).trans (entry3 m c 3 _ j), fun j => (read2 m c t r j).trans (entry3 m c 4 _ j),
    fun e k => (read3 m c t e k).trans (entry5 m c e k), read4 m c t⟩

/-- the tile whose block number is `b` -/
theorem tile_of (b : Fin 2 → ℕ) (h0 : b 0 < 256) (h1 : b 1 < 1) : ∃ t : Fin cfg0.N, ∀ a, (![t.val, 0] : Fin 2 → ℕ) a = b a :=
  ⟨⟨b 0, lt_of_lt_of_eq h0 N_0.symm⟩, fun a => by
    match a with
    | ⟨0, _⟩ => rfl
    | ⟨1, _⟩ => show 0 = b 1; omega⟩

/-- an index of a tile is a row and a column -/
theorem rowCol (y : Cert.Kernel3Ideal.S256x1024.Idx) : ∃ (r : Fin 256) (j : Fin 1024), y = ix2 r j := ⟨y 0, y 1, funext fun a => by
  match a with
  | ⟨0, _⟩ => rfl
  | ⟨1, _⟩ => rfl⟩

/-! The arrays the kernel leaves. -/

/-- the scaled query of the recurrence -/
theorem final5 : (dats m 0 c).arrAt 5 cfg0.N = val_main_v74 (F := Ideal) (m ((c : Thread nD τ).loc main_arg0)) (m ((c : Thread nD τ).loc main_arg1)) (m ((c : Thread nD τ).loc main_arg2)) := by
  refine (dats m 0 c).arrAt_eq_of_covers 5 _ ((cfg0.win 5).covers_of_index_surj rfl (by decide) fun β => ?_) fun t hf y => ?_
  · obtain ⟨t, ht⟩ := tile_of (fun a => β a) (β 0).isLt (β 1).isLt
    exact ⟨t, fun a => (congrFun ((idxOut t).1) a).trans (ht a)⟩
  · blk_simp
    rw [after0_5]
    obtain ⟨r, j, rfl⟩ := rowCol y
    have ei : (Cert.Kernel3Ideal.win0_5.blk t).view.emb (ix2 r j) = ix2 (rowIx t r) j := funext fun a => Fin.ext (by
      match a with
      | ⟨0, _⟩ => blk_simp [idxOut t]; rfl
      | ⟨1, _⟩ => blk_simp [idxOut t])
    exact ((holds m c t r).eq5 j).trans (congrArg _ ei).symm

/-- the log of the decay -/
theorem final6 : (dats m 0 c).arrAt 6 cfg0.N = val_main_v75 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ ((cfg0.win 6).covers_of_index_surj rfl (by decide) fun β => ?_) fun t hf y => ?_
  · obtain ⟨t, ht⟩ := tile_of (fun a => β a) (β 0).isLt (β 1).isLt
    exact ⟨t, fun a => (congrFun ((idxOut t).2.1) a).trans (ht a)⟩
  · blk_simp
    rw [after0_6]
    obtain ⟨r, j, rfl⟩ := rowCol y
    have ei : (Cert.Kernel3Ideal.win0_6.blk t).view.emb (ix2 r j) = ix2 (rowIx t r) j := funext fun a => Fin.ext (by
      match a with
      | ⟨0, _⟩ => blk_simp [idxOut t]; rfl
      | ⟨1, _⟩ => blk_simp [idxOut t])
    exact ((holds m c t r).eq6 j).trans (congrArg _ ei).symm

/-- one less the decay -/
theorem final7 : (dats m 0 c).arrAt 7 cfg0.N = val_main_v78 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ ((cfg0.win 7).covers_of_index_surj rfl (by decide) fun β => ?_) fun t hf y => ?_
  · obtain ⟨t, ht⟩ := tile_of (fun a => β a) (β 0).isLt (β 1).isLt
    exact ⟨t, fun a => (congrFun ((idxOut t).2.2.1) a).trans (ht a)⟩
  · blk_simp
    rw [after0_7]
    obtain ⟨r, j, rfl⟩ := rowCol y
    have ei : (Cert.Kernel3Ideal.win0_7.blk t).view.emb (ix2 r j) = ix2 (rowIx t r) j := funext fun a => Fin.ext (by
      match a with
      | ⟨0, _⟩ => blk_simp [idxOut t]; rfl
      | ⟨1, _⟩ => blk_simp [idxOut t])
    exact ((holds m c t r).eq7 j).trans (congrArg _ ei).symm

/-- the recurrence's value -/
theorem final8 : (dats m 0 c).arrAt 8 cfg0.N = val_main_v79 (F := Ideal) (m ((c : Thread nD τ).loc main_arg0)) (m ((c : Thread nD τ).loc main_arg1)) (m ((c : Thread nD τ).loc main_arg2)) := by
  refine (dats m 0 c).arrAt_eq_of_covers 8 _ ((cfg0.win 8).covers_of_index_surj rfl (by decide) fun β => ?_) fun t hf y => ?_
  · obtain ⟨t, ht⟩ := tile_of (fun a => β a) (β 0).isLt (β 1).isLt
    exact ⟨t, fun a => (congrFun ((idxOut t).2.2.2.1) a).trans (ht a)⟩
  · blk_simp
    rw [after0_8]
    obtain ⟨r, j, rfl⟩ := rowCol y
    have ei : (Cert.Kernel3Ideal.win0_8.blk t).view.emb (ix2 r j) = ix2 (rowIx t r) j := funext fun a => Fin.ext (by
      match a with
      | ⟨0, _⟩ => blk_simp [idxOut t]; rfl
      | ⟨1, _⟩ => blk_simp [idxOut t])
    exact ((holds m c t r).eq8 j).trans (congrArg _ ei).symm

/-- the recurrence's output gate -/
theorem final9 : (dats m 0 c).arrAt 9 cfg0.N = val_main_v87 (F := Ideal) (m ((c : Thread nD τ).loc main_arg0)) (m ((c : Thread nD τ).loc main_arg1)) (m ((c : Thread nD τ).loc main_arg2)) := by
  refine (dats m 0 c).arrAt_eq_of_covers 9 _ ((cfg0.win 9).covers_of_index_surj rfl (by decide) fun β => ?_) fun t hf y => ?_
  · obtain ⟨t, ht⟩ := tile_of (fun a => β a) (β 0).isLt (β 1).isLt
    exact ⟨t, fun a => (congrFun ((idxOut t).2.2.2.2.1) a).trans (ht a)⟩
  · blk_simp
    rw [after0_9]
    obtain ⟨r, j, rfl⟩ := rowCol y
    have ei : (Cert.Kernel3Ideal.win0_9.blk t).view.emb (ix2 r j) = ix2 (rowIx t r) j := funext fun a => Fin.ext (by
      match a with
      | ⟨0, _⟩ => blk_simp [idxOut t]; rfl
      | ⟨1, _⟩ => blk_simp [idxOut t])
    exact ((holds m c t r).eq9 j).trans (congrArg _ ei).symm

/-- the scaled query of the attention -/
theorem final10 : (dats m 0 c).arrAt 10 cfg0.N = val_main_v88 (F := Ideal) (m ((c : Thread nD τ).loc main_arg0)) (m ((c : Thread nD τ).loc main_arg1)) (m ((c : Thread nD τ).loc main_arg2)) := by
  refine (dats m 0 c).arrAt_eq_of_covers 10 _ ((cfg0.win 10).covers_of_index_surj rfl (by decide) fun β => ?_) fun t hf y => ?_
  · obtain ⟨t, ht⟩ := tile_of (fun a => β a) (β 0).isLt (β 1).isLt
    exact ⟨t, fun a => (congrFun ((idxOut t).2.2.2.2.2.1) a).trans (ht a)⟩
  · blk_simp
    rw [after0_10]
    obtain ⟨r, j, rfl⟩ := rowCol y
    have ei : (Cert.Kernel3Ideal.win0_10.blk t).view.emb (ix2 r j) = ix2 (rowIx t r) j := funext fun a => Fin.ext (by
      match a with
      | ⟨0, _⟩ => blk_simp [idxOut t]; rfl
      | ⟨1, _⟩ => blk_simp [idxOut t])
    exact ((holds m c t r).eq10 j).trans (congrArg _ ei).symm

/-- its key -/
theorem final11 : (dats m 0 c).arrAt 11 cfg0.N = val_main_v41 (F := Ideal) (m ((c : Thread nD τ).loc main_arg0)) (m ((c : Thread nD τ).loc main_arg1)) (m ((c : Thread nD τ).loc main_arg2)) := by
  refine (dats m 0 c).arrAt_eq_of_covers 11 _ ((cfg0.win 11).covers_of_index_surj rfl (by decide) fun β => ?_) fun t hf y => ?_
  · obtain ⟨t, ht⟩ := tile_of (fun a => β a) (β 0).isLt (β 1).isLt
    exact ⟨t, fun a => (congrFun ((idxOut t).2.2.2.2.2.2.1) a).trans (ht a)⟩
  · blk_simp
    rw [after0_11]
    obtain ⟨r, j, rfl⟩ := rowCol y
    have ei : (Cert.Kernel3Ideal.win0_11.blk t).view.emb (ix2 r j) = ix2 (rowIx t r) j := funext fun a => Fin.ext (by
      match a with
      | ⟨0, _⟩ => blk_simp [idxOut t]; rfl
      | ⟨1, _⟩ => blk_simp [idxOut t])
    exact ((holds m c t r).eq11 j).trans (congrArg _ ei).symm

/-- the key once more, narrowed -/
theorem final12 : (dats m 0 c).arrAt 12 cfg0.N = val_main_v89 (F := Ideal) (m ((c : Thread nD τ).loc main_arg0)) (m ((c : Thread nD τ).loc main_arg1)) (m ((c : Thread nD τ).loc main_arg2)) := by
  refine (dats m 0 c).arrAt_eq_of_covers 12 _ ((cfg0.win 12).covers_of_index_surj rfl (by decide) fun β => ?_) fun t hf y => ?_
  · obtain ⟨t, ht⟩ := tile_of (fun a => β a) (β 0).isLt (β 1).isLt
    exact ⟨t, fun a => (congrFun ((idxOut t).2.2.2.2.2.2.2.1) a).trans (ht a)⟩
  · blk_simp
    rw [after0_12]
    obtain ⟨r, j, rfl⟩ := rowCol y
    have ei : (Cert.Kernel3Ideal.win0_12.blk t).view.emb (ix2 r j) = ix2 (rowIx t r) j := funext fun a => Fin.ext (by
      match a with
      | ⟨0, _⟩ => blk_simp [idxOut t]; rfl
      | ⟨1, _⟩ => blk_simp [idxOut t])
    exact ((holds m c t r).eq12 j).trans (congrArg _ ei).symm

/-- its value -/
theorem final13 : (dats m 0 c).arrAt 13 cfg0.N = val_main_v42 (F := Ideal) (m ((c : Thread nD τ).loc main_arg0)) (m ((c : Thread nD τ).loc main_arg1)) (m ((c : Thread nD τ).loc main_arg2)) := by
  refine (dats m 0 c).arrAt_eq_of_covers 13 _ ((cfg0.win 13).covers_of_index_surj rfl (by decide) fun β => ?_) fun t hf y => ?_
  · obtain ⟨t, ht⟩ := tile_of (fun a => β a) (β 0).isLt (β 1).isLt
    exact ⟨t, fun a => (congrFun ((idxOut t).2.2.2.2.2.2.2.2.1) a).trans (ht a)⟩
  · blk_simp
    rw [after0_13]
    obtain ⟨r, j, rfl⟩ := rowCol y
    have ei : (Cert.Kernel3Ideal.win0_13.blk t).view.emb (ix2 r j) = ix2 (rowIx t r) j := funext fun a => Fin.ext (by
      match a with
      | ⟨0, _⟩ => blk_simp [idxOut t]; rfl
      | ⟨1, _⟩ => blk_simp [idxOut t])
    exact ((holds m c t r).eq13 j).trans (congrArg _ ei).symm

/-- the value once more, narrowed -/
theorem final14 : (dats m 0 c).arrAt 14 cfg0.N = val_main_v90 (F := Ideal) (m ((c : Thread nD τ).loc main_arg0)) (m ((c : Thread nD τ).loc main_arg1)) (m ((c : Thread nD τ).loc main_arg2)) := by
  refine (dats m 0 c).arrAt_eq_of_covers 14 _ ((cfg0.win 14).covers_of_index_surj rfl (by decide) fun β => ?_) fun t hf y => ?_
  · obtain ⟨t, ht⟩ := tile_of (fun a => β a) (β 0).isLt (β 1).isLt
    exact ⟨t, fun a => (congrFun ((idxOut t).2.2.2.2.2.2.2.2.2.1) a).trans (ht a)⟩
  · blk_simp
    rw [after0_14]
    obtain ⟨r, j, rfl⟩ := rowCol y
    have ei : (Cert.Kernel3Ideal.win0_14.blk t).view.emb (ix2 r j) = ix2 (rowIx t r) j := funext fun a => Fin.ext (by
      match a with
      | ⟨0, _⟩ => blk_simp [idxOut t]; rfl
      | ⟨1, _⟩ => blk_simp [idxOut t])
    exact ((holds m c t r).eq14 j).trans (congrArg _ ei).symm

/-- the gate of the recurrence -/
theorem final15 : (dats m 0 c).arrAt 15 cfg0.N = val_main_v97 (F := Ideal) (m ((c : Thread nD τ).loc main_arg0)) (m ((c : Thread nD τ).loc main_arg1)) (m ((c : Thread nD τ).loc main_arg2)) := by
  refine (dats m 0 c).arrAt_eq_of_covers 15 _ ((cfg0.win 15).covers_of_index_surj rfl (by decide) fun β => ?_) fun t hf y => ?_
  · obtain ⟨t, ht⟩ := tile_of (fun a => β a) (β 0).isLt (β 1).isLt
    exact ⟨t, fun a => (congrFun ((idxOut t).2.2.2.2.2.2.2.2.2.2.1) a).trans (ht a)⟩
  · blk_simp
    rw [after0_15]
    obtain ⟨r, j, rfl⟩ := rowCol y
    have ei : (Cert.Kernel3Ideal.win0_15.blk t).view.emb (ix2 r j) = ix2 (rowIx t r) j := funext fun a => Fin.ext (by
      match a with
      | ⟨0, _⟩ => blk_simp [idxOut t]; rfl
      | ⟨1, _⟩ => blk_simp [idxOut t])
    exact ((holds m c t r).eq15 j).trans (congrArg _ ei).symm

/-- the gate of the attention -/
theorem final16 : (dats m 0 c).arrAt 16 cfg0.N = val_main_v104 (F := Ideal) (m ((c : Thread nD τ).loc main_arg0)) (m ((c : Thread nD τ).loc main_arg1)) (m ((c : Thread nD τ).loc main_arg2)) := by
  refine (dats m 0 c).arrAt_eq_of_covers 16 _ ((cfg0.win 16).covers_of_index_surj rfl (by decide) fun β => ?_) fun t hf y => ?_
  · obtain ⟨t, ht⟩ := tile_of (fun a => β a) (β 0).isLt (β 1).isLt
    exact ⟨t, fun a => (congrFun ((idxOut t).2.2.2.2.2.2.2.2.2.2.2) a).trans (ht a)⟩
  · blk_simp
    rw [after0_16]
    obtain ⟨r, j, rfl⟩ := rowCol y
    have ei : (Cert.Kernel3Ideal.win0_16.blk t).view.emb (ix2 r j) = ix2 (rowIx t r) j := funext fun a => Fin.ext (by
      match a with
      | ⟨0, _⟩ => blk_simp [idxOut t]; rfl
      | ⟨1, _⟩ => blk_simp [idxOut t])
    exact ((holds m c t r).eq16 j).trans (congrArg _ ei).symm

/-- The projecting kernel keeps its arguments and leaves every counter at zero, on the machine's own numbers. -/
theorem frame_p : Cert.quiescent_Kernel3 := fun m g _ => Cert.Kernel3.Gen.frame m g

/-- The projecting kernel keeps its arguments and leaves every counter at zero, over the reals. -/
theorem frame_pi : Cert.quiescent_Kernel3Ideal := fun m g _ => Cert.Kernel3Ideal.Gen.frame m g

/-- The plain projection keeps its arguments and leaves every counter at zero, over the reals. -/
theorem frame_ri : Cert.quiescent_Reference3Ideal := fun m g _ =>
  (θ_run _ _ _).mono (fun r h => ⟨fun c => (h c).2.2.2.2.2.2.2.2.2.2.2.2, sem_eq_zero_of_no_sems rfl r.2⟩) (Cert.Reference3Ideal.Value.run m g)

/-- The two constants the kernel scales its queries by stand for one over the square root of 128 and for an eighth over the logarithm of two. -/
theorem preserves : Cert.preserves_Kernel3_Kernel3Ideal :=
  ⟨IdealRules.named_const.statement _ _ _ _ _ rfl, IdealRules.named_const.statement _ _ _ _ _ rfl⟩

/-- The kernel's twelve arrays are the plain projection's. -/
theorem algebraic : Cert.algebraic_Kernel3Ideal_Reference3Ideal := by
  intro m g m' g' hpre hagree
  refine ⟨fun c => val_main_v74 (F := Ideal) (m (c.tc.loc Cert.Kernel3Ideal.main_arg0)) (m (c.tc.loc Cert.Kernel3Ideal.main_arg1)) (m (c.tc.loc Cert.Kernel3Ideal.main_arg2)),
    fun c => val_main_v75 (F := Ideal) (m (c.tc.loc Cert.Kernel3Ideal.main_arg0)) (m (c.tc.loc Cert.Kernel3Ideal.main_arg1)) (m (c.tc.loc Cert.Kernel3Ideal.main_arg2)) (m (c.tc.loc Cert.Kernel3Ideal.main_arg3)),
    fun c => val_main_v78 (F := Ideal) (m (c.tc.loc Cert.Kernel3Ideal.main_arg0)) (m (c.tc.loc Cert.Kernel3Ideal.main_arg1)) (m (c.tc.loc Cert.Kernel3Ideal.main_arg2)) (m (c.tc.loc Cert.Kernel3Ideal.main_arg3)),
    fun c => val_main_v79 (F := Ideal) (m (c.tc.loc Cert.Kernel3Ideal.main_arg0)) (m (c.tc.loc Cert.Kernel3Ideal.main_arg1)) (m (c.tc.loc Cert.Kernel3Ideal.main_arg2)),
    fun c => val_main_v87 (F := Ideal) (m (c.tc.loc Cert.Kernel3Ideal.main_arg0)) (m (c.tc.loc Cert.Kernel3Ideal.main_arg1)) (m (c.tc.loc Cert.Kernel3Ideal.main_arg2)),
    fun c => val_main_v88 (F := Ideal) (m (c.tc.loc Cert.Kernel3Ideal.main_arg0)) (m (c.tc.loc Cert.Kernel3Ideal.main_arg1)) (m (c.tc.loc Cert.Kernel3Ideal.main_arg2)),
    fun c => val_main_v41 (F := Ideal) (m (c.tc.loc Cert.Kernel3Ideal.main_arg0)) (m (c.tc.loc Cert.Kernel3Ideal.main_arg1)) (m (c.tc.loc Cert.Kernel3Ideal.main_arg2)),
    fun c => val_main_v89 (F := Ideal) (m (c.tc.loc Cert.Kernel3Ideal.main_arg0)) (m (c.tc.loc Cert.Kernel3Ideal.main_arg1)) (m (c.tc.loc Cert.Kernel3Ideal.main_arg2)),
    fun c => val_main_v42 (F := Ideal) (m (c.tc.loc Cert.Kernel3Ideal.main_arg0)) (m (c.tc.loc Cert.Kernel3Ideal.main_arg1)) (m (c.tc.loc Cert.Kernel3Ideal.main_arg2)),
    fun c => val_main_v90 (F := Ideal) (m (c.tc.loc Cert.Kernel3Ideal.main_arg0)) (m (c.tc.loc Cert.Kernel3Ideal.main_arg1)) (m (c.tc.loc Cert.Kernel3Ideal.main_arg2)),
    fun c => val_main_v97 (F := Ideal) (m (c.tc.loc Cert.Kernel3Ideal.main_arg0)) (m (c.tc.loc Cert.Kernel3Ideal.main_arg1)) (m (c.tc.loc Cert.Kernel3Ideal.main_arg2)),
    fun c => val_main_v104 (F := Ideal) (m (c.tc.loc Cert.Kernel3Ideal.main_arg0)) (m (c.tc.loc Cert.Kernel3Ideal.main_arg1)) (m (c.tc.loc Cert.Kernel3Ideal.main_arg2)),
    (θ_run _ _ _).mono (fun r h c => ?_) (Cert.Kernel3Ideal.Value.run_blocks m g), (θ_run _ _ _).mono (fun r h c => ?_) (Cert.Reference3Ideal.Value.run m' g')⟩
  · obtain ⟨h0, h1, h2, h3, h4, h5, h6, h7, h8, h9, h10, h11, ha⟩ := h c
    exact ⟨h0.trans (final5 m c), h1.trans (final6 m c), h2.trans (final7 m c), h3.trans (final8 m c), h4.trans (final9 m c), h5.trans (final10 m c), h6.trans (final11 m c), h7.trans (final12 m c), h8.trans (final13 m c), h9.trans (final14 m c), h10.trans (final15 m c), h11.trans (final16 m c), ha⟩
  · obtain ⟨h0, h1, h2, h3, h4, h5, h6, h7, h8, h9, h10, h11, ha⟩ := h c
    obtain ⟨e0, e1, e2, e3⟩ := hagree c
    refine ⟨(h0.trans (val_main_v74_eq (m' (c.tc.loc Cert.Reference3Ideal.main_arg0)) (m' (c.tc.loc Cert.Reference3Ideal.main_arg1)) (m' (c.tc.loc Cert.Reference3Ideal.main_arg2)))).trans ?_, (h1.trans (val_main_v75_eq m' c)).trans ?_, (h2.trans (val_main_v78_eq m' c)).trans ?_, (h3.trans (val_main_v79_eq (m' (c.tc.loc Cert.Reference3Ideal.main_arg0)) (m' (c.tc.loc Cert.Reference3Ideal.main_arg1)) (m' (c.tc.loc Cert.Reference3Ideal.main_arg2)))).trans ?_, (h4.trans (val_main_v87_eq (m' (c.tc.loc Cert.Reference3Ideal.main_arg0)) (m' (c.tc.loc Cert.Reference3Ideal.main_arg1)) (m' (c.tc.loc Cert.Reference3Ideal.main_arg2)))).trans ?_, (h5.trans (val_main_v88_eq (m' (c.tc.loc Cert.Reference3Ideal.main_arg0)) (m' (c.tc.loc Cert.Reference3Ideal.main_arg1)) (m' (c.tc.loc Cert.Reference3Ideal.main_arg2)))).trans ?_, (h6.trans (val_main_v41_eq (m' (c.tc.loc Cert.Reference3Ideal.main_arg0)) (m' (c.tc.loc Cert.Reference3Ideal.main_arg1)) (m' (c.tc.loc Cert.Reference3Ideal.main_arg2)))).trans ?_, (h7.trans (val_main_v89_eq (m' (c.tc.loc Cert.Reference3Ideal.main_arg0)) (m' (c.tc.loc Cert.Reference3Ideal.main_arg1)) (m' (c.tc.loc Cert.Reference3Ideal.main_arg2)))).trans ?_, (h8.trans (val_main_v42_eq (m' (c.tc.loc Cert.Reference3Ideal.main_arg0)) (m' (c.tc.loc Cert.Reference3Ideal.main_arg1)) (m' (c.tc.loc Cert.Reference3Ideal.main_arg2)))).trans ?_, (h9.trans (val_main_v90_eq (m' (c.tc.loc Cert.Reference3Ideal.main_arg0)) (m' (c.tc.loc Cert.Reference3Ideal.main_arg1)) (m' (c.tc.loc Cert.Reference3Ideal.main_arg2)))).trans ?_, (h10.trans (val_main_v97_eq (m' (c.tc.loc Cert.Reference3Ideal.main_arg0)) (m' (c.tc.loc Cert.Reference3Ideal.main_arg1)) (m' (c.tc.loc Cert.Reference3Ideal.main_arg2)))).trans ?_, (h11.trans (val_main_v104_eq (m' (c.tc.loc Cert.Reference3Ideal.main_arg0)) (m' (c.tc.loc Cert.Reference3Ideal.main_arg1)) (m' (c.tc.loc Cert.Reference3Ideal.main_arg2)))).trans ?_, ha⟩
    all_goals first | rw [e0, e1, e2, e3] | rw [e0, e1, e2]

end Cert.Inproj

end
-- ==== Proof.MergeKer.lean ====
/- The merging kernel's tile read at an index. -/
module
public import proofs.«01_k».proof.Proof.Gen.Kernel4Ideal.Value
public import proofs.«01_k».proof.Proof.Layer
public import Idealize.ShloMosaic.Lib.Pipeline.ValueKit
public import Idealize.ShloMosaic.Lib.Claim

@[expose] public section

set_option maxRecDepth 32768

noncomputable section

namespace Cert.Merge

open Cert.Kernel4Ideal Cert.Kernel4Ideal.Gen Idealize.ShloMosaic Idealize.ShloMosaic.TcCoe Idealize.SL.Sem Cert.Layer

/-- the tile's rows before the norm -/
theorem pay2_at (ga oa : Vec Ideal S512x1024 .bf16) (pa : Vec Ideal S1024x1024 .bf16) (gb ob : Vec Ideal S512x1024 .bf16) (pb w : Vec Ideal S1024x1024 .bf16) (x : Vec Ideal S512x1024 .f32)
    (gt : Vec Ideal S1x1x1x1024 .f32) (r : Fin 512) (j : Fin 1024) :
    k0_pay2 ga oa pa gb ob pb w x gt (ix2 r j) = ((Real.sqrt (Real.sqrt 2) : ℝ) : EReal) * x (ix2 r j) + gt (ix4 0 0 0 j)
      * ∑ k, mixed (fun e => oa (ix2 r e)) (fun e => pa (ix2 e k)) (fun e => ob (ix2 r e)) (fun e => pb (ix2 e k)) (ga (ix2 r k)) (gb (ix2 r k)) * w (ix2 k j) := by
  unfold mixed
  pointwise [k0_pay2]
  rw [IdealRules.named_const.ideal_named_scalar _ _ _ _ rfl]

/-- the tile's result from its rows before the norm -/
theorem pay1_at (u : FVec Ideal S512x1024 .f32) (g b : Vec Ideal S1x1024 .f32) (r : Fin 512) (j : Fin 1024) :
    k0_pay1 u (k0_pay3 g) b (ix2 r j) = normed (fun j => u (ix2 r j)) j (g (ix2 0 j)) (b (ix2 0 j)) := by
  unfold normed mean
  pointwise [k0_pay1, k0_pay3]

/-- what the body stores, from the blocks it reads -/
theorem out_at (x0 : Vec Ideal S512x1024 .f32) (x1 : Vec Ideal S1x1x1x1024 .f32) (x2 x3 x4 x5 : Vec Ideal S512x1024 .bf16) (x6 x7 x8 : Vec Ideal S1024x1024 .bf16) (x9 x10 : Vec Ideal S1x1024 .f32)
    (r : Fin 512) (j : Fin 1024) :
    out0_11 x0 x1 x2 x3 x4 x5 x6 x7 x8 x9 x10 (ix2 r j) = normed (fun j => ((Real.sqrt (Real.sqrt 2) : ℝ) : EReal) * x0 (ix2 r j) + x1 (ix4 0 0 0 j)
      * ∑ k, mixed (fun e => x2 (ix2 r e)) (fun e => x6 (ix2 e k)) (fun e => x3 (ix2 r e)) (fun e => x7 (ix2 e k)) (x4 (ix2 r k)) (x5 (ix2 r k)) * x8 (ix2 k j)) j
      (x9 (ix2 0 j)) (x10 (ix2 0 j)) := by
  frame_out
  rw [pay1_at]
  simp only [pay2_at]

/-- where each window's block lies -/
theorem idx : ∀ t : Fin cfg0.N, win0_0.index t = ![t.val, 0] ∧ win0_1.index t = ![5, t.val / 4, 0, 0] ∧ win0_2.index t = ![t.val, 0] ∧ win0_3.index t = ![t.val, 0]
    ∧ win0_4.index t = ![t.val, 0] ∧ win0_5.index t = ![t.val, 0] ∧ win0_6.index t = ![0, 0] ∧ win0_7.index t = ![0, 0] ∧ win0_8.index t = ![0, 0] ∧ win0_9.index t = ![0, 0]
    ∧ win0_10.index t = ![0, 0] ∧ win0_11.index t = ![t.val, 0] :=
  (by decide +kernel : ∀ t : Fin grid0.N, _)

/-- there are 128 tiles -/
theorem points (t : Fin cfg0.N) : t.val < 128 := lt_of_lt_of_eq t.isLt N_0

/-- the flat row of row `r` of tile `t` -/
def rowIx (t : Fin cfg0.N) (r : Fin 512) : Fin 65536 := ⟨t.val * 512 + r.val, by have := points t; omega⟩

theorem seqOf_rowIx (t : Fin cfg0.N) (r : Fin 512) : seqOf (rowIx t r) = ⟨t.val / 4, by have := points t; omega⟩ :=
  Fin.ext (show (t.val * 512 + r.val) / 2048 = t.val / 4 by have := r.isLt; omega)

variable (m : (ℓ : Loc nD τ sig) → Buf (Elt Ideal) ℓ) (c : Dev nD)

/-! The arrays the region finds, from the arguments. -/

/-- the flat input's rows -/
theorem entry0 (i : Fin 65536) (j : Fin 1024) : V m c main_v0 (ix2 i j) = m ((c : Thread nD τ).loc main_arg0) (ix3 (seqOf i) (posOf i) j) := by
  entry_read
  pointwise []
  rfl

/-- the modulation vectors, one after another -/
theorem entry3 (n : Fin 9) (b : Fin 32) (j : Fin 1024) : V m c main_v3 (ix4 n b 0 j) = m ((c : Thread nD τ).loc main_arg1) (ix2 b (modIx n j)) := by
  entry_read
  pointwise []
  rfl

/-- the first projection's weights -/
theorem entry5 (e k : Fin 1024) : V m c main_v5 (ix2 e k) = m ((c : Thread nD τ).loc main_arg6) (ix3 0 e k) := by
  entry_read
  pointwise []

/-- the second projection's weights -/
theorem entry7 (e k : Fin 1024) : V m c main_v7 (ix2 e k) = m ((c : Thread nD τ).loc main_arg7) (ix3 0 e k) := by
  entry_read
  pointwise []

/-- the output weights -/
theorem entry9 (e k : Fin 1024) : V m c main_v9 (ix2 e k) = m ((c : Thread nD τ).loc main_arg8) (ix3 0 e k) := by
  entry_read
  pointwise []

/-- the norm's weight -/
theorem entry14 (k : Fin 1024) : V m c main_v14 (ix2 0 k) = m ((c : Thread nD τ).loc main_arg9) (ix3 0 1 k) := by
  entry_read
  pointwise []

/-- the norm's shift -/
theorem entry15 (k : Fin 1024) : V m c main_v15 (ix2 0 k) = m ((c : Thread nD τ).loc main_arg10) (ix3 0 1 k) := by
  entry_read
  pointwise []

/-! The windows' blocks at tile `t`. -/

theorem read0 (t : Fin cfg0.N) (r : Fin 512) (j : Fin 1024) : iblk m c 0 t (ix2 r j) = V m c main_v0 (ix2 (rowIx t r) j) := by
  blk_point [iblk, idx t, rowIx]

theorem read1 (t : Fin cfg0.N) (r : Fin 512) (j : Fin 1024) : iblk m c 1 t (ix4 0 0 0 j) = V m c main_v3 (ix4 5 (seqOf (rowIx t r)) 0 j) := by
  rw [seqOf_rowIx]
  blk_point [iblk, idx t]

theorem read2 (t : Fin cfg0.N) (r : Fin 512) (j : Fin 1024) : iblk m c 2 t (ix2 r j) = m ((c : Thread nD τ).loc main_arg2) (ix2 (rowIx t r) j) := by
  rw [← V_main_arg2 m c]
  blk_point [iblk, idx t, rowIx]

theorem read3 (t : Fin cfg0.N) (r : Fin 512) (j : Fin 1024) : iblk m c 3 t (ix2 r j) = m ((c : Thread nD τ).loc main_arg3) (ix2 (rowIx t r) j) := by
  rw [← V_main_arg3 m c]
  blk_point [iblk, idx t, rowIx]

theorem read4 (t : Fin cfg0.N) (r : Fin 512) (j : Fin 1024) : iblk m c 4 t (ix2 r j) = m ((c : Thread nD τ).loc main_arg4) (ix2 (rowIx t r) j) := by
  rw [← V_main_arg4 m c]
  blk_point [iblk, idx t, rowIx]

theorem read5 (t : Fin cfg0.N) (r : Fin 512) (j : Fin 1024) : iblk m c 5 t (ix2 r j) = m ((c : Thread nD τ).loc main_arg5) (ix2 (rowIx t r) j) := by
  rw [← V_main_arg5 m c]
  blk_point [iblk, idx t, rowIx]

theorem read6 (t : Fin cfg0.N) (e k : Fin 1024) : iblk m c 6 t (ix2 e k) = V m c main_v5 (ix2 e k) := by
  blk_point [iblk, idx t]

theorem read7 (t : Fin cfg0.N) (e k : Fin 1024) : iblk m c 7 t (ix2 e k) = V m c main_v7 (ix2 e k) := by
  blk_point [iblk, idx t]

theorem read8 (t : Fin cfg0.N) (e k : Fin 1024) : iblk m c 8 t (ix2 e k) = V m c main_v9 (ix2 e k) := by
  blk_point [iblk, idx t]

theorem read9 (t : Fin cfg0.N) (k : Fin 1024) : iblk m c 9 t (ix2 0 k) = V m c main_v14 (ix2 0 k) := by
  blk_point [iblk, idx t]

theorem read10 (t : Fin cfg0.N) (k : Fin 1024) : iblk m c 10 t (ix2 0 k) = V m c main_v15 (ix2 0 k) := by
  blk_point [iblk, idx t]

end Cert.Merge
end
-- ==== Proof.MergeRef.lean ====
/- The plain merge of the two mixers read at an index. -/
module
public import proofs.«01_k».proof.Proof.Gen.Reference4Ideal.Read
public import proofs.«01_k».proof.Proof.Layer

@[expose] public section

set_option maxRecDepth 32768

noncomputable section

namespace Cert.Merge

open Cert.Reference4Ideal Cert.Reference4Ideal.Gen Cert.Reference4Ideal.Read Idealize.ShloMosaic Idealize.ShloMosaic.TcCoe Idealize.SL.Sem Cert.Layer

variable (X : (⟨3, ![32, 2048, 1024]⟩ : Shape).Idx → EReal) (A : (⟨2, ![32, 9216]⟩ : Shape).Idx → EReal)
  (OA OB GA GB : (⟨2, ![65536, 1024]⟩ : Shape).Idx → EReal) (PA PB W : (⟨3, ![1, 1024, 1024]⟩ : Shape).Idx → EReal) (G B : (⟨3, ![1, 3, 1024]⟩ : Shape).Idx → EReal)

/-- the row of position `n` of sequence `b` -/
def flat (b : Fin 32) (n : Fin 2048) : Fin 65536 := ⟨b.val * 2048 + n.val, by omega⟩

theorem flat_seq_pos (i : Fin 65536) : flat (seqOf i) (posOf i) = i := Fin.ext (Nat.div_add_mod' i.val 2048)

/-- the two gated projections added -/
theorem v15_at (b : Fin 32) (n : Fin 2048) (k : Fin 1024) : val_main_v15 (F := Ideal) OA OB GA GB PA PB (ix3 b n k)
    = mixed (fun e => OA (ix2 (flat b n) e)) (fun e => PA (ix3 0 e k)) (fun e => OB (ix2 (flat b n) e)) (fun e => PB (ix3 0 e k)) (GA (ix2 (flat b n) k)) (GB (ix2 (flat b n) k)) := by
  unfold mixed flat
  pointwise [val_main_v15, val_main_v14, val_main_v13, val_main_v12, val_main_v11, val_main_v10, val_main_v9, val_main_v8, val_main_v7, val_main_v6, val_main_v5, val_main_v4, val_main_v3, val_main_v2, val_main_v1]

/-- the row before the norm -/
theorem v26_at (b : Fin 32) (n : Fin 2048) (j : Fin 1024) : val_main_v26 (F := Ideal) X A OA OB GA GB PA PB W (ix3 b n j)
    = ((Real.sqrt (Real.sqrt 2) : ℝ) : EReal) * X (ix3 b n j) + A (ix2 b (modIx 5 j)) * ∑ k, val_main_v15 (F := Ideal) OA OB GA GB PA PB (ix3 b n k) * W (ix3 0 k j) := by
  unfold modIx
  rw [← sqrt_sqrt_two]
  generalize hv : val_main_v15 (F := Ideal) OA OB GA GB PA PB = y
  pointwise [val_main_v26, val_main_v25, val_main_v24, val_main_v23, val_main_v22, val_main_v21, val_main_v20, val_main_v19, val_main_v18, val_main_v17, val_main_v16, val_main_v0, val_main_cst, hv]

/-- the result is a normed row -/
theorem v55_at (i : Fin 65536) (j : Fin 1024) : val_main_v55 (F := Ideal) X A OA OB GA GB PA PB W G B (ix2 i j)
    = normed (fun j => val_main_v26 (F := Ideal) X A OA OB GA GB PA PB W (ix3 (seqOf i) (posOf i) j)) j (G (ix3 0 1 j)) (B (ix3 0 1 j)) := by
  unfold normed mean seqOf posOf
  generalize hv : val_main_v26 (F := Ideal) X A OA OB GA GB PA PB W = y
  pointwise [val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_cst_0, val_main_cst_1, val_main_cst_2, val_main_cst_3, val_main_cst_4, hv]

/-- the plain merge's result, entry by entry -/
theorem ref_at (i : Fin 65536) (j : Fin 1024) : val_main_v55 (F := Ideal) X A OA OB GA GB PA PB W G B (ix2 i j)
    = normed (fun j => ((Real.sqrt (Real.sqrt 2) : ℝ) : EReal) * X (ix3 (seqOf i) (posOf i) j) + A (ix2 (seqOf i) (modIx 5 j))
      * ∑ k, mixed (fun e => OA (ix2 i e)) (fun e => PA (ix3 0 e k)) (fun e => OB (ix2 i e)) (fun e => PB (ix3 0 e k)) (GA (ix2 i k)) (GB (ix2 i k)) * W (ix3 0 k j)) j
      (G (ix3 0 1 j)) (B (ix3 0 1 j)) := by
  rw [v55_at]
  simp only [v26_at, v15_at, flat_seq_pos]

end Cert.Merge
end
-- ==== Proof.MergeFinal.lean ====
/- The merging kernel leaves the plain merge's array. -/
module
public import proofs.«01_k».proof.Defs
public import proofs.«01_k».proof.Proof.MergeKer
public import proofs.«01_k».proof.Proof.MergeRef
public import proofs.«01_k».proof.Proof.Gen.Kernel4.Frame
public import proofs.«01_k».proof.Proof.Gen.Reference4Ideal.Run
public import Idealize.ShloMosaic.Lib.Pipeline.Covers
public import Idealize.ShloMosaic.Lib.Quiescent

@[expose] public section

set_option maxRecDepth 32768

noncomputable section

namespace Cert.Merge

open Cert.Reference4Ideal.Read Cert.Kernel4Ideal.Gen Idealize.ShloMosaic Idealize.ShloMosaic.TcCoe Idealize.SL.Sem Cert.Layer
open Cert.Kernel4Ideal (nD τ sig main_arg0 main_arg1 main_arg2 main_arg3 main_arg4 main_arg5 main_arg6 main_arg7 main_arg8 main_arg9 main_arg10 cfg0 grid0)

/-- a tile whose blocks are the layer's arrays holds the plain merge's rows -/
theorem tile_eq (X : (⟨3, ![32, 2048, 1024]⟩ : Shape).Idx → EReal) (A : (⟨2, ![32, 9216]⟩ : Shape).Idx → EReal) (OA OB GA GB : (⟨2, ![65536, 1024]⟩ : Shape).Idx → EReal)
    (PA PB W : (⟨3, ![1, 1024, 1024]⟩ : Shape).Idx → EReal) (G B : (⟨3, ![1, 3, 1024]⟩ : Shape).Idx → EReal) (i : Fin 65536) (r : Fin 512)
    (x0 : Vec Ideal Cert.Kernel4Ideal.S512x1024 .f32) (x1 : Vec Ideal Cert.Kernel4Ideal.S1x1x1x1024 .f32) (x2 x3 x4 x5 : Vec Ideal Cert.Kernel4Ideal.S512x1024 .bf16)
    (x6 x7 x8 : Vec Ideal Cert.Kernel4Ideal.S1024x1024 .bf16) (x9 x10 : Vec Ideal Cert.Kernel4Ideal.S1x1024 .f32)
    (h0 : ∀ j, x0 (ix2 r j) = X (ix3 (seqOf i) (posOf i) j)) (h1 : ∀ j, x1 (ix4 0 0 0 j) = A (ix2 (seqOf i) (modIx 5 j)))
    (h2 : ∀ j, x2 (ix2 r j) = OA (ix2 i j)) (h3 : ∀ j, x3 (ix2 r j) = OB (ix2 i j)) (h4 : ∀ j, x4 (ix2 r j) = GA (ix2 i j)) (h5 : ∀ j, x5 (ix2 r j) = GB (ix2 i j))
    (h6 : ∀ e k, x6 (ix2 e k) = PA (ix3 0 e k)) (h7 : ∀ e k, x7 (ix2 e k) = PB (ix3 0 e k)) (h8 : ∀ e k, x8 (ix2 e k) = W (ix3 0 e k))
    (h9 : ∀ j, x9 (ix2 0 j) = G (ix3 0 1 j)) (h10 : ∀ j, x10 (ix2 0 j) = B (ix3 0 1 j)) (j : Fin 1024) :
    out0_11 x0 x1 x2 x3 x4 x5 x6 x7 x8 x9 x10 (ix2 r j) = val_main_v55 (F := Ideal) X A OA OB GA GB PA PB W G B (ix2 i j) := by
  rw [out_at, ref_at]
  simp only [h0, h1, h2, h3, h4, h5, h6, h7, h8, h9, h10]

variable (m : (ℓ : Loc nD τ sig) → Buf (Elt Ideal) ℓ) (c : Dev nD)

/-- the array the kernel leaves -/
theorem final : (dats m 0 c).arrAt 11 cfg0.N = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 11 _ ((cfg0.win 11).covers_of_index_surj rfl (by decide) fun β => ?_) fun t hf y => ?_
  · have h0 : (β 0 : ℕ) < 128 := (β 0).isLt
    have h1 : (β 1 : ℕ) < 1 := (β 1).isLt
    refine ⟨⟨(β 0 : ℕ), by rw [N_0]; omega⟩, fun a => ?_⟩
    refine (congrFun (idx _).2.2.2.2.2.2.2.2.2.2.2 a).trans ?_
    match a with
    | ⟨0, _⟩ => rfl
    | ⟨1, _⟩ => show 0 = (β 1 : ℕ); omega
  · blk_simp
    rw [after0_11]
    obtain ⟨r, j, rfl⟩ : ∃ (r : Fin 512) (j : Fin 1024), y = ix2 r j := ⟨y 0, y 1, funext fun a => by
      match a with
      | ⟨0, _⟩ => rfl
      | ⟨1, _⟩ => rfl⟩
    have ei : (Cert.Kernel4Ideal.win0_11.blk t).view.emb (ix2 r j) = ix2 (rowIx t r) j := funext fun a => Fin.ext (by
      match a with
      | ⟨0, _⟩ => blk_simp [idx t]; rfl
      | ⟨1, _⟩ => blk_simp [idx t])
    refine Eq.trans ?_ (congrArg _ ei).symm
    exact tile_eq _ _ _ _ _ _ _ _ _ _ _ (rowIx t r) r _ _ _ _ _ _ _ _ _ _ _ (fun j => (read0 m c t r j).trans (entry0 m c _ j)) (fun j => (read1 m c t r j).trans (entry3 m c 5 _ j))
      (read2 m c t r) (read3 m c t r) (read4 m c t r) (read5 m c t r)
      (fun e k => (read6 m c t e k).trans (entry5 m c e k)) (fun e k => (read7 m c t e k).trans (entry7 m c e k)) (fun e k => (read8 m c t e k).trans (entry9 m c e k))
      (fun j => (read9 m c t j).trans (entry14 m c j)) (fun j => (read10 m c t j).trans (entry15 m c j)) j

/-- The merging kernel keeps its arguments and leaves every counter at zero, on the machine's own numbers. -/
theorem frame_p : Cert.quiescent_Kernel4 := fun m g _ => Cert.Kernel4.Gen.frame m g

/-- The merging kernel keeps its arguments and leaves every counter at zero, over the reals. -/
theorem frame_pi : Cert.quiescent_Kernel4Ideal := fun m g _ => Cert.Kernel4Ideal.Gen.frame m g

/-- The plain merge keeps its arguments and leaves every counter at zero, over the reals. -/
theorem frame_ri : Cert.quiescent_Reference4Ideal := fun m g _ =>
  (θ_run _ _ _).mono (fun r h => ⟨fun c => (h c).2, sem_eq_zero_of_no_sems rfl r.2⟩) (Cert.Reference4Ideal.Value.run m g)

/-- The constant the kernel scales its input by stands for the fourth root of two. -/
theorem preserves : Cert.preserves_Kernel4_Kernel4Ideal := IdealRules.named_const.statement _ _ _ _ _ rfl

/-- The kernel's rows are the plain merge's. -/
theorem algebraic : Cert.algebraic_Kernel4Ideal_Reference4Ideal := by
  intro m g m' g' hpre hagree
  refine ⟨fun c => val_main_v55 (F := Ideal) (m (c.tc.loc Cert.Kernel4Ideal.main_arg0)) (m (c.tc.loc Cert.Kernel4Ideal.main_arg1)) (m (c.tc.loc Cert.Kernel4Ideal.main_arg2)) (m (c.tc.loc Cert.Kernel4Ideal.main_arg3)) (m (c.tc.loc Cert.Kernel4Ideal.main_arg4)) (m (c.tc.loc Cert.Kernel4Ideal.main_arg5)) (m (c.tc.loc Cert.Kernel4Ideal.main_arg6)) (m (c.tc.loc Cert.Kernel4Ideal.main_arg7)) (m (c.tc.loc Cert.Kernel4Ideal.main_arg8)) (m (c.tc.loc Cert.Kernel4Ideal.main_arg9)) (m (c.tc.loc Cert.Kernel4Ideal.main_arg10)),
    (θ_run _ _ _).mono (fun r h c => ?_) (Cert.Kernel4Ideal.Value.run_blocks m g), (θ_run _ _ _).mono (fun r h c => ?_) (Cert.Reference4Ideal.Value.run m' g')⟩
  · obtain ⟨h11, ha⟩ := h c
    exact ⟨h11.trans (final m c), ha⟩
  · obtain ⟨h55, ha⟩ := h c
    obtain ⟨e0, e1, e2, e3, e4, e5, e6, e7, e8, e9, e10⟩ := hagree c
    refine ⟨h55.trans ((val_main_v55_eq m' c).trans ?_), ha⟩
    rw [e0, e1, e2, e3, e4, e5, e6, e7, e8, e9, e10]

end Cert.Merge

end
-- ==== Proof.FfnNew.lean ====
/- The feed-forward layer over the sample group: one tile of 512 rows, four of each sequence, each row with its own modulation vectors. -/
module
public import proofs.«01_k».proof.Defs
public import proofs.«01_k».proof.Proof.Layer
public import proofs.«01_k».proof.Proof.Gen.Kernel5.Frame
public import proofs.«01_k».proof.Proof.Gen.Kernel5Ideal.Value
public import proofs.«01_k».proof.Proof.Gen.Reference5Ideal.Read
public import proofs.«01_k».proof.Proof.Gen.Reference5Ideal.Run
public import Idealize.ShloMosaic.Lib.Pipeline.ValueKit
public import Idealize.ShloMosaic.Lib.Pipeline.Covers
public import Idealize.ShloMosaic.Lib.Quiescent
public import Idealize.ShloMosaic.Lib.Claim

@[expose] public section

set_option maxRecDepth 32768

noncomputable section

namespace Cert.FfnNew

open Idealize.ShloMosaic Idealize.ShloMosaic.TcCoe Idealize.SL.Sem Cert.Layer

/-- a row of the layer before its norm: the scaled input row plus half the gate times the feed-forward row -/
def row (x a6 a7 a8 : Fin 1024 → EReal) (w1 w2 : Fin 1024 → Fin 2816 → EReal) (u : Fin 2816 → Fin 1024 → EReal) (j : Fin 1024) : EReal :=
  ((Real.sqrt (Real.sqrt 2) : ℝ) : EReal) * x j + Ideal.ofBits .f32 0x3F000000#32 * a8 j
    * ∑ k, gated (fun e => modulated (x e) (a7 e) (a6 e)) (fun e => w1 e k) (fun e => w2 e k) * u k j

/-! The plain layer. -/

section Plain

open Cert.Reference5Ideal Cert.Reference5Ideal.Gen Cert.Reference5Ideal.Read

variable (X : (⟨3, ![128, 4, 1024]⟩ : Shape).Idx → EReal) (A : (⟨2, ![128, 9216]⟩ : Shape).Idx → EReal)
  (W : (⟨4, ![1, 2, 1024, 5632]⟩ : Shape).Idx → EReal) (U : (⟨4, ![1, 2, 2816, 1024]⟩ : Shape).Idx → EReal) (G B : (⟨3, ![1, 3, 1024]⟩ : Shape).Idx → EReal)

/-- the modulated input -/
theorem v10_at (b : Fin 128) (n : Fin 4) (e : Fin 1024) : val_main_v10 (F := Ideal) X A (ix3 b n e) = modulated (X (ix3 b n e)) (A (ix2 b (modIx 7 e))) (A (ix2 b (modIx 6 e))) := by
  unfold modulated modIx
  pointwise [val_main_v10, val_main_v9, val_main_v8, val_main_v7, val_main_v6, val_main_v5, val_main_v4, val_main_v3, val_main_v2, val_main_v1, val_main_v0, val_main_cst]

/-- the gated hidden layer -/
theorem v23_at (b : Fin 128) (n : Fin 4) (k : Fin 2816) : val_main_v23 (F := Ideal) X A W (ix3 b n k)
    = gated (fun e => val_main_v10 (F := Ideal) X A (ix3 b n e)) (fun e => W (ix4 0 1 e ⟨k.val, by omega⟩)) (fun e => W (ix4 0 1 e ⟨2816 + k.val, by omega⟩)) := by
  unfold gated sigmoid
  generalize hv : val_main_v10 (F := Ideal) X A = y
  pointwise [val_main_v23, val_main_v22, val_main_v21, val_main_v20, val_main_v19, val_main_v18, val_main_v17, val_main_v16, val_main_v15, val_main_v14, val_main_v13, val_main_v12, val_main_v11,
    val_main_cst_0, val_main_cst_1, hv]

/-- the row before the norm -/
theorem v37_at (b : Fin 128) (n : Fin 4) (j : Fin 1024) : val_main_v37 (F := Ideal) X A W U (ix3 b n j)
    = ((Real.sqrt (Real.sqrt 2) : ℝ) : EReal) * X (ix3 b n j) + Ideal.ofBits .f32 0x3F000000#32 * A (ix2 b (modIx 8 j)) * ∑ k, val_main_v23 (F := Ideal) X A W (ix3 b n k) * U (ix4 0 1 k j) := by
  unfold modIx
  rw [← sqrt_sqrt_two]
  generalize hv : val_main_v23 (F := Ideal) X A W = y
  pointwise [val_main_v37, val_main_v36, val_main_v35, val_main_v34, val_main_v33, val_main_v32, val_main_v31, val_main_v30, val_main_v29, val_main_v28, val_main_v27, val_main_v26, val_main_v25, val_main_v24,
    val_main_v0, val_main_cst_2, val_main_cst_3, hv]

/-- the result is a normed row -/
theorem v66_at (i : Fin 512) (j : Fin 1024) : val_main_v66 (F := Ideal) X A W U G B (ix2 i j)
    = normed (fun j => val_main_v37 (F := Ideal) X A W U (ix3 (newSeq i) (newPos i) j)) j (G (ix3 0 2 j)) (B (ix3 0 2 j)) := by
  unfold normed mean newSeq newPos
  generalize hv : val_main_v37 (F := Ideal) X A W U = y
  pointwise [val_main_v66, val_main_v65, val_main_v64, val_main_v63, val_main_v62, val_main_v61, val_main_v60, val_main_v59, val_main_v58, val_main_v57, val_main_v56, val_main_v55, val_main_v54, val_main_v53,
    val_main_v52, val_main_v51, val_main_v50, val_main_v49, val_main_v48, val_main_v47, val_main_v46, val_main_v45, val_main_v44, val_main_v43, val_main_v42, val_main_v41, val_main_v40, val_main_v39, val_main_v38,
    val_main_cst_4, val_main_cst_5, val_main_cst_6, val_main_cst_7, val_main_cst_8, hv]

/-- the plain layer's result is the norm of that row -/
theorem ref_at (i : Fin 512) (j : Fin 1024) : val_main_v66 (F := Ideal) X A W U G B (ix2 i j)
    = normed (row (fun e => X (ix3 (newSeq i) (newPos i) e)) (fun e => A (ix2 (newSeq i) (modIx 6 e))) (fun e => A (ix2 (newSeq i) (modIx 7 e))) (fun e => A (ix2 (newSeq i) (modIx 8 e)))
      (fun e k => W (ix4 0 1 e ⟨k.val, by omega⟩)) (fun e k => W (ix4 0 1 e ⟨2816 + k.val, by omega⟩)) (fun k j => U (ix4 0 1 k j))) j (G (ix3 0 2 j)) (B (ix3 0 2 j)) := by
  rw [v66_at]
  refine congrArg (fun u => normed u j (G (ix3 0 2 j)) (B (ix3 0 2 j))) (funext fun j => ?_)
  unfold row
  rw [v37_at]
  simp only [v23_at, v10_at]

end Plain

/-! The kernel's tile. -/

open Cert.Kernel5Ideal Cert.Kernel5Ideal.Gen

/-- the tile's hidden layer -/
theorem pay3_at (x : Vec Ideal S512x1024 .f32) (s b : Vec Ideal S1x1x512x1024 .f32) (w1 w2 : Vec Ideal S1024x2816 .bf16) (r : Fin 512) (k : Fin 2816) :
    k0_pay3 x s b w1 w2 (ix2 r k) = gated (fun e => modulated (x (ix2 r e)) (s (ix4 0 0 r e)) (b (ix4 0 0 r e))) (fun e => w1 (ix2 e k)) (fun e => w2 (ix2 e k)) := by
  unfold gated sigmoid modulated
  pointwise [k0_pay3, k0_pay2]
  simp only [zero_sub]

/-- the tile's result from its hidden layer, its scaled input and its gate -/
theorem pay1_at (h : FVec Ideal S512x2816 .bf16) (x g2 : FVec Ideal S512x1024 .f32) (w : Vec Ideal S2816x1024 .bf16) (g b : Vec Ideal S1x1024 .f32) (r : Fin 512) (j : Fin 1024) :
    k0_pay1 h x g2 w g b (ix2 r j) = normed (fun j => x (ix2 r j) + g2 (ix2 r j) * ∑ k, h (ix2 r k) * w (ix2 k j)) j (g (ix2 0 j)) (b (ix2 0 j)) := by
  unfold normed mean
  pointwise [k0_pay1]

/-- the tile's scaled input -/
theorem pay4_at (x : Vec Ideal S512x1024 .f32) (r : Fin 512) (j : Fin 1024) : k0_pay4 x (ix2 r j) = ((Real.sqrt (Real.sqrt 2) : ℝ) : EReal) * x (ix2 r j) := by
  pointwise [k0_pay4, k0_pay2]
  rw [IdealRules.named_const.ideal_named_scalar _ _ _ _ rfl]

/-- half the tile's gate -/
theorem pay5_at (x : Vec Ideal S1x1x512x1024 .f32) (r : Fin 512) (j : Fin 1024) : k0_pay5 x (ix2 r j) = Ideal.ofBits .f32 0x3F000000#32 * x (ix4 0 0 r j) := by
  pointwise [k0_pay5]

/-- where each window's block lies -/
theorem idx : ∀ t : Fin cfg0.N, win0_0.index t = ![0, 0] ∧ win0_1.index t = ![6, 0, 0, 0] ∧ win0_2.index t = ![7, 0, 0, 0]
    ∧ win0_3.index t = ![8, 0, 0, 0] ∧ win0_4.index t = ![0, 0] ∧ win0_5.index t = ![0, 1] ∧ win0_6.index t = ![0, 0] ∧ win0_7.index t = ![0, 0] ∧ win0_8.index t = ![0, 0]
    ∧ win0_9.index t = ![0, 0] :=
  (by decide +kernel : ∀ t : Fin grid0.N, _)

variable (m : (ℓ : Loc nD τ sig) → Buf (Elt Ideal) ℓ) (c : Dev nD)

/-- the flat input's rows -/
theorem entry0 (i : Fin 512) (j : Fin 1024) : V m c main_v0 (ix2 i j) = m ((c : Thread nD τ).loc main_arg0) (ix3 (newSeq i) (newPos i) j) := by
  unfold newSeq newPos
  entry_read
  pointwise []

/-- the modulation vectors of each row -/
theorem entry5 (n : Fin 9) (i : Fin 512) (j : Fin 1024) : V m c main_v5 (ix4 n 0 i j) = m ((c : Thread nD τ).loc main_arg1) (ix2 (newSeq i) (modIx n j)) := by
  unfold newSeq
  entry_read
  pointwise []
  rfl

/-- the projection's weights -/
theorem entry9 (e : Fin 1024) (k : Fin 5632) : V m c main_v9 (ix2 e k) = m ((c : Thread nD τ).loc main_arg2) (ix4 0 1 e k) := by
  entry_read
  pointwise []

/-- the output weights -/
theorem entry13 (e : Fin 2816) (k : Fin 1024) : V m c main_v13 (ix2 e k) = m ((c : Thread nD τ).loc main_arg3) (ix4 0 1 e k) := by
  entry_read
  pointwise []

/-- the norm's weight -/
theorem entry18 (k : Fin 1024) : V m c main_v18 (ix2 0 k) = m ((c : Thread nD τ).loc main_arg4) (ix3 0 2 k) := by
  entry_read
  pointwise []

/-- the norm's shift -/
theorem entry19 (k : Fin 1024) : V m c main_v19 (ix2 0 k) = m ((c : Thread nD τ).loc main_arg5) (ix3 0 2 k) := by
  entry_read
  pointwise []

/-! The windows' blocks. -/

theorem read0 (t : Fin cfg0.N) (r : Fin 512) (j : Fin 1024) : iblk m c 0 t (ix2 r j) = V m c main_v0 (ix2 r j) := by
  blk_point [iblk, idx t]

theorem read1 (t : Fin cfg0.N) (r : Fin 512) (j : Fin 1024) : iblk m c 1 t (ix4 0 0 r j) = V m c main_v5 (ix4 6 0 r j) := by
  blk_point [iblk, idx t]

theorem read2 (t : Fin cfg0.N) (r : Fin 512) (j : Fin 1024) : iblk m c 2 t (ix4 0 0 r j) = V m c main_v5 (ix4 7 0 r j) := by
  blk_point [iblk, idx t]

theorem read3 (t : Fin cfg0.N) (r : Fin 512) (j : Fin 1024) : iblk m c 3 t (ix4 0 0 r j) = V m c main_v5 (ix4 8 0 r j) := by
  blk_point [iblk, idx t]

theorem read4 (t : Fin cfg0.N) (e : Fin 1024) (k : Fin 2816) : iblk m c 4 t (ix2 e k) = V m c main_v9 (ix2 e ⟨k.val, by omega⟩) := by
  blk_point [iblk, idx t]

theorem read5 (t : Fin cfg0.N) (e : Fin 1024) (k : Fin 2816) : iblk m c 5 t (ix2 e k) = V m c main_v9 (ix2 e ⟨2816 + k.val, by omega⟩) := by
  blk_point [iblk, idx t]

theorem read6 (t : Fin cfg0.N) (e : Fin 2816) (k : Fin 1024) : iblk m c 6 t (ix2 e k) = V m c main_v13 (ix2 e k) := by
  blk_point [iblk, idx t]

theorem read7 (t : Fin cfg0.N) (k : Fin 1024) : iblk m c 7 t (ix2 0 k) = V m c main_v18 (ix2 0 k) := by
  blk_point [iblk, idx t]

theorem read8 (t : Fin cfg0.N) (k : Fin 1024) : iblk m c 8 t (ix2 0 k) = V m c main_v19 (ix2 0 k) := by
  blk_point [iblk, idx t]

/-- what the body stores, from the blocks it reads -/
theorem out_at (x0 : Vec Ideal S512x1024 .f32) (x1 x2 x3 : Vec Ideal S1x1x512x1024 .f32) (x4 x5 : Vec Ideal S1024x2816 .bf16) (x6 : Vec Ideal S2816x1024 .bf16) (x7 x8 : Vec Ideal S1x1024 .f32)
    (r : Fin 512) (j : Fin 1024) :
    out0_9 x0 x1 x2 x3 x4 x5 x6 x7 x8 (ix2 r j) = normed (row (fun e => x0 (ix2 r e)) (fun e => x1 (ix4 0 0 r e)) (fun e => x2 (ix4 0 0 r e)) (fun e => x3 (ix4 0 0 r e))
      (fun e k => x4 (ix2 e k)) (fun e k => x5 (ix2 e k)) (fun k j => x6 (ix2 k j))) j (x7 (ix2 0 j)) (x8 (ix2 0 j)) := by
  unfold row
  frame_out
  rw [pay1_at]
  simp only [pay3_at, pay4_at, pay5_at]

open Cert.Reference5Ideal.Read in
/-- a tile whose blocks are the layer's arrays holds the plain layer's rows -/
theorem tile_eq (X : (⟨3, ![128, 4, 1024]⟩ : Shape).Idx → EReal) (A : (⟨2, ![128, 9216]⟩ : Shape).Idx → EReal) (W : (⟨4, ![1, 2, 1024, 5632]⟩ : Shape).Idx → EReal)
    (U : (⟨4, ![1, 2, 2816, 1024]⟩ : Shape).Idx → EReal) (G B : (⟨3, ![1, 3, 1024]⟩ : Shape).Idx → EReal) (r : Fin 512)
    (x0 : Vec Ideal S512x1024 .f32) (x1 x2 x3 : Vec Ideal S1x1x512x1024 .f32) (x4 x5 : Vec Ideal S1024x2816 .bf16) (x6 : Vec Ideal S2816x1024 .bf16) (x7 x8 : Vec Ideal S1x1024 .f32)
    (h0 : ∀ j, x0 (ix2 r j) = X (ix3 (newSeq r) (newPos r) j)) (h1 : ∀ j, x1 (ix4 0 0 r j) = A (ix2 (newSeq r) (modIx 6 j))) (h2 : ∀ j, x2 (ix4 0 0 r j) = A (ix2 (newSeq r) (modIx 7 j)))
    (h3 : ∀ j, x3 (ix4 0 0 r j) = A (ix2 (newSeq r) (modIx 8 j))) (h4 : ∀ e (k : Fin 2816), x4 (ix2 e k) = W (ix4 0 1 e ⟨k.val, by omega⟩))
    (h5 : ∀ e (k : Fin 2816), x5 (ix2 e k) = W (ix4 0 1 e ⟨2816 + k.val, by omega⟩)) (h6 : ∀ e k, x6 (ix2 e k) = U (ix4 0 1 e k))
    (h7 : ∀ j, x7 (ix2 0 j) = G (ix3 0 2 j)) (h8 : ∀ j, x8 (ix2 0 j) = B (ix3 0 2 j)) (j : Fin 1024) :
    out0_9 x0 x1 x2 x3 x4 x5 x6 x7 x8 (ix2 r j) = val_main_v66 (F := Ideal) X A W U G B (ix2 r j) := by
  rw [out_at, ref_at]
  simp only [h0, h1, h2, h3, h4, h5, h6, h7, h8]

open Cert.Reference5Ideal.Read in
/-- the array the kernel leaves -/
theorem final : (dats m 0 c).arrAt 9 cfg0.N = val_main_v66 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) := by
  refine (dats m 0 c).arrAt_eq_of_covers 9 _ ((cfg0.win 9).covers_of_index_surj rfl (by decide) fun β => ?_) fun t hf y => ?_
  · have h0 : (β 0 : ℕ) < 1 := (β 0).isLt
    have h1 : (β 1 : ℕ) < 1 := (β 1).isLt
    refine ⟨⟨0, by rw [N_0]; omega⟩, fun a => ?_⟩
    refine (congrFun (idx _).2.2.2.2.2.2.2.2.2 a).trans ?_
    match a with
    | ⟨0, _⟩ => show 0 = (β 0 : ℕ); omega
    | ⟨1, _⟩ => show 0 = (β 1 : ℕ); omega
  · blk_simp
    rw [after0_9]
    obtain ⟨r, j, rfl⟩ : ∃ (r : Fin 512) (j : Fin 1024), y = ix2 r j := ⟨y 0, y 1, funext fun a => by
      match a with
      | ⟨0, _⟩ => rfl
      | ⟨1, _⟩ => rfl⟩
    have ei : (win0_9.blk t).view.emb (ix2 r j) = ix2 r j := funext fun a => Fin.ext (by
      match a with
      | ⟨0, _⟩ => blk_simp [idx t]
      | ⟨1, _⟩ => blk_simp [idx t])
    refine Eq.trans ?_ (congrArg _ ei).symm
    exact tile_eq _ _ _ _ _ _ r _ _ _ _ _ _ _ _ _ (fun j => (read0 m c t r j).trans (entry0 m c _ j)) (fun j => (read1 m c t r j).trans (entry5 m c 6 _ j))
      (fun j => (read2 m c t r j).trans (entry5 m c 7 _ j)) (fun j => (read3 m c t r j).trans (entry5 m c 8 _ j)) (fun e k => (read4 m c t e k).trans (entry9 m c e _))
      (fun e k => (read5 m c t e k).trans (entry9 m c e _)) (fun e k => (read6 m c t e k).trans (entry13 m c e k)) (fun j => (read7 m c t j).trans (entry18 m c j))
      (fun j => (read8 m c t j).trans (entry19 m c j)) j

/-- The sample group's feed-forward kernel keeps its arguments and leaves every counter at zero, on the machine's own numbers. -/
theorem frame_p : Cert.quiescent_Kernel5 := fun m g _ => Cert.Kernel5.Gen.frame m g

/-- The sample group's feed-forward kernel keeps its arguments and leaves every counter at zero, over the reals. -/
theorem frame_pi : Cert.quiescent_Kernel5Ideal := fun m g _ => Cert.Kernel5Ideal.Gen.frame m g

/-- The plain layer at the sample group's shapes keeps its arguments and leaves every counter at zero, over the reals. -/
theorem frame_ri : Cert.quiescent_Reference5Ideal := fun m g _ =>
  (θ_run _ _ _).mono (fun r h => ⟨fun c => (h c).2, sem_eq_zero_of_no_sems rfl r.2⟩) (Cert.Reference5Ideal.Value.run m g)

/-- The constant the kernel scales its input by stands for the fourth root of two. -/
theorem preserves : Cert.preserves_Kernel5_Kernel5Ideal := IdealRules.named_const.statement _ _ _ _ _ rfl

open Cert.Reference5Ideal.Read in
/-- The kernel's rows are the plain feed-forward layer's. -/
theorem algebraic : Cert.algebraic_Kernel5Ideal_Reference5Ideal := by
  intro m g m' g' hpre hagree
  refine ⟨fun c => val_main_v66 (F := Ideal) (m (c.tc.loc main_arg0)) (m (c.tc.loc main_arg1)) (m (c.tc.loc main_arg2)) (m (c.tc.loc main_arg3)) (m (c.tc.loc main_arg4)) (m (c.tc.loc main_arg5)),
    (θ_run _ _ _).mono (fun r h c => ?_) (Cert.Kernel5Ideal.Value.run_blocks m g), (θ_run _ _ _).mono (fun r h c => ?_) (Cert.Reference5Ideal.Value.run m' g')⟩
  · obtain ⟨h9, ha⟩ := h c
    exact ⟨h9.trans (final m c), ha⟩
  · obtain ⟨h66, ha⟩ := h c
    obtain ⟨e0, e1, e2, e3, e4, e5⟩ := hagree c
    refine ⟨h66.trans ((val_main_v66_eq m' c).trans ?_), ha⟩
    rw [e0, e1, e2, e3, e4, e5]

end Cert.FfnNew

end
-- ==== Proof.InprojNewKer.lean ====
/- The projecting kernel over the sample group: tiles of 256 rows, four of each sequence, each row with its own modulation vectors. Past the modulation its tile is the prompt group's. -/
module
public import proofs.«01_k».proof.Proof.Gen.Kernel6Ideal.Value
public import proofs.«01_k».proof.Proof.InprojKer

@[expose] public section

set_option maxRecDepth 32768

noncomputable section

namespace Cert.InprojNew

open Cert.Kernel6Ideal Cert.Kernel6Ideal.Gen Idealize.ShloMosaic Idealize.ShloMosaic.TcCoe Idealize.SL.Sem Cert.Layer
open Cert.Inproj (proj swish weight floor decay)

/-- the modulated tile -/
theorem pay3_at (x : Vec Ideal S256x1024 .f32) (s b : Vec Ideal S1x1x256x1024 .f32) (r : Fin 256) (j : Fin 1024) :
    k0_pay3 x s b (ix2 r j) = modulated (x (ix2 r j)) (s (ix4 0 0 r j)) (b (ix4 0 0 r j)) := by
  unfold modulated
  pointwise [k0_pay3]

theorem pay4_at (x : Vec Ideal S256x1024 .f32) (s b : Vec Ideal S1x1x256x1024 .f32) (w : Vec Ideal S1024x1024 .bf16) (r : Fin 256) (j : Fin 1024) :
    k0_pay4 x s b w (ix2 r j) = swish (∑ e, k0_pay3 x s b (ix2 r e) * w (ix2 e j)) * (((Real.sqrt 128)⁻¹ : ℝ) : EReal) := by
  unfold swish sigmoid
  generalize hv : k0_pay3 x s b = y
  pointwise [k0_pay4, hv]
  rw [IdealRules.named_const.ideal_named_scalar _ _ _ _ rfl]
  simp only [zero_sub]

/-- the first row's exponential -/
theorem pay6_at (l : Vec Ideal S2x1024 .f32) (j : Fin 1024) : k0_pay6 l (ix1 j) = weight l 0 j := by
  rw [← Inproj.pay5_at]
  show k0_pay6 l (ix1 j) = k0_pay5 l (ix2 0 j)
  generalize hv : k0_pay5 l = y
  pointwise [k0_pay6, hv]
  rw [Fin.sum_univ_one]

/-- the decay's tile -/
theorem pay7_at (y : FVec Ideal S256x1024 .bf16) (w : Vec Ideal S1024x1024 .bf16) (r : Fin 256) (j : Fin 1024) (l : Vec Ideal S2x1024 .f32) :
    k0_pay7 y (Cert.Kernel3Ideal.Gen.k0_pay5 l) (k0_pay6 l) w (ix2 r j) = decay (floor l j) (∑ e, y (ix2 r e) * w (ix2 e j)) := by
  unfold decay Cert.Inproj.floor sigmoid
  rw [← pay6_at]
  simp only [← Inproj.pay5_at]
  generalize hs : Cert.Kernel3Ideal.Gen.k0_pay5 l = s
  generalize hf : k0_pay6 l = f
  pointwise [k0_pay7, hs, hf]
  simp only [Fin.sum_univ_one, zero_sub]

theorem pay8_at (y : FVec Ideal S256x1024 .bf16) (w : Vec Ideal S1024x1024 .bf16) (r : Fin 256) (j : Fin 1024) (s : FVec Ideal S2x1024 .f32) (f : FVec Ideal S1024 .f32) :
    k0_pay8 y s f w (ix2 r j) = Ideal.log (k0_pay7 y s f w (ix2 r j)) := by
  generalize hv : k0_pay7 y s f w = d
  pointwise [k0_pay8, hv]

theorem pay9_at (y : FVec Ideal S256x1024 .bf16) (w : Vec Ideal S1024x1024 .bf16) (r : Fin 256) (j : Fin 1024) (s : FVec Ideal S2x1024 .f32) (f : FVec Ideal S1024 .f32) :
    k0_pay9 y s f w (ix2 r j) = 1 - k0_pay7 y s f w (ix2 r j) := by
  generalize hv : k0_pay7 y s f w = d
  pointwise [k0_pay9, hv]

theorem pay13_at (y : FVec Ideal S256x1024 .bf16) (w : Vec Ideal S1024x1024 .bf16) (r : Fin 256) (j : Fin 1024) :
    k0_pay13 (k0_pay11 y w) (k0_pay12 (F := Ideal)) (ix2 r j) = swish (∑ e, y (ix2 r e) * w (ix2 e j)) := by
  unfold swish sigmoid
  pointwise [k0_pay13, k0_pay12, k0_pay11]
  simp only [zero_sub]

/-! What the body stores, from the blocks it reads. -/

section blocks
variable (x0 : Vec Ideal S256x1024 .f32) (x1 x2 : Vec Ideal S1x1x256x1024 .f32) (x3 : Vec Ideal S1024x9216 .bf16) (x4 : Vec Ideal S2x1024 .f32) (r : Fin 256) (j : Fin 1024)

/-- part `n` of row `r` of the tile's projection -/
def tilePart (n : Fin 9) : EReal := proj (fun e => x0 (ix2 r e)) (fun e => x2 (ix4 0 0 r e)) (fun e => x1 (ix4 0 0 r e)) (fun e => x3 (ix2 e (modIx n j)))

/-- a load of the rows' modulation vectors reads them -/
theorem ld_ada : View.ld x1 r0_1 = x1 := funext fun i => by
  obtain ⟨a, b, c, j, rfl⟩ : ∃ (a b : Fin 1) (c : Fin 256) (j : Fin 1024), i = ix4 a b c j := ⟨i 0, i 1, i 2, i 3, funext fun a => by fin_cases a <;> rfl⟩
  rw [Subsingleton.elim a 0, Subsingleton.elim b 0]
  pointwise []

theorem pay19_eq : k0_pay19 x0 x1 x2 x3 x4 = k0_pay3 x0 x2 x1 := by
  unfold k0_pay19
  rw [ld_ada, ld_ada]
  exact congrArg (fun x => k0_pay3 x x2 x1) (Inproj.ld_row x0)

theorem pay20_eq : k0_pay20 x0 x1 x2 x3 x4 = Cert.Kernel3Ideal.Gen.k0_pay5 x4 := congrArg Cert.Kernel3Ideal.Gen.k0_pay5 (Inproj.ld_bound x4)

theorem pay21_eq : k0_pay21 x0 x1 x2 x3 x4 = k0_pay6 x4 := congrArg (k0_pay6 (F := Ideal)) (Inproj.ld_bound x4)

theorem tile5 : out0_5 x0 x1 x2 x3 x4 (ix2 r j) = swish (tilePart x0 x1 x2 x3 r j 0) * (((Real.sqrt 128)⁻¹ : ℝ) : EReal) := by
  unfold tilePart proj
  simp only [← Inproj.w0_at, ← pay3_at]
  frame_out
  rw [pay4_at]

theorem tile6 : out0_6 x0 x1 x2 x3 x4 (ix2 r j) = Ideal.log (decay (floor x4 j) (tilePart x0 x1 x2 x3 r j 1)) := by
  unfold tilePart proj
  simp only [← Inproj.w1_at, ← pay3_at]
  frame_out
  rw [pay19_eq, pay20_eq, pay21_eq]
  rw [pay8_at, pay7_at]

theorem tile7 : out0_7 x0 x1 x2 x3 x4 (ix2 r j) = 1 - decay (floor x4 j) (tilePart x0 x1 x2 x3 r j 1) := by
  unfold tilePart proj
  simp only [← Inproj.w1_at, ← pay3_at]
  frame_out
  rw [pay19_eq, pay20_eq, pay21_eq]
  rw [pay9_at, pay7_at]

theorem tile8 : out0_8 x0 x1 x2 x3 x4 (ix2 r j) = tilePart x0 x1 x2 x3 r j 2 := by
  unfold tilePart proj
  simp only [← Inproj.w2_at, ← pay3_at]
  frame_out
  rw [pay19_eq]
  exact Inproj.pay10_at _ _ r j

theorem tile9 : out0_9 x0 x1 x2 x3 x4 (ix2 r j) = swish (tilePart x0 x1 x2 x3 r j 3) := by
  unfold tilePart proj
  simp only [← Inproj.w3_at, ← pay3_at]
  frame_out
  rw [pay19_eq, pay13_at]

theorem tile10 : out0_10 x0 x1 x2 x3 x4 (ix2 r j) = tilePart x0 x1 x2 x3 r j 4 * ((1 / 8 * (Real.log 2)⁻¹ : ℝ) : EReal) := by
  unfold tilePart proj
  simp only [← Inproj.w4_at, ← pay3_at]
  frame_out
  rw [pay19_eq]
  exact Inproj.pay13_at _ _ r j

theorem tile11 : out0_11 x0 x1 x2 x3 x4 (ix2 r j) = tilePart x0 x1 x2 x3 r j 5 := by
  unfold tilePart proj
  simp only [← Inproj.w5_at, ← pay3_at]
  frame_out
  rw [pay19_eq]
  exact Inproj.pay14_at _ _ r j

theorem tile12 : out0_12 x0 x1 x2 x3 x4 (ix2 r j) = tilePart x0 x1 x2 x3 r j 5 := by
  unfold tilePart proj
  simp only [← Inproj.w5_at, ← pay3_at]
  frame_out
  rw [pay19_eq]
  exact Inproj.pay14_at _ _ r j

theorem tile13 : out0_13 x0 x1 x2 x3 x4 (ix2 r j) = tilePart x0 x1 x2 x3 r j 6 := by
  unfold tilePart proj
  simp only [← Inproj.w6_at, ← pay3_at]
  frame_out
  rw [pay19_eq]
  exact Inproj.pay16_at _ _ r j

theorem tile14 : out0_14 x0 x1 x2 x3 x4 (ix2 r j) = tilePart x0 x1 x2 x3 r j 6 := by
  unfold tilePart proj
  simp only [← Inproj.w6_at, ← pay3_at]
  frame_out
  rw [pay19_eq]
  exact Inproj.pay16_at _ _ r j

theorem tile15 : out0_15 x0 x1 x2 x3 x4 (ix2 r j) = sigmoid (tilePart x0 x1 x2 x3 r j 7) := by
  unfold tilePart proj
  simp only [← Inproj.w7_at, ← pay3_at]
  frame_out
  rw [pay19_eq]
  exact Inproj.pay1_at _ _ r j

theorem tile16 : out0_16 x0 x1 x2 x3 x4 (ix2 r j) = sigmoid (tilePart x0 x1 x2 x3 r j 8) := by
  unfold tilePart proj
  simp only [← Inproj.w8_at, ← pay3_at]
  frame_out
  rw [pay19_eq]
  exact Inproj.pay2_at _ _ r j

end blocks

/-- where each window's block lies -/
theorem idx : ∀ t : Fin cfg0.N, win0_0.index t = ![t.val, 0] ∧ win0_1.index t = ![3, 0, t.val, 0] ∧ win0_2.index t = ![4, 0, t.val, 0] ∧ win0_3.index t = ![0, 0]
    ∧ win0_4.index t = ![0, 0] :=
  (by decide +kernel : ∀ t : Fin grid0.N, _)

/-- every result's block is the tile's rows -/
theorem idxOut : ∀ t : Fin cfg0.N, win0_5.index t = ![t.val, 0] ∧ win0_6.index t = ![t.val, 0] ∧ win0_7.index t = ![t.val, 0] ∧ win0_8.index t = ![t.val, 0] ∧ win0_9.index t = ![t.val, 0]
    ∧ win0_10.index t = ![t.val, 0] ∧ win0_11.index t = ![t.val, 0] ∧ win0_12.index t = ![t.val, 0] ∧ win0_13.index t = ![t.val, 0] ∧ win0_14.index t = ![t.val, 0]
    ∧ win0_15.index t = ![t.val, 0] ∧ win0_16.index t = ![t.val, 0] :=
  (by decide +kernel : ∀ t : Fin grid0.N, _)

/-- there are two tiles -/
theorem points (t : Fin cfg0.N) : t.val < 2 := lt_of_lt_of_eq t.isLt N_0

/-- the flat row of row `r` of tile `t` -/
def rowIx (t : Fin cfg0.N) (r : Fin 256) : Fin 512 := ⟨t.val * 256 + r.val, by have := points t; omega⟩

variable (m : (ℓ : Loc nD τ sig) → Buf (Elt Ideal) ℓ) (c : Dev nD)

/-! The arrays the region finds, from the arguments. -/

/-- the flat input's rows -/
theorem entry0 (i : Fin 512) (j : Fin 1024) : V m c main_v0 (ix2 i j) = m ((c : Thread nD τ).loc main_arg0) (ix3 (newSeq i) (newPos i) j) := by
  unfold newSeq newPos
  entry_read
  pointwise []

/-- the modulation vectors of each row -/
theorem entry5 (n : Fin 9) (i : Fin 512) (j : Fin 1024) : V m c main_v5 (ix4 n 0 i j) = m ((c : Thread nD τ).loc main_arg1) (ix2 (newSeq i) (modIx n j)) := by
  unfold newSeq
  entry_read
  pointwise []
  rfl

/-- the projection's weights -/
theorem entry7 (e : Fin 1024) (k : Fin 9216) : V m c main_v7 (ix2 e k) = m ((c : Thread nD τ).loc main_arg2) (ix3 0 e k) := by
  entry_read
  pointwise []

/-! The windows' blocks at tile `t`. -/

theorem read0 (t : Fin cfg0.N) (r : Fin 256) (j : Fin 1024) : iblk m c 0 t (ix2 r j) = V m c main_v0 (ix2 (rowIx t r) j) := by
  blk_point [iblk, idx t, rowIx]

theorem read1 (t : Fin cfg0.N) (r : Fin 256) (j : Fin 1024) : iblk m c 1 t (ix4 0 0 r j) = V m c main_v5 (ix4 3 0 (rowIx t r) j) := by
  blk_point [iblk, idx t, rowIx]

theorem read2 (t : Fin cfg0.N) (r : Fin 256) (j : Fin 1024) : iblk m c 2 t (ix4 0 0 r j) = V m c main_v5 (ix4 4 0 (rowIx t r) j) := by
  blk_point [iblk, idx t, rowIx]

theorem read3 (t : Fin cfg0.N) (e : Fin 1024) (k : Fin 9216) : iblk m c 3 t (ix2 e k) = V m c main_v7 (ix2 e k) := by
  blk_point [iblk, idx t]

theorem read4 (t : Fin cfg0.N) (k : Fin 2) (j : Fin 1024) : iblk m c 4 t (ix2 k j) = m ((c : Thread nD τ).loc main_arg3) (ix2 k j) := by
  rw [← V_main_arg3 m c]
  blk_point [iblk, idx t]

end Cert.InprojNew
end
-- ==== Proof.InprojNewRef.lean ====
/- The plain input projection at the sample group's shapes, read at an index. -/
module
public import proofs.«01_k».proof.Proof.Gen.Reference6Ideal.Read
public import proofs.«01_k».proof.Proof.InprojForms

@[expose] public section

set_option maxRecDepth 32768

noncomputable section

namespace Cert.InprojNew

open Cert.Reference6Ideal Cert.Reference6Ideal.Gen Cert.Reference6Ideal.Read Idealize.ShloMosaic Idealize.ShloMosaic.TcCoe Idealize.SL.Sem Cert.Layer
open Cert.Inproj (proj swish top weight floor decay neg_inf running_first key_scale attn_scale)

variable (X : (⟨3, ![128, 4, 1024]⟩ : Shape).Idx → EReal) (A : (⟨2, ![128, 9216]⟩ : Shape).Idx → EReal)
  (W : (⟨3, ![1, 1024, 9216]⟩ : Shape).Idx → EReal) (L : (⟨2, ![2, 1024]⟩ : Shape).Idx → EReal)

/-- the modulated input -/
theorem v24_at (b : Fin 128) (n : Fin 4) (e : Fin 1024) : val_main_v24 (F := Ideal) X A (ix3 b n e) = modulated (X (ix3 b n e)) (A (ix2 b (modIx 4 e))) (A (ix2 b (modIx 3 e))) := by
  unfold modulated modIx
  pointwise [val_main_v24, val_main_v23, val_main_v22, val_main_v21, val_main_v20, val_main_v19, val_main_v18, val_main_v17, val_main_v16, val_main_v15, val_main_v14, val_main_cst_2]

/-- the projected row -/
theorem v26_at (b : Fin 128) (n : Fin 4) (k : Fin 9216) : val_main_v26 (F := Ideal) X A W (ix3 b n k)
    = proj (fun e => X (ix3 b n e)) (fun e => A (ix2 b (modIx 4 e))) (fun e => A (ix2 b (modIx 3 e))) (fun e => W (ix3 0 e k)) := by
  unfold proj
  simp only [← v24_at]
  generalize hv : val_main_v24 (F := Ideal) X A = y
  pointwise [val_main_v26, val_main_v25, hv]

/-- column `j` of part `n` of the projected row `i` -/
def part (n : Fin 9) (i : Fin 512) (j : Fin 1024) : EReal :=
  proj (fun e => X (ix3 (newSeq i) (newPos i) e)) (fun e => A (ix2 (newSeq i) (modIx 4 e))) (fun e => A (ix2 (newSeq i) (modIx 3 e))) (fun e => W (ix3 0 e (modIx n j)))

/-! The nine parts of the projected row. -/

theorem part0 (i : Fin 512) (j : Fin 1024) : val_main_v36 (F := Ideal) X A W (ix2 i j) = part X A W 0 i j := by
  unfold part
  rw [← v26_at]
  unfold modIx newSeq newPos
  generalize hv : val_main_v26 (F := Ideal) X A W = y
  pointwise [val_main_v36, val_main_v27, hv]

theorem part1 (i : Fin 512) (j : Fin 1024) : val_main_v37 (F := Ideal) X A W (ix2 i j) = part X A W 1 i j := by
  unfold part
  rw [← v26_at]
  unfold modIx newSeq newPos
  generalize hv : val_main_v26 (F := Ideal) X A W = y
  pointwise [val_main_v37, val_main_v28, hv]

theorem part2 (i : Fin 512) (j : Fin 1024) : val_main_v38 (F := Ideal) X A W (ix2 i j) = part X A W 2 i j := by
  unfold part
  rw [← v26_at]
  unfold modIx newSeq newPos
  generalize hv : val_main_v26 (F := Ideal) X A W = y
  pointwise [val_main_v38, val_main_v29, hv]

theorem part3 (i : Fin 512) (j : Fin 1024) : val_main_v39 (F := Ideal) X A W (ix2 i j) = part X A W 3 i j := by
  unfold part
  rw [← v26_at]
  unfold modIx newSeq newPos
  generalize hv : val_main_v26 (F := Ideal) X A W = y
  pointwise [val_main_v39, val_main_v30, hv]

theorem part4 (i : Fin 512) (j : Fin 1024) : val_main_v40 (F := Ideal) X A W (ix2 i j) = part X A W 4 i j := by
  unfold part
  rw [← v26_at]
  unfold modIx newSeq newPos
  generalize hv : val_main_v26 (F := Ideal) X A W = y
  pointwise [val_main_v40, val_main_v31, hv]

theorem part5 (i : Fin 512) (j : Fin 1024) : val_main_v41 (F := Ideal) X A W (ix2 i j) = part X A W 5 i j := by
  unfold part
  rw [← v26_at]
  unfold modIx newSeq newPos
  generalize hv : val_main_v26 (F := Ideal) X A W = y
  pointwise [val_main_v41, val_main_v32, hv]

theorem part6 (i : Fin 512) (j : Fin 1024) : val_main_v42 (F := Ideal) X A W (ix2 i j) = part X A W 6 i j := by
  unfold part
  rw [← v26_at]
  unfold modIx newSeq newPos
  generalize hv : val_main_v26 (F := Ideal) X A W = y
  pointwise [val_main_v42, val_main_v33, hv]

theorem part7 (i : Fin 512) (j : Fin 1024) : val_main_v43 (F := Ideal) X A W (ix2 i j) = part X A W 7 i j := by
  unfold part
  rw [← v26_at]
  unfold modIx newSeq newPos
  generalize hv : val_main_v26 (F := Ideal) X A W = y
  pointwise [val_main_v43, val_main_v34, hv]

theorem part8 (i : Fin 512) (j : Fin 1024) : val_main_v44 (F := Ideal) X A W (ix2 i j) = part X A W 8 i j := by
  unfold part
  rw [← v26_at]
  unfold modIx newSeq newPos
  generalize hv : val_main_v26 (F := Ideal) X A W = y
  pointwise [val_main_v44, val_main_v35, hv]

/-- the larger of the two rows -/
theorem top_at (j : Fin 1024) : val_main_v2 (F := Ideal) L (ix1 j) = top L j := by
  unfold top
  pointwise [val_main_v2, val_main_v1, val_main_v0, val_main_cst, val_main_cst_0]
  exact max_eq_right (by rw [neg_inf]; exact bot_le)

/-- the first row's share -/
theorem share_at (j : Fin 1024) : val_main_v10 (F := Ideal) L (ix2 0 j) = floor L j := by
  unfold Cert.Inproj.floor weight
  rw [← top_at]
  generalize hv : val_main_v2 (F := Ideal) L = y
  pointwise [val_main_v10, val_main_v9, val_main_v8, val_main_v7, val_main_v6, val_main_v5, val_main_v4, val_main_v3, val_main_cst_1, hv]

/-- the running sum's first row is that share -/
theorem floor_at (j : Fin 1024) : val_main_v13 (F := Ideal) L (ix1 j) = floor L j := by
  have h : val_main_v11 (F := Ideal) L (ix2 0 j) = val_main_v10 (F := Ideal) L (ix2 0 j) :=
    running_first _ _ (fun i => by pointwise [val_main_call0_call0_v0, val_main_call0_call0_cst]) _ _ j
  rw [← share_at, ← h]
  generalize hv : val_main_v11 (F := Ideal) L = y
  pointwise [val_main_v13, val_main_v12, hv]

/-- the decay -/
theorem decay_at (i : Fin 512) (j : Fin 1024) : val_main_v58 (F := Ideal) X A W L (ix2 i j) = decay (floor L j) (part X A W 1 i j) := by
  unfold decay sigmoid
  rw [← floor_at, ← part1]
  generalize hv : val_main_v37 (F := Ideal) X A W = y
  generalize hl : val_main_v13 (F := Ideal) L = l
  pointwise [val_main_v58, val_main_v57, val_main_v56, val_main_v55, val_main_v54, val_main_v53, val_main_v52, val_main_v51, val_main_v50, val_main_v49, val_main_v48, val_main_v47,
    val_main_v46, val_main_v45, val_main_cst_3, val_main_cst_4, val_main_cst_5, hv, hl]

/-! The twelve results. -/

theorem ref0 (i : Fin 512) (j : Fin 1024) : val_main_v74 (F := Ideal) X A W (ix2 i j) = swish (part X A W 0 i j) * (((Real.sqrt 128)⁻¹ : ℝ) : EReal) := by
  unfold swish sigmoid
  rw [← part0, ← key_scale]
  generalize hv : val_main_v36 (F := Ideal) X A W = y
  pointwise [val_main_v74, val_main_v69, val_main_v68, val_main_v67, val_main_v66, val_main_v65, val_main_v64, val_main_v63, val_main_v62, val_main_v61, val_main_v60, val_main_v59,
    val_main_cst_6, val_main_cst_7, val_main_cst_8, val_main_cst_9, hv]

theorem ref1 (i : Fin 512) (j : Fin 1024) : val_main_v75 (F := Ideal) X A W L (ix2 i j) = Ideal.log (decay (floor L j) (part X A W 1 i j)) := by
  rw [← decay_at]
  generalize hv : val_main_v58 (F := Ideal) X A W L = y
  pointwise [val_main_v75, hv]

theorem ref2 (i : Fin 512) (j : Fin 1024) : val_main_v78 (F := Ideal) X A W L (ix2 i j) = 1 - decay (floor L j) (part X A W 1 i j) := by
  rw [← decay_at]
  generalize hv : val_main_v58 (F := Ideal) X A W L = y
  pointwise [val_main_v78, val_main_v77, val_main_v76, val_main_cst_12, hv]

theorem ref3 (i : Fin 512) (j : Fin 1024) : val_main_v79 (F := Ideal) X A W (ix2 i j) = part X A W 2 i j := part2 X A W i j

theorem ref4 (i : Fin 512) (j : Fin 1024) : val_main_v87 (F := Ideal) X A W (ix2 i j) = swish (part X A W 3 i j) := by
  unfold swish sigmoid
  rw [← part3]
  generalize hv : val_main_v39 (F := Ideal) X A W = y
  pointwise [val_main_v87, val_main_v86, val_main_v85, val_main_v84, val_main_v83, val_main_v82, val_main_v81, val_main_v80, val_main_cst_13, val_main_cst_14, hv]

theorem ref5 (i : Fin 512) (j : Fin 1024) : val_main_v88 (F := Ideal) X A W (ix2 i j) = part X A W 4 i j * ((1 / 8 * (Real.log 2)⁻¹ : ℝ) : EReal) := by
  rw [← part4, ← attn_scale]
  generalize hv : val_main_v40 (F := Ideal) X A W = y
  pointwise [val_main_v88, val_main_v73, val_main_v72, val_main_v71, val_main_v70, val_main_cst_10, val_main_cst_11, hv]

theorem ref7 (i : Fin 512) (j : Fin 1024) : val_main_v89 (F := Ideal) X A W (ix2 i j) = part X A W 5 i j := part5 X A W i j

theorem ref9 (i : Fin 512) (j : Fin 1024) : val_main_v90 (F := Ideal) X A W (ix2 i j) = part X A W 6 i j := part6 X A W i j

theorem ref10 (i : Fin 512) (j : Fin 1024) : val_main_v97 (F := Ideal) X A W (ix2 i j) = sigmoid (part X A W 7 i j) := by
  unfold sigmoid
  rw [← part7]
  generalize hv : val_main_v43 (F := Ideal) X A W = y
  pointwise [val_main_v97, val_main_v96, val_main_v95, val_main_v94, val_main_v93, val_main_v92, val_main_v91, val_main_cst_15, val_main_cst_16, hv]

theorem ref11 (i : Fin 512) (j : Fin 1024) : val_main_v104 (F := Ideal) X A W (ix2 i j) = sigmoid (part X A W 8 i j) := by
  unfold sigmoid
  rw [← part8]
  generalize hv : val_main_v44 (F := Ideal) X A W = y
  pointwise [val_main_v104, val_main_v103, val_main_v102, val_main_v101, val_main_v100, val_main_v99, val_main_v98, val_main_cst_17, val_main_cst_18, hv]

end Cert.InprojNew
end
-- ==== Proof.InprojNewFinal.lean ====
/- Over the sample group the projecting kernel leaves the plain projection's twelve arrays. -/
module
public import proofs.«01_k».proof.Defs
public import proofs.«01_k».proof.Proof.InprojNewKer
public import proofs.«01_k».proof.Proof.InprojNewRef
public import proofs.«01_k».proof.Proof.Gen.Kernel6.Frame
public import proofs.«01_k».proof.Proof.Gen.Reference6Ideal.Run
public import Idealize.ShloMosaic.Lib.Pipeline.Covers
public import Idealize.ShloMosaic.Lib.Quiescent

@[expose] public section

set_option maxRecDepth 32768

noncomputable section

namespace Cert.InprojNew

open Cert.Reference6Ideal.Read Cert.Kernel6Ideal.Gen Idealize.ShloMosaic Idealize.ShloMosaic.TcCoe Idealize.SL.Sem Cert.Layer
open Cert.Kernel6Ideal (nD τ sig main_arg0 main_arg1 main_arg2 main_arg3 cfg0 grid0)

/-- the blocks a tile reads hold the layer's arrays: row `r` of the tile is row `i` of the flat input -/
structure Holds (X : (⟨3, ![128, 4, 1024]⟩ : Shape).Idx → EReal) (A : (⟨2, ![128, 9216]⟩ : Shape).Idx → EReal) (W : (⟨3, ![1, 1024, 9216]⟩ : Shape).Idx → EReal)
    (L : (⟨2, ![2, 1024]⟩ : Shape).Idx → EReal) (i : Fin 512) (r : Fin 256) (x0 : Vec Ideal Cert.Kernel6Ideal.S256x1024 .f32) (x1 x2 : Vec Ideal Cert.Kernel6Ideal.S1x1x256x1024 .f32)
    (x3 : Vec Ideal Cert.Kernel6Ideal.S1024x9216 .bf16) (x4 : Vec Ideal Cert.Kernel6Ideal.S2x1024 .f32) : Prop where
  row : ∀ j, x0 (ix2 r j) = X (ix3 (newSeq i) (newPos i) j)
  shift : ∀ j, x1 (ix4 0 0 r j) = A (ix2 (newSeq i) (modIx 3 j))
  scale : ∀ j, x2 (ix4 0 0 r j) = A (ix2 (newSeq i) (modIx 4 j))
  weights : ∀ e k, x3 (ix2 e k) = W (ix3 0 e k)
  bound : ∀ k j, x4 (ix2 k j) = L (ix2 k j)

section tiles
variable {X : (⟨3, ![128, 4, 1024]⟩ : Shape).Idx → EReal} {A : (⟨2, ![128, 9216]⟩ : Shape).Idx → EReal} {W : (⟨3, ![1, 1024, 9216]⟩ : Shape).Idx → EReal}
  {L : (⟨2, ![2, 1024]⟩ : Shape).Idx → EReal} {i : Fin 512} {r : Fin 256} {x0 : Vec Ideal Cert.Kernel6Ideal.S256x1024 .f32} {x1 x2 : Vec Ideal Cert.Kernel6Ideal.S1x1x256x1024 .f32}
  {x3 : Vec Ideal Cert.Kernel6Ideal.S1024x9216 .bf16} {x4 : Vec Ideal Cert.Kernel6Ideal.S2x1024 .f32}

/-- a part of the tile's projection is that part of the plain one -/
theorem Holds.part (h : Holds X A W L i r x0 x1 x2 x3 x4) (n : Fin 9) (j : Fin 1024) : tilePart x0 x1 x2 x3 r j n = InprojNew.part X A W n i j := by
  unfold tilePart InprojNew.part
  simp only [h.row, h.shift, h.scale, h.weights]

/-- the tile's floor is the plain one -/
theorem Holds.floor (h : Holds X A W L i r x0 x1 x2 x3 x4) (j : Fin 1024) : Inproj.floor x4 j = Inproj.floor L j := by
  unfold Inproj.floor Inproj.weight Inproj.top
  simp only [h.bound]

/-! What the tile stores is the plain projection's rows, result by result. -/

theorem Holds.eq5 (h : Holds X A W L i r x0 x1 x2 x3 x4) (j : Fin 1024) : out0_5 x0 x1 x2 x3 x4 (ix2 r j) = val_main_v74 (F := Ideal) X A W (ix2 i j) := by
  rw [tile5, ref0, h.part]

theorem Holds.eq6 (h : Holds X A W L i r x0 x1 x2 x3 x4) (j : Fin 1024) : out0_6 x0 x1 x2 x3 x4 (ix2 r j) = val_main_v75 (F := Ideal) X A W L (ix2 i j) := by
  rw [tile6, ref1, h.part, h.floor]

theorem Holds.eq7 (h : Holds X A W L i r x0 x1 x2 x3 x4) (j : Fin 1024) : out0_7 x0 x1 x2 x3 x4 (ix2 r j) = val_main_v78 (F := Ideal) X A W L (ix2 i j) := by
  rw [tile7, ref2, h.part, h.floor]

theorem Holds.eq8 (h : Holds X A W L i r x0 x1 x2 x3 x4) (j : Fin 1024) : out0_8 x0 x1 x2 x3 x4 (ix2 r j) = val_main_v79 (F := Ideal) X A W (ix2 i j) := by
  rw [tile8, ref3, h.part]

theorem Holds.eq9 (h : Holds X A W L i r x0 x1 x2 x3 x4) (j : Fin 1024) : out0_9 x0 x1 x2 x3 x4 (ix2 r j) = val_main_v87 (F := Ideal) X A W (ix2 i j) := by
  rw [tile9, ref4, h.part]

theorem Holds.eq10 (h : Holds X A W L i r x0 x1 x2 x3 x4) (j : Fin 1024) : out0_10 x0 x1 x2 x3 x4 (ix2 r j) = val_main_v88 (F := Ideal) X A W (ix2 i j) := by
  rw [tile10, ref5, h.part]

theorem Holds.eq11 (h : Holds X A W L i r x0 x1 x2 x3 x4) (j : Fin 1024) : out0_11 x0 x1 x2 x3 x4 (ix2 r j) = val_main_v41 (F := Ideal) X A W (ix2 i j) := by
  rw [tile11, part5, h.part]

theorem Holds.eq12 (h : Holds X A W L i r x0 x1 x2 x3 x4) (j : Fin 1024) : out0_12 x0 x1 x2 x3 x4 (ix2 r j) = val_main_v89 (F := Ideal) X A W (ix2 i j) := by
  rw [tile12, ref7, h.part]

theorem Holds.eq13 (h : Holds X A W L i r x0 x1 x2 x3 x4) (j : Fin 1024) : out0_13 x0 x1 x2 x3 x4 (ix2 r j) = val_main_v42 (F := Ideal) X A W (ix2 i j) := by
  rw [tile13, part6, h.part]

theorem Holds.eq14 (h : Holds X A W L i r x0 x1 x2 x3 x4) (j : Fin 1024) : out0_14 x0 x1 x2 x3 x4 (ix2 r j) = val_main_v90 (F := Ideal) X A W (ix2 i j) := by
  rw [tile14, ref9, h.part]

theorem Holds.eq15 (h : Holds X A W L i r x0 x1 x2 x3 x4) (j : Fin 1024) : out0_15 x0 x1 x2 x3 x4 (ix2 r j) = val_main_v97 (F := Ideal) X A W (ix2 i j) := by
  rw [tile15, ref10, h.part]

theorem Holds.eq16 (h : Holds X A W L i r x0 x1 x2 x3 x4) (j : Fin 1024) : out0_16 x0 x1 x2 x3 x4 (ix2 r j) = val_main_v104 (F := Ideal) X A W (ix2 i j) := by
  rw [tile16, ref11, h.part]

end tiles

variable (m : (ℓ : Loc nD τ sig) → Buf (Elt Ideal) ℓ) (c : Dev nD)

/-- the blocks at tile `t` hold the arguments -/
theorem holds (t : Fin cfg0.N) (r : Fin 256) : Holds (m ((c : Thread nD τ).loc main_arg0)) (m ((c : Thread nD τ).loc main_arg1)) (m ((c : Thread nD τ).loc main_arg2)) (m ((c : Thread nD τ).loc main_arg3)) (rowIx t r) r
    (iblk m c 0 t) (iblk m c 1 t) (iblk m c 2 t) (iblk m c 3 t) (iblk m c 4 t) :=
  ⟨fun j => (read0 m c t r j).trans (entry0 m c _ j), fun j => (read1 m c t r j).trans (entry5 m c 3 _ j), fun j => (read2 m c t r j).trans (entry5 m c 4 _ j),
    fun e k => (read3 m c t e k).trans (entry7 m c e k), read4 m c t⟩

/-- the tile whose block number is `b` -/
theorem tile_of (b : Fin 2 → ℕ) (h0 : b 0 < 2) (h1 : b 1 < 1) : ∃ t : Fin cfg0.N, ∀ a, (![t.val, 0] : Fin 2 → ℕ) a = b a :=
  ⟨⟨b 0, lt_of_lt_of_eq h0 N_0.symm⟩, fun a => by
    match a with
    | ⟨0, _⟩ => rfl
    | ⟨1, _⟩ => show 0 = b 1; omega⟩

/-- an index of a tile is a row and a column -/
theorem rowCol (y : Cert.Kernel6Ideal.S256x1024.Idx) : ∃ (r : Fin 256) (j : Fin 1024), y = ix2 r j := ⟨y 0, y 1, funext fun a => by
  match a with
  | ⟨0, _⟩ => rfl
  | ⟨1, _⟩ => rfl⟩

/-! The arrays the kernel leaves. -/

/-- the scaled query of the recurrence -/
theorem final5 : (dats m 0 c).arrAt 5 cfg0.N = val_main_v74 (F := Ideal) (m ((c : Thread nD τ).loc main_arg0)) (m ((c : Thread nD τ).loc main_arg1)) (m ((c : Thread nD τ).loc main_arg2)) := by
  refine (dats m 0 c).arrAt_eq_of_covers 5 _ ((cfg0.win 5).covers_of_index_surj rfl (by decide) fun β => ?_) fun t hf y => ?_
  · obtain ⟨t, ht⟩ := tile_of (fun a => β a) (β 0).isLt (β 1).isLt
    exact ⟨t, fun a => (congrFun ((idxOut t).1) a).trans (ht a)⟩
  · blk_simp
    rw [after0_5]
    obtain ⟨r, j, rfl⟩ := rowCol y
    have ei : (Cert.Kernel6Ideal.win0_5.blk t).view.emb (ix2 r j) = ix2 (rowIx t r) j := funext fun a => Fin.ext (by
      match a with
      | ⟨0, _⟩ => blk_simp [idxOut t]; rfl
      | ⟨1, _⟩ => blk_simp [idxOut t])
    exact ((holds m c t r).eq5 j).trans (congrArg _ ei).symm

/-- the log of the decay -/
theorem final6 : (dats m 0 c).arrAt 6 cfg0.N = val_main_v75 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ ((cfg0.win 6).covers_of_index_surj rfl (by decide) fun β => ?_) fun t hf y => ?_
  · obtain ⟨t, ht⟩ := tile_of (fun a => β a) (β 0).isLt (β 1).isLt
    exact ⟨t, fun a => (congrFun ((idxOut t).2.1) a).trans (ht a)⟩
  · blk_simp
    rw [after0_6]
    obtain ⟨r, j, rfl⟩ := rowCol y
    have ei : (Cert.Kernel6Ideal.win0_6.blk t).view.emb (ix2 r j) = ix2 (rowIx t r) j := funext fun a => Fin.ext (by
      match a with
      | ⟨0, _⟩ => blk_simp [idxOut t]; rfl
      | ⟨1, _⟩ => blk_simp [idxOut t])
    exact ((holds m c t r).eq6 j).trans (congrArg _ ei).symm

/-- one less the decay -/
theorem final7 : (dats m 0 c).arrAt 7 cfg0.N = val_main_v78 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ ((cfg0.win 7).covers_of_index_surj rfl (by decide) fun β => ?_) fun t hf y => ?_
  · obtain ⟨t, ht⟩ := tile_of (fun a => β a) (β 0).isLt (β 1).isLt
    exact ⟨t, fun a => (congrFun ((idxOut t).2.2.1) a).trans (ht a)⟩
  · blk_simp
    rw [after0_7]
    obtain ⟨r, j, rfl⟩ := rowCol y
    have ei : (Cert.Kernel6Ideal.win0_7.blk t).view.emb (ix2 r j) = ix2 (rowIx t r) j := funext fun a => Fin.ext (by
      match a with
      | ⟨0, _⟩ => blk_simp [idxOut t]; rfl
      | ⟨1, _⟩ => blk_simp [idxOut t])
    exact ((holds m c t r).eq7 j).trans (congrArg _ ei).symm

/-- the recurrence's value -/
theorem final8 : (dats m 0 c).arrAt 8 cfg0.N = val_main_v79 (F := Ideal) (m ((c : Thread nD τ).loc main_arg0)) (m ((c : Thread nD τ).loc main_arg1)) (m ((c : Thread nD τ).loc main_arg2)) := by
  refine (dats m 0 c).arrAt_eq_of_covers 8 _ ((cfg0.win 8).covers_of_index_surj rfl (by decide) fun β => ?_) fun t hf y => ?_
  · obtain ⟨t, ht⟩ := tile_of (fun a => β a) (β 0).isLt (β 1).isLt
    exact ⟨t, fun a => (congrFun ((idxOut t).2.2.2.1) a).trans (ht a)⟩
  · blk_simp
    rw [after0_8]
    obtain ⟨r, j, rfl⟩ := rowCol y
    have ei : (Cert.Kernel6Ideal.win0_8.blk t).view.emb (ix2 r j) = ix2 (rowIx t r) j := funext fun a => Fin.ext (by
      match a with
      | ⟨0, _⟩ => blk_simp [idxOut t]; rfl
      | ⟨1, _⟩ => blk_simp [idxOut t])
    exact ((holds m c t r).eq8 j).trans (congrArg _ ei).symm

/-- the recurrence's output gate -/
theorem final9 : (dats m 0 c).arrAt 9 cfg0.N = val_main_v87 (F := Ideal) (m ((c : Thread nD τ).loc main_arg0)) (m ((c : Thread nD τ).loc main_arg1)) (m ((c : Thread nD τ).loc main_arg2)) := by
  refine (dats m 0 c).arrAt_eq_of_covers 9 _ ((cfg0.win 9).covers_of_index_surj rfl (by decide) fun β => ?_) fun t hf y => ?_
  · obtain ⟨t, ht⟩ := tile_of (fun a => β a) (β 0).isLt (β 1).isLt
    exact ⟨t, fun a => (congrFun ((idxOut t).2.2.2.2.1) a).trans (ht a)⟩
  · blk_simp
    rw [after0_9]
    obtain ⟨r, j, rfl⟩ := rowCol y
    have ei : (Cert.Kernel6Ideal.win0_9.blk t).view.emb (ix2 r j) = ix2 (rowIx t r) j := funext fun a => Fin.ext (by
      match a with
      | ⟨0, _⟩ => blk_simp [idxOut t]; rfl
      | ⟨1, _⟩ => blk_simp [idxOut t])
    exact ((holds m c t r).eq9 j).trans (congrArg _ ei).symm

/-- the scaled query of the attention -/
theorem final10 : (dats m 0 c).arrAt 10 cfg0.N = val_main_v88 (F := Ideal) (m ((c : Thread nD τ).loc main_arg0)) (m ((c : Thread nD τ).loc main_arg1)) (m ((c : Thread nD τ).loc main_arg2)) := by
  refine (dats m 0 c).arrAt_eq_of_covers 10 _ ((cfg0.win 10).covers_of_index_surj rfl (by decide) fun β => ?_) fun t hf y => ?_
  · obtain ⟨t, ht⟩ := tile_of (fun a => β a) (β 0).isLt (β 1).isLt
    exact ⟨t, fun a => (congrFun ((idxOut t).2.2.2.2.2.1) a).trans (ht a)⟩
  · blk_simp
    rw [after0_10]
    obtain ⟨r, j, rfl⟩ := rowCol y
    have ei : (Cert.Kernel6Ideal.win0_10.blk t).view.emb (ix2 r j) = ix2 (rowIx t r) j := funext fun a => Fin.ext (by
      match a with
      | ⟨0, _⟩ => blk_simp [idxOut t]; rfl
      | ⟨1, _⟩ => blk_simp [idxOut t])
    exact ((holds m c t r).eq10 j).trans (congrArg _ ei).symm

/-- its key -/
theorem final11 : (dats m 0 c).arrAt 11 cfg0.N = val_main_v41 (F := Ideal) (m ((c : Thread nD τ).loc main_arg0)) (m ((c : Thread nD τ).loc main_arg1)) (m ((c : Thread nD τ).loc main_arg2)) := by
  refine (dats m 0 c).arrAt_eq_of_covers 11 _ ((cfg0.win 11).covers_of_index_surj rfl (by decide) fun β => ?_) fun t hf y => ?_
  · obtain ⟨t, ht⟩ := tile_of (fun a => β a) (β 0).isLt (β 1).isLt
    exact ⟨t, fun a => (congrFun ((idxOut t).2.2.2.2.2.2.1) a).trans (ht a)⟩
  · blk_simp
    rw [after0_11]
    obtain ⟨r, j, rfl⟩ := rowCol y
    have ei : (Cert.Kernel6Ideal.win0_11.blk t).view.emb (ix2 r j) = ix2 (rowIx t r) j := funext fun a => Fin.ext (by
      match a with
      | ⟨0, _⟩ => blk_simp [idxOut t]; rfl
      | ⟨1, _⟩ => blk_simp [idxOut t])
    exact ((holds m c t r).eq11 j).trans (congrArg _ ei).symm

/-- the key once more, narrowed -/
theorem final12 : (dats m 0 c).arrAt 12 cfg0.N = val_main_v89 (F := Ideal) (m ((c : Thread nD τ).loc main_arg0)) (m ((c : Thread nD τ).loc main_arg1)) (m ((c : Thread nD τ).loc main_arg2)) := by
  refine (dats m 0 c).arrAt_eq_of_covers 12 _ ((cfg0.win 12).covers_of_index_surj rfl (by decide) fun β => ?_) fun t hf y => ?_
  · obtain ⟨t, ht⟩ := tile_of (fun a => β a) (β 0).isLt (β 1).isLt
    exact ⟨t, fun a => (congrFun ((idxOut t).2.2.2.2.2.2.2.1) a).trans (ht a)⟩
  · blk_simp
    rw [after0_12]
    obtain ⟨r, j, rfl⟩ := rowCol y
    have ei : (Cert.Kernel6Ideal.win0_12.blk t).view.emb (ix2 r j) = ix2 (rowIx t r) j := funext fun a => Fin.ext (by
      match a with
      | ⟨0, _⟩ => blk_simp [idxOut t]; rfl
      | ⟨1, _⟩ => blk_simp [idxOut t])
    exact ((holds m c t r).eq12 j).trans (congrArg _ ei).symm

/-- its value -/
theorem final13 : (dats m 0 c).arrAt 13 cfg0.N = val_main_v42 (F := Ideal) (m ((c : Thread nD τ).loc main_arg0)) (m ((c : Thread nD τ).loc main_arg1)) (m ((c : Thread nD τ).loc main_arg2)) := by
  refine (dats m 0 c).arrAt_eq_of_covers 13 _ ((cfg0.win 13).covers_of_index_surj rfl (by decide) fun β => ?_) fun t hf y => ?_
  · obtain ⟨t, ht⟩ := tile_of (fun a => β a) (β 0).isLt (β 1).isLt
    exact ⟨t, fun a => (congrFun ((idxOut t).2.2.2.2.2.2.2.2.1) a).trans (ht a)⟩
  · blk_simp
    rw [after0_13]
    obtain ⟨r, j, rfl⟩ := rowCol y
    have ei : (Cert.Kernel6Ideal.win0_13.blk t).view.emb (ix2 r j) = ix2 (rowIx t r) j := funext fun a => Fin.ext (by
      match a with
      | ⟨0, _⟩ => blk_simp [idxOut t]; rfl
      | ⟨1, _⟩ => blk_simp [idxOut t])
    exact ((holds m c t r).eq13 j).trans (congrArg _ ei).symm

/-- the value once more, narrowed -/
theorem final14 : (dats m 0 c).arrAt 14 cfg0.N = val_main_v90 (F := Ideal) (m ((c : Thread nD τ).loc main_arg0)) (m ((c : Thread nD τ).loc main_arg1)) (m ((c : Thread nD τ).loc main_arg2)) := by
  refine (dats m 0 c).arrAt_eq_of_covers 14 _ ((cfg0.win 14).covers_of_index_surj rfl (by decide) fun β => ?_) fun t hf y => ?_
  · obtain ⟨t, ht⟩ := tile_of (fun a => β a) (β 0).isLt (β 1).isLt
    exact ⟨t, fun a => (congrFun ((idxOut t).2.2.2.2.2.2.2.2.2.1) a).trans (ht a)⟩
  · blk_simp
    rw [after0_14]
    obtain ⟨r, j, rfl⟩ := rowCol y
    have ei : (Cert.Kernel6Ideal.win0_14.blk t).view.emb (ix2 r j) = ix2 (rowIx t r) j := funext fun a => Fin.ext (by
      match a with
      | ⟨0, _⟩ => blk_simp [idxOut t]; rfl
      | ⟨1, _⟩ => blk_simp [idxOut t])
    exact ((holds m c t r).eq14 j).trans (congrArg _ ei).symm

/-- the gate of the recurrence -/
theorem final15 : (dats m 0 c).arrAt 15 cfg0.N = val_main_v97 (F := Ideal) (m ((c : Thread nD τ).loc main_arg0)) (m ((c : Thread nD τ).loc main_arg1)) (m ((c : Thread nD τ).loc main_arg2)) := by
  refine (dats m 0 c).arrAt_eq_of_covers 15 _ ((cfg0.win 15).covers_of_index_surj rfl (by decide) fun β => ?_) fun t hf y => ?_
  · obtain ⟨t, ht⟩ := tile_of (fun a => β a) (β 0).isLt (β 1).isLt
    exact ⟨t, fun a => (congrFun ((idxOut t).2.2.2.2.2.2.2.2.2.2.1) a).trans (ht a)⟩
  · blk_simp
    rw [after0_15]
    obtain ⟨r, j, rfl⟩ := rowCol y
    have ei : (Cert.Kernel6Ideal.win0_15.blk t).view.emb (ix2 r j) = ix2 (rowIx t r) j := funext fun a => Fin.ext (by
      match a with
      | ⟨0, _⟩ => blk_simp [idxOut t]; rfl
      | ⟨1, _⟩ => blk_simp [idxOut t])
    exact ((holds m c t r).eq15 j).trans (congrArg _ ei).symm

/-- the gate of the attention -/
theorem final16 : (dats m 0 c).arrAt 16 cfg0.N = val_main_v104 (F := Ideal) (m ((c : Thread nD τ).loc main_arg0)) (m ((c : Thread nD τ).loc main_arg1)) (m ((c : Thread nD τ).loc main_arg2)) := by
  refine (dats m 0 c).arrAt_eq_of_covers 16 _ ((cfg0.win 16).covers_of_index_surj rfl (by decide) fun β => ?_) fun t hf y => ?_
  · obtain ⟨t, ht⟩ := tile_of (fun a => β a) (β 0).isLt (β 1).isLt
    exact ⟨t, fun a => (congrFun ((idxOut t).2.2.2.2.2.2.2.2.2.2.2) a).trans (ht a)⟩
  · blk_simp
    rw [after0_16]
    obtain ⟨r, j, rfl⟩ := rowCol y
    have ei : (Cert.Kernel6Ideal.win0_16.blk t).view.emb (ix2 r j) = ix2 (rowIx t r) j := funext fun a => Fin.ext (by
      match a with
      | ⟨0, _⟩ => blk_simp [idxOut t]; rfl
      | ⟨1, _⟩ => blk_simp [idxOut t])
    exact ((holds m c t r).eq16 j).trans (congrArg _ ei).symm

/-- The sample group's projecting kernel keeps its arguments and leaves every counter at zero, on the machine's own numbers. -/
theorem frame_p : Cert.quiescent_Kernel6 := fun m g _ => Cert.Kernel6.Gen.frame m g

/-- The sample group's projecting kernel keeps its arguments and leaves every counter at zero, over the reals. -/
theorem frame_pi : Cert.quiescent_Kernel6Ideal := fun m g _ => Cert.Kernel6Ideal.Gen.frame m g

/-- The plain projection at the sample group's shapes keeps its arguments and leaves every counter at zero, over the reals. -/
theorem frame_ri : Cert.quiescent_Reference6Ideal := fun m g _ =>
  (θ_run _ _ _).mono (fun r h => ⟨fun c => (h c).2.2.2.2.2.2.2.2.2.2.2.2, sem_eq_zero_of_no_sems rfl r.2⟩) (Cert.Reference6Ideal.Value.run m g)

/-- The two constants the kernel scales its queries by stand for one over the square root of 128 and for an eighth over the logarithm of two. -/
theorem preserves : Cert.preserves_Kernel6_Kernel6Ideal :=
  ⟨IdealRules.named_const.statement _ _ _ _ _ rfl, IdealRules.named_const.statement _ _ _ _ _ rfl⟩

/-- The sample group's twelve arrays are the plain projection's. -/
theorem algebraic : Cert.algebraic_Kernel6Ideal_Reference6Ideal := by
  intro m g m' g' hpre hagree
  refine ⟨fun c => val_main_v74 (F := Ideal) (m (c.tc.loc Cert.Kernel6Ideal.main_arg0)) (m (c.tc.loc Cert.Kernel6Ideal.main_arg1)) (m (c.tc.loc Cert.Kernel6Ideal.main_arg2)),
    fun c => val_main_v75 (F := Ideal) (m (c.tc.loc Cert.Kernel6Ideal.main_arg0)) (m (c.tc.loc Cert.Kernel6Ideal.main_arg1)) (m (c.tc.loc Cert.Kernel6Ideal.main_arg2)) (m (c.tc.loc Cert.Kernel6Ideal.main_arg3)),
    fun c => val_main_v78 (F := Ideal) (m (c.tc.loc Cert.Kernel6Ideal.main_arg0)) (m (c.tc.loc Cert.Kernel6Ideal.main_arg1)) (m (c.tc.loc Cert.Kernel6Ideal.main_arg2)) (m (c.tc.loc Cert.Kernel6Ideal.main_arg3)),
    fun c => val_main_v79 (F := Ideal) (m (c.tc.loc Cert.Kernel6Ideal.main_arg0)) (m (c.tc.loc Cert.Kernel6Ideal.main_arg1)) (m (c.tc.loc Cert.Kernel6Ideal.main_arg2)),
    fun c => val_main_v87 (F := Ideal) (m (c.tc.loc Cert.Kernel6Ideal.main_arg0)) (m (c.tc.loc Cert.Kernel6Ideal.main_arg1)) (m (c.tc.loc Cert.Kernel6Ideal.main_arg2)),
    fun c => val_main_v88 (F := Ideal) (m (c.tc.loc Cert.Kernel6Ideal.main_arg0)) (m (c.tc.loc Cert.Kernel6Ideal.main_arg1)) (m (c.tc.loc Cert.Kernel6Ideal.main_arg2)),
    fun c => val_main_v41 (F := Ideal) (m (c.tc.loc Cert.Kernel6Ideal.main_arg0)) (m (c.tc.loc Cert.Kernel6Ideal.main_arg1)) (m (c.tc.loc Cert.Kernel6Ideal.main_arg2)),
    fun c => val_main_v89 (F := Ideal) (m (c.tc.loc Cert.Kernel6Ideal.main_arg0)) (m (c.tc.loc Cert.Kernel6Ideal.main_arg1)) (m (c.tc.loc Cert.Kernel6Ideal.main_arg2)),
    fun c => val_main_v42 (F := Ideal) (m (c.tc.loc Cert.Kernel6Ideal.main_arg0)) (m (c.tc.loc Cert.Kernel6Ideal.main_arg1)) (m (c.tc.loc Cert.Kernel6Ideal.main_arg2)),
    fun c => val_main_v90 (F := Ideal) (m (c.tc.loc Cert.Kernel6Ideal.main_arg0)) (m (c.tc.loc Cert.Kernel6Ideal.main_arg1)) (m (c.tc.loc Cert.Kernel6Ideal.main_arg2)),
    fun c => val_main_v97 (F := Ideal) (m (c.tc.loc Cert.Kernel6Ideal.main_arg0)) (m (c.tc.loc Cert.Kernel6Ideal.main_arg1)) (m (c.tc.loc Cert.Kernel6Ideal.main_arg2)),
    fun c => val_main_v104 (F := Ideal) (m (c.tc.loc Cert.Kernel6Ideal.main_arg0)) (m (c.tc.loc Cert.Kernel6Ideal.main_arg1)) (m (c.tc.loc Cert.Kernel6Ideal.main_arg2)),
    (θ_run _ _ _).mono (fun r h c => ?_) (Cert.Kernel6Ideal.Value.run_blocks m g), (θ_run _ _ _).mono (fun r h c => ?_) (Cert.Reference6Ideal.Value.run m' g')⟩
  · obtain ⟨h0, h1, h2, h3, h4, h5, h6, h7, h8, h9, h10, h11, ha⟩ := h c
    exact ⟨h0.trans (final5 m c), h1.trans (final6 m c), h2.trans (final7 m c), h3.trans (final8 m c), h4.trans (final9 m c), h5.trans (final10 m c), h6.trans (final11 m c), h7.trans (final12 m c), h8.trans (final13 m c), h9.trans (final14 m c), h10.trans (final15 m c), h11.trans (final16 m c), ha⟩
  · obtain ⟨h0, h1, h2, h3, h4, h5, h6, h7, h8, h9, h10, h11, ha⟩ := h c
    obtain ⟨e0, e1, e2, e3⟩ := hagree c
    refine ⟨(h0.trans (val_main_v74_eq (m' (c.tc.loc Cert.Reference6Ideal.main_arg0)) (m' (c.tc.loc Cert.Reference6Ideal.main_arg1)) (m' (c.tc.loc Cert.Reference6Ideal.main_arg2)))).trans ?_, (h1.trans (val_main_v75_eq m' c)).trans ?_, (h2.trans (val_main_v78_eq m' c)).trans ?_, (h3.trans (val_main_v79_eq (m' (c.tc.loc Cert.Reference6Ideal.main_arg0)) (m' (c.tc.loc Cert.Reference6Ideal.main_arg1)) (m' (c.tc.loc Cert.Reference6Ideal.main_arg2)))).trans ?_, (h4.trans (val_main_v87_eq (m' (c.tc.loc Cert.Reference6Ideal.main_arg0)) (m' (c.tc.loc Cert.Reference6Ideal.main_arg1)) (m' (c.tc.loc Cert.Reference6Ideal.main_arg2)))).trans ?_, (h5.trans (val_main_v88_eq (m' (c.tc.loc Cert.Reference6Ideal.main_arg0)) (m' (c.tc.loc Cert.Reference6Ideal.main_arg1)) (m' (c.tc.loc Cert.Reference6Ideal.main_arg2)))).trans ?_, (h6.trans (val_main_v41_eq (m' (c.tc.loc Cert.Reference6Ideal.main_arg0)) (m' (c.tc.loc Cert.Reference6Ideal.main_arg1)) (m' (c.tc.loc Cert.Reference6Ideal.main_arg2)))).trans ?_, (h7.trans (val_main_v89_eq (m' (c.tc.loc Cert.Reference6Ideal.main_arg0)) (m' (c.tc.loc Cert.Reference6Ideal.main_arg1)) (m' (c.tc.loc Cert.Reference6Ideal.main_arg2)))).trans ?_, (h8.trans (val_main_v42_eq (m' (c.tc.loc Cert.Reference6Ideal.main_arg0)) (m' (c.tc.loc Cert.Reference6Ideal.main_arg1)) (m' (c.tc.loc Cert.Reference6Ideal.main_arg2)))).trans ?_, (h9.trans (val_main_v90_eq (m' (c.tc.loc Cert.Reference6Ideal.main_arg0)) (m' (c.tc.loc Cert.Reference6Ideal.main_arg1)) (m' (c.tc.loc Cert.Reference6Ideal.main_arg2)))).trans ?_, (h10.trans (val_main_v97_eq (m' (c.tc.loc Cert.Reference6Ideal.main_arg0)) (m' (c.tc.loc Cert.Reference6Ideal.main_arg1)) (m' (c.tc.loc Cert.Reference6Ideal.main_arg2)))).trans ?_, (h11.trans (val_main_v104_eq (m' (c.tc.loc Cert.Reference6Ideal.main_arg0)) (m' (c.tc.loc Cert.Reference6Ideal.main_arg1)) (m' (c.tc.loc Cert.Reference6Ideal.main_arg2)))).trans ?_, ha⟩
    all_goals first | rw [e0, e1, e2, e3] | rw [e0, e1, e2]

end Cert.InprojNew

end
-- ==== Proof.NewHead.lean ====
/- ONE HEAD of the sample group's chunk: what the body does to the state with the 16 rows of one head. Written once; the eight heads of the body are this function of eight
   column slices. Read at an index it needs no condition on the rows: sums of extended reals may be taken in any order, and the factor `1 / log 2` goes in and out of them. -/
module
public import proofs.«01_k».proof.Proof.HeadAt
public import proofs.«01_k».proof.Proof.Gen.Kernel7Ideal.Value

@[expose] public section

set_option maxRecDepth 16384

noncomputable section

namespace Cert.HgrnNew

open Cert.Kernel7Ideal Cert.Kernel7Ideal.Gen Idealize.ShloMosaic Idealize.ShloMosaic.TcCoe Idealize.SL.Sem
open Cert.Hgrn (win win_one win_double win_all endRow isUpper select_word eq_word lg log_two_pos)

local notation "F" => Ideal

/-! ## The function -/

/-- the rows whose number is at least `n` -/
def rowGe (n : BitVec 32) : IVec S16x128 1 := cmpi .sge (iota .tc S16x128 32 [0] iota_S16x128_d0_w32) (broadcast S16x128 n)

/-- the rows in the upper half of their block (`w` is the block's length less one, `n` its half) -/
def upper (w n : BitVec 32) : IVec S16x128 1 :=
  cmpi .sge (andi (iota .tc S16x128 32 [0] iota_S16x128_d0_w32) (broadcast S16x128 w)) (broadcast S16x128 n)

/-- one doubling step of the running sum: each row adds the row `n` above it, where there is one -/
def addAbove (n : BitVec 32) (b : FVec F S16x128 .f32) : FVec F S16x128 .f32 :=
  addf b (select (rowGe n) (dynamicRotate 0 n none b rotates_S16x128_d0) (broadcast S16x128 (Scalar.ofBits .f32 0x00000000#32)))

/-- the log decays over log 2 -/
def scaled (g : Vec F S1x16x128 .f32) : FVec F S16x128 .f32 :=
  mulf (shapeCast S16x128 g shapeCasts_S1x16x128_S16x128) (broadcast S16x128 (Named.named κ "log2e" 0x3FB8AA3B#32))

/-- their running sum along the rows -/
def runSum (g : Vec F S1x16x128 .f32) : FVec F S16x128 .f32 := addAbove 8#32 (addAbove 4#32 (addAbove 2#32 (addAbove 1#32 (scaled g))))

/-- one level of the halving: every row takes the running sum at the end of its block of twice the length -/
def blockEnd (w n n' : BitVec 32) (u : FVec F S16x128 .f32) : FVec F S16x128 .f32 :=
  select (upper w n) u (dynamicRotate 0 n' none u rotates_S16x128_d0)

/-- in every row, the last row -/
def lastRow (b : FVec F S16x128 .f32) : FVec F S16x128 .f32 :=
  blockEnd 15#32 8#32 8#32 (blockEnd 7#32 4#32 12#32 (blockEnd 3#32 2#32 14#32 (blockEnd 1#32 1#32 15#32 b)))

/-- the column of the chunk's last running sums -/
def lastCol (b : FVec F S16x128 .f32) : FVec F S128x1 .f32 :=
  shapeCast S128x1 (multiReduction .add [1] S128
    (select (cmpi .eq (iota .tc S128x128 32 [0] iota_S128x128_d0_w32) (iota .tc S128x128 32 [1] iota_S128x128_d1_w32) : IVec S128x128 1)
      (broadcastTo S128x128 (shapeCast S1x128 (extractStridedSlice S1x128 ![0, 0] (lastRow b) slices_S16x128_o0_0_S1x128) shapeCasts_S1x128_S1x128) broadcasts_S1x128_S128x128)
      (broadcast S128x128 (Scalar.ofBits .f32 0x00000000#32))) 0x00000000#32 reduces_S128x128_S128 (.inl rfl) rfl) shapeCasts_S128_S128x1

/-- what one head stores to the state -/
def headState (g : Vec F S1x16x128 .f32) (k v : Vec F S1x16x128 .bf16) (s : Vec F S1x1x128x128 .f32) : FVec F S1x1x128x128 .f32 :=
  shapeCast S1x1x128x128 (addf (mulf (broadcastTo S128x128 (exp2 (lastCol (runSum g))) broadcasts_S128x1_S128x128) (shapeCast S128x128 s shapeCasts_S1x1x128x128_S128x128))
    (matmul dot_S16x128_S16x128_S128x128_0_0_1_1_n_n none
      (truncf .bf16 (mulf (extf .f32 (shapeCast S16x128 k shapeCasts_S1x16x128_S16x128) bitsLt_bf16_f32) (exp2 (subf (lastRow (runSum g)) (runSum g)))) bitsLt_bf16_f32)
      (shapeCast S16x128 v shapeCasts_S1x16x128_S16x128 : FVec F S16x128 .bf16) (constant S128x128 .f32 0x00000000#32))) shapeCasts_S128x128_S1x1x128x128

/-- the 128 columns of head `h` -/
def cols {e : EltTy} (X : Vec F S1x16x1024 e) (h : Fin 8) : Vec F S1x16x128 e := View.ld (S := S1x16x1024) X (Rect.unit (s := S1x16x1024) ![0, 0, 128 * h.val] S1x16x128.size (by intro a; fin_cases a <;> simp <;> omega))

/-- the state of head `h` -/
def slab (X : Vec F S1x8x128x128 .f32) (h : Fin 8) : Vec F S1x1x128x128 .f32 := View.ld (S := S1x8x128x128) X (Rect.unit (s := S1x8x128x128) ![0, h.val, 0, 0] S1x1x128x128.size (by intro a; fin_cases a <;> simp <;> omega))

/-! ## Facts about sixteen rows and about the extended reals -/

theorem rowGe_word : ∀ (j : Fin 4) (t : Fin 16), IntOp.cmpi .sge (BitVec.ofNat 32 t.val) (BitVec.ofNat 32 (2 ^ j.val)) = if 2 ^ j.val ≤ t.val then 1#1 else 0#1 := by
  decide +kernel

theorem upper_word : ∀ (j : Fin 4) (t : Fin 16), IntOp.cmpi .sge (IntOp.andi (BitVec.ofNat 32 t.val) (BitVec.ofNat 32 (2 * 2 ^ j.val - 1))) (BitVec.ofNat 32 (2 ^ j.val))
    = if isUpper j.val t.val then 1#1 else 0#1 := by
  decide +kernel

/-- the row `2^j` above, as the rotation finds it -/
theorem above_row : ∀ (j : Fin 4) (t : Fin 16), 2 ^ j.val ≤ t.val → (t.val + 16 - (BitVec.ofNat 32 (2 ^ j.val)).toNat % 16) % 16 = t.val - 2 ^ j.val := by
  decide +kernel

/-- the end of a row's block is the end of its half, or of the half below it -/
theorem end_step : ∀ (j : Fin 4) (t : Fin 16), endRow (j.val + 1) t.val
    = if isUpper j.val t.val then endRow j.val t.val else endRow j.val ((t.val + 16 - (BitVec.ofNat 32 (16 - 2 ^ j.val)).toNat % 16) % 16) := by
  decide +kernel

theorem lg_pos : 0 < lg := inv_pos.mpr log_two_pos

/-- the factor goes into a sum of two -/
theorem lg_add (a b : EReal) : (lg : EReal) * (a + b) = lg * a + lg * b :=
  EReal.left_distrib_of_nonneg_of_ne_top (EReal.coe_nonneg.mpr lg_pos.le) (EReal.coe_ne_top _) a b

/-- and into any finite sum -/
theorem lg_sum {ι : Type} (A : Finset ι) (x : ι → EReal) : ∑ i ∈ A, (lg : EReal) * x i = lg * ∑ i ∈ A, x i := by
  classical
  induction A using Finset.induction_on with
  | empty => simp
  | insert a A ha ih => rw [Finset.sum_insert ha, Finset.sum_insert ha, lg_add, ih]

/-- and into a difference -/
theorem lg_sub (a b : EReal) : (lg : EReal) * a - lg * b = lg * (a - b) := by
  rw [sub_eq_add_neg, sub_eq_add_neg, lg_add, mul_neg]

/-- two to the power `x / log 2` is `e` to the power `x`, at the infinities too -/
theorem exp2_lg (x : EReal) : @FloatOps.exp2 Ideal _ .f32 ((lg : EReal) * x) = Ideal.exp x := by
  induction x using EReal.rec with
  | bot => rw [EReal.coe_mul_bot_of_pos lg_pos]; rfl
  | top => rw [EReal.coe_mul_top_of_pos lg_pos]; rfl
  | coe x =>
    rw [← EReal.coe_mul, Cert.Hgrn.exp2_lg]
    rfl

/-! ## The function read at an index -/

/-- the running sum of a chunk's log decays -/
def cum (g : ℕ → Fin 128 → EReal) (t : ℕ) (f : Fin 128) : EReal := ∑ s ∈ Finset.range (t + 1), g s f

/-- one doubling step -/
theorem addAbove_at (j : Fin 4) (n : BitVec 32) (hn : n = BitVec.ofNat 32 (2 ^ j.val)) (b : FVec F S16x128 .f32) (x : ℕ → Fin 128 → EReal)
    (hb : ∀ (t : Fin 16) f, b (ix2 t f) = win (fun s => x s f) (2 ^ j.val) t.val) (t : Fin 16) (f : Fin 128) :
    addAbove n b (ix2 t f) = win (fun s => x s f) (2 ^ (j.val + 1)) t.val := by
  subst hn
  pointwise [addAbove, rowGe]
  rw [select_word (rowGe_word j t), pow_succ, mul_two, win_double]
  by_cases h : 2 ^ j.val ≤ t.val
  · rw [if_pos h, if_pos h, hb, hb]
    show _ + win _ _ ((t.val + 16 - (BitVec.ofNat 32 (2 ^ j.val)).toNat % 16) % 16) = _
    rw [above_row j t h]
  · rw [if_neg h, if_neg h, hb]

section rows
variable (g : Vec F S1x16x128 .f32) (x : ℕ → Fin 128 → EReal) (hg : ∀ (t : Fin 16) f, g (ix3 0 t f) = x t.val f)
include hg

theorem scaled_at (t : Fin 16) (f : Fin 128) : scaled g (ix2 t f) = (lg : EReal) * x t.val f := by
  pointwise [scaled]
  rw [IdealRules.named_const.ideal_named_scalar _ _ _ _ rfl, hg, mul_comm]

/-- the running sum over log 2 -/
theorem runSum_at (t : Fin 16) (f : Fin 128) : runSum g (ix2 t f) = (lg : EReal) * cum x t.val f := by
  have h0 : ∀ (t : Fin 16) f, scaled g (ix2 t f) = win (fun s => (lg : EReal) * x s f) (2 ^ (0 : Fin 4).val) t.val := fun t f => by
    rw [scaled_at g x hg]; show _ = win _ 1 _; rw [win_one]
  have h1 := addAbove_at 0 1#32 rfl _ (fun s f => (lg : EReal) * x s f) h0
  have h2 := addAbove_at 1 2#32 rfl _ (fun s f => (lg : EReal) * x s f) h1
  have h3 := addAbove_at 2 4#32 rfl _ (fun s f => (lg : EReal) * x s f) h2
  have h4 := addAbove_at 3 8#32 rfl _ (fun s f => (lg : EReal) * x s f) h3 t f
  refine h4.trans ?_
  rw [win_all _ _ _ (show t.val < 2 ^ ((3 : Fin 4).val + 1) from t.isLt), cum, lg_sum]

end rows

/-- the value of `B` at the end of the block of length `2^j` in every row -/
def IsEnd (j : ℕ) (u : FVec F S16x128 .f32) (B : ℕ → Fin 128 → EReal) : Prop := ∀ (t : Fin 16) f, u (ix2 t f) = B (endRow j t.val) f

theorem blockEnd_at (j : Fin 4) (w n n' : BitVec 32) (hw : w = BitVec.ofNat 32 (2 * 2 ^ j.val - 1)) (hn : n = BitVec.ofNat 32 (2 ^ j.val))
    (hn' : n' = BitVec.ofNat 32 (16 - 2 ^ j.val)) (u : FVec F S16x128 .f32) (B : ℕ → Fin 128 → EReal) (hu : IsEnd j.val u B) : IsEnd (j.val + 1) (blockEnd w n n' u) B := by
  subst hw hn hn'
  intro t f
  pointwise [blockEnd, upper]
  rw [select_word (upper_word j t), end_step j t, hu, hu]
  split <;> rfl

section ends
variable (b : FVec F S16x128 .f32) (B : ℕ → Fin 128 → EReal) (hb : ∀ (t : Fin 16) f, b (ix2 t f) = B t.val f)
include hb

/-- in every row, the value of the last row -/
theorem lastRow_at (t : Fin 16) (f : Fin 128) : lastRow b (ix2 t f) = B 15 f := by
  have e0 : IsEnd (0 : Fin 4).val b B := fun t f => by
    rw [hb]
    show _ = B (t.val / 2 ^ 0 * 2 ^ 0 + 2 ^ 0 - 1) f
    simp
  have e1 : IsEnd (1 : Fin 4).val _ B := blockEnd_at 0 1#32 1#32 15#32 rfl rfl rfl _ B e0
  have e2 : IsEnd (2 : Fin 4).val _ B := blockEnd_at 1 3#32 2#32 14#32 rfl rfl rfl _ B e1
  have e3 : IsEnd (3 : Fin 4).val _ B := blockEnd_at 2 7#32 4#32 12#32 rfl rfl rfl _ B e2
  refine (blockEnd_at 3 15#32 8#32 8#32 rfl rfl rfl _ B e3 t f).trans ?_
  show B (t.val / 16 * 16 + 16 - 1) f = _
  rw [show t.val / 16 = 0 by omega]

/-- the column of the last row -/
theorem lastCol_at (f : Fin 128) : lastCol b (ix2 f 0) = B 15 f := by
  pointwise [lastCol]
  simp only [fun x => select_word (α := EReal) (eq_word f x)]
  rw [Finset.sum_ite_eq, if_pos (Finset.mem_univ _), lastRow_at b B hb]

end ends

/-- `e` to a power -/
abbrev ex (x : EReal) : EReal := Ideal.exp x

/-- the new state: the old one decayed over the chunk, and every row's outer product decayed to the chunk's end -/
theorem headState_at (g : Vec F S1x16x128 .f32) (k v : Vec F S1x16x128 .bf16) (s : Vec F S1x1x128x128 .f32) (G K V : ℕ → Fin 128 → EReal) (S : Fin 128 → Fin 128 → EReal)
    (hg : ∀ (t : Fin 16) f, g (ix3 0 t f) = G t.val f) (hk : ∀ (t : Fin 16) f, k (ix3 0 t f) = K t.val f)
    (hv : ∀ (t : Fin 16) f, v (ix3 0 t f) = V t.val f) (hs : ∀ x d, s (ix4 0 0 x d) = S x d) (f d : Fin 128) :
    headState g k v s (ix4 0 0 f d) = ex (cum G 15 f) * S f d + ∑ x : Fin 16, K x.val f * ex (cum G 15 f - cum G x.val f) * V x.val d := by
  have hb := runSum_at g G hg
  pointwise [headState]
  simp only [lastCol_at _ (fun t f => (lg : EReal) * cum G t f) hb, lastRow_at _ (fun t f => (lg : EReal) * cum G t f) hb, hb, hk, hv, hs, lg_sub, exp2_lg]

end Cert.HgrnNew

end
-- ==== Proof.NewBody.lean ====
/- WHAT ONE GRID POINT LEAVES of the sample group's state: head by head, the one-head function of the point's input blocks and of the state block it was given. -/
module
public import proofs.«01_k».proof.Proof.NewHead
public import proofs.«01_k».proof.Proof.Body
public import Idealize.ShloMosaic.Lib.Pipeline.ReadBack

@[expose] public section

set_option maxRecDepth 16384

noncomputable section

namespace Cert.HgrnNew

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ)

/-- head `h` of the new state, from the point's blocks -/
def stateAt (c : Dev nD) (t : Fin cfg0.N) (h : Fin 8) : Vec Ideal S1x1x128x128 .f32 :=
  headState (cols (iblk m c 1 t) h) (cols (iblk m c 2 t) h) (cols (iblk m c 3 t) h) (slab (k0_pay2 (iblk m c 6 t)) h)

theorem stateAt_congr (c : Dev nD) (t : Fin cfg0.N) {h h' : Fin 8} (e : h.val = h'.val) {x x' : S1x1x128x128.Idx} (ex : x = x') :
    stateAt m c t h x = stateAt m c t h' x' := by
  rw [Fin.ext e, ex]

/-- The new state is the one-head function of the state the point was given. -/
theorem state_point (c : Dev nD) (t : Fin cfg0.N) (y : S1x8x128x128.Idx) : (outsAt0 m c t).2 y = stateAt m c t (y 1) (ix4 0 0 (y 2) (y 3)) := by
  unfold outsAt0
  frame_open
  simp (disch := decide) only [↓ View.readCov_skip, ↓ View.readCov_cons_toLoadRect, ↓ View.readCov_fill]
  frame_out
  refine (Cert.Hgrn.canon_drop8 _ _ _ _ _ _ _ _ _ y ?_).trans ?_
  · exact View.cover_of_tiledL (s := S1x8x128x128) _ S1x1x128x128.size (by sl_kernel_rfl) y
  canon_tiles x h
  case piece0 => change stateAt m c t 7 x = _; exact stateAt_congr m c t (by change 7 = _; omega) (by blk_ext)
  case piece1 => change stateAt m c t 6 x = _; exact stateAt_congr m c t (by change 6 = _; omega) (by blk_ext)
  case piece2 => change stateAt m c t 5 x = _; exact stateAt_congr m c t (by change 5 = _; omega) (by blk_ext)
  case piece3 => change stateAt m c t 4 x = _; exact stateAt_congr m c t (by change 4 = _; omega) (by blk_ext)
  case piece4 => change stateAt m c t 3 x = _; exact stateAt_congr m c t (by change 3 = _; omega) (by blk_ext)
  case piece5 => change stateAt m c t 2 x = _; exact stateAt_congr m c t (by change 2 = _; omega) (by blk_ext)
  case piece6 => change stateAt m c t 1 x = _; exact stateAt_congr m c t (by change 1 = _; omega) (by blk_ext)
  case piece7 => change stateAt m c t 0 x = _; exact stateAt_congr m c t (by change 0 = _; omega) (by blk_ext)

end Cert.HgrnNew

end
-- ==== Proof.NewRef.lean ====
/- The sample group's reference state read at an index: the recurrence's closed form over four tokens. No condition on the arrays. -/
module
public import proofs.«01_k».proof.Proof.NewHead
public import proofs.«01_k».proof.Proof.Ref
public import proofs.«01_k».proof.Proof.Gen.Reference7Ideal.Read

@[expose] public section

set_option maxRecDepth 32768

noncomputable section

namespace Cert.HgrnNew

open Cert.Reference7Ideal Cert.Reference7Ideal.Gen Cert.Reference7Ideal.Read Idealize.ShloMosaic Idealize.ShloMosaic.TcCoe Idealize.SL.Sem
open Cert.Hgrn (win win_all foldl_add_sum colIx)

/-- the shape of the running sum's window: four positions on the third axis -/
abbrev winShape : Shape := ⟨4, ![1, 1, 4, 1]⟩

/-- a place in the window is its third coordinate -/
def winEquiv : winShape.Idx ≃ Fin 4 where
  toFun w := w 2
  invFun k := ix4 0 0 k 0
  left_inv w := by
    funext a
    fin_cases a
    · exact Subsingleton.elim (α := Fin 1) _ _
    · exact Subsingleton.elim (α := Fin 1) _ _
    · rfl
    · exact Subsingleton.elim (α := Fin 1) _ _
  right_inv k := rfl

/-- a running sum along the third axis -/
theorem cumsum_at (x : FVec Ideal S128x8x4x128 .f32) (init : FVec Ideal S_ .f32) (hi : ∀ i, init i = 0) (hw hu) (G : ℕ → EReal) (b : Fin 128) (h : Fin 8) (f : Fin 128)
    (hx : ∀ n : Fin 4, x (ix4 b h n f) = G n.val) (n : Fin 4) :
    Host.reduceWindowAdd (s := S128x8x4x128) (t := S128x8x4x128) (u := S_) ![1, 1, 4, 1] ![1, 1, 1, 1] ![0, 0, 3, 0] ![0, 0, 0, 0] x init hw hu (ix4 b h n f)
      = ∑ s ∈ Finset.range (n.val + 1), G s := by
  unfold Host.reduceWindowAdd
  show Host.reduceWindow (s := S128x8x4x128) (· + ·) _ _ _ _ x (fun _ : (⟨0, ![]⟩ : Shape).Idx => init (Shape.Idx.first hu)) hw hu _ = _
  unfold Host.reduceWindow
  refine (foldl_add_sum (α := Fin winShape.numel) _ _ _).trans ?_
  rw [hi, zero_add, ← Fin.sum_univ_def]
  refine (Finset.sum_congr rfl (g := fun w => (fun k : Fin 4 => if 3 - k.val ≤ n.val then G (n.val - (3 - k.val)) else 0) (winEquiv (winShape.rowMajor.symm w)))
    fun w _ => ?_).trans ?_
  · dsimp only
    have h0 : (winShape.rowMajor.symm w 0).val = 0 := Nat.lt_one_iff.mp (show (winShape.rowMajor.symm w 0).val < 1 from (winShape.rowMajor.symm w 0).isLt)
    have h1 : (winShape.rowMajor.symm w 1).val = 0 := Nat.lt_one_iff.mp (show (winShape.rowMajor.symm w 1).val < 1 from (winShape.rowMajor.symm w 1).isLt)
    have h3 : (winShape.rowMajor.symm w 3).val = 0 := Nat.lt_one_iff.mp (show (winShape.rowMajor.symm w 3).val < 1 from (winShape.rowMajor.symm w 3).isLt)
    have h2 : (winShape.rowMajor.symm w 2).val < 4 := (winShape.rowMajor.symm w 2).isLt
    show _ = if 3 - (winShape.rowMajor.symm w 2).val ≤ n.val then G (n.val - (3 - (winShape.rowMajor.symm w 2).val)) else 0
    have hn := n.isLt
    by_cases hle : 3 - (winShape.rowMajor.symm w 2).val ≤ n.val
    · rw [if_pos hle, ← hx ⟨n.val - (3 - (winShape.rowMajor.symm w 2).val), by omega⟩]
      refine (dif_pos (fun a : Fin 4 => ?_)).trans (congrArg x (funext fun a => Fin.ext ?_))
      · match a with
        | ⟨0, _⟩ => exact ⟨Nat.zero_le _, show b.val * 1 + (winShape.rowMajor.symm w 0).val - 0 < 128 by omega⟩
        | ⟨1, _⟩ => exact ⟨Nat.zero_le _, show h.val * 1 + (winShape.rowMajor.symm w 1).val - 0 < 8 by omega⟩
        | ⟨2, _⟩ => exact ⟨show 3 ≤ n.val * 1 + (winShape.rowMajor.symm w 2).val by omega, show n.val * 1 + (winShape.rowMajor.symm w 2).val - 3 < 4 by omega⟩
        | ⟨3, _⟩ => exact ⟨Nat.zero_le _, show f.val * 1 + (winShape.rowMajor.symm w 3).val - 0 < 128 by omega⟩
      · match a with
        | ⟨0, _⟩ => exact show b.val * 1 + (winShape.rowMajor.symm w 0).val - 0 = b.val by omega
        | ⟨1, _⟩ => exact show h.val * 1 + (winShape.rowMajor.symm w 1).val - 0 = h.val by omega
        | ⟨2, _⟩ => exact show n.val * 1 + (winShape.rowMajor.symm w 2).val - 3 = n.val - (3 - (winShape.rowMajor.symm w 2).val) by omega
        | ⟨3, _⟩ => exact show f.val * 1 + (winShape.rowMajor.symm w 3).val - 0 = f.val by omega
    · rw [if_neg hle]
      refine dif_neg fun hin => hle ?_
      have := (hin 2).1
      change 3 ≤ n.val * 1 + (winShape.rowMajor.symm w 2).val at this
      omega
  refine (Fintype.sum_equiv (winShape.rowMajor.symm.trans winEquiv) _ (fun k : Fin 4 => if 3 - k.val ≤ n.val then G (n.val - (3 - k.val)) else 0) fun _ => rfl).trans ?_
  rw [Fin.sum_univ_eq_sum_range (fun k : ℕ => if 3 - k ≤ n.val then G (n.val - (3 - k)) else 0) 4, ← win_all G 4 n.val n.isLt, win, ← Finset.sum_range_reflect]
  refine Finset.sum_congr rfl fun k hk => ?_
  rw [Finset.mem_range] at hk
  rw [show 3 - (4 - 1 - k) = k by omega]

/-- the operands: four tokens of each of 128 sequences -/
abbrev Arr : Type := S128x4x1024.Idx → EReal

/-- the new tokens of a sequence and a head, and nothing after them -/
def tok (X : Arr) (b : Fin 128) (h : Fin 8) (n : ℕ) (f : Fin 128) : EReal := if hn : n < 4 then X (ix3 b ⟨n, hn⟩ (colIx h f)) else 0

theorem tok_at (X : Arr) (b : Fin 128) (h : Fin 8) (n : Fin 4) (f : Fin 128) : tok X b h n.val f = X (ix3 b n (colIx h f)) := dif_pos n.isLt

/-- the state after the four tokens -/
def newState (G K V : Arr) (S : S1x128x8x128x128.Idx → EReal) (b : Fin 128) (h : Fin 8) (f d : Fin 128) : EReal :=
  ex (cum (tok G b h) 3 f) * S (ix5 0 b h f d) + ∑ x : Fin 4, tok K b h x.val f * ex (cum (tok G b h) 3 f - cum (tok G b h) x.val f) * tok V b h x.val d

section results
variable (G : Vec Ideal S128x4x1024 .f32) (K V : Vec Ideal S128x4x1024 .bf16) (S : Vec Ideal S1x128x8x128x128 .f32) (b : Fin 128) (h : Fin 8)

theorem v9_at (n : Fin 4) (f : Fin 128) : val_main_v9 (F := Ideal) K (ix4 b h n f) = tok K b h n.val f := by
  rw [tok_at]
  pointwise [val_main_v9, val_main_v3, val_main_v2]
  exact congrArg (fun j => K (ix3 b n j)) (Fin.ext (by show h.val * 128 + f.val = 128 * h.val + f.val; omega))

theorem v10_at (n : Fin 4) (f : Fin 128) : val_main_v10 (F := Ideal) V (ix4 b h n f) = tok V b h n.val f := by
  rw [tok_at]
  pointwise [val_main_v10, val_main_v5, val_main_v4]
  exact congrArg (fun j => V (ix3 b n j)) (Fin.ext (by show h.val * 128 + f.val = 128 * h.val + f.val; omega))

theorem v11_at (n : Fin 4) (f : Fin 128) : val_main_v11 (F := Ideal) G (ix4 b h n f) = tok G b h n.val f := by
  rw [tok_at]
  pointwise [val_main_v11, val_main_v6]
  exact congrArg (fun j => G (ix3 b n j)) (Fin.ext (by show h.val * 128 + f.val = 128 * h.val + f.val; omega))

/-- the running sums of the log decays -/
theorem v16_at (n : Fin 4) (f : Fin 128) : val_main_v16 (F := Ideal) G (ix4 b h n f) = cum (tok G b h) n.val f :=
  cumsum_at _ _ (fun i => by pointwise [val_main_call0_call0_v0, val_main_call0_call0_cst]) _ _ (fun s => tok G b h s f) b h f (fun n => v11_at G b h n f) n

/-- the reference's state -/
theorem ref_state (f d : Fin 128) : val_main_v49 (F := Ideal) G K V S (ix4 b h f d) = newState G K V S b h f d := by
  pointwise [val_main_v49, val_main_v42, val_main_v41, val_main_v40, val_main_v39, val_main_v38, val_main_v37, val_main_v7, val_main_v48, val_main_v47, val_main_v46, val_main_v45,
    val_main_v44, val_main_v43]
  simp only [v16_at, v9_at, v10_at]
  rfl

end results

end Cert.HgrnNew

end
-- ==== Proof.NewEqual.lean ====
/- The sample group's recurrence: the padded kernel and the plain recurrence leave equal states. No condition on the arrays. -/
module
public import proofs.«01_k».proof.Defs
public import proofs.«01_k».proof.Proof.NewBody
public import proofs.«01_k».proof.Proof.NewRef
public import proofs.«01_k».proof.Proof.Gen.Kernel7.Frame
public import proofs.«01_k».proof.Proof.Gen.Kernel7Ideal.Value
public import proofs.«01_k».proof.Proof.Gen.Reference7Ideal.Run
public import Idealize.ShloMosaic.Lib.Pipeline.Covers
public import Idealize.ShloMosaic.Lib.Quiescent

@[expose] public section

set_option maxRecDepth 16384

noncomputable section

namespace Cert.HgrnNew

open Cert.Kernel7Ideal.Gen Cert.Reference7Ideal.Read Idealize.ShloMosaic Idealize.ShloMosaic.TcCoe Idealize.SL.Sem
open Cert.Kernel7Ideal (nD τ sig main_arg0 main_arg1 main_arg2 main_arg3 main_arg6 main_v1 main_v2 main_v3 cfg0 grid0 win0_1 win0_2 win0_3 win0_6 win0_8
  S1x16x1024 S1x8x128x128)
open Cert.Hgrn (colIx)

/-! ## Blocks -/

/-- where each window's block lies: one sequence at a point -/
theorem idx : ∀ t : Fin cfg0.N, win0_1.index t = ![t.val, 0, 0] ∧ win0_2.index t = ![t.val, 0, 0] ∧ win0_3.index t = ![t.val, 0, 0]
    ∧ win0_6.index t = ![0, t.val, 0, 0, 0] ∧ win0_8.index t = ![t.val, 0, 0, 0] :=
  (by decide +kernel : ∀ t : Fin grid0.N, _)

theorem cols_at {e : EltTy} (X : Vec Ideal S1x16x1024 e) (h : Fin 8) (r : Fin 16) (f : Fin 128) : cols X h (ix3 0 r f) = X (ix3 0 r (colIx h f)) := by
  refine congrArg X (funext fun a => Fin.ext ?_)
  match a with
  | ⟨0, _⟩ => rfl
  | ⟨1, _⟩ => show 0 + 1 * r.val = r.val; omega
  | ⟨2, _⟩ => show 128 * h.val + 1 * f.val = 128 * h.val + f.val; omega

theorem slab_at (X : Vec Ideal S1x8x128x128 .f32) (h : Fin 8) (f d : Fin 128) : slab X h (ix4 0 0 f d) = X (ix4 0 h f d) := by
  refine congrArg X (funext fun a => Fin.ext ?_)
  match a with
  | ⟨0, _⟩ => rfl
  | ⟨1, _⟩ => show h.val + 1 * 0 = h.val; omega
  | ⟨2, _⟩ => show 0 + 1 * f.val = f.val; omega
  | ⟨3, _⟩ => show 0 + 1 * d.val = d.val; omega

/-- the sequence of a point -/
abbrev seqOf (t : Fin cfg0.N) : Fin 128 := ⟨t.val, lt_of_lt_of_eq t.isLt N_0⟩

variable (m : (ℓ : Loc nD τ sig) → Buf (Elt Ideal) ℓ) (c : Dev nD)

/-- the arrays the call reads -/
abbrev argG : Arr := m ((c : Thread nD τ).loc main_arg1)
abbrev argK : Arr := m ((c : Thread nD τ).loc main_arg2)
abbrev argV : Arr := m ((c : Thread nD τ).loc main_arg3)
abbrev argS : Cert.Reference7Ideal.S1x128x8x128x128.Idx → EReal := m ((c : Thread nD τ).loc main_arg6)

/-- an array of the new tokens padded with rows of zeros -/
def padded (X : Arr) : Cert.Kernel7Ideal.S128x16x1024.Idx → EReal :=
  pad (s := Cert.Kernel7Ideal.S128x4x1024) (u := Cert.Kernel7Ideal.S_) Cert.Kernel7Ideal.S128x16x1024 ![0, 0, 0] ![0, 12, 0] ![0, 0, 0] X (fun _ => (((0#32).toInt : ℝ) : EReal))
    pads_S128x4x1024_S128x16x1024_000_0120_000 h_S_

theorem padded_at (X : Arr) (b : Fin 128) (h : Fin 8) (r : Fin 16) (f : Fin 128) : padded X (ix3 b r (colIx h f)) = tok X b h r.val f := by
  pointwise [padded]
  unfold tok
  by_cases hr : r.val < 4
  · rw [dif_pos hr, dif_pos ⟨hr, by omega⟩]
  · rw [dif_neg hr, dif_neg fun hh => hr hh.1]
    rw [show (0#32).toInt = 0 from rfl, Int.cast_zero, EReal.coe_zero]

/-- the log decays, keys and values as the call finds them -/
theorem entries : V m c main_v1 = padded (argG m c) ∧ V m c main_v2 = padded (argK m c) ∧ V m c main_v3 = padded (argV m c) := by
  simp only [V, hostOps0, hostOps0_1, hostOps0_2, hostOps0_3, hostOps0_4, hostOps0_5, hostOps0_6, hostOps0_7, hostOps0_8, hostOps0_9, hostOps0_10, List.flatten_cons, List.flatten_nil,
    List.append_nil, List.cons_append, List.nil_append, StableHlo.TRef.binary, StableHlo.TRef.nullary, StableHlo.TRef.unary, StableHlo.TRef.toBuf, StableHlo.TRef.ofBuf, cast_eq]
  refine ⟨?_, ?_, ?_⟩ <;> after_results_simp <;> rfl

theorem read1 (t : Fin cfg0.N) (r : Fin 16) (j : Fin 1024) : iblk m c 1 t (ix3 0 r j) = V m c main_v1 (ix3 (seqOf t) r j) := by
  blk_point [iblk, idx t]
theorem read2 (t : Fin cfg0.N) (r : Fin 16) (j : Fin 1024) : iblk m c 2 t (ix3 0 r j) = V m c main_v2 (ix3 (seqOf t) r j) := by
  blk_point [iblk, idx t]
theorem read3 (t : Fin cfg0.N) (r : Fin 16) (j : Fin 1024) : iblk m c 3 t (ix3 0 r j) = V m c main_v3 (ix3 (seqOf t) r j) := by
  blk_point [iblk, idx t]
theorem read6 (t : Fin cfg0.N) (h : Fin 8) (f d : Fin 128) : (k0_pay2 (iblk m c 6 t) : Vec Ideal S1x8x128x128 .f32) (ix4 0 h f d) = argS m c (ix5 0 (seqOf t) h f d) := by
  pointwise [k0_pay2]
  blk_point [iblk, V, idx t]

/-! ## The state -/

theorem tok_late (X : Arr) (b : Fin 128) (h : Fin 8) (n : ℕ) (f : Fin 128) (hn : 4 ≤ n) : tok X b h n f = 0 := dif_neg (by omega)

/-- after the last token the running sum stands still -/
theorem cum_late (X : Arr) (b : Fin 128) (h : Fin 8) (f : Fin 128) : cum (tok X b h) 15 f = cum (tok X b h) 3 f := by
  unfold cum
  rw [show 15 + 1 = (3 + 1) + 12 from rfl, Finset.sum_range_add, Finset.sum_eq_zero (s := Finset.range 12) (fun i _ => tok_late X b h _ f (by omega)), add_zero]

/-- one point leaves the recurrence's state of its sequence -/
theorem state_eq (t : Fin cfg0.N) (h : Fin 8) (f d : Fin 128) : stateAt m c t h (ix4 0 0 f d) = newState (argG m c) (argK m c) (argV m c) (argS m c) (seqOf t) h f d := by
  obtain ⟨e1, e2, e3⟩ := entries m c
  refine (headState_at _ _ _ _ (tok (argG m c) (seqOf t) h) (tok (argK m c) (seqOf t) h) (tok (argV m c) (seqOf t) h) (fun f d => argS m c (ix5 0 (seqOf t) h f d))
    (fun r f => ?_) (fun r f => ?_) (fun r f => ?_) (fun f d => (slab_at _ h f d).trans (read6 m c t h f d)) f d).trans ?_
  · rw [cols_at, read1, e1, padded_at]
  · rw [cols_at, read2, e2, padded_at]
  · rw [cols_at, read3, e3, padded_at]
  · unfold newState
    rw [cum_late]
    congr 1
    rw [← Finset.sum_range (n := 16) (fun x => tok (argK m c) (seqOf t) h x f * ex (cum (tok (argG m c) (seqOf t) h) 3 f - cum (tok (argG m c) (seqOf t) h) x f) * tok (argV m c) (seqOf t) h x d),
      ← Finset.sum_range (n := 4) (fun x => tok (argK m c) (seqOf t) h x f * ex (cum (tok (argG m c) (seqOf t) h) 3 f - cum (tok (argG m c) (seqOf t) h) x f) * tok (argV m c) (seqOf t) h x d),
      show 16 = 4 + 12 from rfl, Finset.sum_range_add, Finset.sum_eq_zero (s := Finset.range 12) (fun i _ => ?_), add_zero]
    rw [tok_late _ _ _ _ d (by omega), mul_zero]

/-- the state array the kernel leaves -/
theorem final8 : (dats m 0 c).arrAt 8 cfg0.N = val_main_v49 (F := Ideal) (argG m c) (argK m c) (argV m c) (argS m c) := by
  refine (dats m 0 c).arrAt_eq_of_covers 8 _ ((cfg0.win 8).covers_of_index_surj rfl (by decide) fun β => ?_) fun t hf y => ?_
  · have h0 : (β 0 : ℕ) < 128 := (β 0).isLt
    have h1 : (β 1 : ℕ) < 1 := (β 1).isLt
    have h2 : (β 2 : ℕ) < 1 := (β 2).isLt
    have h3 : (β 3 : ℕ) < 1 := (β 3).isLt
    refine ⟨⟨(β 0 : ℕ), by rw [N_0]; omega⟩, fun a => ?_⟩
    refine (congrFun (idx _).2.2.2.2 a).trans ?_
    match a with
    | ⟨0, _⟩ => rfl
    | ⟨1, _⟩ => show 0 = (β 1 : ℕ); omega
    | ⟨2, _⟩ => show 0 = (β 2 : ℕ); omega
    | ⟨3, _⟩ => show 0 = (β 3 : ℕ); omega
  · blk_simp
    rw [after0_8]
    obtain ⟨h, f, d, rfl⟩ : ∃ (h : Fin 8) (f d : Fin 128), y = ix4 0 h f d := ⟨y 1, y 2, y 3, funext fun a => by
      match a with
      | ⟨0, _⟩ => exact Subsingleton.elim (α := Fin 1) _ _
      | ⟨1, _⟩ => rfl
      | ⟨2, _⟩ => rfl
      | ⟨3, _⟩ => rfl⟩
    have ei : (win0_8.blk t).view.emb (ix4 0 h f d) = ix4 (seqOf t) h f d := funext fun a => Fin.ext (by
      match a with
      | ⟨0, _⟩ => blk_simp [idx t]; rfl
      | ⟨1, _⟩ => blk_simp [idx t]
      | ⟨2, _⟩ => blk_simp [idx t]
      | ⟨3, _⟩ => blk_simp [idx t])
    refine (state_point m c t (ix4 0 h f d)).trans ((state_eq m c t h f d).trans (Eq.trans ?_ (congrArg _ ei).symm))
    exact (ref_state _ _ _ _ _ _ _ _).symm

/-! ## The claims -/

/-- The recurrence's kernel on new tokens keeps its arguments and leaves every counter at zero, on the machine's own numbers. -/
theorem frame_p : Cert.quiescent_Kernel7 := fun m g _ => Cert.Kernel7.Gen.frame m g

/-- The recurrence's kernel on new tokens keeps its arguments and leaves every counter at zero, over the reals. -/
theorem frame_pi : Cert.quiescent_Kernel7Ideal := fun m g _ => Cert.Kernel7Ideal.Gen.frame m g

/-- The plain recurrence on new tokens keeps its arguments and leaves every counter at zero, over the reals. -/
theorem frame_ri : Cert.quiescent_Reference7Ideal := fun m g _ =>
  (θ_run _ _ _).mono (fun r h => ⟨fun c => (h c).2, sem_eq_zero_of_no_sems rfl r.2⟩) (Cert.Reference7Ideal.Value.run m g)

/-- The constant the kernel multiplies a log decay by stands for one over the logarithm of two. -/
theorem preserves : Cert.preserves_Kernel7_Kernel7Ideal := IdealRules.named_const.statement _ _ _ _ _ rfl

/-- The kernel's final state is the plain recurrence's. -/
theorem algebraic : Cert.algebraic_Kernel7Ideal_Reference7Ideal := by
  intro m g m' g' _ hagree
  refine ⟨fun c => val_main_v49 (F := Ideal) (argG m c) (argK m c) (argV m c) (argS m c),
    (θ_run _ _ _).mono (fun r h c => ?_) (Cert.Kernel7Ideal.Value.run_blocks m g), (θ_run _ _ _).mono (fun r h c => ?_) (Cert.Reference7Ideal.Value.run m' g')⟩
  · obtain ⟨_, h8, ha⟩ := h c
    exact ⟨h8.trans (final8 m c), ha⟩
  · obtain ⟨h49, ha⟩ := h c
    obtain ⟨e0, e1, e2, e3, e4, e5, e6⟩ := hagree c
    refine ⟨h49.trans ((val_main_v49_eq _ _ _ _).trans ?_), ha⟩
    rw [e1, e2, e3, e6]

end Cert.HgrnNew

end
-- ==== Proof.Ada.lean ====
/- The modulation vectors of both groups: the conditioning vectors through the logistic gate, then one projection in eight tiles of columns. -/
module
public import proofs.«01_k».proof.Defs
public import proofs.«01_k».proof.Proof.Layer
public import proofs.«01_k».proof.Proof.Gen.Kernel8.Frame
public import proofs.«01_k».proof.Proof.Gen.Kernel8Ideal.Value
public import proofs.«01_k».proof.Proof.Gen.Reference8Ideal.Read
public import proofs.«01_k».proof.Proof.Gen.Reference8Ideal.Run
public import Idealize.ShloMosaic.Lib.Pipeline.ValueKit
public import Idealize.ShloMosaic.Lib.Pipeline.Covers
public import Idealize.ShloMosaic.Lib.Quiescent
public import Idealize.ShloMosaic.Lib.Claim

@[expose] public section

set_option maxRecDepth 32768

noncomputable section

namespace Cert.Ada

open Idealize.ShloMosaic Idealize.ShloMosaic.TcCoe Idealize.SL.Sem Cert.Layer

/-- one entry of the modulation vectors: the gated conditioning vector against a column of the weights, plus the shift -/
def entry (c w : Fin 1024 → EReal) (b : EReal) : EReal := (∑ e, c e * sigmoid (c e) * w e) + b

/-! The plain projection. -/

section Plain

open Cert.Reference8Ideal Cert.Reference8Ideal.Gen Cert.Reference8Ideal.Read

variable (CP : (⟨2, ![32, 1024]⟩ : Shape).Idx → EReal) (CS : (⟨2, ![128, 1024]⟩ : Shape).Idx → EReal) (W : (⟨3, ![1, 1024, 9216]⟩ : Shape).Idx → EReal)
  (B : (⟨2, ![1, 9216]⟩ : Shape).Idx → EReal)

/-- the plain projection's result, entry by entry, from the two groups' vectors one after the other -/
theorem ref_at (i : Fin 160) (j : Fin 9216) : val_main_v13 (F := Ideal) CP CS W B (ix2 i j)
    = entry (fun e => val_main_v0 (F := Ideal) CP CS (ix2 i e)) (fun e => W (ix3 0 e j)) (B (ix2 0 j)) := by
  unfold entry sigmoid
  generalize hv : val_main_v0 (F := Ideal) CP CS = y
  pointwise [val_main_v13, val_main_v12, val_main_v11, val_main_v10, val_main_v9, val_main_v8, val_main_v7, val_main_v6, val_main_v5, val_main_v4, val_main_v3, val_main_v2, val_main_v1,
    val_main_cst, val_main_cst_0, hv]

end Plain

/-! The kernel's tile. -/

open Cert.Kernel8Ideal Cert.Kernel8Ideal.Gen

/-- what the body stores, from the blocks it reads -/
theorem out_at (x0 : Vec Ideal S160x1024 .f32) (x1 : Vec Ideal S1024x1152 .f32) (x2 : Vec Ideal S1x1152 .f32) (i : Fin 160) (q : Fin 1152) :
    out0_3 x0 x1 x2 (ix2 i q) = entry (fun e => x0 (ix2 i e)) (fun e => x1 (ix2 e q)) (x2 (ix2 0 q)) := by
  unfold entry sigmoid
  frame_out
  pointwise [k0_pay1]
  simp only [zero_sub]

/-- where each window's block lies -/
theorem idx : ∀ t : Fin cfg0.N, win0_0.index t = ![0, 0] ∧ win0_1.index t = ![0, t.val] ∧ win0_2.index t = ![0, t.val] ∧ win0_3.index t = ![0, t.val] :=
  (by decide +kernel : ∀ t : Fin grid0.N, _)

/-- there are eight tiles -/
theorem points (t : Fin cfg0.N) : t.val < 8 := lt_of_lt_of_eq t.isLt N_0

/-- column `q` of tile `t` -/
def colIx (t : Fin cfg0.N) (q : Fin 1152) : Fin 9216 := ⟨t.val * 1152 + q.val, by have := points t; omega⟩

variable (m : (ℓ : Loc nD τ sig) → Buf (Elt Ideal) ℓ) (c : Dev nD)

/-- the two groups' conditioning vectors, one after the other -/
theorem entry0 : V m c main_v0 = Cert.Reference8Ideal.Read.val_main_v0 (F := Ideal) (m ((c : Thread nD τ).loc main_arg0)) (m ((c : Thread nD τ).loc main_arg1)) := by
  entry_read
  rfl

/-- the projection's weights -/
theorem entry1 (e : Fin 1024) (j : Fin 9216) : V m c main_v1 (ix2 e j) = m ((c : Thread nD τ).loc main_arg2) (ix3 0 e j) := by
  entry_read
  pointwise []

/-- the projection's shift -/
theorem entry3 (j : Fin 9216) : V m c main_v3 (ix2 0 j) = m ((c : Thread nD τ).loc main_arg3) (ix2 0 j) := by
  entry_read
  pointwise []

/-! The windows' blocks at tile `t`. -/

theorem read0 (t : Fin cfg0.N) (i : Fin 160) (e : Fin 1024) : iblk m c 0 t (ix2 i e) = V m c main_v0 (ix2 i e) := by
  blk_point [iblk, idx t]

theorem read1 (t : Fin cfg0.N) (e : Fin 1024) (q : Fin 1152) : iblk m c 1 t (ix2 e q) = V m c main_v1 (ix2 e (colIx t q)) := by
  blk_point [iblk, idx t, colIx]

theorem read2 (t : Fin cfg0.N) (q : Fin 1152) : iblk m c 2 t (ix2 0 q) = V m c main_v3 (ix2 0 (colIx t q)) := by
  blk_point [iblk, idx t, colIx]

open Cert.Reference8Ideal.Read in
/-- a tile whose blocks are the layer's arrays holds the plain projection's columns -/
theorem tile_eq (CP : (⟨2, ![32, 1024]⟩ : Shape).Idx → EReal) (CS : (⟨2, ![128, 1024]⟩ : Shape).Idx → EReal) (W : (⟨3, ![1, 1024, 9216]⟩ : Shape).Idx → EReal)
    (B : (⟨2, ![1, 9216]⟩ : Shape).Idx → EReal) (i : Fin 160) (q : Fin 1152) (j : Fin 9216)
    (x0 : Vec Ideal S160x1024 .f32) (x1 : Vec Ideal S1024x1152 .f32) (x2 : Vec Ideal S1x1152 .f32)
    (h0 : ∀ e, x0 (ix2 i e) = val_main_v0 (F := Ideal) CP CS (ix2 i e)) (h1 : ∀ e, x1 (ix2 e q) = W (ix3 0 e j)) (h2 : x2 (ix2 0 q) = B (ix2 0 j)) :
    out0_3 x0 x1 x2 (ix2 i q) = val_main_v13 (F := Ideal) CP CS W B (ix2 i j) := by
  rw [out_at, ref_at]
  simp only [h0, h1, h2]

open Cert.Reference8Ideal.Read in
/-- the array the kernel leaves -/
theorem final : (dats m 0 c).arrAt 3 cfg0.N = val_main_v13 (F := Ideal) (m ((c : Thread nD τ).loc main_arg0)) (m ((c : Thread nD τ).loc main_arg1)) (m ((c : Thread nD τ).loc main_arg2))
    (m ((c : Thread nD τ).loc main_arg3)) := by
  refine (dats m 0 c).arrAt_eq_of_covers 3 _ ((cfg0.win 3).covers_of_index_surj rfl (by decide) fun β => ?_) fun t hf y => ?_
  · have h0 : (β 0 : ℕ) < 1 := (β 0).isLt
    have h1 : (β 1 : ℕ) < 8 := (β 1).isLt
    refine ⟨⟨(β 1 : ℕ), by rw [N_0]; omega⟩, fun a => ?_⟩
    refine (congrFun (idx _).2.2.2 a).trans ?_
    match a with
    | ⟨0, _⟩ => show 0 = (β 0 : ℕ); omega
    | ⟨1, _⟩ => rfl
  · blk_simp
    rw [after0_3]
    obtain ⟨i, q, rfl⟩ : ∃ (i : Fin 160) (q : Fin 1152), y = ix2 i q := ⟨y 0, y 1, funext fun a => by
      match a with
      | ⟨0, _⟩ => rfl
      | ⟨1, _⟩ => rfl⟩
    have ei : (win0_3.blk t).view.emb (ix2 i q) = ix2 i (colIx t q) := funext fun a => Fin.ext (by
      match a with
      | ⟨0, _⟩ => blk_simp [idx t]
      | ⟨1, _⟩ => blk_simp [idx t]; rfl)
    refine Eq.trans ?_ (congrArg _ ei).symm
    exact tile_eq _ _ _ _ i q (colIx t q) _ _ _ (fun e => (read0 m c t i e).trans (congrFun (entry0 m c) _)) (fun e => (read1 m c t e q).trans (entry1 m c e _))
      ((read2 m c t q).trans (entry3 m c _))

/-- The projection's kernel keeps its arguments and leaves every counter at zero, on the machine's own numbers. -/
theorem frame_p : Cert.quiescent_Kernel8 := fun m g _ => Cert.Kernel8.Gen.frame m g

/-- The projection's kernel keeps its arguments and leaves every counter at zero, over the reals. -/
theorem frame_pi : Cert.quiescent_Kernel8Ideal := fun m g _ => Cert.Kernel8Ideal.Gen.frame m g

/-- The plain projection keeps its arguments and leaves every counter at zero, over the reals. -/
theorem frame_ri : Cert.quiescent_Reference8Ideal := fun m g _ =>
  (θ_run _ _ _).mono (fun r h => ⟨fun c => (h c).2, sem_eq_zero_of_no_sems rfl r.2⟩) (Cert.Reference8Ideal.Value.run m g)

/-- The kernel has no constant to name. -/
theorem preserves : Cert.preserves_Kernel8_Kernel8Ideal := trivial

open Cert.Reference8Ideal.Read in
/-- The kernel's modulation vectors are the plain projection's. -/
theorem algebraic : Cert.algebraic_Kernel8Ideal_Reference8Ideal := by
  intro m g m' g' hpre hagree
  refine ⟨fun c => val_main_v13 (F := Ideal) (m (c.tc.loc main_arg0)) (m (c.tc.loc main_arg1)) (m (c.tc.loc main_arg2)) (m (c.tc.loc main_arg3)),
    (θ_run _ _ _).mono (fun r h c => ?_) (Cert.Kernel8Ideal.Value.run_blocks m g), (θ_run _ _ _).mono (fun r h c => ?_) (Cert.Reference8Ideal.Value.run m' g')⟩
  · obtain ⟨h3, ha⟩ := h c
    exact ⟨h3.trans (final m c), ha⟩
  · obtain ⟨h13, ha⟩ := h c
    obtain ⟨e0, e1, e2, e3⟩ := hagree c
    refine ⟨h13.trans ((val_main_v13_eq _ _ _ _).trans ?_), ha⟩
    rw [e0, e1, e2, e3]

end Cert.Ada

end
-- ==== Proof.MergeNew.lean ====
/- The merge over the sample group: one tile of 512 rows, four of each sequence, each row with its own gate vector. -/
module
public import proofs.«01_k».proof.Defs
public import proofs.«01_k».proof.Proof.Layer
public import proofs.«01_k».proof.Proof.Gen.Kernel9.Frame
public import proofs.«01_k».proof.Proof.Gen.Kernel9Ideal.Value
public import proofs.«01_k».proof.Proof.Gen.Reference9Ideal.Read
public import proofs.«01_k».proof.Proof.Gen.Reference9Ideal.Run
public import Idealize.ShloMosaic.Lib.Pipeline.ValueKit
public import Idealize.ShloMosaic.Lib.Pipeline.Covers
public import Idealize.ShloMosaic.Lib.Quiescent
public import Idealize.ShloMosaic.Lib.Claim

@[expose] public section

set_option maxRecDepth 32768

noncomputable section

namespace Cert.MergeNew

open Idealize.ShloMosaic Idealize.ShloMosaic.TcCoe Idealize.SL.Sem Cert.Layer

/-- a row of the merge before its norm: the scaled input row plus the gate times the projected mixture of the two branches -/
def row (x a oa ob ga gb : Fin 1024 → EReal) (pa pb w : Fin 1024 → Fin 1024 → EReal) (j : Fin 1024) : EReal :=
  ((Real.sqrt (Real.sqrt 2) : ℝ) : EReal) * x j + a j * ∑ k, mixed oa (fun e => pa e k) ob (fun e => pb e k) (ga k) (gb k) * w k j

/-! The plain merge. -/

section Plain

open Cert.Reference9Ideal Cert.Reference9Ideal.Gen Cert.Reference9Ideal.Read

variable (X : (⟨3, ![128, 4, 1024]⟩ : Shape).Idx → EReal) (A : (⟨2, ![128, 9216]⟩ : Shape).Idx → EReal)
  (OA OB GA GB : (⟨2, ![512, 1024]⟩ : Shape).Idx → EReal) (PA PB W : (⟨3, ![1, 1024, 1024]⟩ : Shape).Idx → EReal) (G B : (⟨3, ![1, 3, 1024]⟩ : Shape).Idx → EReal)

/-- the row of position `n` of sequence `b` -/
def flat (b : Fin 128) (n : Fin 4) : Fin 512 := ⟨b.val * 4 + n.val, by omega⟩

theorem flat_seq_pos (i : Fin 512) : flat (newSeq i) (newPos i) = i := Fin.ext (Nat.div_add_mod' i.val 4)

/-- the two gated projections added -/
theorem v15_at (b : Fin 128) (n : Fin 4) (k : Fin 1024) : val_main_v15 (F := Ideal) OA OB GA GB PA PB (ix3 b n k)
    = mixed (fun e => OA (ix2 (flat b n) e)) (fun e => PA (ix3 0 e k)) (fun e => OB (ix2 (flat b n) e)) (fun e => PB (ix3 0 e k)) (GA (ix2 (flat b n) k)) (GB (ix2 (flat b n) k)) := by
  unfold mixed flat
  pointwise [val_main_v15, val_main_v14, val_main_v13, val_main_v12, val_main_v11, val_main_v10, val_main_v9, val_main_v8, val_main_v7, val_main_v6, val_main_v5, val_main_v4, val_main_v3, val_main_v2, val_main_v1]

/-- the row before the norm -/
theorem v26_at (b : Fin 128) (n : Fin 4) (j : Fin 1024) : val_main_v26 (F := Ideal) X A OA OB GA GB PA PB W (ix3 b n j)
    = ((Real.sqrt (Real.sqrt 2) : ℝ) : EReal) * X (ix3 b n j) + A (ix2 b (modIx 5 j)) * ∑ k, val_main_v15 (F := Ideal) OA OB GA GB PA PB (ix3 b n k) * W (ix3 0 k j) := by
  unfold modIx
  rw [← sqrt_sqrt_two]
  generalize hv : val_main_v15 (F := Ideal) OA OB GA GB PA PB = y
  pointwise [val_main_v26, val_main_v25, val_main_v24, val_main_v23, val_main_v22, val_main_v21, val_main_v20, val_main_v19, val_main_v18, val_main_v17, val_main_v16, val_main_v0, val_main_cst, hv]

/-- the result is a normed row -/
theorem v55_at (i : Fin 512) (j : Fin 1024) : val_main_v55 (F := Ideal) X A OA OB GA GB PA PB W G B (ix2 i j)
    = normed (fun j => val_main_v26 (F := Ideal) X A OA OB GA GB PA PB W (ix3 (newSeq i) (newPos i) j)) j (G (ix3 0 1 j)) (B (ix3 0 1 j)) := by
  unfold normed mean newSeq newPos
  generalize hv : val_main_v26 (F := Ideal) X A OA OB GA GB PA PB W = y
  pointwise [val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_cst_0, val_main_cst_1, val_main_cst_2, val_main_cst_3, val_main_cst_4, hv]

/-- the plain merge's result, entry by entry -/
theorem ref_at (i : Fin 512) (j : Fin 1024) : val_main_v55 (F := Ideal) X A OA OB GA GB PA PB W G B (ix2 i j)
    = normed (row (fun j => X (ix3 (newSeq i) (newPos i) j)) (fun j => A (ix2 (newSeq i) (modIx 5 j))) (fun e => OA (ix2 i e)) (fun e => OB (ix2 i e)) (fun e => GA (ix2 i e)) (fun e => GB (ix2 i e))
      (fun e k => PA (ix3 0 e k)) (fun e k => PB (ix3 0 e k)) (fun e k => W (ix3 0 e k))) j (G (ix3 0 1 j)) (B (ix3 0 1 j)) := by
  rw [v55_at]
  refine congrArg (fun u => normed u j (G (ix3 0 1 j)) (B (ix3 0 1 j))) (funext fun j => ?_)
  unfold row
  rw [v26_at]
  simp only [v15_at, flat_seq_pos]

end Plain

/-! The kernel's tile. -/

open Cert.Kernel9Ideal Cert.Kernel9Ideal.Gen

/-- the tile's rows before the norm -/
theorem pay2_at (ga oa : Vec Ideal S512x1024 .bf16) (pa : Vec Ideal S1024x1024 .bf16) (gb ob : Vec Ideal S512x1024 .bf16) (pb w : Vec Ideal S1024x1024 .bf16) (x : Vec Ideal S512x1024 .f32)
    (gt : Vec Ideal S1x1x512x1024 .f32) (r : Fin 512) (j : Fin 1024) :
    k0_pay2 ga oa pa gb ob pb w x gt (ix2 r j) = row (fun j => x (ix2 r j)) (fun j => gt (ix4 0 0 r j)) (fun e => oa (ix2 r e)) (fun e => ob (ix2 r e)) (fun e => ga (ix2 r e)) (fun e => gb (ix2 r e))
      (fun e k => pa (ix2 e k)) (fun e k => pb (ix2 e k)) (fun e k => w (ix2 e k)) j := by
  unfold row mixed
  pointwise [k0_pay2]
  rw [IdealRules.named_const.ideal_named_scalar _ _ _ _ rfl]

/-- the tile's result from its rows before the norm -/
theorem pay1_at (u : FVec Ideal S512x1024 .f32) (g b : Vec Ideal S1x1024 .f32) (r : Fin 512) (j : Fin 1024) :
    k0_pay1 u (k0_pay3 g) b (ix2 r j) = normed (fun j => u (ix2 r j)) j (g (ix2 0 j)) (b (ix2 0 j)) := by
  unfold normed mean
  pointwise [k0_pay1, k0_pay3]

/-- the norm's shift as the tile takes it -/
theorem pay4_at (b : Vec Ideal S1x1024 .f32) (j : Fin 1024) : k0_pay4 b (ix2 0 j) = b (ix2 0 j) := by
  pointwise [k0_pay4]

/-- where each window's block lies -/
theorem idx : ∀ t : Fin cfg0.N, win0_0.index t = ![0, 0] ∧ win0_1.index t = ![5, 0, 0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0] ∧ win0_9.index t = ![0, 0]
    ∧ win0_10.index t = ![0, 0] ∧ win0_11.index t = ![0, 0] :=
  (by decide +kernel : ∀ t : Fin grid0.N, _)

variable (m : (ℓ : Loc nD τ sig) → Buf (Elt Ideal) ℓ) (c : Dev nD)

/-! The arrays the region finds, from the arguments. -/

/-- the flat input's rows -/
theorem entry0 (i : Fin 512) (j : Fin 1024) : V m c main_v0 (ix2 i j) = m ((c : Thread nD τ).loc main_arg0) (ix3 (newSeq i) (newPos i) j) := by
  unfold newSeq newPos
  entry_read
  pointwise []

/-- the modulation vectors of each row -/
theorem entry5 (n : Fin 9) (i : Fin 512) (j : Fin 1024) : V m c main_v5 (ix4 n 0 i j) = m ((c : Thread nD τ).loc main_arg1) (ix2 (newSeq i) (modIx n j)) := by
  unfold newSeq
  entry_read
  pointwise []
  rfl

/-- the first projection's weights -/
theorem entry7 (e k : Fin 1024) : V m c main_v7 (ix2 e k) = m ((c : Thread nD τ).loc main_arg6) (ix3 0 e k) := by
  entry_read
  pointwise []

/-- the second projection's weights -/
theorem entry9 (e k : Fin 1024) : V m c main_v9 (ix2 e k) = m ((c : Thread nD τ).loc main_arg7) (ix3 0 e k) := by
  entry_read
  pointwise []

/-- the output weights -/
theorem entry11 (e k : Fin 1024) : V m c main_v11 (ix2 e k) = m ((c : Thread nD τ).loc main_arg8) (ix3 0 e k) := by
  entry_read
  pointwise []

/-- the norm's weight -/
theorem entry16 (k : Fin 1024) : V m c main_v16 (ix2 0 k) = m ((c : Thread nD τ).loc main_arg9) (ix3 0 1 k) := by
  entry_read
  pointwise []

/-- the norm's shift -/
theorem entry17 (k : Fin 1024) : V m c main_v17 (ix2 0 k) = m ((c : Thread nD τ).loc main_arg10) (ix3 0 1 k) := by
  entry_read
  pointwise []

/-! The windows' blocks. -/

theorem read0 (t : Fin cfg0.N) (r : Fin 512) (j : Fin 1024) : iblk m c 0 t (ix2 r j) = V m c main_v0 (ix2 r j) := by
  blk_point [iblk, idx t]

theorem read1 (t : Fin cfg0.N) (r : Fin 512) (j : Fin 1024) : iblk m c 1 t (ix4 0 0 r j) = V m c main_v5 (ix4 5 0 r j) := by
  blk_point [iblk, idx t]

theorem read2 (t : Fin cfg0.N) (r : Fin 512) (j : Fin 1024) : iblk m c 2 t (ix2 r j) = m ((c : Thread nD τ).loc main_arg2) (ix2 r j) := by
  rw [← V_main_arg2 m c]
  blk_point [iblk, idx t]

theorem read3 (t : Fin cfg0.N) (r : Fin 512) (j : Fin 1024) : iblk m c 3 t (ix2 r j) = m ((c : Thread nD τ).loc main_arg3) (ix2 r j) := by
  rw [← V_main_arg3 m c]
  blk_point [iblk, idx t]

theorem read4 (t : Fin cfg0.N) (r : Fin 512) (j : Fin 1024) : iblk m c 4 t (ix2 r j) = m ((c : Thread nD τ).loc main_arg4) (ix2 r j) := by
  rw [← V_main_arg4 m c]
  blk_point [iblk, idx t]

theorem read5 (t : Fin cfg0.N) (r : Fin 512) (j : Fin 1024) : iblk m c 5 t (ix2 r j) = m ((c : Thread nD τ).loc main_arg5) (ix2 r j) := by
  rw [← V_main_arg5 m c]
  blk_point [iblk, idx t]

theorem read6 (t : Fin cfg0.N) (e k : Fin 1024) : iblk m c 6 t (ix2 e k) = V m c main_v7 (ix2 e k) := by
  blk_point [iblk, idx t]

theorem read7 (t : Fin cfg0.N) (e k : Fin 1024) : iblk m c 7 t (ix2 e k) = V m c main_v9 (ix2 e k) := by
  blk_point [iblk, idx t]

theorem read8 (t : Fin cfg0.N) (e k : Fin 1024) : iblk m c 8 t (ix2 e k) = V m c main_v11 (ix2 e k) := by
  blk_point [iblk, idx t]

theorem read9 (t : Fin cfg0.N) (k : Fin 1024) : iblk m c 9 t (ix2 0 k) = V m c main_v16 (ix2 0 k) := by
  blk_point [iblk, idx t]

theorem read10 (t : Fin cfg0.N) (k : Fin 1024) : iblk m c 10 t (ix2 0 k) = V m c main_v17 (ix2 0 k) := by
  blk_point [iblk, idx t]

/-- what the body stores, from the blocks it reads -/
theorem out_at (x0 : Vec Ideal S512x1024 .f32) (x1 : Vec Ideal S1x1x512x1024 .f32) (x2 x3 x4 x5 : Vec Ideal S512x1024 .bf16) (x6 x7 x8 : Vec Ideal S1024x1024 .bf16) (x9 x10 : Vec Ideal S1x1024 .f32)
    (r : Fin 512) (j : Fin 1024) :
    out0_11 x0 x1 x2 x3 x4 x5 x6 x7 x8 x9 x10 (ix2 r j) = normed (row (fun j => x0 (ix2 r j)) (fun j => x1 (ix4 0 0 r j)) (fun e => x2 (ix2 r e)) (fun e => x3 (ix2 r e)) (fun e => x4 (ix2 r e)) (fun e => x5 (ix2 r e))
      (fun e k => x6 (ix2 e k)) (fun e k => x7 (ix2 e k)) (fun e k => x8 (ix2 e k))) j (x9 (ix2 0 j)) (x10 (ix2 0 j)) := by
  frame_out
  rw [pay1_at]
  simp only [pay2_at, pay4_at]

open Cert.Reference9Ideal.Read in
/-- a tile whose blocks are the layer's arrays holds the plain merge's rows -/
theorem tile_eq (X : (⟨3, ![128, 4, 1024]⟩ : Shape).Idx → EReal) (A : (⟨2, ![128, 9216]⟩ : Shape).Idx → EReal) (OA OB GA GB : (⟨2, ![512, 1024]⟩ : Shape).Idx → EReal)
    (PA PB W : (⟨3, ![1, 1024, 1024]⟩ : Shape).Idx → EReal) (G B : (⟨3, ![1, 3, 1024]⟩ : Shape).Idx → EReal) (r : Fin 512)
    (x0 : Vec Ideal S512x1024 .f32) (x1 : Vec Ideal S1x1x512x1024 .f32) (x2 x3 x4 x5 : Vec Ideal S512x1024 .bf16) (x6 x7 x8 : Vec Ideal S1024x1024 .bf16) (x9 x10 : Vec Ideal S1x1024 .f32)
    (h0 : ∀ j, x0 (ix2 r j) = X (ix3 (newSeq r) (newPos r) j)) (h1 : ∀ j, x1 (ix4 0 0 r j) = A (ix2 (newSeq r) (modIx 5 j)))
    (h2 : ∀ j, x2 (ix2 r j) = OA (ix2 r j)) (h3 : ∀ j, x3 (ix2 r j) = OB (ix2 r j)) (h4 : ∀ j, x4 (ix2 r j) = GA (ix2 r j)) (h5 : ∀ j, x5 (ix2 r j) = GB (ix2 r j))
    (h6 : ∀ e k, x6 (ix2 e k) = PA (ix3 0 e k)) (h7 : ∀ e k, x7 (ix2 e k) = PB (ix3 0 e k)) (h8 : ∀ e k, x8 (ix2 e k) = W (ix3 0 e k))
    (h9 : ∀ j, x9 (ix2 0 j) = G (ix3 0 1 j)) (h10 : ∀ j, x10 (ix2 0 j) = B (ix3 0 1 j)) (j : Fin 1024) :
    out0_11 x0 x1 x2 x3 x4 x5 x6 x7 x8 x9 x10 (ix2 r j) = val_main_v55 (F := Ideal) X A OA OB GA GB PA PB W G B (ix2 r j) := by
  rw [out_at, ref_at]
  simp only [h0, h1, h2, h3, h4, h5, h6, h7, h8, h9, h10]

open Cert.Reference9Ideal.Read in
/-- the array the kernel leaves -/
theorem final : (dats m 0 c).arrAt 11 cfg0.N = val_main_v55 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) := by
  refine (dats m 0 c).arrAt_eq_of_covers 11 _ ((cfg0.win 11).covers_of_index_surj rfl (by decide) fun β => ?_) fun t hf y => ?_
  · have h0 : (β 0 : ℕ) < 1 := (β 0).isLt
    have h1 : (β 1 : ℕ) < 1 := (β 1).isLt
    refine ⟨⟨0, by rw [N_0]; omega⟩, fun a => ?_⟩
    refine (congrFun (idx _).2.2.2.2.2.2.2.2.2.2.2 a).trans ?_
    match a with
    | ⟨0, _⟩ => show 0 = (β 0 : ℕ); omega
    | ⟨1, _⟩ => show 0 = (β 1 : ℕ); omega
  · blk_simp
    rw [after0_11]
    obtain ⟨r, j, rfl⟩ : ∃ (r : Fin 512) (j : Fin 1024), y = ix2 r j := ⟨y 0, y 1, funext fun a => by
      match a with
      | ⟨0, _⟩ => rfl
      | ⟨1, _⟩ => rfl⟩
    have ei : (win0_11.blk t).view.emb (ix2 r j) = ix2 r j := funext fun a => Fin.ext (by
      match a with
      | ⟨0, _⟩ => blk_simp [idx t]
      | ⟨1, _⟩ => blk_simp [idx t])
    refine Eq.trans ?_ (congrArg _ ei).symm
    exact tile_eq _ _ _ _ _ _ _ _ _ _ _ r _ _ _ _ _ _ _ _ _ _ _ (fun j => (read0 m c t r j).trans (entry0 m c _ j)) (fun j => (read1 m c t r j).trans (entry5 m c 5 _ j))
      (read2 m c t r) (read3 m c t r) (read4 m c t r) (read5 m c t r)
      (fun e k => (read6 m c t e k).trans (entry7 m c e k)) (fun e k => (read7 m c t e k).trans (entry9 m c e k)) (fun e k => (read8 m c t e k).trans (entry11 m c e k))
      (fun j => (read9 m c t j).trans (entry16 m c j)) (fun j => (read10 m c t j).trans (entry17 m c j)) j

/-- The sample group's merging kernel keeps its arguments and leaves every counter at zero, on the machine's own numbers. -/
theorem frame_p : Cert.quiescent_Kernel9 := fun m g _ => Cert.Kernel9.Gen.frame m g

/-- The sample group's merging kernel keeps its arguments and leaves every counter at zero, over the reals. -/
theorem frame_pi : Cert.quiescent_Kernel9Ideal := fun m g _ => Cert.Kernel9Ideal.Gen.frame m g

/-- The plain merge at the sample group's shapes keeps its arguments and leaves every counter at zero, over the reals. -/
theorem frame_ri : Cert.quiescent_Reference9Ideal := fun m g _ =>
  (θ_run _ _ _).mono (fun r h => ⟨fun c => (h c).2, sem_eq_zero_of_no_sems rfl r.2⟩) (Cert.Reference9Ideal.Value.run m g)

/-- The constant the kernel scales its input by stands for the fourth root of two. -/
theorem preserves : Cert.preserves_Kernel9_Kernel9Ideal := IdealRules.named_const.statement _ _ _ _ _ rfl

open Cert.Reference9Ideal.Read in
/-- The kernel's rows are the plain merge's. -/
theorem algebraic : Cert.algebraic_Kernel9Ideal_Reference9Ideal := by
  intro m g m' g' hpre hagree
  refine ⟨fun c => val_main_v55 (F := Ideal) (m (c.tc.loc main_arg0)) (m (c.tc.loc main_arg1)) (m (c.tc.loc main_arg2)) (m (c.tc.loc main_arg3)) (m (c.tc.loc main_arg4)) (m (c.tc.loc main_arg5))
      (m (c.tc.loc main_arg6)) (m (c.tc.loc main_arg7)) (m (c.tc.loc main_arg8)) (m (c.tc.loc main_arg9)) (m (c.tc.loc main_arg10)),
    (θ_run _ _ _).mono (fun r h c => ?_) (Cert.Kernel9Ideal.Value.run_blocks m g), (θ_run _ _ _).mono (fun r h c => ?_) (Cert.Reference9Ideal.Value.run m' g')⟩
  · obtain ⟨h11, ha⟩ := h c
    exact ⟨h11.trans (final m c), ha⟩
  · obtain ⟨h55, ha⟩ := h c
    obtain ⟨e0, e1, e2, e3, e4, e5, e6, e7, e8, e9, e10⟩ := hagree c
    refine ⟨h55.trans ((val_main_v55_eq m' c).trans ?_), ha⟩
    rw [e0, e1, e2, e3, e4, e5, e6, e7, e8, e9, e10]

end Cert.MergeNew

end
-- ==== Proof.OutHead.lean ====
/- ONE HEAD of the sample group's chunk, its output rows: the pair matrix built by halving over 16 rows, the rows before the norm, the norm and the gate. Read at an index on
   real queries, keys, values and log decays; the state may hold anything. -/
module
public import proofs.«01_k».proof.Proof.NewHead
public import proofs.«01_k».proof.Proof.Real

@[expose] public section

set_option maxRecDepth 16384

noncomputable section

namespace Cert.HgrnOut

open Cert.Kernel7Ideal Cert.Kernel7Ideal.Gen Idealize.ShloMosaic Idealize.ShloMosaic.TcCoe Idealize.SL.Sem
open Cert.Hgrn (endRow midRow isUpper isPair select_word coe_sum_real lg log_two_pos cum normed absf_real)
open Cert.HgrnNew (upper upper_word blockEnd IsEnd blockEnd_at runSum cols slab)

local notation "F" => Ideal

/-! ## The function -/

/-- the pairs of one block whose row lies in the upper half and whose column lies in the lower half -/
def pairs (nw w n : BitVec 32) : IVec S16x16 1 :=
  andi (andi (cmpi .eq (andi (xori (iota .tc S16x16 32 [0] iota_S16x16_d0_w32) (iota .tc S16x16 32 [1] iota_S16x16_d1_w32)) (broadcast S16x16 nw)) (broadcast S16x16 0#32))
      (cmpi .sge (andi (iota .tc S16x16 32 [0] iota_S16x16_d0_w32) (broadcast S16x16 w)) (broadcast S16x16 n)))
    (cmpi .slt (andi (iota .tc S16x16 32 [1] iota_S16x16_d1_w32) (broadcast S16x16 w)) (broadcast S16x16 n))

/-- one level of the halving: the decay of a row to or from the boundary between the halves of its block -/
def halfDecay (w n : BitVec 32) (b u : FVec F S16x128 .f32) : FVec F S16x128 .f32 :=
  exp2 (subf (broadcast S16x128 (Scalar.ofBits .f32 0x00000000#32)) (absf (subf b (select (upper w n) (dynamicRotate 0 n none u rotates_S16x128_d0) u))))

/-- one level of the halving: the pair products of the level -/
def levelPairs (nw w n : BitVec 32) (q k b u : FVec F S16x128 .f32) : FVec F S16x16 .f32 :=
  select (pairs nw w n)
    (matmul dot_S16x128_S16x128_S16x16_1_1_0_0_n_n none (truncf .bf16 (mulf q (halfDecay w n b u)) bitsLt_bf16_f32)
      (truncf .bf16 (mulf k (halfDecay w n b u)) bitsLt_bf16_f32) (constant S16x16 .f32 0x00000000#32))
    (broadcast S16x16 (Scalar.ofBits .f32 0x00000000#32))

def end1 (b : FVec F S16x128 .f32) : FVec F S16x128 .f32 := blockEnd 1#32 1#32 15#32 b
def end2 (b : FVec F S16x128 .f32) : FVec F S16x128 .f32 := blockEnd 3#32 2#32 14#32 (end1 b)
def end3 (b : FVec F S16x128 .f32) : FVec F S16x128 .f32 := blockEnd 7#32 4#32 12#32 (end2 b)

/-- the pair matrix: the four levels added -/
def pairSum (q k b : FVec F S16x128 .f32) : FVec F S16x16 .f32 :=
  addf (addf (addf (addf (broadcast S16x16 (Scalar.ofBits .f32 0x00000000#32))
    (levelPairs 4294967294#32 1#32 1#32 q k b b))
    (levelPairs 4294967292#32 3#32 2#32 q k b (end1 b)))
    (levelPairs 4294967288#32 7#32 4#32 q k b (end2 b)))
    (levelPairs 4294967280#32 15#32 8#32 q k b (end3 b))

def rows32 (x : Vec F S1x16x128 .bf16) : FVec F S16x128 .f32 := extf .f32 (shapeCast S16x128 x shapeCasts_S1x16x128_S16x128) bitsLt_bf16_f32

def rows16 (x : Vec F S1x16x128 .bf16) : FVec F S16x128 .bf16 := shapeCast S16x128 x shapeCasts_S1x16x128_S16x128

/-- the output rows before the norm -/
def rawOut (q k : FVec F S16x128 .f32) (v : FVec F S16x128 .bf16) (b : FVec F S16x128 .f32) (s : FVec F S128x128 .f32) : FVec F S16x128 .f32 :=
  addf (addf (matmul dot_S16x128_S128x128_S16x128_1_0_0_1_n_n none (truncf .bf16 (mulf q (exp2 b)) bitsLt_bf16_f32) (truncf .bf16 s bitsLt_bf16_f32) (constant S16x128 .f32 0x00000000#32))
      (matmul dot_S16x16_S16x128_S16x128_1_0_0_1_n_n none (truncf .bf16 (pairSum q k b) bitsLt_bf16_f32) v (constant S16x128 .f32 0x00000000#32)))
    (mulf (broadcastTo S16x128 (shapeCast S16x1 (multiReduction .add [1] S16 (mulf q k) 0x00000000#32 reduces_S16x128_S16 (.inl rfl) rfl) shapeCasts_S16_S16x1) broadcasts_S16x1_S16x128)
      (extf .f32 v bitsLt_bf16_f32))

/-- the norm over the 128 columns, its weight and the gate -/
def normGate (o : FVec F S16x128 .f32) (w : Vec F S1x128 .f32) (gt : Vec F S1x16x128 .bf16) : FVec F S1x16x128 .bf16 :=
  shapeCast S1x16x128 (truncf .bf16 (mulf (mulf (mulf o
      (broadcastTo S16x128 (rsqrt (addf (divf (shapeCast S16x1 (multiReduction .add [1] S16 (mulf o o) 0x00000000#32 reduces_S16x128_S16 (.inl rfl) rfl) shapeCasts_S16_S16x1)
        (broadcast S16x1 (Scalar.ofBits .f32 0x43000000#32))) (broadcast S16x1 (Scalar.ofBits .f32 0x3727C5AC#32)))) broadcasts_S16x1_S16x128))
      (broadcastTo S16x128 (shapeCast S1x128 w shapeCasts_S1x128_S1x128) broadcasts_S1x128_S16x128))
      (extf .f32 (shapeCast S16x128 gt shapeCasts_S1x16x128_S16x128) bitsLt_bf16_f32)) bitsLt_bf16_f32) shapeCasts_S16x128_S1x16x128

/-- what one head stores to the output -/
def headOut (q : Vec F S1x16x128 .bf16) (g : Vec F S1x16x128 .f32) (k v gt : Vec F S1x16x128 .bf16) (w : Vec F S1x128 .f32) (s : Vec F S1x1x128x128 .f32) : FVec F S1x16x128 .bf16 :=
  normGate (rawOut (rows32 q) (rows32 k) (rows16 v) (runSum g) (shapeCast S128x128 s shapeCasts_S1x1x128x128_S128x128)) w gt

/-! ## Facts about pairs of sixteen rows -/

theorem pair_word : ∀ (j : Fin 4) (t s : Fin 16), IntOp.andi (IntOp.andi
      (IntOp.cmpi .eq (IntOp.andi (IntOp.xori (BitVec.ofNat 32 t.val) (BitVec.ofNat 32 s.val)) (BitVec.ofNat 32 (2 ^ 32 - 2 * 2 ^ j.val))) 0#32)
      (IntOp.cmpi .sge (IntOp.andi (BitVec.ofNat 32 t.val) (BitVec.ofNat 32 (2 * 2 ^ j.val - 1))) (BitVec.ofNat 32 (2 ^ j.val))))
      (IntOp.cmpi .slt (IntOp.andi (BitVec.ofNat 32 s.val) (BitVec.ofNat 32 (2 * 2 ^ j.val - 1))) (BitVec.ofNat 32 (2 ^ j.val)))
    = if isPair j.val t.val s.val then 1#1 else 0#1 := by
  decide +kernel

/-- the boundary between the halves of a row's block: the end of the half above, or of its own half -/
theorem mid_step : ∀ (j : Fin 4) (t : Fin 16),
    (if isUpper j.val t.val then endRow j.val ((t.val + 16 - (BitVec.ofNat 32 (2 ^ j.val)).toNat % 16) % 16) else endRow j.val t.val) = midRow j.val t.val := by
  decide +kernel

theorem mid_side : ∀ (j : Fin 4) (t : Fin 16), if isUpper j.val t.val then midRow j.val t.val ≤ t.val else t.val ≤ midRow j.val t.val ∧ midRow j.val t.val < 16 := by
  decide +kernel

/-- a pair of rows below the diagonal belongs to exactly one level, any other pair to none -/
theorem one_level : ∀ (t s : Fin 16), (Finset.univ.filter fun j : Fin 4 => isPair j.val t.val s.val).card = if s.val < t.val then 1 else 0 := by
  decide +kernel

/-- so the levels add up to the strict lower triangle -/
theorem levels_sum (t s : Fin 16) (x : ℝ) : (∑ j : Fin 4, if isPair j.val t.val s.val then x else 0) = if s.val < t.val then x else 0 := by
  rw [← Finset.sum_filter, Finset.sum_const, one_level]
  split <;> simp

/-! ## The function read at an index -/

section chunk
variable (b : FVec F S16x128 .f32) (B : ℕ → Fin 128 → ℝ) (hb : ∀ (t : Fin 16) f, b (ix2 t f) = ((lg * B t.val f : ℝ) : EReal))
include hb

theorem isEnd0 : IsEnd (0 : Fin 4).val b (fun t f => ((lg * B t f : ℝ) : EReal)) := fun t f => by
  rw [hb]
  show _ = ((lg * B (t.val / 2 ^ 0 * 2 ^ 0 + 2 ^ 0 - 1) f : ℝ) : EReal)
  simp
theorem isEnd1 : IsEnd (1 : Fin 4).val (end1 b) (fun t f => ((lg * B t f : ℝ) : EReal)) := blockEnd_at 0 1#32 1#32 15#32 rfl rfl rfl b _ (isEnd0 b B hb)
theorem isEnd2 : IsEnd (2 : Fin 4).val (end2 b) (fun t f => ((lg * B t f : ℝ) : EReal)) := blockEnd_at 1 3#32 2#32 14#32 rfl rfl rfl _ _ (isEnd1 b B hb)
theorem isEnd3 : IsEnd (3 : Fin 4).val (end3 b) (fun t f => ((lg * B t f : ℝ) : EReal)) := blockEnd_at 2 7#32 4#32 12#32 rfl rfl rfl _ _ (isEnd2 b B hb)

variable (hB : ∀ s t f, s ≤ t → B t f ≤ B s f)
include hB

section level
variable (j : Fin 4) (u : FVec F S16x128 .f32) (hu : IsEnd j.val u fun t f => ((lg * B t f : ℝ) : EReal))
include hu

/-- the decay to the boundary, or from it -/
theorem halfDecay_at (w n : BitVec 32) (hw : w = BitVec.ofNat 32 (2 * 2 ^ j.val - 1)) (hn : n = BitVec.ofNat 32 (2 ^ j.val)) (t : Fin 16) (f : Fin 128) :
    halfDecay w n b u (ix2 t f)
      = ((if isUpper j.val t.val then Real.exp (B t.val f - B (midRow j.val t.val) f) else Real.exp (B (midRow j.val t.val) f - B t.val f) : ℝ) : EReal) := by
  subst hw hn
  pointwise [halfDecay, upper]
  rw [select_word (upper_word j t), hb, hu, hu]
  have hm := mid_step j t
  have hs := mid_side j t
  by_cases h : isUpper j.val t.val
  · rw [if_pos h] at hm hs
    rw [if_pos h, if_pos h, hm, ← EReal.coe_sub, ← mul_sub, absf_real, ← EReal.coe_zero, ← EReal.coe_sub, zero_sub, ← Cert.Hgrn.exp2_lg,
      abs_of_nonpos (mul_nonpos_of_nonneg_of_nonpos (inv_nonneg.mpr log_two_pos.le) (by linarith [hB _ _ f hs])), neg_neg]
  · rw [if_neg h] at hm hs
    rw [if_neg h, if_neg h, hm, ← EReal.coe_sub, ← mul_sub, absf_real, ← EReal.coe_zero, ← EReal.coe_sub, zero_sub, ← Cert.Hgrn.exp2_lg,
      abs_of_nonneg (mul_nonneg (inv_nonneg.mpr log_two_pos.le) (by linarith [hB _ _ f hs.1])), ← mul_neg, neg_sub]

/-- the products of one level: at a pair of the level the decayed product of its two rows, elsewhere zero -/
theorem levelPairs_at (nw w n : BitVec 32) (hnw : nw = BitVec.ofNat 32 (2 ^ 32 - 2 * 2 ^ j.val)) (hw : w = BitVec.ofNat 32 (2 * 2 ^ j.val - 1))
    (hn : n = BitVec.ofNat 32 (2 ^ j.val)) (q k : FVec F S16x128 .f32) (Q K : ℕ → Fin 128 → ℝ)
    (hq : ∀ (t : Fin 16) f, q (ix2 t f) = ((Q t.val f : ℝ) : EReal)) (hk : ∀ (t : Fin 16) f, k (ix2 t f) = ((K t.val f : ℝ) : EReal)) (t s : Fin 16) :
    levelPairs nw w n q k b u (ix2 t s)
      = ((if isPair j.val t.val s.val then ∑ f, Q t.val f * K s.val f * Real.exp (B t.val f - B s.val f) else 0 : ℝ) : EReal) := by
  pointwise [levelPairs, pairs]
  simp only [halfDecay_at b B hb hB j u hu w n hw hn, hq, hk]
  subst hnw hw hn
  rw [select_word (pair_word j t s)]
  by_cases h : isPair j.val t.val s.val
  · rw [if_pos h, if_pos h, coe_sum_real]
    refine Finset.sum_congr rfl fun f _ => ?_
    rw [if_pos h.2.1, if_neg h.2.2, ← EReal.coe_mul, ← EReal.coe_mul, ← EReal.coe_mul, show midRow j.val s.val = midRow j.val t.val by unfold midRow; rw [h.1],
      show B t.val f - B s.val f = (B t.val f - B (midRow j.val t.val) f) + (B (midRow j.val t.val) f - B s.val f) by ring, Real.exp_add]
    congr 1
    ring
  · rw [if_neg h, if_neg h, EReal.coe_zero]

end level

variable (q k : FVec F S16x128 .f32) (Q K : ℕ → Fin 128 → ℝ)
  (hq : ∀ (t : Fin 16) f, q (ix2 t f) = ((Q t.val f : ℝ) : EReal)) (hk : ∀ (t : Fin 16) f, k (ix2 t f) = ((K t.val f : ℝ) : EReal))
include hq hk

/-- the pair matrix is strictly lower triangular, its entries the decayed products -/
theorem pairSum_at (t s : Fin 16) :
    pairSum q k b (ix2 t s) = ((if s.val < t.val then ∑ f, Q t.val f * K s.val f * Real.exp (B t.val f - B s.val f) else 0 : ℝ) : EReal) := by
  have e0 := levelPairs_at b B hb hB 0 b (isEnd0 b B hb) 4294967294#32 1#32 1#32 rfl rfl rfl q k Q K hq hk t s
  have e1 := levelPairs_at b B hb hB 1 _ (isEnd1 b B hb) 4294967292#32 3#32 2#32 rfl rfl rfl q k Q K hq hk t s
  have e2 := levelPairs_at b B hb hB 2 _ (isEnd2 b B hb) 4294967288#32 7#32 4#32 rfl rfl rfl q k Q K hq hk t s
  have e3 := levelPairs_at b B hb hB 3 _ (isEnd3 b B hb) 4294967280#32 15#32 8#32 rfl rfl rfl q k Q K hq hk t s
  pointwise [pairSum]
  rw [e0, e1, e2, e3, ← EReal.coe_add, ← EReal.coe_add, ← EReal.coe_add, ← levels_sum t s, Fin.sum_univ_four]

/-- the rows before the norm: the state's part, and the real sum over the rows so far -/
theorem rawOut_at (v : FVec F S16x128 .bf16) (s : FVec F S128x128 .f32) (V : ℕ → Fin 128 → ℝ) (S : Fin 128 → Fin 128 → EReal)
    (hv : ∀ (t : Fin 16) f, v (ix2 t f) = ((V t.val f : ℝ) : EReal)) (hs : ∀ x d, s (ix2 x d) = S x d) (t : Fin 16) (d : Fin 128) :
    rawOut q k v b s (ix2 t d)
      = (∑ x, ((Q t.val x * Real.exp (B t.val x) : ℝ) : EReal) * S x d)
        + ((∑ s : Fin 16, (if s.val ≤ t.val then ∑ x, Q t.val x * K s.val x * Real.exp (B t.val x - B s.val x) else 0) * V s.val d : ℝ) : EReal) := by
  have e : (∑ s : Fin 16, (if s.val ≤ t.val then ∑ x, Q t.val x * K s.val x * Real.exp (B t.val x - B s.val x) else 0) * V s.val d : ℝ)
      = ∑ s : Fin 16, (if s.val < t.val then ∑ x, Q t.val x * K s.val x * Real.exp (B t.val x - B s.val x) else 0) * V s.val d + (∑ x, Q t.val x * K t.val x) * V t.val d := by
    have e1 := Finset.sum_erase_add Finset.univ (fun s : Fin 16 => (if s.val ≤ t.val then ∑ x, Q t.val x * K s.val x * Real.exp (B t.val x - B s.val x) else 0) * V s.val d) (Finset.mem_univ t)
    have e2 := Finset.sum_erase_add Finset.univ (fun s : Fin 16 => (if s.val < t.val then ∑ x, Q t.val x * K s.val x * Real.exp (B t.val x - B s.val x) else 0) * V s.val d) (Finset.mem_univ t)
    rw [← e1, ← e2, if_pos (le_refl t.val), if_neg (lt_irrefl t.val), zero_mul, add_zero]
    simp only [sub_self, Real.exp_zero, mul_one]
    refine congrArg (· + _) (Finset.sum_congr rfl fun s hs => ?_)
    have hne : s.val ≠ t.val := fun hh => (Finset.mem_erase.mp hs).1 (Fin.ext hh)
    by_cases hst : s.val < t.val
    · rw [if_pos hst, if_pos hst.le]
    · rw [if_neg hst, if_neg (by omega)]
  rw [e]
  pointwise [rawOut]
  simp only [pairSum_at b B hb hB q k Q K hq hk, hq, hk, hb, hv, hs, Cert.Hgrn.exp2_lg, ← EReal.coe_mul, ← coe_sum_real]
  rw [add_assoc, ← EReal.coe_add]

end chunk

/-- one entry of a head's output -/
theorem headOut_at (q : Vec F S1x16x128 .bf16) (g : Vec F S1x16x128 .f32) (k v gt : Vec F S1x16x128 .bf16) (w : Vec F S1x128 .f32) (s : Vec F S1x1x128x128 .f32)
    (Q G K V : ℕ → Fin 128 → ℝ) (S : Fin 128 → Fin 128 → EReal)
    (hq : ∀ (t : Fin 16) f, q (ix3 0 t f) = ((Q t.val f : ℝ) : EReal)) (hg : ∀ (t : Fin 16) f, g (ix3 0 t f) = ((G t.val f : ℝ) : EReal))
    (hk : ∀ (t : Fin 16) f, k (ix3 0 t f) = ((K t.val f : ℝ) : EReal)) (hv : ∀ (t : Fin 16) f, v (ix3 0 t f) = ((V t.val f : ℝ) : EReal))
    (hs : ∀ x d, s (ix4 0 0 x d) = S x d) (hG : ∀ n f, G n f ≤ 0) (t : Fin 16) (d : Fin 128) :
    headOut q g k v gt w s (ix3 0 t d)
      = normed (fun d => (∑ x, ((Q t.val x * Real.exp (cum G t.val x) : ℝ) : EReal) * S x d)
          + ((∑ s : Fin 16, (if s.val ≤ t.val then ∑ x, Q t.val x * K s.val x * Real.exp (cum G t.val x - cum G s.val x) else 0) * V s.val d : ℝ) : EReal))
        (w (ix2 0 d)) (gt (ix3 0 t d)) d := by
  have hb : ∀ (t : Fin 16) f, runSum g (ix2 t f) = ((lg * cum G t.val f : ℝ) : EReal) := fun t f => by
    rw [Cert.HgrnNew.runSum_at g (fun n f => ((G n f : ℝ) : EReal)) hg, EReal.coe_mul]
    unfold Cert.HgrnNew.cum cum
    rw [coe_sum_real]
  have hB : ∀ s t f, s ≤ t → cum G t f ≤ cum G s f := fun s t f hst => Cert.Hgrn.acc_anti G hG (s + 1) (t + 1) f (by omega)
  have hr : ∀ d, rawOut (rows32 q) (rows32 k) (rows16 v) (runSum g) (shapeCast S128x128 s shapeCasts_S1x1x128x128_S128x128) (ix2 t d) = _ := fun d =>
    rawOut_at (runSum g) (cum G) hb hB (rows32 q) (rows32 k) Q K (fun t f => by pointwise [rows32]; exact hq t f) (fun t f => by pointwise [rows32]; exact hk t f)
      (rows16 v) _ V S (fun t f => by pointwise [rows16]; exact hv t f) (fun x d => by pointwise; exact hs x d) t d
  unfold headOut normed
  simp only [← hr]
  generalize rawOut (rows32 q) (rows32 k) (rows16 v) (runSum g) (shapeCast S128x128 s shapeCasts_S1x1x128x128_S128x128) = r
  pointwise [normGate]

end Cert.HgrnOut

end
-- ==== Proof.OutBody.lean ====
/- WHAT ONE GRID POINT LEAVES of the sample group's output rows: head by head, the one-head function of the point's input blocks and of the state block it was given. -/
module
public import proofs.«01_k».proof.Proof.OutHead
public import proofs.«01_k».proof.Proof.Gen.Kernel10Ideal.Frame
public import Idealize.ShloMosaic.Lib.Pipeline.ReadBack

@[expose] public section

set_option maxRecDepth 16384

noncomputable section

namespace Cert.HgrnOut

open Cert.Kernel10Ideal Cert.Kernel10Ideal.Gen Idealize.ShloMosaic Idealize.ShloMosaic.TcCoe Idealize.SL.Sem
open Idealize.ShloMosaic.Pipeline (Dat)
open Cert.HgrnNew (cols slab)

variable (m : (ℓ : Loc nD τ sig) → Buf (Elt Ideal) ℓ)

/-- head `h` of the output rows, from the point's blocks -/
def outAt (c : Dev nD) (t : Fin cfg0.N) (h : Fin 8) : Vec Ideal S1x16x128 .bf16 :=
  headOut (cols (iblk m c 0 t) h) (cols (iblk m c 1 t) h) (cols (iblk m c 2 t) h) (cols (iblk m c 3 t) h) (cols (iblk m c 4 t) h) (iblk m c 5 t)
    (slab (k0_pay2 (iblk m c 6 t)) h)

theorem outAt_congr (c : Dev nD) (t : Fin cfg0.N) {h h' : Fin 8} (e : h.val = h'.val) {x x' : S1x16x128.Idx} (ex : x = x') :
    outAt m c t h x = outAt m c t h' x' := by
  rw [Fin.ext e, ex]

/-- The output rows are the one-head function of the state the point was given. -/
theorem out_point (c : Dev nD) (t : Fin cfg0.N) (y : S1x16x1024.Idx) (n : Fin 8) (z : S1x16x128.Idx) (e1 : (y 1 : ℕ) = z 1) (e2 : (y 2 : ℕ) = 128 * n + z 2) :
    (outsAt0 m c t).1 y = outAt m c t n z := by
  unfold outsAt0
  frame_open
  simp (disch := decide) only [↓ View.readCov_skip, ↓ View.readCov_cons_toLoadRect, ↓ View.readCov_fill]
  frame_out
  canon_tiles x h
  all_goals have z0 : (z 0 : ℕ) < 1 := (z 0).isLt
  all_goals have z2 : (z 2 : ℕ) < 128 := (z 2).isLt
  case piece0 => change outAt m c t 7 x = _; exact outAt_congr m c t (by change 7 = _; omega) (by blk_ext [e1] <;> omega)
  case piece1 => change outAt m c t 6 x = _; exact outAt_congr m c t (by change 6 = _; omega) (by blk_ext [e1] <;> omega)
  case piece2 => change outAt m c t 5 x = _; exact outAt_congr m c t (by change 5 = _; omega) (by blk_ext [e1] <;> omega)
  case piece3 => change outAt m c t 4 x = _; exact outAt_congr m c t (by change 4 = _; omega) (by blk_ext [e1] <;> omega)
  case piece4 => change outAt m c t 3 x = _; exact outAt_congr m c t (by change 3 = _; omega) (by blk_ext [e1] <;> omega)
  case piece5 => change outAt m c t 2 x = _; exact outAt_congr m c t (by change 2 = _; omega) (by blk_ext [e1] <;> omega)
  case piece6 => change outAt m c t 1 x = _; exact outAt_congr m c t (by change 1 = _; omega) (by blk_ext [e1] <;> omega)
  case piece7 => change outAt m c t 0 x = _; exact outAt_congr m c t (by change 0 = _; omega) (by blk_ext [e1] <;> omega)

end Cert.HgrnOut

end
-- ==== Proof.OutRef.lean ====
/- The sample group's reference output read at an index, on real queries, keys, values and log decays: the recurrence's closed form over four tokens, its norm and its gate. -/
module
public import proofs.«01_k».proof.Proof.NewRef
public import proofs.«01_k».proof.Proof.Gen.Reference10Ideal.Read

@[expose] public section

set_option maxRecDepth 32768

noncomputable section

namespace Cert.HgrnOut

open Cert.Reference10Ideal Cert.Reference10Ideal.Gen Cert.Reference10Ideal.Read Idealize.ShloMosaic Idealize.ShloMosaic.TcCoe Idealize.SL.Sem
open Cert.Hgrn (colIx coe_sum_real select_word cum normed)
open Cert.HgrnNew (Arr tok tok_at cumsum_at)

/-- every entry is a real number -/
def IsReal (X : Arr) : Prop := ∀ i, X i = ((X i).toReal : EReal)

/-- the new tokens of a sequence and a head as real numbers, and zero after them -/
def tokR (X : Arr) (b : Fin 128) (h : Fin 8) (n : ℕ) (f : Fin 128) : ℝ := (tok X b h n f).toReal

theorem tok_real (X : Arr) (hX : IsReal X) (b : Fin 128) (h : Fin 8) (n : ℕ) (f : Fin 128) : tok X b h n f = ((tokR X b h n f : ℝ) : EReal) := by
  unfold tokR tok
  split
  · exact hX _
  · rw [EReal.toReal_zero, EReal.coe_zero]

theorem tokR_late (X : Arr) (b : Fin 128) (h : Fin 8) (n : ℕ) (f : Fin 128) (hn : 4 ≤ n) : tokR X b h n f = 0 := by
  unfold tokR tok
  rw [dif_neg (by omega), EReal.toReal_zero]

theorem tokR_nonpos (X : Arr) (hX : IsReal X) (h0 : ∀ i, X i ≤ 0) (b : Fin 128) (h : Fin 8) (n : ℕ) (f : Fin 128) : tokR X b h n f ≤ 0 := by
  have e : tok X b h n f ≤ 0 := by
    unfold tok
    split
    · exact h0 _
    · exact le_refl 0
  rw [tok_real X hX] at e
  exact_mod_cast e

theorem cum_real (X : Arr) (hX : IsReal X) (b : Fin 128) (h : Fin 8) (n : ℕ) (f : Fin 128) : Cert.HgrnNew.cum (tok X b h) n f = ((cum (tokR X b h) n f : ℝ) : EReal) := by
  unfold Cert.HgrnNew.cum cum
  rw [coe_sum_real]
  exact Finset.sum_congr rfl fun s _ => tok_real X hX b h s f

theorem cum_anti (X : Arr) (hX : IsReal X) (h0 : ∀ i, X i ≤ 0) (b : Fin 128) (h : Fin 8) (s t : ℕ) (f : Fin 128) (hst : s ≤ t) :
    cum (tokR X b h) t f ≤ cum (tokR X b h) s f := Cert.Hgrn.acc_anti (tokR X b h) (tokR_nonpos X hX h0 b h) (s + 1) (t + 1) f (by omega)

/-- the weight of row `s` in the output of row `n` -/
def weight (Q G K : Arr) (b : Fin 128) (h : Fin 8) (n s : ℕ) : ℝ :=
  if s ≤ n then ∑ x, tokR Q b h n x * tokR K b h s x * Real.exp (cum (tokR G b h) n x - cum (tokR G b h) s x) else 0

/-- the output row of a sequence and a head before the norm: the state's part and the tokens' part -/
def rowOf (Q G K V : Arr) (S : S1x128x8x128x128.Idx → EReal) (b : Fin 128) (h : Fin 8) (n : ℕ) (d : Fin 128) : EReal :=
  (∑ x, ((tokR Q b h n x * Real.exp (cum (tokR G b h) n x) : ℝ) : EReal) * S (ix5 0 b h x d)) + ((∑ s : Fin 4, weight Q G K b h n s.val * tokR V b h s.val d : ℝ) : EReal)

section results
variable (Q : Vec Ideal S128x4x1024 .bf16) (G : Vec Ideal S128x4x1024 .f32) (K V A : Vec Ideal S128x4x1024 .bf16) (W : Vec Ideal S1x128 .f32) (S : Vec Ideal S1x128x8x128x128 .f32)
  (hQ : IsReal Q) (hG : IsReal G) (hK : IsReal K) (hV : IsReal V) (hle : ∀ i, G i ≤ (0 : EReal)) (b : Fin 128) (h : Fin 8)

include hQ in
theorem v8_at (n : Fin 4) (f : Fin 128) : val_main_v8 (F := Ideal) Q (ix4 b h n f) = ((tokR Q b h n.val f : ℝ) : EReal) := by
  rw [← tok_real Q hQ, tok_at]
  pointwise [val_main_v8, val_main_v1, val_main_v0]
  exact congrArg (fun j => Q (ix3 b n j)) (Fin.ext (by show h.val * 128 + f.val = 128 * h.val + f.val; omega))

include hK in
theorem v9_at (n : Fin 4) (f : Fin 128) : val_main_v9 (F := Ideal) K (ix4 b h n f) = ((tokR K b h n.val f : ℝ) : EReal) :=
  (Cert.HgrnNew.v9_at K b h n f).trans (tok_real K hK b h n.val f)

include hV in
theorem v10_at (n : Fin 4) (f : Fin 128) : val_main_v10 (F := Ideal) V (ix4 b h n f) = ((tokR V b h n.val f : ℝ) : EReal) :=
  (Cert.HgrnNew.v10_at V b h n f).trans (tok_real V hV b h n.val f)

include hG in
theorem v16_at (n : Fin 4) (f : Fin 128) : val_main_v16 (F := Ideal) G (ix4 b h n f) = ((cum (tokR G b h) n.val f : ℝ) : EReal) :=
  (Cert.HgrnNew.v16_at G b h n f).trans (cum_real G hG b h n.val f)

theorem ge_word : ∀ n s : Fin 4, IntOp.cmpi .sge (BitVec.ofNat 32 n.val) (BitVec.ofNat 32 s.val) = if s.val ≤ n.val then 1#1 else 0#1 := by
  decide +kernel

include hQ hG hK hle in
/-- the reference's weight of row `s` in the output of row `n` -/
theorem v35_at (n s : Fin 4) : val_main_v35 (F := Ideal) Q G K (ix4 b h n s) = ((weight Q G K b h n.val s.val : ℝ) : EReal) := by
  pointwise [val_main_v35, val_main_v34, val_main_v33, val_main_v32, val_main_v31, val_main_v30, val_main_v29, val_main_v28, val_main_v27, val_main_v26, val_main_v25, val_main_v24,
    val_main_v23, val_main_v22, val_main_v21, val_main_v20, val_main_v15, val_main_v14, val_main_v13, val_main_v12, val_main_cst, val_main_cst_0, val_main_cst_1, val_main_call1_v0,
    val_main_call1_v1, val_main_call1_v2]
  simp only [v8_at Q hQ, v9_at K hK, v16_at G hG, select_word (ge_word n s)]
  unfold weight
  by_cases hs : s.val ≤ n.val
  · rw [if_pos hs, coe_sum_real]
    refine Finset.sum_congr rfl fun x _ => ?_
    rw [if_pos hs, ← EReal.coe_sub, min_eq_left, Ideal.exp_coe, ← EReal.coe_mul, ← EReal.coe_mul]
    · congr 1
      ring
    · have := cum_anti G hG hle b h s.val n.val x hs
      exact_mod_cast sub_nonpos.mpr this
  · rw [if_neg hs, EReal.coe_zero]
    refine Finset.sum_eq_zero fun x _ => ?_
    rw [if_neg hs]
    have hz : @id (FVec Ideal S_ .f32) (constant S_ FTy.f32 0#32) ix0 = 0 := by
      rw [id]
      pointwise
    exact (congrArg (fun z : EReal => (_ : EReal) * z * _) hz).trans (by rw [mul_zero, zero_mul])

include hQ hG hK hV hle in
/-- the reference's output rows before the norm -/
theorem ref_row (n : Fin 4) (d : Fin 128) : val_main_v50 (F := Ideal) Q G K V S (ix4 b h n d) = rowOf Q G K V S b h n.val d := by
  have e19 : val_main_v19 (F := Ideal) Q G S (ix4 b h n d) = ∑ x, ((tokR Q b h n.val x * Real.exp (cum (tokR G b h) n.val x) : ℝ) : EReal) * S (ix5 0 b h x d) := by
    pointwise [val_main_v19, val_main_v18, val_main_v17, val_main_v7]
    simp only [v8_at Q hQ, v16_at G hG, Ideal.exp_coe, ← EReal.coe_mul]
  have e36 : val_main_v36 (F := Ideal) Q G K V (ix4 b h n d) = ∑ s : Fin 4, val_main_v35 (F := Ideal) Q G K (ix4 b h n s) * val_main_v10 (F := Ideal) V (ix4 b h s d) := by
    pointwise [val_main_v36]
  pointwise [val_main_v50]
  rw [e19, e36]
  simp only [v35_at Q G K hQ hG hK hle, v10_at V hV, ← EReal.coe_mul, ← coe_sum_real]
  rfl

include hQ hG hK hV hle in
/-- the reference's output is the norm, weight and gate of its output rows; a row of the result is a sequence and a token -/
theorem ref_out (n : Fin 4) (f : Fin 128) :
    val_main_v70 (F := Ideal) Q G K V A W S (ix2 ⟨4 * b.val + n.val, by omega⟩ (colIx h f)) = normed (rowOf Q G K V S b h n.val) (W (ix2 0 f)) (A (ix3 b n (colIx h f))) f := by
  have e : rowOf Q G K V S b h n.val = fun d => val_main_v50 (F := Ideal) Q G K V S (ix4 b h n d) := funext fun d => (ref_row Q G K V S hQ hG hK hV hle b h n d).symm
  rw [e]
  unfold normed
  have i68 : val_main_v70 (F := Ideal) Q G K V A W S (ix2 ⟨4 * b.val + n.val, by omega⟩ (colIx h f)) = val_main_v68 (F := Ideal) Q G K V A W S (ix4 b n h f) := by
    pointwise [val_main_v70, val_main_v69]
    refine congrArg _ (funext fun a => Fin.ext ?_)
    have := f.isLt; have := h.isLt; have := n.isLt
    match a with
    | ⟨0, _⟩ => show _ = b.val; simp <;> omega
    | ⟨1, _⟩ => show _ = n.val; simp <;> omega
    | ⟨2, _⟩ => show _ = h.val; simp <;> omega
    | ⟨3, _⟩ => show _ = f.val; simp <;> omega
  rw [i68]
  generalize hv : val_main_v50 (F := Ideal) Q G K V S = r
  pointwise [val_main_v68, val_main_v67, val_main_v66, val_main_v65, val_main_v64, val_main_v63, val_main_v62, val_main_v61,
    val_main_v60, val_main_v59, val_main_v58, val_main_v57, val_main_v56, val_main_v55, val_main_v54, val_main_v53, val_main_v52, val_main_v51,
    val_main_cst_2, val_main_cst_3, val_main_cst_4]
  rw [← hv]
  have i3 : (⟨h.val * 128 + f.val, by omega⟩ : Fin 1024) = colIx h f := Fin.ext (by show h.val * 128 + f.val = 128 * h.val + f.val; omega)
  simp only [i3]

end results

end Cert.HgrnOut

end
-- ==== Proof.OutEqual.lean ====
/- The sample group's recurrence: the output rows of the padded kernel are the plain recurrence's, on finite queries, keys, values and log decays, no log decay above zero. -/
module
public import proofs.«01_k».proof.Defs
public import proofs.«01_k».proof.Proof.OutBody
public import proofs.«01_k».proof.Proof.OutRef
public import proofs.«01_k».proof.Proof.NewEqual
public import proofs.«01_k».proof.Proof.Pre
public import proofs.«01_k».proof.Proof.Gen.Kernel10.Frame
public import proofs.«01_k».proof.Proof.Gen.Reference10Ideal.Run
public import Idealize.ShloMosaic.Lib.Pipeline.Covers
public import Idealize.ShloMosaic.Lib.Quiescent

@[expose] public section

set_option maxRecDepth 16384

noncomputable section

namespace Cert.HgrnOut

open Cert.Kernel10Ideal.Gen Cert.Reference10Ideal.Read Idealize.ShloMosaic Idealize.ShloMosaic.TcCoe Idealize.SL.Sem
open Cert.Kernel10Ideal (nD τ sig main_arg0 main_arg1 main_arg2 main_arg3 main_arg4 main_arg5 main_arg6 main_v0 main_v1 main_v2 main_v3 main_v4 main_v6 main_v7_0 main_v9 cfg0 cfgs grid0
  spec0 win0_0 win0_1 win0_2 win0_3 win0_4 win0_5 win0_6 win0_7 S1x16x1024 S1x8x128x128 S1x128 S128x4x1024 S512x1024 S128)
open Cert.Hgrn (colIx normed cum)
open Cert.HgrnNew (Arr tok padded padded_at cols cols_at slab slab_at)

/-! ## The condition -/

/-- the shape relations the predicate's operations take -/
instance preFacts : Cert.Pre_finite_new.Facts where
  bitsLt_bf16_f32 := by decide
  bcast_S_S128x4x1024 := by decide
  reducesTo_S128x4x1024_S_d0_1_2 := by decide
  h_S_ := by decide

/-- what the predicate says of the arrays -/
theorem pre_read (Q G K V A : Arr) (W : FVec Ideal S1x128 .f32) (S : Cert.Reference10Ideal.S1x128x8x128x128.Idx → EReal)
    (h : Cert.Pre_finite_new.fn (F := Ideal) Q G K V A W S = fun _ => 1#1) : IsReal Q ∧ IsReal G ∧ IsReal K ∧ IsReal V ∧ ∀ i, G i ≤ 0 := by
  have h0 := congrFun h (fun a => a.elim0)
  unfold Cert.Pre_finite_new.fn Cert.Pre_finite_new.fn_part1 at h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  haveI : Subsingleton Cert.Pre_finite_new.S_.Idx := ⟨fun a b => funext fun x => x.elim0⟩
  exact ⟨fun i => Cert.Hgrn.real_of_abs_lt _ (Host.reduce_andi_all _ _ _ _ _ e0 i), fun i => Cert.Hgrn.real_of_abs_lt _ (Host.reduce_andi_all _ _ _ _ _ e1 i),
    fun i => Cert.Hgrn.real_of_abs_lt _ (Host.reduce_andi_all _ _ _ _ _ e2 i), fun i => Cert.Hgrn.real_of_abs_lt _ (Host.reduce_andi_all _ _ _ _ _ e3 i),
    fun i => Cert.Hgrn.nonpos_of_le _ (Host.reduce_andi_all _ _ _ _ _ e4 i)⟩

/-! ## Blocks -/

/-- where each window's block lies: one sequence at a point -/
theorem idx : ∀ t : Fin cfg0.N, win0_0.index t = ![t.val, 0, 0] ∧ win0_1.index t = ![t.val, 0, 0] ∧ win0_2.index t = ![t.val, 0, 0] ∧ win0_3.index t = ![t.val, 0, 0]
    ∧ win0_4.index t = ![t.val, 0, 0] ∧ win0_5.index t = ![0, 0] ∧ win0_6.index t = ![0, t.val, 0, 0, 0] ∧ win0_7.index t = ![t.val, 0, 0] :=
  (by decide +kernel : ∀ t : Fin grid0.N, _)

/-- the sequence of a point -/
abbrev seqOf (t : Fin cfg0.N) : Fin 128 := ⟨t.val, lt_of_lt_of_eq t.isLt N_0⟩

variable (m : (ℓ : Loc nD τ sig) → Buf (Elt Ideal) ℓ) (c : Dev nD)

/-- the arrays the call reads -/
abbrev argQ : Arr := m ((c : Thread nD τ).loc main_arg0)
abbrev argG : Arr := m ((c : Thread nD τ).loc main_arg1)
abbrev argK : Arr := m ((c : Thread nD τ).loc main_arg2)
abbrev argV : Arr := m ((c : Thread nD τ).loc main_arg3)
abbrev argA : Arr := m ((c : Thread nD τ).loc main_arg4)
abbrev argW : S1x128.Idx → EReal := m ((c : Thread nD τ).loc main_arg5)
abbrev argS : Cert.Reference10Ideal.S1x128x8x128x128.Idx → EReal := m ((c : Thread nD τ).loc main_arg6)

/-- the operands as the call finds them -/
theorem entries : V m c main_v0 = padded (argQ m c) ∧ V m c main_v1 = padded (argG m c) ∧ V m c main_v2 = padded (argK m c) ∧ V m c main_v3 = padded (argV m c)
    ∧ V m c main_v4 = padded (argA m c)
    ∧ V m c main_v6 = (shapeCast S1x128 (shapeCast S128 (argW m c) shapeCasts_S1x128_S128 : S128.Idx → EReal) shapeCasts_S128_S1x128 : S1x128.Idx → EReal) := by
  simp only [V, V0, hostOps0, hostOps0_1, hostOps0_2, hostOps0_3, hostOps0_4, hostOps0_5, hostOps0_6, hostOps0_7, hostOps0_8, hostOps0_9, hostOps0_10, List.flatten_cons, List.flatten_nil,
    List.append_nil, List.cons_append, List.nil_append, StableHlo.TRef.binary, StableHlo.TRef.nullary, StableHlo.TRef.unary, StableHlo.TRef.toBuf, StableHlo.TRef.ofBuf, cast_eq]
  refine ⟨?_, ?_, ?_, ?_, ?_, ?_⟩ <;> after_results_simp <;> rfl

theorem read0 (t : Fin cfg0.N) (r : Fin 16) (j : Fin 1024) : iblk m c 0 t (ix3 0 r j) = V m c main_v0 (ix3 (seqOf t) r j) := by
  blk_point [iblk, idx t]
theorem read1 (t : Fin cfg0.N) (r : Fin 16) (j : Fin 1024) : iblk m c 1 t (ix3 0 r j) = V m c main_v1 (ix3 (seqOf t) r j) := by
  blk_point [iblk, idx t]
theorem read2 (t : Fin cfg0.N) (r : Fin 16) (j : Fin 1024) : iblk m c 2 t (ix3 0 r j) = V m c main_v2 (ix3 (seqOf t) r j) := by
  blk_point [iblk, idx t]
theorem read3 (t : Fin cfg0.N) (r : Fin 16) (j : Fin 1024) : iblk m c 3 t (ix3 0 r j) = V m c main_v3 (ix3 (seqOf t) r j) := by
  blk_point [iblk, idx t]
theorem read4 (t : Fin cfg0.N) (r : Fin 16) (j : Fin 1024) : iblk m c 4 t (ix3 0 r j) = V m c main_v4 (ix3 (seqOf t) r j) := by
  blk_point [iblk, idx t]
theorem read5 (t : Fin cfg0.N) (f : Fin 128) : iblk m c 5 t (ix2 0 f) = V m c main_v6 (ix2 0 f) := by
  blk_point [iblk, idx t]
theorem read6 (t : Fin cfg0.N) (h : Fin 8) (f d : Fin 128) : (k0_pay2 (iblk m c 6 t) : Vec Ideal S1x8x128x128 .f32) (ix4 0 h f d) = argS m c (ix5 0 (seqOf t) h f d) := by
  pointwise [k0_pay2]
  blk_point [iblk, V, idx t]

/-- the norm's weight as the call finds it -/
theorem weight_at (f : Fin 128) : V m c main_v6 (ix2 0 f) = argW m c (ix2 0 f) := by
  rw [(entries m c).2.2.2.2.2]
  pointwise

/-! ## The output rows -/

/-- only the four tokens count in a sum over the sixteen rows -/
theorem sum_tokens (x : ℕ → ℝ) (V : Arr) (b : Fin 128) (h : Fin 8) (d : Fin 128) : ∑ s : Fin 16, x s.val * tokR V b h s.val d = ∑ s : Fin 4, x s.val * tokR V b h s.val d := by
  rw [← Finset.sum_range (n := 16) (fun s => x s * tokR V b h s d), ← Finset.sum_range (n := 4) (fun s => x s * tokR V b h s d), show 16 = 4 + 12 from rfl, Finset.sum_range_add,
    Finset.sum_eq_zero (s := Finset.range 12) (fun i _ => by rw [tokR_late _ _ _ _ d (by omega), mul_zero]), add_zero]

/-- the padded output: row `n` of a sequence is the recurrence's row, its norm and its gate -/
def outRow (b : Fin 128) (n : ℕ) (h : Fin 8) (d : Fin 128) : EReal :=
  normed (rowOf (argQ m c) (argG m c) (argK m c) (argV m c) (argS m c) b h n) (argW m c (ix2 0 d)) (tok (argA m c) b h n d) d

/-- the padded output array -/
def outArr : Cert.Kernel10Ideal.S128x16x1024.Idx → EReal := fun i =>
  outRow m c (i 0) (i 1 : ℕ) ⟨(i 2 : ℕ) / 128, by have : (i 2 : ℕ) < 1024 := (i 2).isLt; omega⟩ ⟨(i 2 : ℕ) % 128, Nat.mod_lt _ (by decide)⟩

theorem outArr_at (b : Fin 128) (r : Fin 16) (h : Fin 8) (d : Fin 128) : outArr m c (ix3 b r (colIx h d)) = outRow m c b r.val h d := by
  have d1 : (128 * h.val + d.val) / 128 = h.val := by have := d.isLt; omega
  have d2 : (128 * h.val + d.val) % 128 = d.val := by have := d.isLt; omega
  show outRow m c b r.val ⟨(128 * h.val + d.val) / 128, _⟩ ⟨(128 * h.val + d.val) % 128, _⟩ = _
  congr 1
  · exact Fin.ext d1
  · exact Fin.ext d2

variable (hQ : IsReal (argQ m c)) (hG : IsReal (argG m c)) (hK : IsReal (argK m c)) (hV : IsReal (argV m c)) (hle : ∀ i, argG m c i ≤ 0)
include hQ hG hK hV hle

/-- one point leaves the recurrence's rows of its sequence -/
theorem out_eq (t : Fin cfg0.N) (h : Fin 8) (r : Fin 16) (d : Fin 128) : outAt m c t h (ix3 0 r d) = outRow m c (seqOf t) r.val h d := by
  obtain ⟨e0, e1, e2, e3, e4, _⟩ := entries m c
  refine (headOut_at _ _ _ _ _ _ _ (tokR (argQ m c) (seqOf t) h) (tokR (argG m c) (seqOf t) h) (tokR (argK m c) (seqOf t) h) (tokR (argV m c) (seqOf t) h)
    (fun f d => argS m c (ix5 0 (seqOf t) h f d)) (fun r f => ?_) (fun r f => ?_) (fun r f => ?_) (fun r f => ?_) (fun f d => (slab_at _ h f d).trans (read6 m c t h f d))
    (tokR_nonpos _ hG hle _ _) r d).trans ?_
  · rw [← tok_real _ hQ, cols_at, read0, e0, padded_at]
  · rw [← tok_real _ hG, cols_at, read1, e1, padded_at]
  · rw [← tok_real _ hK, cols_at, read2, e2, padded_at]
  · rw [← tok_real _ hV, cols_at, read3, e3, padded_at]
  · unfold outRow
    rw [cols_at, read4, e4, padded_at, read5, weight_at]
    congr 1
    funext d
    exact congrArg (fun z : ℝ => (_ : EReal) + (z : EReal)) (sum_tokens (weight (argQ m c) (argG m c) (argK m c) (seqOf t) h r.val) (argV m c) (seqOf t) h d)

/-- the padded output array the kernel leaves -/
theorem final7 : (dats m 0 c).arrAt 7 cfg0.N = outArr m c := by
  refine (dats m 0 c).arrAt_eq_of_covers 7 _ ((cfg0.win 7).covers_of_index_surj rfl (by decide) fun β => ?_) fun t hf y => ?_
  · have h0 : (β 0 : ℕ) < 128 := (β 0).isLt
    have h1 : (β 1 : ℕ) < 1 := (β 1).isLt
    have h2 : (β 2 : ℕ) < 1 := (β 2).isLt
    refine ⟨⟨(β 0 : ℕ), by rw [N_0]; omega⟩, fun a => ?_⟩
    refine (congrFun (idx _).2.2.2.2.2.2.2 a).trans ?_
    match a with
    | ⟨0, _⟩ => rfl
    | ⟨1, _⟩ => show 0 = (β 1 : ℕ); omega
    | ⟨2, _⟩ => show 0 = (β 2 : ℕ); omega
  · blk_simp
    rw [after0_7]
    obtain ⟨r, h, d, rfl⟩ : ∃ (r : Fin 16) (h : Fin 8) (d : Fin 128), y = ix3 0 r (colIx h d) :=
      ⟨y 1, ⟨(y 2 : ℕ) / 128, by have : (y 2 : ℕ) < 1024 := (y 2).isLt; omega⟩, ⟨(y 2 : ℕ) % 128, Nat.mod_lt _ (by decide)⟩, funext fun a => by
        match a with
        | ⟨0, _⟩ => exact Subsingleton.elim (α := Fin 1) _ _
        | ⟨1, _⟩ => rfl
        | ⟨2, _⟩ => exact Fin.ext (Nat.div_add_mod (y 2 : ℕ) 128).symm⟩
    have ei : (win0_7.blk t).view.emb (ix3 0 r (colIx h d)) = ix3 (seqOf t) r (colIx h d) := funext fun a => Fin.ext (by
      match a with
      | ⟨0, _⟩ => blk_simp [idx t]; rfl
      | ⟨1, _⟩ => blk_simp [idx t]
      | ⟨2, _⟩ => blk_simp [idx t])
    refine (out_point m c t _ h (ix3 0 r d) rfl rfl).trans ((out_eq m c hQ hG hK hV hle t h r d).trans (Eq.trans ?_ (congrArg _ ei).symm))
    exact (outArr_at m c (seqOf t) r h d).symm

/-- the first four rows of every sequence, laid out as the result, are the reference's output -/
theorem rows_eq : (shapeCast S512x1024 (extractStridedSlice S128x4x1024 ![0, 0, 0] (outArr m c) slices_S128x16x1024_S128x4x1024_0_0_0 : S128x4x1024.Idx → EReal)
      shapeCasts_S128x4x1024_S512x1024 : S512x1024.Idx → EReal)
    = val_main_v70 (F := Ideal) (argQ m c) (argG m c) (argK m c) (argV m c) (argA m c) (argW m c) (argS m c) := by
  funext y
  obtain ⟨b, n, h, d, rfl⟩ : ∃ (b : Fin 128) (n : Fin 4) (h : Fin 8) (d : Fin 128), y = ix2 ⟨4 * b.val + n.val, by omega⟩ (colIx h d) :=
    ⟨⟨(y 0 : ℕ) / 4, by have : (y 0 : ℕ) < 512 := (y 0).isLt; omega⟩, ⟨(y 0 : ℕ) % 4, Nat.mod_lt _ (by decide)⟩,
      ⟨(y 1 : ℕ) / 128, by have : (y 1 : ℕ) < 1024 := (y 1).isLt; omega⟩, ⟨(y 1 : ℕ) % 128, Nat.mod_lt _ (by decide)⟩, funext fun a => by
        match a with
        | ⟨0, _⟩ => exact Fin.ext (Nat.div_add_mod (y 0 : ℕ) 4).symm
        | ⟨1, _⟩ => exact Fin.ext (Nat.div_add_mod (y 1 : ℕ) 128).symm⟩
  rw [ref_out _ _ _ _ _ _ _ hQ hG hK hV hle, ← Cert.HgrnNew.tok_at (argA m c) b h n d]
  refine Eq.trans ?_ (outArr_at m c b ⟨n.val, by omega⟩ h d)
  generalize outArr m c = X
  pointwise

omit hQ hG hK hV hle

/-- what the operations after the call leave in the result: the first four rows of every sequence of the padded output -/
theorem after_call : Pipeline.afterTail₀ cfgs (dats m) 0 (V0 m) [hostOps1] c main_v9
    = (shapeCast S512x1024 (extractStridedSlice S128x4x1024 ![0, 0, 0] ((dats m 0 c).arrAt 7 cfg0.N) slices_S128x16x1024_S128x4x1024_0_0_0 : S128x4x1024.Idx → EReal)
        shapeCasts_S128x4x1024_S512x1024 : S512x1024.Idx → EReal) := by
  have e : Pipeline.withArrays spec0 c (V0 m c) (fun w => (dats m 0 c).arrAt w cfg0.N) (Proc.devRef .tc main_v7_0) = (dats m 0 c).arrAt 7 cfg0.N :=
    Pipeline.withArrays_arr spec0 (by decide) c (V0 m c) _ 7
  rw [← e]
  unfold Pipeline.afterTail₀
  simp only [hostOps1, List.flatten_cons, List.flatten_nil, List.append_nil]
  after_results_simp <;> rfl

/-! ## The claims -/

/-- The recurrence's kernel on new tokens, its output rows: it keeps its arguments and leaves every counter at zero, on the machine's own numbers. -/
theorem frame_p : Cert.quiescent_Kernel10 := fun m g _ => Cert.Kernel10.Gen.frame m g

/-- The same over the reals. -/
theorem frame_pi : Cert.quiescent_Kernel10Ideal := fun m g _ => Cert.Kernel10Ideal.Gen.frame m g

/-- The plain recurrence's output rows on new tokens: it keeps its arguments and leaves every counter at zero, over the reals. -/
theorem frame_ri : Cert.quiescent_Reference10Ideal := fun m g _ =>
  (θ_run _ _ _).mono (fun r h => ⟨fun c => (h c).2, sem_eq_zero_of_no_sems rfl r.2⟩) (Cert.Reference10Ideal.Value.run m g)

/-- The constant the kernel multiplies a log decay by stands for one over the logarithm of two. -/
theorem preserves : Cert.preserves_Kernel10_Kernel10Ideal := IdealRules.named_const.statement _ _ _ _ _ rfl

/-- The kernel's output rows are the plain recurrence's. -/
theorem algebraic : Cert.algebraic_Kernel10Ideal_Reference10Ideal_pre_finite_new := by
  intro m g m' g' hpre hagree
  refine ⟨fun c => val_main_v70 (F := Ideal) (argQ m c) (argG m c) (argK m c) (argV m c) (argA m c) (argW m c) (argS m c),
    (θ_run _ _ _).mono (fun r h c => ?_) (θ_run_and (Cert.Kernel10Ideal.Gen.run_main m g) (Cert.Kernel10Ideal.Gen.unchanged m g)),
    (θ_run _ _ _).mono (fun r h c => ?_) (Cert.Reference10Ideal.Value.run m' g')⟩
  · obtain ⟨hQ, hG, hK, hV, hle⟩ := pre_read _ _ _ _ _ _ _ (hpre c)
    refine ⟨?_, h.2 c⟩
    refine (((h.1 c).2 main_v9 (Pipeline.mem_restRefs_of main_v9 (by decide) (by decide))).trans (after_call m c)).trans ?_
    rw [final7 m c hQ hG hK hV hle]
    exact rows_eq m c hQ hG hK hV hle
  · obtain ⟨h70, ha⟩ := h c
    obtain ⟨e0, e1, e2, e3, e4, e5, e6⟩ := hagree c
    refine ⟨h70.trans ((val_main_v70_eq m' c).trans ?_), ha⟩
    rw [e0, e1, e2, e3, e4, e5, e6]

end Cert.HgrnOut

end
-- ==== Proof.lean ====
/- The certificate's claims together. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2.Frame
public import proofs.«01_k».proof.Proof.Gen.Kernel3.Frame
public import proofs.«01_k».proof.Proof.Gen.Kernel4.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Frames
public import proofs.«01_k».proof.Proof.Equal
public import proofs.«01_k».proof.Proof.FfnFinal
public import proofs.«01_k».proof.Proof.InprojFinal
public import proofs.«01_k».proof.Proof.MergeFinal
public import proofs.«01_k».proof.Proof.FfnNew
public import proofs.«01_k».proof.Proof.InprojNewFinal
public import proofs.«01_k».proof.Proof.NewEqual
public import proofs.«01_k».proof.Proof.Ada
public import proofs.«01_k».proof.Proof.MergeNew
public import proofs.«01_k».proof.Proof.OutEqual
public import Idealize.ShloMosaic.Adequacy
public import Idealize.ShloMosaic.Init

@[expose] public section

noncomputable section

namespace Cert.Proof

open Idealize.ShloMosaic Idealize.SL.Sem

/-- Every claim: the frames of the thirty programs, the named constants, and each kernel's arrays equal to the plain computation's. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts, Hgrn.preFacts, HgrnOut.preFacts,
    Hgrn.frame_p, Hgrn.frame_pi, fun m g _ => Hgrn.frame_pi m g trivial, Hgrn.frame_ri, fun m g _ => Hgrn.frame_ri m g trivial,
    Ffn.frame_p, Ffn.frame_pi, Ffn.frame_ri, Inproj.frame_p, Inproj.frame_pi, Inproj.frame_ri, Merge.frame_p, Merge.frame_pi, Merge.frame_ri,
    FfnNew.frame_p, FfnNew.frame_pi, FfnNew.frame_ri, InprojNew.frame_p, InprojNew.frame_pi, InprojNew.frame_ri, HgrnNew.frame_p, HgrnNew.frame_pi, HgrnNew.frame_ri,
    Ada.frame_p, Ada.frame_pi, Ada.frame_ri, MergeNew.frame_p, MergeNew.frame_pi, MergeNew.frame_ri,
    HgrnOut.frame_p, HgrnOut.frame_pi, fun m g _ => HgrnOut.frame_pi m g trivial, HgrnOut.frame_ri, fun m g _ => HgrnOut.frame_ri m g trivial,
    Hgrn.preserves, Hgrn.algebraic, Ffn.preserves, Ffn.algebraic, Inproj.preserves, Inproj.algebraic, Merge.preserves, Merge.algebraic,
    FfnNew.preserves, FfnNew.algebraic, InprojNew.preserves, InprojNew.algebraic,
    HgrnNew.preserves, HgrnNew.algebraic, Ada.preserves, Ada.algebraic, MergeNew.preserves, MergeNew.algebraic,
    HgrnOut.preserves, HgrnOut.algebraic⟩

end Cert.Proof

end
